-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S64x128 : Shape := ⟨2, ![64, 128]⟩
abbrev S3000x64 : Shape := ⟨2, ![3000, 64]⟩
abbrev S16x1x1024 : Shape := ⟨3, ![16, 1, 1024]⟩
abbrev S1024x128 : Shape := ⟨2, ![1024, 128]⟩
abbrev S1x1x1024 : Shape := ⟨3, ![1, 1, 1024]⟩
abbrev S1024 : Shape := ⟨1, ![1024]⟩
abbrev S1x128 : Shape := ⟨2, ![1, 128]⟩
abbrev S128 : Shape := ⟨1, ![128]⟩
abbrev S16384 : Shape := ⟨1, ![16384]⟩
abbrev S49152000 : Shape := ⟨1, ![49152000]⟩
abbrev S752x64 : Shape := ⟨2, ![752, 64]⟩
abbrev S2048 : Shape := ⟨1, ![2048]⟩
abbrev S_ : Shape := ⟨0, ![]⟩
abbrev S16 : Shape := ⟨1, ![16]⟩
abbrev S375x128x8x128 : Shape := ⟨4, ![375, 128, 8, 128]⟩
abbrev S128x128x375x8 : Shape := ⟨4, ![128, 128, 375, 8]⟩
abbrev S16384x3000 : Shape := ⟨2, ![16384, 3000]⟩

abbrev nBuf : Table → Nat
  | .hbm => 9
  | .local .tc .vmem => 5
  | .local .scVector .vmem => 4
  | _ => 0

abbrev bufTy : (tb : Table) → Fin (nBuf tb) → BufTy
  | .hbm, ⟨0, _⟩ => ⟨S16384x128, .f32⟩
  | .hbm, ⟨1, _⟩ => ⟨S64x128, .f32⟩
  | .hbm, ⟨2, _⟩ => ⟨S3000x64, .f32⟩
  | .hbm, ⟨3, _⟩ => ⟨S16x1x1024, .i32⟩
  | .hbm, ⟨4, _⟩ => ⟨S16384, .i32⟩
  | .hbm, ⟨5, _⟩ => ⟨S49152000, .f32⟩
  | .hbm, ⟨6, _⟩ => ⟨S375x128x8x128, .f32⟩
  | .hbm, ⟨7, _⟩ => ⟨S128x128x375x8, .f32⟩
  | .hbm, ⟨8, _⟩ => ⟨S16384x3000, .f32⟩
  | .local .tc .vmem, ⟨0, _⟩ => ⟨S1024x128, .f32⟩
  | .local .tc .vmem, ⟨1, _⟩ => ⟨S1024x128, .f32⟩
  | .local .tc .vmem, ⟨2, _⟩ => ⟨S64x128, .f32⟩
  | .local .tc .vmem, ⟨3, _⟩ => ⟨S1x1x1024, .i32⟩
  | .local .tc .vmem, ⟨4, _⟩ => ⟨S1x1x1024, .i32⟩
  | .local .scVector .vmem, ⟨0, _⟩ => ⟨S752x64, .f32⟩
  | .local .scVector .vmem, ⟨1, _⟩ => ⟨S2048, .i32⟩
  | .local .scVector .vmem, ⟨2, _⟩ => ⟨S16384, .f32⟩
  | .local .scVector .vmem, ⟨3, _⟩ => ⟨S16384, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_arg2_scv : Ref sig .scVector := ⟨.hbm, 2, rfl⟩
abbrev main_v1_scv : Ref sig .scVector := ⟨.hbm, 4, rfl⟩
abbrev main_v2_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c752_i32 : BitVec 32 := 752#32
  let v31 : BitVec 32 := Scalar.muli v28 c752_i32
  let c2248_i32 : BitVec 32 := 2248#32
  let v32 : BitVec 32 := Scalar.minsi v31 c2248_i32
  let c0_i32_43_r0 : BitVec 32 := 0#32
  ![v32.toNat, 0]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32 : BitVec 32 := 2048#32
  let v29 : BitVec 32 := Scalar.muli v11 c2048_i32
  ![v29.toNat]
@[reducible] def k1_t1_loop : Scf.Loop 32 :=
  let c0_i32_21 : BitVec 32 := 0#32
  let c16_i32_22 : BitVec 32 := 16#32
  let v58 : BitVec 32 := Scalar.addi c0_i32_21 c16_i32_22
  let c1_i32_23 : BitVec 32 := 1#32
  ⟨c0_i32_21, v58, c1_i32_23⟩
def k1_off3 (k1_t1 : Fin k1_t1_loop.trips) (c0_i32_45 : BitVec 32) : Fin 1 → Nat :=
  let c0_i32_21 : BitVec 32 := 0#32
  let c1_i32_23 : BitVec 32 := 1#32
  let arg11 : BitVec 32 := Scf.iv c0_i32_21 c1_i32_23 k1_t1
  let c128_i32_44 : BitVec 32 := 128#32
  let v94 : BitVec 32 := Scalar.muli arg11 c128_i32_44
  let v95 : BitVec 32 := Scalar.addi v94 c0_i32_45
  let v96 : Index := Scalar.indexCast v95
  ![v96.toNat]
def k1_off4 (k1_t1 : Fin k1_t1_loop.trips) : Fin 1 → Nat :=
  let c0_i32_21 : BitVec 32 := 0#32
  let c1_i32_23 : BitVec 32 := 1#32
  let arg11 : BitVec 32 := Scf.iv c0_i32_21 c1_i32_23 k1_t1
  let c1024_i32_43 : BitVec 32 := 1024#32
  let v93 : BitVec 32 := Scalar.muli arg11 c1024_i32_43
  let c0_i32_54 : BitVec 32 := 0#32
  let v127 : BitVec 32 := Scalar.addi v93 c0_i32_54
  let c0_i32_55 : BitVec 32 := 0#32
  let v128 : BitVec 32 := Scalar.addi v127 c0_i32_55
  let v129 : Index := Scalar.indexCast v128
  ![v129.toNat]
def k1_off5 (k1_t1 : Fin k1_t1_loop.trips) : Fin 1 → Nat :=
  let c0_i32_21 : BitVec 32 := 0#32
  let c1_i32_23 : BitVec 32 := 1#32
  let arg11 : BitVec 32 := Scf.iv c0_i32_21 c1_i32_23 k1_t1
  let c1024_i32_43 : BitVec 32 := 1024#32
  let v93 : BitVec 32 := Scalar.muli arg11 c1024_i32_43
  let c0_i32_56 : BitVec 32 := 0#32
  let v132 : BitVec 32 := Scalar.addi v93 c0_i32_56
  let c16_i32_57 : BitVec 32 := 16#32
  let v133 : BitVec 32 := Scalar.addi v132 c16_i32_57
  let v134 : Index := Scalar.indexCast v133
  ![v134.toNat]
def k1_off6 (k1_t1 : Fin k1_t1_loop.trips) : Fin 1 → Nat :=
  let c0_i32_21 : BitVec 32 := 0#32
  let c1_i32_23 : BitVec 32 := 1#32
  let arg11 : BitVec 32 := Scf.iv c0_i32_21 c1_i32_23 k1_t1
  let c1024_i32_43 : BitVec 32 := 1024#32
  let v93 : BitVec 32 := Scalar.muli arg11 c1024_i32_43
  let c0_i32_58 : BitVec 32 := 0#32
  let v137 : BitVec 32 := Scalar.addi v93 c0_i32_58
  let c32_i32_59 : BitVec 32 := 32#32
  let v138 : BitVec 32 := Scalar.addi v137 c32_i32_59
  let v139 : Index := Scalar.indexCast v138
  ![v139.toNat]
def k1_off7 (k1_t1 : Fin k1_t1_loop.trips) : Fin 1 → Nat :=
  let c0_i32_21 : BitVec 32 := 0#32
  let c1_i32_23 : BitVec 32 := 1#32
  let arg11 : BitVec 32 := Scf.iv c0_i32_21 c1_i32_23 k1_t1
  let c1024_i32_43 : BitVec 32 := 1024#32
  let v93 : BitVec 32 := Scalar.muli arg11 c1024_i32_43
  let c0_i32_60 : BitVec 32 := 0#32
  let v142 : BitVec 32 := Scalar.addi v93 c0_i32_60
  let c48_i32_61 : BitVec 32 := 48#32
  let v143 : BitVec 32 := Scalar.addi v142 c48_i32_61
  let v144 : Index := Scalar.indexCast v143
  ![v144.toNat]
def k1_off8 (k1_t1 : Fin k1_t1_loop.trips) : Fin 1 → Nat :=
  let c0_i32_21 : BitVec 32 := 0#32
  let c1_i32_23 : BitVec 32 := 1#32
  let arg11 : BitVec 32 := Scf.iv c0_i32_21 c1_i32_23 k1_t1
  let c1024_i32_43 : BitVec 32 := 1024#32
  let v93 : BitVec 32 := Scalar.muli arg11 c1024_i32_43
  let c0_i32_62 : BitVec 32 := 0#32
  let v147 : BitVec 32 := Scalar.addi v93 c0_i32_62
  let c64_i32_63 : BitVec 32 := 64#32
  let v148 : BitVec 32 := Scalar.addi v147 c64_i32_63
  let v149 : Index := Scalar.indexCast v148
  ![v149.toNat]
def k1_off9 (k1_t1 : Fin k1_t1_loop.trips) : Fin 1 → Nat :=
  let c0_i32_21 : BitVec 32 := 0#32
  let c1_i32_23 : BitVec 32 := 1#32
  let arg11 : BitVec 32 := Scf.iv c0_i32_21 c1_i32_23 k1_t1
  let c1024_i32_43 : BitVec 32 := 1024#32
  let v93 : BitVec 32 := Scalar.muli arg11 c1024_i32_43
  let c0_i32_64 : BitVec 32 := 0#32
  let v152 : BitVec 32 := Scalar.addi v93 c0_i32_64
  let c80_i32_65 : BitVec 32 := 80#32
  let v153 : BitVec 32 := Scalar.addi v152 c80_i32_65
  let v154 : Index := Scalar.indexCast v153
  ![v154.toNat]
def k1_off10 (k1_t1 : Fin k1_t1_loop.trips) : Fin 1 → Nat :=
  let c0_i32_21 : BitVec 32 := 0#32
  let c1_i32_23 : BitVec 32 := 1#32
  let arg11 : BitVec 32 := Scf.iv c0_i32_21 c1_i32_23 k1_t1
  let c1024_i32_43 : BitVec 32 := 1024#32
  let v93 : BitVec 32 := Scalar.muli arg11 c1024_i32_43
  let c0_i32_66 : BitVec 32 := 0#32
  let v157 : BitVec 32 := Scalar.addi v93 c0_i32_66
  let c96_i32_67 : BitVec 32 := 96#32
  let v158 : BitVec 32 := Scalar.addi v157 c96_i32_67
  let v159 : Index := Scalar.indexCast v158
  ![v159.toNat]
def k1_off11 (k1_t1 : Fin k1_t1_loop.trips) : Fin 1 → Nat :=
  let c0_i32_21 : BitVec 32 := 0#32
  let c1_i32_23 : BitVec 32 := 1#32
  let arg11 : BitVec 32 := Scf.iv c0_i32_21 c1_i32_23 k1_t1
  let c1024_i32_43 : BitVec 32 := 1024#32
  let v93 : BitVec 32 := Scalar.muli arg11 c1024_i32_43
  let c0_i32_68 : BitVec 32 := 0#32
  let v162 : BitVec 32 := Scalar.addi v93 c0_i32_68
  let c112_i32_69 : BitVec 32 := 112#32
  let v163 : BitVec 32 := Scalar.addi v162 c112_i32_69
  let v164 : Index := Scalar.indexCast v163
  ![v164.toNat]
def k1_off12 (k1_t1 : Fin k1_t1_loop.trips) (c0_i32_71 : BitVec 32) : Fin 1 → Nat :=
  let c0_i32_21 : BitVec 32 := 0#32
  let c1_i32_23 : BitVec 32 := 1#32
  let arg11 : BitVec 32 := Scf.iv c0_i32_21 c1_i32_23 k1_t1
  let c1024_i32_43 : BitVec 32 := 1024#32
  let v93 : BitVec 32 := Scalar.muli arg11 c1024_i32_43
  let c128_i32_70 : BitVec 32 := 128#32
  let v167 : BitVec 32 := Scalar.addi v93 c128_i32_70
  let v168 : BitVec 32 := Scalar.addi v167 c0_i32_71
  let v169 : Index := Scalar.indexCast v168
  ![v169.toNat]
def k1_off13 (k1_t1 : Fin k1_t1_loop.trips) (c0_i32_86 : BitVec 32) : Fin 1 → Nat :=
  let c0_i32_21 : BitVec 32 := 0#32
  let c1_i32_23 : BitVec 32 := 1#32
  let arg11 : BitVec 32 := Scf.iv c0_i32_21 c1_i32_23 k1_t1
  let c1024_i32_43 : BitVec 32 := 1024#32
  let v93 : BitVec 32 := Scalar.muli arg11 c1024_i32_43
  let c256_i32 : BitVec 32 := 256#32
  let v207 : BitVec 32 := Scalar.addi v93 c256_i32
  let v208 : BitVec 32 := Scalar.addi v207 c0_i32_86
  let v209 : Index := Scalar.indexCast v208
  ![v209.toNat]
def k1_off14 (k1_t1 : Fin k1_t1_loop.trips) (c0_i32_101 : BitVec 32) : Fin 1 → Nat :=
  let c0_i32_21 : BitVec 32 := 0#32
  let c1_i32_23 : BitVec 32 := 1#32
  let arg11 : BitVec 32 := Scf.iv c0_i32_21 c1_i32_23 k1_t1
  let c1024_i32_43 : BitVec 32 := 1024#32
  let v93 : BitVec 32 := Scalar.muli arg11 c1024_i32_43
  let c384_i32 : BitVec 32 := 384#32
  let v247 : BitVec 32 := Scalar.addi v93 c384_i32
  let v248 : BitVec 32 := Scalar.addi v247 c0_i32_101
  let v249 : Index := Scalar.indexCast v248
  ![v249.toNat]
def k1_off15 (k1_t1 : Fin k1_t1_loop.trips) (c0_i32_116 : BitVec 32) : Fin 1 → Nat :=
  let c0_i32_21 : BitVec 32 := 0#32
  let c1_i32_23 : BitVec 32 := 1#32
  let arg11 : BitVec 32 := Scf.iv c0_i32_21 c1_i32_23 k1_t1
  let c1024_i32_43 : BitVec 32 := 1024#32
  let v93 : BitVec 32 := Scalar.muli arg11 c1024_i32_43
  let c512_i32 : BitVec 32 := 512#32
  let v287 : BitVec 32 := Scalar.addi v93 c512_i32
  let v288 : BitVec 32 := Scalar.addi v287 c0_i32_116
  let v289 : Index := Scalar.indexCast v288
  ![v289.toNat]
def k1_off16 (k1_t1 : Fin k1_t1_loop.trips) (c0_i32_131 : BitVec 32) : Fin 1 → Nat :=
  let c0_i32_21 : BitVec 32 := 0#32
  let c1_i32_23 : BitVec 32 := 1#32
  let arg11 : BitVec 32 := Scf.iv c0_i32_21 c1_i32_23 k1_t1
  let c1024_i32_43 : BitVec 32 := 1024#32
  let v93 : BitVec 32 := Scalar.muli arg11 c1024_i32_43
  let c640_i32 : BitVec 32 := 640#32
  let v327 : BitVec 32 := Scalar.addi v93 c640_i32
  let v328 : BitVec 32 := Scalar.addi v327 c0_i32_131
  let v329 : Index := Scalar.indexCast v328
  ![v329.toNat]
def k1_off17 (k1_t1 : Fin k1_t1_loop.trips) (c0_i32_146 : BitVec 32) : Fin 1 → Nat :=
  let c0_i32_21 : BitVec 32 := 0#32
  let c1_i32_23 : BitVec 32 := 1#32
  let arg11 : BitVec 32 := Scf.iv c0_i32_21 c1_i32_23 k1_t1
  let c1024_i32_43 : BitVec 32 := 1024#32
  let v93 : BitVec 32 := Scalar.muli arg11 c1024_i32_43
  let c768_i32 : BitVec 32 := 768#32
  let v367 : BitVec 32 := Scalar.addi v93 c768_i32
  let v368 : BitVec 32 := Scalar.addi v367 c0_i32_146
  let v369 : Index := Scalar.indexCast v368
  ![v369.toNat]

def k1_chk1 (v50 : IVec S16 32) (v51 : IVec S16 32) (v52 : IVec S16 32) (v53 : IVec S16 32) (v54 : IVec S16 32) (v55 : IVec S16 32) (v56 : IVec S16 32) (v57 : IVec S16 32) (v97 : IVec S16 32) : Prop :=
  (∀ a x, ((![v50, v97] : Fin 2 → IVec S16 32) a x).toNat < S752x64.size a) ∧
  (∀ a x, ((![v51, v97] : Fin 2 → IVec S16 32) a x).toNat < S752x64.size a) ∧
  (∀ a x, ((![v52, v97] : Fin 2 → IVec S16 32) a x).toNat < S752x64.size a) ∧
  (∀ a x, ((![v53, v97] : Fin 2 → IVec S16 32) a x).toNat < S752x64.size a) ∧
  (∀ a x, ((![v54, v97] : Fin 2 → IVec S16 32) a x).toNat < S752x64.size a) ∧
  (∀ a x, ((![v55, v97] : Fin 2 → IVec S16 32) a x).toNat < S752x64.size a) ∧
  (∀ a x, ((![v56, v97] : Fin 2 → IVec S16 32) a x).toNat < S752x64.size a) ∧
  (∀ a x, ((![v57, v97] : Fin 2 → IVec S16 32) a x).toNat < S752x64.size a)
theorem k1_idx1_inb : ∀ (v50 : IVec S16 32) (v51 : IVec S16 32) (v52 : IVec S16 32) (v53 : IVec S16 32) (v54 : IVec S16 32) (v55 : IVec S16 32) (v56 : IVec S16 32) (v57 : IVec S16 32) (v97 : IVec S16 32) (k1_hw1 : k1_chk1 v50 v51 v52 v53 v54 v55 v56 v57 v97), ∀ a x, ((![v50, v97] : Fin 2 → IVec S16 32) a x).toNat < S752x64.size a := fun v50 v51 v52 v53 v54 v55 v56 v57 v97 k1_hw1 => k1_hw1.1
theorem k1_idx9_inb : ∀ (v50 : IVec S16 32) (v51 : IVec S16 32) (v52 : IVec S16 32) (v53 : IVec S16 32) (v54 : IVec S16 32) (v55 : IVec S16 32) (v56 : IVec S16 32) (v57 : IVec S16 32) (v97 : IVec S16 32) (k1_hw1 : k1_chk1 v50 v51 v52 v53 v54 v55 v56 v57 v97), ∀ a x, ((![v51, v97] : Fin 2 → IVec S16 32) a x).toNat < S752x64.size a := fun v50 v51 v52 v53 v54 v55 v56 v57 v97 k1_hw1 => k1_hw1.2.1
theorem k1_idx17_inb : ∀ (v50 : IVec S16 32) (v51 : IVec S16 32) (v52 : IVec S16 32) (v53 : IVec S16 32) (v54 : IVec S16 32) (v55 : IVec S16 32) (v56 : IVec S16 32) (v57 : IVec S16 32) (v97 : IVec S16 32) (k1_hw1 : k1_chk1 v50 v51 v52 v53 v54 v55 v56 v57 v97), ∀ a x, ((![v52, v97] : Fin 2 → IVec S16 32) a x).toNat < S752x64.size a := fun v50 v51 v52 v53 v54 v55 v56 v57 v97 k1_hw1 => k1_hw1.2.2.1
theorem k1_idx25_inb : ∀ (v50 : IVec S16 32) (v51 : IVec S16 32) (v52 : IVec S16 32) (v53 : IVec S16 32) (v54 : IVec S16 32) (v55 : IVec S16 32) (v56 : IVec S16 32) (v57 : IVec S16 32) (v97 : IVec S16 32) (k1_hw1 : k1_chk1 v50 v51 v52 v53 v54 v55 v56 v57 v97), ∀ a x, ((![v53, v97] : Fin 2 → IVec S16 32) a x).toNat < S752x64.size a := fun v50 v51 v52 v53 v54 v55 v56 v57 v97 k1_hw1 => k1_hw1.2.2.2.1
theorem k1_idx33_inb : ∀ (v50 : IVec S16 32) (v51 : IVec S16 32) (v52 : IVec S16 32) (v53 : IVec S16 32) (v54 : IVec S16 32) (v55 : IVec S16 32) (v56 : IVec S16 32) (v57 : IVec S16 32) (v97 : IVec S16 32) (k1_hw1 : k1_chk1 v50 v51 v52 v53 v54 v55 v56 v57 v97), ∀ a x, ((![v54, v97] : Fin 2 → IVec S16 32) a x).toNat < S752x64.size a := fun v50 v51 v52 v53 v54 v55 v56 v57 v97 k1_hw1 => k1_hw1.2.2.2.2.1
theorem k1_idx41_inb : ∀ (v50 : IVec S16 32) (v51 : IVec S16 32) (v52 : IVec S16 32) (v53 : IVec S16 32) (v54 : IVec S16 32) (v55 : IVec S16 32) (v56 : IVec S16 32) (v57 : IVec S16 32) (v97 : IVec S16 32) (k1_hw1 : k1_chk1 v50 v51 v52 v53 v54 v55 v56 v57 v97), ∀ a x, ((![v55, v97] : Fin 2 → IVec S16 32) a x).toNat < S752x64.size a := fun v50 v51 v52 v53 v54 v55 v56 v57 v97 k1_hw1 => k1_hw1.2.2.2.2.2.1
theorem k1_idx49_inb : ∀ (v50 : IVec S16 32) (v51 : IVec S16 32) (v52 : IVec S16 32) (v53 : IVec S16 32) (v54 : IVec S16 32) (v55 : IVec S16 32) (v56 : IVec S16 32) (v57 : IVec S16 32) (v97 : IVec S16 32) (k1_hw1 : k1_chk1 v50 v51 v52 v53 v54 v55 v56 v57 v97), ∀ a x, ((![v56, v97] : Fin 2 → IVec S16 32) a x).toNat < S752x64.size a := fun v50 v51 v52 v53 v54 v55 v56 v57 v97 k1_hw1 => k1_hw1.2.2.2.2.2.2.1
theorem k1_idx57_inb : ∀ (v50 : IVec S16 32) (v51 : IVec S16 32) (v52 : IVec S16 32) (v53 : IVec S16 32) (v54 : IVec S16 32) (v55 : IVec S16 32) (v56 : IVec S16 32) (v57 : IVec S16 32) (v97 : IVec S16 32) (k1_hw1 : k1_chk1 v50 v51 v52 v53 v54 v55 v56 v57 v97), ∀ a x, ((![v57, v97] : Fin 2 → IVec S16 32) a x).toNat < S752x64.size a := fun v50 v51 v52 v53 v54 v55 v56 v57 v97 k1_hw1 => k1_hw1.2.2.2.2.2.2.2
def k1_off18 (k1_t1 : Fin k1_t1_loop.trips) (c0_i32_161 : BitVec 32) : Fin 1 → Nat :=
  let c0_i32_21 : BitVec 32 := 0#32
  let c1_i32_23 : BitVec 32 := 1#32
  let arg11 : BitVec 32 := Scf.iv c0_i32_21 c1_i32_23 k1_t1
  let c1024_i32_43 : BitVec 32 := 1024#32
  let v93 : BitVec 32 := Scalar.muli arg11 c1024_i32_43
  let c896_i32 : BitVec 32 := 896#32
  let v407 : BitVec 32 := Scalar.addi v93 c896_i32
  let v408 : BitVec 32 := Scalar.addi v407 c0_i32_161
  let v409 : Index := Scalar.indexCast v408
  ![v409.toNat]

def k1_chk2 (v50 : IVec S16 32) (v51 : IVec S16 32) (v52 : IVec S16 32) (v53 : IVec S16 32) (v54 : IVec S16 32) (v55 : IVec S16 32) (v56 : IVec S16 32) (v57 : IVec S16 32) (v101 : IVec S16 32) : Prop :=
  (∀ a x, ((![v50, v101] : Fin 2 → IVec S16 32) a x).toNat < S752x64.size a) ∧
  (∀ a x, ((![v51, v101] : Fin 2 → IVec S16 32) a x).toNat < S752x64.size a) ∧
  (∀ a x, ((![v52, v101] : Fin 2 → IVec S16 32) a x).toNat < S752x64.size a) ∧
  (∀ a x, ((![v53, v101] : Fin 2 → IVec S16 32) a x).toNat < S752x64.size a) ∧
  (∀ a x, ((![v54, v101] : Fin 2 → IVec S16 32) a x).toNat < S752x64.size a) ∧
  (∀ a x, ((![v55, v101] : Fin 2 → IVec S16 32) a x).toNat < S752x64.size a) ∧
  (∀ a x, ((![v56, v101] : Fin 2 → IVec S16 32) a x).toNat < S752x64.size a) ∧
  (∀ a x, ((![v57, v101] : Fin 2 → IVec S16 32) a x).toNat < S752x64.size a)
theorem k1_idx2_inb : ∀ (v50 : IVec S16 32) (v51 : IVec S16 32) (v52 : IVec S16 32) (v53 : IVec S16 32) (v54 : IVec S16 32) (v55 : IVec S16 32) (v56 : IVec S16 32) (v57 : IVec S16 32) (v101 : IVec S16 32) (k1_hw2 : k1_chk2 v50 v51 v52 v53 v54 v55 v56 v57 v101), ∀ a x, ((![v50, v101] : Fin 2 → IVec S16 32) a x).toNat < S752x64.size a := fun v50 v51 v52 v53 v54 v55 v56 v57 v101 k1_hw2 => k1_hw2.1
theorem k1_idx10_inb : ∀ (v50 : IVec S16 32) (v51 : IVec S16 32) (v52 : IVec S16 32) (v53 : IVec S16 32) (v54 : IVec S16 32) (v55 : IVec S16 32) (v56 : IVec S16 32) (v57 : IVec S16 32) (v101 : IVec S16 32) (k1_hw2 : k1_chk2 v50 v51 v52 v53 v54 v55 v56 v57 v101), ∀ a x, ((![v51, v101] : Fin 2 → IVec S16 32) a x).toNat < S752x64.size a := fun v50 v51 v52 v53 v54 v55 v56 v57 v101 k1_hw2 => k1_hw2.2.1
theorem k1_idx18_inb : ∀ (v50 : IVec S16 32) (v51 : IVec S16 32) (v52 : IVec S16 32) (v53 : IVec S16 32) (v54 : IVec S16 32) (v55 : IVec S16 32) (v56 : IVec S16 32) (v57 : IVec S16 32) (v101 : IVec S16 32) (k1_hw2 : k1_chk2 v50 v51 v52 v53 v54 v55 v56 v57 v101), ∀ a x, ((![v52, v101] : Fin 2 → IVec S16 32) a x).toNat < S752x64.size a := fun v50 v51 v52 v53 v54 v55 v56 v57 v101 k1_hw2 => k1_hw2.2.2.1
theorem k1_idx26_inb : ∀ (v50 : IVec S16 32) (v51 : IVec S16 32) (v52 : IVec S16 32) (v53 : IVec S16 32) (v54 : IVec S16 32) (v55 : IVec S16 32) (v56 : IVec S16 32) (v57 : IVec S16 32) (v101 : IVec S16 32) (k1_hw2 : k1_chk2 v50 v51 v52 v53 v54 v55 v56 v57 v101), ∀ a x, ((![v53, v101] : Fin 2 → IVec S16 32) a x).toNat < S752x64.size a := fun v50 v51 v52 v53 v54 v55 v56 v57 v101 k1_hw2 => k1_hw2.2.2.2.1
theorem k1_idx34_inb : ∀ (v50 : IVec S16 32) (v51 : IVec S16 32) (v52 : IVec S16 32) (v53 : IVec S16 32) (v54 : IVec S16 32) (v55 : IVec S16 32) (v56 : IVec S16 32) (v57 : IVec S16 32) (v101 : IVec S16 32) (k1_hw2 : k1_chk2 v50 v51 v52 v53 v54 v55 v56 v57 v101), ∀ a x, ((![v54, v101] : Fin 2 → IVec S16 32) a x).toNat < S752x64.size a := fun v50 v51 v52 v53 v54 v55 v56 v57 v101 k1_hw2 => k1_hw2.2.2.2.2.1
theorem k1_idx42_inb : ∀ (v50 : IVec S16 32) (v51 : IVec S16 32) (v52 : IVec S16 32) (v53 : IVec S16 32) (v54 : IVec S16 32) (v55 : IVec S16 32) (v56 : IVec S16 32) (v57 : IVec S16 32) (v101 : IVec S16 32) (k1_hw2 : k1_chk2 v50 v51 v52 v53 v54 v55 v56 v57 v101), ∀ a x, ((![v55, v101] : Fin 2 → IVec S16 32) a x).toNat < S752x64.size a := fun v50 v51 v52 v53 v54 v55 v56 v57 v101 k1_hw2 => k1_hw2.2.2.2.2.2.1
theorem k1_idx50_inb : ∀ (v50 : IVec S16 32) (v51 : IVec S16 32) (v52 : IVec S16 32) (v53 : IVec S16 32) (v54 : IVec S16 32) (v55 : IVec S16 32) (v56 : IVec S16 32) (v57 : IVec S16 32) (v101 : IVec S16 32) (k1_hw2 : k1_chk2 v50 v51 v52 v53 v54 v55 v56 v57 v101), ∀ a x, ((![v56, v101] : Fin 2 → IVec S16 32) a x).toNat < S752x64.size a := fun v50 v51 v52 v53 v54 v55 v56 v57 v101 k1_hw2 => k1_hw2.2.2.2.2.2.2.1
theorem k1_idx58_inb : ∀ (v50 : IVec S16 32) (v51 : IVec S16 32) (v52 : IVec S16 32) (v53 : IVec S16 32) (v54 : IVec S16 32) (v55 : IVec S16 32) (v56 : IVec S16 32) (v57 : IVec S16 32) (v101 : IVec S16 32) (k1_hw2 : k1_chk2 v50 v51 v52 v53 v54 v55 v56 v57 v101), ∀ a x, ((![v57, v101] : Fin 2 → IVec S16 32) a x).toNat < S752x64.size a := fun v50 v51 v52 v53 v54 v55 v56 v57 v101 k1_hw2 => k1_hw2.2.2.2.2.2.2.2

def k1_chk3 (v50 : IVec S16 32) (v51 : IVec S16 32) (v52 : IVec S16 32) (v53 : IVec S16 32) (v54 : IVec S16 32) (v55 : IVec S16 32) (v56 : IVec S16 32) (v57 : IVec S16 32) (v105 : IVec S16 32) : Prop :=
  (∀ a x, ((![v50, v105] : Fin 2 → IVec S16 32) a x).toNat < S752x64.size a) ∧
  (∀ a x, ((![v51, v105] : Fin 2 → IVec S16 32) a x).toNat < S752x64.size a) ∧
  (∀ a x, ((![v52, v105] : Fin 2 → IVec S16 32) a x).toNat < S752x64.size a) ∧
  (∀ a x, ((![v53, v105] : Fin 2 → IVec S16 32) a x).toNat < S752x64.size a) ∧
  (∀ a x, ((![v54, v105] : Fin 2 → IVec S16 32) a x).toNat < S752x64.size a) ∧
  (∀ a x, ((![v55, v105] : Fin 2 → IVec S16 32) a x).toNat < S752x64.size a) ∧
  (∀ a x, ((![v56, v105] : Fin 2 → IVec S16 32) a x).toNat < S752x64.size a) ∧
  (∀ a x, ((![v57, v105] : Fin 2 → IVec S16 32) a x).toNat < S752x64.size a)
theorem k1_idx3_inb : ∀ (v50 : IVec S16 32) (v51 : IVec S16 32) (v52 : IVec S16 32) (v53 : IVec S16 32) (v54 : IVec S16 32) (v55 : IVec S16 32) (v56 : IVec S16 32) (v57 : IVec S16 32) (v105 : IVec S16 32) (k1_hw3 : k1_chk3 v50 v51 v52 v53 v54 v55 v56 v57 v105), ∀ a x, ((![v50, v105] : Fin 2 → IVec S16 32) a x).toNat < S752x64.size a := fun v50 v51 v52 v53 v54 v55 v56 v57 v105 k1_hw3 => k1_hw3.1
theorem k1_idx11_inb : ∀ (v50 : IVec S16 32) (v51 : IVec S16 32) (v52 : IVec S16 32) (v53 : IVec S16 32) (v54 : IVec S16 32) (v55 : IVec S16 32) (v56 : IVec S16 32) (v57 : IVec S16 32) (v105 : IVec S16 32) (k1_hw3 : k1_chk3 v50 v51 v52 v53 v54 v55 v56 v57 v105), ∀ a x, ((![v51, v105] : Fin 2 → IVec S16 32) a x).toNat < S752x64.size a := fun v50 v51 v52 v53 v54 v55 v56 v57 v105 k1_hw3 => k1_hw3.2.1
theorem k1_idx19_inb : ∀ (v50 : IVec S16 32) (v51 : IVec S16 32) (v52 : IVec S16 32) (v53 : IVec S16 32) (v54 : IVec S16 32) (v55 : IVec S16 32) (v56 : IVec S16 32) (v57 : IVec S16 32) (v105 : IVec S16 32) (k1_hw3 : k1_chk3 v50 v51 v52 v53 v54 v55 v56 v57 v105), ∀ a x, ((![v52, v105] : Fin 2 → IVec S16 32) a x).toNat < S752x64.size a := fun v50 v51 v52 v53 v54 v55 v56 v57 v105 k1_hw3 => k1_hw3.2.2.1
theorem k1_idx27_inb : ∀ (v50 : IVec S16 32) (v51 : IVec S16 32) (v52 : IVec S16 32) (v53 : IVec S16 32) (v54 : IVec S16 32) (v55 : IVec S16 32) (v56 : IVec S16 32) (v57 : IVec S16 32) (v105 : IVec S16 32) (k1_hw3 : k1_chk3 v50 v51 v52 v53 v54 v55 v56 v57 v105), ∀ a x, ((![v53, v105] : Fin 2 → IVec S16 32) a x).toNat < S752x64.size a := fun v50 v51 v52 v53 v54 v55 v56 v57 v105 k1_hw3 => k1_hw3.2.2.2.1
theorem k1_idx35_inb : ∀ (v50 : IVec S16 32) (v51 : IVec S16 32) (v52 : IVec S16 32) (v53 : IVec S16 32) (v54 : IVec S16 32) (v55 : IVec S16 32) (v56 : IVec S16 32) (v57 : IVec S16 32) (v105 : IVec S16 32) (k1_hw3 : k1_chk3 v50 v51 v52 v53 v54 v55 v56 v57 v105), ∀ a x, ((![v54, v105] : Fin 2 → IVec S16 32) a x).toNat < S752x64.size a := fun v50 v51 v52 v53 v54 v55 v56 v57 v105 k1_hw3 => k1_hw3.2.2.2.2.1
theorem k1_idx43_inb : ∀ (v50 : IVec S16 32) (v51 : IVec S16 32) (v52 : IVec S16 32) (v53 : IVec S16 32) (v54 : IVec S16 32) (v55 : IVec S16 32) (v56 : IVec S16 32) (v57 : IVec S16 32) (v105 : IVec S16 32) (k1_hw3 : k1_chk3 v50 v51 v52 v53 v54 v55 v56 v57 v105), ∀ a x, ((![v55, v105] : Fin 2 → IVec S16 32) a x).toNat < S752x64.size a := fun v50 v51 v52 v53 v54 v55 v56 v57 v105 k1_hw3 => k1_hw3.2.2.2.2.2.1
theorem k1_idx51_inb : ∀ (v50 : IVec S16 32) (v51 : IVec S16 32) (v52 : IVec S16 32) (v53 : IVec S16 32) (v54 : IVec S16 32) (v55 : IVec S16 32) (v56 : IVec S16 32) (v57 : IVec S16 32) (v105 : IVec S16 32) (k1_hw3 : k1_chk3 v50 v51 v52 v53 v54 v55 v56 v57 v105), ∀ a x, ((![v56, v105] : Fin 2 → IVec S16 32) a x).toNat < S752x64.size a := fun v50 v51 v52 v53 v54 v55 v56 v57 v105 k1_hw3 => k1_hw3.2.2.2.2.2.2.1
theorem k1_idx59_inb : ∀ (v50 : IVec S16 32) (v51 : IVec S16 32) (v52 : IVec S16 32) (v53 : IVec S16 32) (v54 : IVec S16 32) (v55 : IVec S16 32) (v56 : IVec S16 32) (v57 : IVec S16 32) (v105 : IVec S16 32) (k1_hw3 : k1_chk3 v50 v51 v52 v53 v54 v55 v56 v57 v105), ∀ a x, ((![v57, v105] : Fin 2 → IVec S16 32) a x).toNat < S752x64.size a := fun v50 v51 v52 v53 v54 v55 v56 v57 v105 k1_hw3 => k1_hw3.2.2.2.2.2.2.2

def k1_chk4 (v50 : IVec S16 32) (v51 : IVec S16 32) (v52 : IVec S16 32) (v53 : IVec S16 32) (v54 : IVec S16 32) (v55 : IVec S16 32) (v56 : IVec S16 32) (v57 : IVec S16 32) (v109 : IVec S16 32) : Prop :=
  (∀ a x, ((![v50, v109] : Fin 2 → IVec S16 32) a x).toNat < S752x64.size a) ∧
  (∀ a x, ((![v51, v109] : Fin 2 → IVec S16 32) a x).toNat < S752x64.size a) ∧
  (∀ a x, ((![v52, v109] : Fin 2 → IVec S16 32) a x).toNat < S752x64.size a) ∧
  (∀ a x, ((![v53, v109] : Fin 2 → IVec S16 32) a x).toNat < S752x64.size a) ∧
  (∀ a x, ((![v54, v109] : Fin 2 → IVec S16 32) a x).toNat < S752x64.size a) ∧
  (∀ a x, ((![v55, v109] : Fin 2 → IVec S16 32) a x).toNat < S752x64.size a) ∧
  (∀ a x, ((![v56, v109] : Fin 2 → IVec S16 32) a x).toNat < S752x64.size a) ∧
  (∀ a x, ((![v57, v109] : Fin 2 → IVec S16 32) a x).toNat < S752x64.size a)
theorem k1_idx4_inb : ∀ (v50 : IVec S16 32) (v51 : IVec S16 32) (v52 : IVec S16 32) (v53 : IVec S16 32) (v54 : IVec S16 32) (v55 : IVec S16 32) (v56 : IVec S16 32) (v57 : IVec S16 32) (v109 : IVec S16 32) (k1_hw4 : k1_chk4 v50 v51 v52 v53 v54 v55 v56 v57 v109), ∀ a x, ((![v50, v109] : Fin 2 → IVec S16 32) a x).toNat < S752x64.size a := fun v50 v51 v52 v53 v54 v55 v56 v57 v109 k1_hw4 => k1_hw4.1
theorem k1_idx12_inb : ∀ (v50 : IVec S16 32) (v51 : IVec S16 32) (v52 : IVec S16 32) (v53 : IVec S16 32) (v54 : IVec S16 32) (v55 : IVec S16 32) (v56 : IVec S16 32) (v57 : IVec S16 32) (v109 : IVec S16 32) (k1_hw4 : k1_chk4 v50 v51 v52 v53 v54 v55 v56 v57 v109), ∀ a x, ((![v51, v109] : Fin 2 → IVec S16 32) a x).toNat < S752x64.size a := fun v50 v51 v52 v53 v54 v55 v56 v57 v109 k1_hw4 => k1_hw4.2.1
theorem k1_idx20_inb : ∀ (v50 : IVec S16 32) (v51 : IVec S16 32) (v52 : IVec S16 32) (v53 : IVec S16 32) (v54 : IVec S16 32) (v55 : IVec S16 32) (v56 : IVec S16 32) (v57 : IVec S16 32) (v109 : IVec S16 32) (k1_hw4 : k1_chk4 v50 v51 v52 v53 v54 v55 v56 v57 v109), ∀ a x, ((![v52, v109] : Fin 2 → IVec S16 32) a x).toNat < S752x64.size a := fun v50 v51 v52 v53 v54 v55 v56 v57 v109 k1_hw4 => k1_hw4.2.2.1
theorem k1_idx28_inb : ∀ (v50 : IVec S16 32) (v51 : IVec S16 32) (v52 : IVec S16 32) (v53 : IVec S16 32) (v54 : IVec S16 32) (v55 : IVec S16 32) (v56 : IVec S16 32) (v57 : IVec S16 32) (v109 : IVec S16 32) (k1_hw4 : k1_chk4 v50 v51 v52 v53 v54 v55 v56 v57 v109), ∀ a x, ((![v53, v109] : Fin 2 → IVec S16 32) a x).toNat < S752x64.size a := fun v50 v51 v52 v53 v54 v55 v56 v57 v109 k1_hw4 => k1_hw4.2.2.2.1
theorem k1_idx36_inb : ∀ (v50 : IVec S16 32) (v51 : IVec S16 32) (v52 : IVec S16 32) (v53 : IVec S16 32) (v54 : IVec S16 32) (v55 : IVec S16 32) (v56 : IVec S16 32) (v57 : IVec S16 32) (v109 : IVec S16 32) (k1_hw4 : k1_chk4 v50 v51 v52 v53 v54 v55 v56 v57 v109), ∀ a x, ((![v54, v109] : Fin 2 → IVec S16 32) a x).toNat < S752x64.size a := fun v50 v51 v52 v53 v54 v55 v56 v57 v109 k1_hw4 => k1_hw4.2.2.2.2.1
theorem k1_idx44_inb : ∀ (v50 : IVec S16 32) (v51 : IVec S16 32) (v52 : IVec S16 32) (v53 : IVec S16 32) (v54 : IVec S16 32) (v55 : IVec S16 32) (v56 : IVec S16 32) (v57 : IVec S16 32) (v109 : IVec S16 32) (k1_hw4 : k1_chk4 v50 v51 v52 v53 v54 v55 v56 v57 v109), ∀ a x, ((![v55, v109] : Fin 2 → IVec S16 32) a x).toNat < S752x64.size a := fun v50 v51 v52 v53 v54 v55 v56 v57 v109 k1_hw4 => k1_hw4.2.2.2.2.2.1
theorem k1_idx52_inb : ∀ (v50 : IVec S16 32) (v51 : IVec S16 32) (v52 : IVec S16 32) (v53 : IVec S16 32) (v54 : IVec S16 32) (v55 : IVec S16 32) (v56 : IVec S16 32) (v57 : IVec S16 32) (v109 : IVec S16 32) (k1_hw4 : k1_chk4 v50 v51 v52 v53 v54 v55 v56 v57 v109), ∀ a x, ((![v56, v109] : Fin 2 → IVec S16 32) a x).toNat < S752x64.size a := fun v50 v51 v52 v53 v54 v55 v56 v57 v109 k1_hw4 => k1_hw4.2.2.2.2.2.2.1
theorem k1_idx60_inb : ∀ (v50 : IVec S16 32) (v51 : IVec S16 32) (v52 : IVec S16 32) (v53 : IVec S16 32) (v54 : IVec S16 32) (v55 : IVec S16 32) (v56 : IVec S16 32) (v57 : IVec S16 32) (v109 : IVec S16 32) (k1_hw4 : k1_chk4 v50 v51 v52 v53 v54 v55 v56 v57 v109), ∀ a x, ((![v57, v109] : Fin 2 → IVec S16 32) a x).toNat < S752x64.size a := fun v50 v51 v52 v53 v54 v55 v56 v57 v109 k1_hw4 => k1_hw4.2.2.2.2.2.2.2

def k1_chk5 (v50 : IVec S16 32) (v51 : IVec S16 32) (v52 : IVec S16 32) (v53 : IVec S16 32) (v54 : IVec S16 32) (v55 : IVec S16 32) (v56 : IVec S16 32) (v57 : IVec S16 32) (v113 : IVec S16 32) : Prop :=
  (∀ a x, ((![v50, v113] : Fin 2 → IVec S16 32) a x).toNat < S752x64.size a) ∧
  (∀ a x, ((![v51, v113] : Fin 2 → IVec S16 32) a x).toNat < S752x64.size a) ∧
  (∀ a x, ((![v52, v113] : Fin 2 → IVec S16 32) a x).toNat < S752x64.size a) ∧
  (∀ a x, ((![v53, v113] : Fin 2 → IVec S16 32) a x).toNat < S752x64.size a) ∧
  (∀ a x, ((![v54, v113] : Fin 2 → IVec S16 32) a x).toNat < S752x64.size a) ∧
  (∀ a x, ((![v55, v113] : Fin 2 → IVec S16 32) a x).toNat < S752x64.size a) ∧
  (∀ a x, ((![v56, v113] : Fin 2 → IVec S16 32) a x).toNat < S752x64.size a) ∧
  (∀ a x, ((![v57, v113] : Fin 2 → IVec S16 32) a x).toNat < S752x64.size a)
theorem k1_idx5_inb : ∀ (v50 : IVec S16 32) (v51 : IVec S16 32) (v52 : IVec S16 32) (v53 : IVec S16 32) (v54 : IVec S16 32) (v55 : IVec S16 32) (v56 : IVec S16 32) (v57 : IVec S16 32) (v113 : IVec S16 32) (k1_hw5 : k1_chk5 v50 v51 v52 v53 v54 v55 v56 v57 v113), ∀ a x, ((![v50, v113] : Fin 2 → IVec S16 32) a x).toNat < S752x64.size a := fun v50 v51 v52 v53 v54 v55 v56 v57 v113 k1_hw5 => k1_hw5.1
theorem k1_idx13_inb : ∀ (v50 : IVec S16 32) (v51 : IVec S16 32) (v52 : IVec S16 32) (v53 : IVec S16 32) (v54 : IVec S16 32) (v55 : IVec S16 32) (v56 : IVec S16 32) (v57 : IVec S16 32) (v113 : IVec S16 32) (k1_hw5 : k1_chk5 v50 v51 v52 v53 v54 v55 v56 v57 v113), ∀ a x, ((![v51, v113] : Fin 2 → IVec S16 32) a x).toNat < S752x64.size a := fun v50 v51 v52 v53 v54 v55 v56 v57 v113 k1_hw5 => k1_hw5.2.1
theorem k1_idx21_inb : ∀ (v50 : IVec S16 32) (v51 : IVec S16 32) (v52 : IVec S16 32) (v53 : IVec S16 32) (v54 : IVec S16 32) (v55 : IVec S16 32) (v56 : IVec S16 32) (v57 : IVec S16 32) (v113 : IVec S16 32) (k1_hw5 : k1_chk5 v50 v51 v52 v53 v54 v55 v56 v57 v113), ∀ a x, ((![v52, v113] : Fin 2 → IVec S16 32) a x).toNat < S752x64.size a := fun v50 v51 v52 v53 v54 v55 v56 v57 v113 k1_hw5 => k1_hw5.2.2.1
theorem k1_idx29_inb : ∀ (v50 : IVec S16 32) (v51 : IVec S16 32) (v52 : IVec S16 32) (v53 : IVec S16 32) (v54 : IVec S16 32) (v55 : IVec S16 32) (v56 : IVec S16 32) (v57 : IVec S16 32) (v113 : IVec S16 32) (k1_hw5 : k1_chk5 v50 v51 v52 v53 v54 v55 v56 v57 v113), ∀ a x, ((![v53, v113] : Fin 2 → IVec S16 32) a x).toNat < S752x64.size a := fun v50 v51 v52 v53 v54 v55 v56 v57 v113 k1_hw5 => k1_hw5.2.2.2.1
theorem k1_idx37_inb : ∀ (v50 : IVec S16 32) (v51 : IVec S16 32) (v52 : IVec S16 32) (v53 : IVec S16 32) (v54 : IVec S16 32) (v55 : IVec S16 32) (v56 : IVec S16 32) (v57 : IVec S16 32) (v113 : IVec S16 32) (k1_hw5 : k1_chk5 v50 v51 v52 v53 v54 v55 v56 v57 v113), ∀ a x, ((![v54, v113] : Fin 2 → IVec S16 32) a x).toNat < S752x64.size a := fun v50 v51 v52 v53 v54 v55 v56 v57 v113 k1_hw5 => k1_hw5.2.2.2.2.1
theorem k1_idx45_inb : ∀ (v50 : IVec S16 32) (v51 : IVec S16 32) (v52 : IVec S16 32) (v53 : IVec S16 32) (v54 : IVec S16 32) (v55 : IVec S16 32) (v56 : IVec S16 32) (v57 : IVec S16 32) (v113 : IVec S16 32) (k1_hw5 : k1_chk5 v50 v51 v52 v53 v54 v55 v56 v57 v113), ∀ a x, ((![v55, v113] : Fin 2 → IVec S16 32) a x).toNat < S752x64.size a := fun v50 v51 v52 v53 v54 v55 v56 v57 v113 k1_hw5 => k1_hw5.2.2.2.2.2.1
theorem k1_idx53_inb : ∀ (v50 : IVec S16 32) (v51 : IVec S16 32) (v52 : IVec S16 32) (v53 : IVec S16 32) (v54 : IVec S16 32) (v55 : IVec S16 32) (v56 : IVec S16 32) (v57 : IVec S16 32) (v113 : IVec S16 32) (k1_hw5 : k1_chk5 v50 v51 v52 v53 v54 v55 v56 v57 v113), ∀ a x, ((![v56, v113] : Fin 2 → IVec S16 32) a x).toNat < S752x64.size a := fun v50 v51 v52 v53 v54 v55 v56 v57 v113 k1_hw5 => k1_hw5.2.2.2.2.2.2.1
theorem k1_idx61_inb : ∀ (v50 : IVec S16 32) (v51 : IVec S16 32) (v52 : IVec S16 32) (v53 : IVec S16 32) (v54 : IVec S16 32) (v55 : IVec S16 32) (v56 : IVec S16 32) (v57 : IVec S16 32) (v113 : IVec S16 32) (k1_hw5 : k1_chk5 v50 v51 v52 v53 v54 v55 v56 v57 v113), ∀ a x, ((![v57, v113] : Fin 2 → IVec S16 32) a x).toNat < S752x64.size a := fun v50 v51 v52 v53 v54 v55 v56 v57 v113 k1_hw5 => k1_hw5.2.2.2.2.2.2.2

def k1_chk6 (v50 : IVec S16 32) (v51 : IVec S16 32) (v52 : IVec S16 32) (v53 : IVec S16 32) (v54 : IVec S16 32) (v55 : IVec S16 32) (v56 : IVec S16 32) (v57 : IVec S16 32) (v117 : IVec S16 32) : Prop :=
  (∀ a x, ((![v50, v117] : Fin 2 → IVec S16 32) a x).toNat < S752x64.size a) ∧
  (∀ a x, ((![v51, v117] : Fin 2 → IVec S16 32) a x).toNat < S752x64.size a) ∧
  (∀ a x, ((![v52, v117] : Fin 2 → IVec S16 32) a x).toNat < S752x64.size a) ∧
  (∀ a x, ((![v53, v117] : Fin 2 → IVec S16 32) a x).toNat < S752x64.size a) ∧
  (∀ a x, ((![v54, v117] : Fin 2 → IVec S16 32) a x).toNat < S752x64.size a) ∧
  (∀ a x, ((![v55, v117] : Fin 2 → IVec S16 32) a x).toNat < S752x64.size a) ∧
  (∀ a x, ((![v56, v117] : Fin 2 → IVec S16 32) a x).toNat < S752x64.size a) ∧
  (∀ a x, ((![v57, v117] : Fin 2 → IVec S16 32) a x).toNat < S752x64.size a)
theorem k1_idx6_inb : ∀ (v50 : IVec S16 32) (v51 : IVec S16 32) (v52 : IVec S16 32) (v53 : IVec S16 32) (v54 : IVec S16 32) (v55 : IVec S16 32) (v56 : IVec S16 32) (v57 : IVec S16 32) (v117 : IVec S16 32) (k1_hw6 : k1_chk6 v50 v51 v52 v53 v54 v55 v56 v57 v117), ∀ a x, ((![v50, v117] : Fin 2 → IVec S16 32) a x).toNat < S752x64.size a := fun v50 v51 v52 v53 v54 v55 v56 v57 v117 k1_hw6 => k1_hw6.1
theorem k1_idx14_inb : ∀ (v50 : IVec S16 32) (v51 : IVec S16 32) (v52 : IVec S16 32) (v53 : IVec S16 32) (v54 : IVec S16 32) (v55 : IVec S16 32) (v56 : IVec S16 32) (v57 : IVec S16 32) (v117 : IVec S16 32) (k1_hw6 : k1_chk6 v50 v51 v52 v53 v54 v55 v56 v57 v117), ∀ a x, ((![v51, v117] : Fin 2 → IVec S16 32) a x).toNat < S752x64.size a := fun v50 v51 v52 v53 v54 v55 v56 v57 v117 k1_hw6 => k1_hw6.2.1
theorem k1_idx22_inb : ∀ (v50 : IVec S16 32) (v51 : IVec S16 32) (v52 : IVec S16 32) (v53 : IVec S16 32) (v54 : IVec S16 32) (v55 : IVec S16 32) (v56 : IVec S16 32) (v57 : IVec S16 32) (v117 : IVec S16 32) (k1_hw6 : k1_chk6 v50 v51 v52 v53 v54 v55 v56 v57 v117), ∀ a x, ((![v52, v117] : Fin 2 → IVec S16 32) a x).toNat < S752x64.size a := fun v50 v51 v52 v53 v54 v55 v56 v57 v117 k1_hw6 => k1_hw6.2.2.1
theorem k1_idx30_inb : ∀ (v50 : IVec S16 32) (v51 : IVec S16 32) (v52 : IVec S16 32) (v53 : IVec S16 32) (v54 : IVec S16 32) (v55 : IVec S16 32) (v56 : IVec S16 32) (v57 : IVec S16 32) (v117 : IVec S16 32) (k1_hw6 : k1_chk6 v50 v51 v52 v53 v54 v55 v56 v57 v117), ∀ a x, ((![v53, v117] : Fin 2 → IVec S16 32) a x).toNat < S752x64.size a := fun v50 v51 v52 v53 v54 v55 v56 v57 v117 k1_hw6 => k1_hw6.2.2.2.1
theorem k1_idx38_inb : ∀ (v50 : IVec S16 32) (v51 : IVec S16 32) (v52 : IVec S16 32) (v53 : IVec S16 32) (v54 : IVec S16 32) (v55 : IVec S16 32) (v56 : IVec S16 32) (v57 : IVec S16 32) (v117 : IVec S16 32) (k1_hw6 : k1_chk6 v50 v51 v52 v53 v54 v55 v56 v57 v117), ∀ a x, ((![v54, v117] : Fin 2 → IVec S16 32) a x).toNat < S752x64.size a := fun v50 v51 v52 v53 v54 v55 v56 v57 v117 k1_hw6 => k1_hw6.2.2.2.2.1
theorem k1_idx46_inb : ∀ (v50 : IVec S16 32) (v51 : IVec S16 32) (v52 : IVec S16 32) (v53 : IVec S16 32) (v54 : IVec S16 32) (v55 : IVec S16 32) (v56 : IVec S16 32) (v57 : IVec S16 32) (v117 : IVec S16 32) (k1_hw6 : k1_chk6 v50 v51 v52 v53 v54 v55 v56 v57 v117), ∀ a x, ((![v55, v117] : Fin 2 → IVec S16 32) a x).toNat < S752x64.size a := fun v50 v51 v52 v53 v54 v55 v56 v57 v117 k1_hw6 => k1_hw6.2.2.2.2.2.1
theorem k1_idx54_inb : ∀ (v50 : IVec S16 32) (v51 : IVec S16 32) (v52 : IVec S16 32) (v53 : IVec S16 32) (v54 : IVec S16 32) (v55 : IVec S16 32) (v56 : IVec S16 32) (v57 : IVec S16 32) (v117 : IVec S16 32) (k1_hw6 : k1_chk6 v50 v51 v52 v53 v54 v55 v56 v57 v117), ∀ a x, ((![v56, v117] : Fin 2 → IVec S16 32) a x).toNat < S752x64.size a := fun v50 v51 v52 v53 v54 v55 v56 v57 v117 k1_hw6 => k1_hw6.2.2.2.2.2.2.1
theorem k1_idx62_inb : ∀ (v50 : IVec S16 32) (v51 : IVec S16 32) (v52 : IVec S16 32) (v53 : IVec S16 32) (v54 : IVec S16 32) (v55 : IVec S16 32) (v56 : IVec S16 32) (v57 : IVec S16 32) (v117 : IVec S16 32) (k1_hw6 : k1_chk6 v50 v51 v52 v53 v54 v55 v56 v57 v117), ∀ a x, ((![v57, v117] : Fin 2 → IVec S16 32) a x).toNat < S752x64.size a := fun v50 v51 v52 v53 v54 v55 v56 v57 v117 k1_hw6 => k1_hw6.2.2.2.2.2.2.2

def k1_chk7 (v50 : IVec S16 32) (v51 : IVec S16 32) (v52 : IVec S16 32) (v53 : IVec S16 32) (v54 : IVec S16 32) (v55 : IVec S16 32) (v56 : IVec S16 32) (v57 : IVec S16 32) (v121 : IVec S16 32) : Prop :=
  (∀ a x, ((![v50, v121] : Fin 2 → IVec S16 32) a x).toNat < S752x64.size a) ∧
  (∀ a x, ((![v51, v121] : Fin 2 → IVec S16 32) a x).toNat < S752x64.size a) ∧
  (∀ a x, ((![v52, v121] : Fin 2 → IVec S16 32) a x).toNat < S752x64.size a) ∧
  (∀ a x, ((![v53, v121] : Fin 2 → IVec S16 32) a x).toNat < S752x64.size a) ∧
  (∀ a x, ((![v54, v121] : Fin 2 → IVec S16 32) a x).toNat < S752x64.size a) ∧
  (∀ a x, ((![v55, v121] : Fin 2 → IVec S16 32) a x).toNat < S752x64.size a) ∧
  (∀ a x, ((![v56, v121] : Fin 2 → IVec S16 32) a x).toNat < S752x64.size a) ∧
  (∀ a x, ((![v57, v121] : Fin 2 → IVec S16 32) a x).toNat < S752x64.size a)
theorem k1_idx7_inb : ∀ (v50 : IVec S16 32) (v51 : IVec S16 32) (v52 : IVec S16 32) (v53 : IVec S16 32) (v54 : IVec S16 32) (v55 : IVec S16 32) (v56 : IVec S16 32) (v57 : IVec S16 32) (v121 : IVec S16 32) (k1_hw7 : k1_chk7 v50 v51 v52 v53 v54 v55 v56 v57 v121), ∀ a x, ((![v50, v121] : Fin 2 → IVec S16 32) a x).toNat < S752x64.size a := fun v50 v51 v52 v53 v54 v55 v56 v57 v121 k1_hw7 => k1_hw7.1
theorem k1_idx15_inb : ∀ (v50 : IVec S16 32) (v51 : IVec S16 32) (v52 : IVec S16 32) (v53 : IVec S16 32) (v54 : IVec S16 32) (v55 : IVec S16 32) (v56 : IVec S16 32) (v57 : IVec S16 32) (v121 : IVec S16 32) (k1_hw7 : k1_chk7 v50 v51 v52 v53 v54 v55 v56 v57 v121), ∀ a x, ((![v51, v121] : Fin 2 → IVec S16 32) a x).toNat < S752x64.size a := fun v50 v51 v52 v53 v54 v55 v56 v57 v121 k1_hw7 => k1_hw7.2.1
theorem k1_idx23_inb : ∀ (v50 : IVec S16 32) (v51 : IVec S16 32) (v52 : IVec S16 32) (v53 : IVec S16 32) (v54 : IVec S16 32) (v55 : IVec S16 32) (v56 : IVec S16 32) (v57 : IVec S16 32) (v121 : IVec S16 32) (k1_hw7 : k1_chk7 v50 v51 v52 v53 v54 v55 v56 v57 v121), ∀ a x, ((![v52, v121] : Fin 2 → IVec S16 32) a x).toNat < S752x64.size a := fun v50 v51 v52 v53 v54 v55 v56 v57 v121 k1_hw7 => k1_hw7.2.2.1
theorem k1_idx31_inb : ∀ (v50 : IVec S16 32) (v51 : IVec S16 32) (v52 : IVec S16 32) (v53 : IVec S16 32) (v54 : IVec S16 32) (v55 : IVec S16 32) (v56 : IVec S16 32) (v57 : IVec S16 32) (v121 : IVec S16 32) (k1_hw7 : k1_chk7 v50 v51 v52 v53 v54 v55 v56 v57 v121), ∀ a x, ((![v53, v121] : Fin 2 → IVec S16 32) a x).toNat < S752x64.size a := fun v50 v51 v52 v53 v54 v55 v56 v57 v121 k1_hw7 => k1_hw7.2.2.2.1
theorem k1_idx39_inb : ∀ (v50 : IVec S16 32) (v51 : IVec S16 32) (v52 : IVec S16 32) (v53 : IVec S16 32) (v54 : IVec S16 32) (v55 : IVec S16 32) (v56 : IVec S16 32) (v57 : IVec S16 32) (v121 : IVec S16 32) (k1_hw7 : k1_chk7 v50 v51 v52 v53 v54 v55 v56 v57 v121), ∀ a x, ((![v54, v121] : Fin 2 → IVec S16 32) a x).toNat < S752x64.size a := fun v50 v51 v52 v53 v54 v55 v56 v57 v121 k1_hw7 => k1_hw7.2.2.2.2.1
theorem k1_idx47_inb : ∀ (v50 : IVec S16 32) (v51 : IVec S16 32) (v52 : IVec S16 32) (v53 : IVec S16 32) (v54 : IVec S16 32) (v55 : IVec S16 32) (v56 : IVec S16 32) (v57 : IVec S16 32) (v121 : IVec S16 32) (k1_hw7 : k1_chk7 v50 v51 v52 v53 v54 v55 v56 v57 v121), ∀ a x, ((![v55, v121] : Fin 2 → IVec S16 32) a x).toNat < S752x64.size a := fun v50 v51 v52 v53 v54 v55 v56 v57 v121 k1_hw7 => k1_hw7.2.2.2.2.2.1
theorem k1_idx55_inb : ∀ (v50 : IVec S16 32) (v51 : IVec S16 32) (v52 : IVec S16 32) (v53 : IVec S16 32) (v54 : IVec S16 32) (v55 : IVec S16 32) (v56 : IVec S16 32) (v57 : IVec S16 32) (v121 : IVec S16 32) (k1_hw7 : k1_chk7 v50 v51 v52 v53 v54 v55 v56 v57 v121), ∀ a x, ((![v56, v121] : Fin 2 → IVec S16 32) a x).toNat < S752x64.size a := fun v50 v51 v52 v53 v54 v55 v56 v57 v121 k1_hw7 => k1_hw7.2.2.2.2.2.2.1
theorem k1_idx63_inb : ∀ (v50 : IVec S16 32) (v51 : IVec S16 32) (v52 : IVec S16 32) (v53 : IVec S16 32) (v54 : IVec S16 32) (v55 : IVec S16 32) (v56 : IVec S16 32) (v57 : IVec S16 32) (v121 : IVec S16 32) (k1_hw7 : k1_chk7 v50 v51 v52 v53 v54 v55 v56 v57 v121), ∀ a x, ((![v57, v121] : Fin 2 → IVec S16 32) a x).toNat < S752x64.size a := fun v50 v51 v52 v53 v54 v55 v56 v57 v121 k1_hw7 => k1_hw7.2.2.2.2.2.2.2

def k1_chk8 (v50 : IVec S16 32) (v51 : IVec S16 32) (v52 : IVec S16 32) (v53 : IVec S16 32) (v54 : IVec S16 32) (v55 : IVec S16 32) (v56 : IVec S16 32) (v57 : IVec S16 32) (v125 : IVec S16 32) : Prop :=
  (∀ a x, ((![v50, v125] : Fin 2 → IVec S16 32) a x).toNat < S752x64.size a) ∧
  (∀ a x, ((![v51, v125] : Fin 2 → IVec S16 32) a x).toNat < S752x64.size a) ∧
  (∀ a x, ((![v52, v125] : Fin 2 → IVec S16 32) a x).toNat < S752x64.size a) ∧
  (∀ a x, ((![v53, v125] : Fin 2 → IVec S16 32) a x).toNat < S752x64.size a) ∧
  (∀ a x, ((![v54, v125] : Fin 2 → IVec S16 32) a x).toNat < S752x64.size a) ∧
  (∀ a x, ((![v55, v125] : Fin 2 → IVec S16 32) a x).toNat < S752x64.size a) ∧
  (∀ a x, ((![v56, v125] : Fin 2 → IVec S16 32) a x).toNat < S752x64.size a) ∧
  (∀ a x, ((![v57, v125] : Fin 2 → IVec S16 32) a x).toNat < S752x64.size a)
theorem k1_idx8_inb : ∀ (v50 : IVec S16 32) (v51 : IVec S16 32) (v52 : IVec S16 32) (v53 : IVec S16 32) (v54 : IVec S16 32) (v55 : IVec S16 32) (v56 : IVec S16 32) (v57 : IVec S16 32) (v125 : IVec S16 32) (k1_hw8 : k1_chk8 v50 v51 v52 v53 v54 v55 v56 v57 v125), ∀ a x, ((![v50, v125] : Fin 2 → IVec S16 32) a x).toNat < S752x64.size a := fun v50 v51 v52 v53 v54 v55 v56 v57 v125 k1_hw8 => k1_hw8.1
theorem k1_idx16_inb : ∀ (v50 : IVec S16 32) (v51 : IVec S16 32) (v52 : IVec S16 32) (v53 : IVec S16 32) (v54 : IVec S16 32) (v55 : IVec S16 32) (v56 : IVec S16 32) (v57 : IVec S16 32) (v125 : IVec S16 32) (k1_hw8 : k1_chk8 v50 v51 v52 v53 v54 v55 v56 v57 v125), ∀ a x, ((![v51, v125] : Fin 2 → IVec S16 32) a x).toNat < S752x64.size a := fun v50 v51 v52 v53 v54 v55 v56 v57 v125 k1_hw8 => k1_hw8.2.1
theorem k1_idx24_inb : ∀ (v50 : IVec S16 32) (v51 : IVec S16 32) (v52 : IVec S16 32) (v53 : IVec S16 32) (v54 : IVec S16 32) (v55 : IVec S16 32) (v56 : IVec S16 32) (v57 : IVec S16 32) (v125 : IVec S16 32) (k1_hw8 : k1_chk8 v50 v51 v52 v53 v54 v55 v56 v57 v125), ∀ a x, ((![v52, v125] : Fin 2 → IVec S16 32) a x).toNat < S752x64.size a := fun v50 v51 v52 v53 v54 v55 v56 v57 v125 k1_hw8 => k1_hw8.2.2.1
theorem k1_idx32_inb : ∀ (v50 : IVec S16 32) (v51 : IVec S16 32) (v52 : IVec S16 32) (v53 : IVec S16 32) (v54 : IVec S16 32) (v55 : IVec S16 32) (v56 : IVec S16 32) (v57 : IVec S16 32) (v125 : IVec S16 32) (k1_hw8 : k1_chk8 v50 v51 v52 v53 v54 v55 v56 v57 v125), ∀ a x, ((![v53, v125] : Fin 2 → IVec S16 32) a x).toNat < S752x64.size a := fun v50 v51 v52 v53 v54 v55 v56 v57 v125 k1_hw8 => k1_hw8.2.2.2.1
theorem k1_idx40_inb : ∀ (v50 : IVec S16 32) (v51 : IVec S16 32) (v52 : IVec S16 32) (v53 : IVec S16 32) (v54 : IVec S16 32) (v55 : IVec S16 32) (v56 : IVec S16 32) (v57 : IVec S16 32) (v125 : IVec S16 32) (k1_hw8 : k1_chk8 v50 v51 v52 v53 v54 v55 v56 v57 v125), ∀ a x, ((![v54, v125] : Fin 2 → IVec S16 32) a x).toNat < S752x64.size a := fun v50 v51 v52 v53 v54 v55 v56 v57 v125 k1_hw8 => k1_hw8.2.2.2.2.1
theorem k1_idx48_inb : ∀ (v50 : IVec S16 32) (v51 : IVec S16 32) (v52 : IVec S16 32) (v53 : IVec S16 32) (v54 : IVec S16 32) (v55 : IVec S16 32) (v56 : IVec S16 32) (v57 : IVec S16 32) (v125 : IVec S16 32) (k1_hw8 : k1_chk8 v50 v51 v52 v53 v54 v55 v56 v57 v125), ∀ a x, ((![v55, v125] : Fin 2 → IVec S16 32) a x).toNat < S752x64.size a := fun v50 v51 v52 v53 v54 v55 v56 v57 v125 k1_hw8 => k1_hw8.2.2.2.2.2.1
theorem k1_idx56_inb : ∀ (v50 : IVec S16 32) (v51 : IVec S16 32) (v52 : IVec S16 32) (v53 : IVec S16 32) (v54 : IVec S16 32) (v55 : IVec S16 32) (v56 : IVec S16 32) (v57 : IVec S16 32) (v125 : IVec S16 32) (k1_hw8 : k1_chk8 v50 v51 v52 v53 v54 v55 v56 v57 v125), ∀ a x, ((![v56, v125] : Fin 2 → IVec S16 32) a x).toNat < S752x64.size a := fun v50 v51 v52 v53 v54 v55 v56 v57 v125 k1_hw8 => k1_hw8.2.2.2.2.2.2.1
theorem k1_idx64_inb : ∀ (v50 : IVec S16 32) (v51 : IVec S16 32) (v52 : IVec S16 32) (v53 : IVec S16 32) (v54 : IVec S16 32) (v55 : IVec S16 32) (v56 : IVec S16 32) (v57 : IVec S16 32) (v125 : IVec S16 32) (k1_hw8 : k1_chk8 v50 v51 v52 v53 v54 v55 v56 v57 v125), ∀ a x, ((![v57, v125] : Fin 2 → IVec S16 32) a x).toNat < S752x64.size a := fun v50 v51 v52 v53 v54 v55 v56 v57 v125 k1_hw8 => k1_hw8.2.2.2.2.2.2.2
def k1_off19 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c752_i32 : BitVec 32 := 752#32
  let v31 : BitVec 32 := Scalar.muli v28 c752_i32
  let c2248_i32 : BitVec 32 := 2248#32
  let v32 : BitVec 32 := Scalar.minsi v31 c2248_i32
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c8_i32_10 : BitVec 32 := 8#32
  let c0_i32_13 : BitVec 32 := 0#32
  let v39 : BitVec 1 := Scalar.cmpi .sgt c8_i32_10 c0_i32_13
  let v40 : BitVec 32 := Scalar.extui v39
  let c0_i32_14 : BitVec 32 := 0#32
  let v41 : BitVec 1 := Scalar.cmpi .slt c8_i32_10 c0_i32_14
  let v42 : BitVec 32 := Scalar.extui v41
  let v43 : BitVec 32 := Scalar.subi v40 v42
  let v44 : BitVec 1 := Scalar.cmpi .ne v38 v43
  let v45 : BitVec 32 := Scalar.remsi v32 c8_i32_10
  let c0_i32_15 : BitVec 32 := 0#32
  let v46 : BitVec 1 := Scalar.cmpi .ne v45 c0_i32_15
  let v47 : BitVec 1 := Scalar.andi v44 v46
  let v33 : BitVec 32 := Scalar.divsi v32 c8_i32_10
  let c1_i32_16 : BitVec 32 := 1#32
  let v48 : BitVec 32 := Scalar.subi v33 c1_i32_16
  let v49 : BitVec 32 := Scalar.select v47 v48 v33
  let c0_i32_25 : BitVec 32 := 0#32
  let v59 : BitVec 32 := Scalar.addi v49 c0_i32_25
  let c128_i32 : BitVec 32 := 128#32
  let v60 : BitVec 32 := Scalar.muli v59 c128_i32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c16_i32 : BitVec 32 := 16#32
  let v30 : BitVec 32 := Scalar.muli v11 c16_i32
  let v61 : BitVec 32 := Scalar.addi v60 v30
  let c1024_i32 : BitVec 32 := 1024#32
  let v62 : BitVec 32 := Scalar.muli v61 c1024_i32
  ![v62.toNat]
@[reducible] def k1_t2_loop : Scf.Loop 32 :=
  let c0_i32_28 : BitVec 32 := 0#32
  let c16_i32_29 : BitVec 32 := 16#32
  let v73 : BitVec 32 := Scalar.addi c0_i32_28 c16_i32_29
  let c1_i32_30 : BitVec 32 := 1#32
  ⟨c0_i32_28, v73, c1_i32_30⟩
def k1_off20 (k1_t2 : Fin k1_t2_loop.trips) (c0_i32_45 : BitVec 32) : Fin 1 → Nat :=
  let c0_i32_28 : BitVec 32 := 0#32
  let c1_i32_30 : BitVec 32 := 1#32
  let arg11 : BitVec 32 := Scf.iv c0_i32_28 c1_i32_30 k1_t2
  let c128_i32_44 : BitVec 32 := 128#32
  let v94 : BitVec 32 := Scalar.muli arg11 c128_i32_44
  let v95 : BitVec 32 := Scalar.addi v94 c0_i32_45
  let v96 : Index := Scalar.indexCast v95
  ![v96.toNat]
def k1_off21 (k1_t2 : Fin k1_t2_loop.trips) : Fin 1 → Nat :=
  let c0_i32_28 : BitVec 32 := 0#32
  let c1_i32_30 : BitVec 32 := 1#32
  let arg11 : BitVec 32 := Scf.iv c0_i32_28 c1_i32_30 k1_t2
  let c1024_i32_43 : BitVec 32 := 1024#32
  let v93 : BitVec 32 := Scalar.muli arg11 c1024_i32_43
  let c0_i32_54 : BitVec 32 := 0#32
  let v127 : BitVec 32 := Scalar.addi v93 c0_i32_54
  let c0_i32_55 : BitVec 32 := 0#32
  let v128 : BitVec 32 := Scalar.addi v127 c0_i32_55
  let v129 : Index := Scalar.indexCast v128
  ![v129.toNat]
def k1_off22 (k1_t2 : Fin k1_t2_loop.trips) : Fin 1 → Nat :=
  let c0_i32_28 : BitVec 32 := 0#32
  let c1_i32_30 : BitVec 32 := 1#32
  let arg11 : BitVec 32 := Scf.iv c0_i32_28 c1_i32_30 k1_t2
  let c1024_i32_43 : BitVec 32 := 1024#32
  let v93 : BitVec 32 := Scalar.muli arg11 c1024_i32_43
  let c0_i32_56 : BitVec 32 := 0#32
  let v132 : BitVec 32 := Scalar.addi v93 c0_i32_56
  let c16_i32_57 : BitVec 32 := 16#32
  let v133 : BitVec 32 := Scalar.addi v132 c16_i32_57
  let v134 : Index := Scalar.indexCast v133
  ![v134.toNat]
def k1_off23 (k1_t2 : Fin k1_t2_loop.trips) : Fin 1 → Nat :=
  let c0_i32_28 : BitVec 32 := 0#32
  let c1_i32_30 : BitVec 32 := 1#32
  let arg11 : BitVec 32 := Scf.iv c0_i32_28 c1_i32_30 k1_t2
  let c1024_i32_43 : BitVec 32 := 1024#32
  let v93 : BitVec 32 := Scalar.muli arg11 c1024_i32_43
  let c0_i32_58 : BitVec 32 := 0#32
  let v137 : BitVec 32 := Scalar.addi v93 c0_i32_58
  let c32_i32_59 : BitVec 32 := 32#32
  let v138 : BitVec 32 := Scalar.addi v137 c32_i32_59
  let v139 : Index := Scalar.indexCast v138
  ![v139.toNat]
def k1_off24 (k1_t2 : Fin k1_t2_loop.trips) : Fin 1 → Nat :=
  let c0_i32_28 : BitVec 32 := 0#32
  let c1_i32_30 : BitVec 32 := 1#32
  let arg11 : BitVec 32 := Scf.iv c0_i32_28 c1_i32_30 k1_t2
  let c1024_i32_43 : BitVec 32 := 1024#32
  let v93 : BitVec 32 := Scalar.muli arg11 c1024_i32_43
  let c0_i32_60 : BitVec 32 := 0#32
  let v142 : BitVec 32 := Scalar.addi v93 c0_i32_60
  let c48_i32_61 : BitVec 32 := 48#32
  let v143 : BitVec 32 := Scalar.addi v142 c48_i32_61
  let v144 : Index := Scalar.indexCast v143
  ![v144.toNat]
def k1_off25 (k1_t2 : Fin k1_t2_loop.trips) : Fin 1 → Nat :=
  let c0_i32_28 : BitVec 32 := 0#32
  let c1_i32_30 : BitVec 32 := 1#32
  let arg11 : BitVec 32 := Scf.iv c0_i32_28 c1_i32_30 k1_t2
  let c1024_i32_43 : BitVec 32 := 1024#32
  let v93 : BitVec 32 := Scalar.muli arg11 c1024_i32_43
  let c0_i32_62 : BitVec 32 := 0#32
  let v147 : BitVec 32 := Scalar.addi v93 c0_i32_62
  let c64_i32_63 : BitVec 32 := 64#32
  let v148 : BitVec 32 := Scalar.addi v147 c64_i32_63
  let v149 : Index := Scalar.indexCast v148
  ![v149.toNat]
def k1_off26 (k1_t2 : Fin k1_t2_loop.trips) : Fin 1 → Nat :=
  let c0_i32_28 : BitVec 32 := 0#32
  let c1_i32_30 : BitVec 32 := 1#32
  let arg11 : BitVec 32 := Scf.iv c0_i32_28 c1_i32_30 k1_t2
  let c1024_i32_43 : BitVec 32 := 1024#32
  let v93 : BitVec 32 := Scalar.muli arg11 c1024_i32_43
  let c0_i32_64 : BitVec 32 := 0#32
  let v152 : BitVec 32 := Scalar.addi v93 c0_i32_64
  let c80_i32_65 : BitVec 32 := 80#32
  let v153 : BitVec 32 := Scalar.addi v152 c80_i32_65
  let v154 : Index := Scalar.indexCast v153
  ![v154.toNat]
def k1_off27 (k1_t2 : Fin k1_t2_loop.trips) : Fin 1 → Nat :=
  let c0_i32_28 : BitVec 32 := 0#32
  let c1_i32_30 : BitVec 32 := 1#32
  let arg11 : BitVec 32 := Scf.iv c0_i32_28 c1_i32_30 k1_t2
  let c1024_i32_43 : BitVec 32 := 1024#32
  let v93 : BitVec 32 := Scalar.muli arg11 c1024_i32_43
  let c0_i32_66 : BitVec 32 := 0#32
  let v157 : BitVec 32 := Scalar.addi v93 c0_i32_66
  let c96_i32_67 : BitVec 32 := 96#32
  let v158 : BitVec 32 := Scalar.addi v157 c96_i32_67
  let v159 : Index := Scalar.indexCast v158
  ![v159.toNat]
def k1_off28 (k1_t2 : Fin k1_t2_loop.trips) : Fin 1 → Nat :=
  let c0_i32_28 : BitVec 32 := 0#32
  let c1_i32_30 : BitVec 32 := 1#32
  let arg11 : BitVec 32 := Scf.iv c0_i32_28 c1_i32_30 k1_t2
  let c1024_i32_43 : BitVec 32 := 1024#32
  let v93 : BitVec 32 := Scalar.muli arg11 c1024_i32_43
  let c0_i32_68 : BitVec 32 := 0#32
  let v162 : BitVec 32 := Scalar.addi v93 c0_i32_68
  let c112_i32_69 : BitVec 32 := 112#32
  let v163 : BitVec 32 := Scalar.addi v162 c112_i32_69
  let v164 : Index := Scalar.indexCast v163
  ![v164.toNat]
def k1_off29 (k1_t2 : Fin k1_t2_loop.trips) (c0_i32_71 : BitVec 32) : Fin 1 → Nat :=
  let c0_i32_28 : BitVec 32 := 0#32
  let c1_i32_30 : BitVec 32 := 1#32
  let arg11 : BitVec 32 := Scf.iv c0_i32_28 c1_i32_30 k1_t2
  let c1024_i32_43 : BitVec 32 := 1024#32
  let v93 : BitVec 32 := Scalar.muli arg11 c1024_i32_43
  let c128_i32_70 : BitVec 32 := 128#32
  let v167 : BitVec 32 := Scalar.addi v93 c128_i32_70
  let v168 : BitVec 32 := Scalar.addi v167 c0_i32_71
  let v169 : Index := Scalar.indexCast v168
  ![v169.toNat]
def k1_off30 (k1_t2 : Fin k1_t2_loop.trips) (c0_i32_86 : BitVec 32) : Fin 1 → Nat :=
  let c0_i32_28 : BitVec 32 := 0#32
  let c1_i32_30 : BitVec 32 := 1#32
  let arg11 : BitVec 32 := Scf.iv c0_i32_28 c1_i32_30 k1_t2
  let c1024_i32_43 : BitVec 32 := 1024#32
  let v93 : BitVec 32 := Scalar.muli arg11 c1024_i32_43
  let c256_i32 : BitVec 32 := 256#32
  let v207 : BitVec 32 := Scalar.addi v93 c256_i32
  let v208 : BitVec 32 := Scalar.addi v207 c0_i32_86
  let v209 : Index := Scalar.indexCast v208
  ![v209.toNat]
def k1_off31 (k1_t2 : Fin k1_t2_loop.trips) (c0_i32_101 : BitVec 32) : Fin 1 → Nat :=
  let c0_i32_28 : BitVec 32 := 0#32
  let c1_i32_30 : BitVec 32 := 1#32
  let arg11 : BitVec 32 := Scf.iv c0_i32_28 c1_i32_30 k1_t2
  let c1024_i32_43 : BitVec 32 := 1024#32
  let v93 : BitVec 32 := Scalar.muli arg11 c1024_i32_43
  let c384_i32 : BitVec 32 := 384#32
  let v247 : BitVec 32 := Scalar.addi v93 c384_i32
  let v248 : BitVec 32 := Scalar.addi v247 c0_i32_101
  let v249 : Index := Scalar.indexCast v248
  ![v249.toNat]
def k1_off32 (k1_t2 : Fin k1_t2_loop.trips) (c0_i32_116 : BitVec 32) : Fin 1 → Nat :=
  let c0_i32_28 : BitVec 32 := 0#32
  let c1_i32_30 : BitVec 32 := 1#32
  let arg11 : BitVec 32 := Scf.iv c0_i32_28 c1_i32_30 k1_t2
  let c1024_i32_43 : BitVec 32 := 1024#32
  let v93 : BitVec 32 := Scalar.muli arg11 c1024_i32_43
  let c512_i32 : BitVec 32 := 512#32
  let v287 : BitVec 32 := Scalar.addi v93 c512_i32
  let v288 : BitVec 32 := Scalar.addi v287 c0_i32_116
  let v289 : Index := Scalar.indexCast v288
  ![v289.toNat]
def k1_off33 (k1_t2 : Fin k1_t2_loop.trips) (c0_i32_131 : BitVec 32) : Fin 1 → Nat :=
  let c0_i32_28 : BitVec 32 := 0#32
  let c1_i32_30 : BitVec 32 := 1#32
  let arg11 : BitVec 32 := Scf.iv c0_i32_28 c1_i32_30 k1_t2
  let c1024_i32_43 : BitVec 32 := 1024#32
  let v93 : BitVec 32 := Scalar.muli arg11 c1024_i32_43
  let c640_i32 : BitVec 32 := 640#32
  let v327 : BitVec 32 := Scalar.addi v93 c640_i32
  let v328 : BitVec 32 := Scalar.addi v327 c0_i32_131
  let v329 : Index := Scalar.indexCast v328
  ![v329.toNat]
def k1_off34 (k1_t2 : Fin k1_t2_loop.trips) (c0_i32_146 : BitVec 32) : Fin 1 → Nat :=
  let c0_i32_28 : BitVec 32 := 0#32
  let c1_i32_30 : BitVec 32 := 1#32
  let arg11 : BitVec 32 := Scf.iv c0_i32_28 c1_i32_30 k1_t2
  let c1024_i32_43 : BitVec 32 := 1024#32
  let v93 : BitVec 32 := Scalar.muli arg11 c1024_i32_43
  let c768_i32 : BitVec 32 := 768#32
  let v367 : BitVec 32 := Scalar.addi v93 c768_i32
  let v368 : BitVec 32 := Scalar.addi v367 c0_i32_146
  let v369 : Index := Scalar.indexCast v368
  ![v369.toNat]

def k1_chk9 (v65 : IVec S16 32) (v66 : IVec S16 32) (v67 : IVec S16 32) (v68 : IVec S16 32) (v69 : IVec S16 32) (v70 : IVec S16 32) (v71 : IVec S16 32) (v72 : IVec S16 32) (v97 : IVec S16 32) : Prop :=
  (∀ a x, ((![v65, v97] : Fin 2 → IVec S16 32) a x).toNat < S752x64.size a) ∧
  (∀ a x, ((![v66, v97] : Fin 2 → IVec S16 32) a x).toNat < S752x64.size a) ∧
  (∀ a x, ((![v67, v97] : Fin 2 → IVec S16 32) a x).toNat < S752x64.size a) ∧
  (∀ a x, ((![v68, v97] : Fin 2 → IVec S16 32) a x).toNat < S752x64.size a) ∧
  (∀ a x, ((![v69, v97] : Fin 2 → IVec S16 32) a x).toNat < S752x64.size a) ∧
  (∀ a x, ((![v70, v97] : Fin 2 → IVec S16 32) a x).toNat < S752x64.size a) ∧
  (∀ a x, ((![v71, v97] : Fin 2 → IVec S16 32) a x).toNat < S752x64.size a) ∧
  (∀ a x, ((![v72, v97] : Fin 2 → IVec S16 32) a x).toNat < S752x64.size a)
theorem k1_idx65_inb : ∀ (v65 : IVec S16 32) (v66 : IVec S16 32) (v67 : IVec S16 32) (v68 : IVec S16 32) (v69 : IVec S16 32) (v70 : IVec S16 32) (v71 : IVec S16 32) (v72 : IVec S16 32) (v97 : IVec S16 32) (k1_hw9 : k1_chk9 v65 v66 v67 v68 v69 v70 v71 v72 v97), ∀ a x, ((![v65, v97] : Fin 2 → IVec S16 32) a x).toNat < S752x64.size a := fun v65 v66 v67 v68 v69 v70 v71 v72 v97 k1_hw9 => k1_hw9.1
theorem k1_idx73_inb : ∀ (v65 : IVec S16 32) (v66 : IVec S16 32) (v67 : IVec S16 32) (v68 : IVec S16 32) (v69 : IVec S16 32) (v70 : IVec S16 32) (v71 : IVec S16 32) (v72 : IVec S16 32) (v97 : IVec S16 32) (k1_hw9 : k1_chk9 v65 v66 v67 v68 v69 v70 v71 v72 v97), ∀ a x, ((![v66, v97] : Fin 2 → IVec S16 32) a x).toNat < S752x64.size a := fun v65 v66 v67 v68 v69 v70 v71 v72 v97 k1_hw9 => k1_hw9.2.1
theorem k1_idx81_inb : ∀ (v65 : IVec S16 32) (v66 : IVec S16 32) (v67 : IVec S16 32) (v68 : IVec S16 32) (v69 : IVec S16 32) (v70 : IVec S16 32) (v71 : IVec S16 32) (v72 : IVec S16 32) (v97 : IVec S16 32) (k1_hw9 : k1_chk9 v65 v66 v67 v68 v69 v70 v71 v72 v97), ∀ a x, ((![v67, v97] : Fin 2 → IVec S16 32) a x).toNat < S752x64.size a := fun v65 v66 v67 v68 v69 v70 v71 v72 v97 k1_hw9 => k1_hw9.2.2.1
theorem k1_idx89_inb : ∀ (v65 : IVec S16 32) (v66 : IVec S16 32) (v67 : IVec S16 32) (v68 : IVec S16 32) (v69 : IVec S16 32) (v70 : IVec S16 32) (v71 : IVec S16 32) (v72 : IVec S16 32) (v97 : IVec S16 32) (k1_hw9 : k1_chk9 v65 v66 v67 v68 v69 v70 v71 v72 v97), ∀ a x, ((![v68, v97] : Fin 2 → IVec S16 32) a x).toNat < S752x64.size a := fun v65 v66 v67 v68 v69 v70 v71 v72 v97 k1_hw9 => k1_hw9.2.2.2.1
theorem k1_idx97_inb : ∀ (v65 : IVec S16 32) (v66 : IVec S16 32) (v67 : IVec S16 32) (v68 : IVec S16 32) (v69 : IVec S16 32) (v70 : IVec S16 32) (v71 : IVec S16 32) (v72 : IVec S16 32) (v97 : IVec S16 32) (k1_hw9 : k1_chk9 v65 v66 v67 v68 v69 v70 v71 v72 v97), ∀ a x, ((![v69, v97] : Fin 2 → IVec S16 32) a x).toNat < S752x64.size a := fun v65 v66 v67 v68 v69 v70 v71 v72 v97 k1_hw9 => k1_hw9.2.2.2.2.1
theorem k1_idx105_inb : ∀ (v65 : IVec S16 32) (v66 : IVec S16 32) (v67 : IVec S16 32) (v68 : IVec S16 32) (v69 : IVec S16 32) (v70 : IVec S16 32) (v71 : IVec S16 32) (v72 : IVec S16 32) (v97 : IVec S16 32) (k1_hw9 : k1_chk9 v65 v66 v67 v68 v69 v70 v71 v72 v97), ∀ a x, ((![v70, v97] : Fin 2 → IVec S16 32) a x).toNat < S752x64.size a := fun v65 v66 v67 v68 v69 v70 v71 v72 v97 k1_hw9 => k1_hw9.2.2.2.2.2.1
theorem k1_idx113_inb : ∀ (v65 : IVec S16 32) (v66 : IVec S16 32) (v67 : IVec S16 32) (v68 : IVec S16 32) (v69 : IVec S16 32) (v70 : IVec S16 32) (v71 : IVec S16 32) (v72 : IVec S16 32) (v97 : IVec S16 32) (k1_hw9 : k1_chk9 v65 v66 v67 v68 v69 v70 v71 v72 v97), ∀ a x, ((![v71, v97] : Fin 2 → IVec S16 32) a x).toNat < S752x64.size a := fun v65 v66 v67 v68 v69 v70 v71 v72 v97 k1_hw9 => k1_hw9.2.2.2.2.2.2.1
theorem k1_idx121_inb : ∀ (v65 : IVec S16 32) (v66 : IVec S16 32) (v67 : IVec S16 32) (v68 : IVec S16 32) (v69 : IVec S16 32) (v70 : IVec S16 32) (v71 : IVec S16 32) (v72 : IVec S16 32) (v97 : IVec S16 32) (k1_hw9 : k1_chk9 v65 v66 v67 v68 v69 v70 v71 v72 v97), ∀ a x, ((![v72, v97] : Fin 2 → IVec S16 32) a x).toNat < S752x64.size a := fun v65 v66 v67 v68 v69 v70 v71 v72 v97 k1_hw9 => k1_hw9.2.2.2.2.2.2.2
def k1_off35 (k1_t2 : Fin k1_t2_loop.trips) (c0_i32_161 : BitVec 32) : Fin 1 → Nat :=
  let c0_i32_28 : BitVec 32 := 0#32
  let c1_i32_30 : BitVec 32 := 1#32
  let arg11 : BitVec 32 := Scf.iv c0_i32_28 c1_i32_30 k1_t2
  let c1024_i32_43 : BitVec 32 := 1024#32
  let v93 : BitVec 32 := Scalar.muli arg11 c1024_i32_43
  let c896_i32 : BitVec 32 := 896#32
  let v407 : BitVec 32 := Scalar.addi v93 c896_i32
  let v408 : BitVec 32 := Scalar.addi v407 c0_i32_161
  let v409 : Index := Scalar.indexCast v408
  ![v409.toNat]

def k1_chk10 (v65 : IVec S16 32) (v66 : IVec S16 32) (v67 : IVec S16 32) (v68 : IVec S16 32) (v69 : IVec S16 32) (v70 : IVec S16 32) (v71 : IVec S16 32) (v72 : IVec S16 32) (v101 : IVec S16 32) : Prop :=
  (∀ a x, ((![v65, v101] : Fin 2 → IVec S16 32) a x).toNat < S752x64.size a) ∧
  (∀ a x, ((![v66, v101] : Fin 2 → IVec S16 32) a x).toNat < S752x64.size a) ∧
  (∀ a x, ((![v67, v101] : Fin 2 → IVec S16 32) a x).toNat < S752x64.size a) ∧
  (∀ a x, ((![v68, v101] : Fin 2 → IVec S16 32) a x).toNat < S752x64.size a) ∧
  (∀ a x, ((![v69, v101] : Fin 2 → IVec S16 32) a x).toNat < S752x64.size a) ∧
  (∀ a x, ((![v70, v101] : Fin 2 → IVec S16 32) a x).toNat < S752x64.size a) ∧
  (∀ a x, ((![v71, v101] : Fin 2 → IVec S16 32) a x).toNat < S752x64.size a) ∧
  (∀ a x, ((![v72, v101] : Fin 2 → IVec S16 32) a x).toNat < S752x64.size a)
theorem k1_idx66_inb : ∀ (v65 : IVec S16 32) (v66 : IVec S16 32) (v67 : IVec S16 32) (v68 : IVec S16 32) (v69 : IVec S16 32) (v70 : IVec S16 32) (v71 : IVec S16 32) (v72 : IVec S16 32) (v101 : IVec S16 32) (k1_hw10 : k1_chk10 v65 v66 v67 v68 v69 v70 v71 v72 v101), ∀ a x, ((![v65, v101] : Fin 2 → IVec S16 32) a x).toNat < S752x64.size a := fun v65 v66 v67 v68 v69 v70 v71 v72 v101 k1_hw10 => k1_hw10.1
theorem k1_idx74_inb : ∀ (v65 : IVec S16 32) (v66 : IVec S16 32) (v67 : IVec S16 32) (v68 : IVec S16 32) (v69 : IVec S16 32) (v70 : IVec S16 32) (v71 : IVec S16 32) (v72 : IVec S16 32) (v101 : IVec S16 32) (k1_hw10 : k1_chk10 v65 v66 v67 v68 v69 v70 v71 v72 v101), ∀ a x, ((![v66, v101] : Fin 2 → IVec S16 32) a x).toNat < S752x64.size a := fun v65 v66 v67 v68 v69 v70 v71 v72 v101 k1_hw10 => k1_hw10.2.1
theorem k1_idx82_inb : ∀ (v65 : IVec S16 32) (v66 : IVec S16 32) (v67 : IVec S16 32) (v68 : IVec S16 32) (v69 : IVec S16 32) (v70 : IVec S16 32) (v71 : IVec S16 32) (v72 : IVec S16 32) (v101 : IVec S16 32) (k1_hw10 : k1_chk10 v65 v66 v67 v68 v69 v70 v71 v72 v101), ∀ a x, ((![v67, v101] : Fin 2 → IVec S16 32) a x).toNat < S752x64.size a := fun v65 v66 v67 v68 v69 v70 v71 v72 v101 k1_hw10 => k1_hw10.2.2.1
theorem k1_idx90_inb : ∀ (v65 : IVec S16 32) (v66 : IVec S16 32) (v67 : IVec S16 32) (v68 : IVec S16 32) (v69 : IVec S16 32) (v70 : IVec S16 32) (v71 : IVec S16 32) (v72 : IVec S16 32) (v101 : IVec S16 32) (k1_hw10 : k1_chk10 v65 v66 v67 v68 v69 v70 v71 v72 v101), ∀ a x, ((![v68, v101] : Fin 2 → IVec S16 32) a x).toNat < S752x64.size a := fun v65 v66 v67 v68 v69 v70 v71 v72 v101 k1_hw10 => k1_hw10.2.2.2.1
theorem k1_idx98_inb : ∀ (v65 : IVec S16 32) (v66 : IVec S16 32) (v67 : IVec S16 32) (v68 : IVec S16 32) (v69 : IVec S16 32) (v70 : IVec S16 32) (v71 : IVec S16 32) (v72 : IVec S16 32) (v101 : IVec S16 32) (k1_hw10 : k1_chk10 v65 v66 v67 v68 v69 v70 v71 v72 v101), ∀ a x, ((![v69, v101] : Fin 2 → IVec S16 32) a x).toNat < S752x64.size a := fun v65 v66 v67 v68 v69 v70 v71 v72 v101 k1_hw10 => k1_hw10.2.2.2.2.1
theorem k1_idx106_inb : ∀ (v65 : IVec S16 32) (v66 : IVec S16 32) (v67 : IVec S16 32) (v68 : IVec S16 32) (v69 : IVec S16 32) (v70 : IVec S16 32) (v71 : IVec S16 32) (v72 : IVec S16 32) (v101 : IVec S16 32) (k1_hw10 : k1_chk10 v65 v66 v67 v68 v69 v70 v71 v72 v101), ∀ a x, ((![v70, v101] : Fin 2 → IVec S16 32) a x).toNat < S752x64.size a := fun v65 v66 v67 v68 v69 v70 v71 v72 v101 k1_hw10 => k1_hw10.2.2.2.2.2.1
theorem k1_idx114_inb : ∀ (v65 : IVec S16 32) (v66 : IVec S16 32) (v67 : IVec S16 32) (v68 : IVec S16 32) (v69 : IVec S16 32) (v70 : IVec S16 32) (v71 : IVec S16 32) (v72 : IVec S16 32) (v101 : IVec S16 32) (k1_hw10 : k1_chk10 v65 v66 v67 v68 v69 v70 v71 v72 v101), ∀ a x, ((![v71, v101] : Fin 2 → IVec S16 32) a x).toNat < S752x64.size a := fun v65 v66 v67 v68 v69 v70 v71 v72 v101 k1_hw10 => k1_hw10.2.2.2.2.2.2.1
theorem k1_idx122_inb : ∀ (v65 : IVec S16 32) (v66 : IVec S16 32) (v67 : IVec S16 32) (v68 : IVec S16 32) (v69 : IVec S16 32) (v70 : IVec S16 32) (v71 : IVec S16 32) (v72 : IVec S16 32) (v101 : IVec S16 32) (k1_hw10 : k1_chk10 v65 v66 v67 v68 v69 v70 v71 v72 v101), ∀ a x, ((![v72, v101] : Fin 2 → IVec S16 32) a x).toNat < S752x64.size a := fun v65 v66 v67 v68 v69 v70 v71 v72 v101 k1_hw10 => k1_hw10.2.2.2.2.2.2.2

def k1_chk11 (v65 : IVec S16 32) (v66 : IVec S16 32) (v67 : IVec S16 32) (v68 : IVec S16 32) (v69 : IVec S16 32) (v70 : IVec S16 32) (v71 : IVec S16 32) (v72 : IVec S16 32) (v105 : IVec S16 32) : Prop :=
  (∀ a x, ((![v65, v105] : Fin 2 → IVec S16 32) a x).toNat < S752x64.size a) ∧
  (∀ a x, ((![v66, v105] : Fin 2 → IVec S16 32) a x).toNat < S752x64.size a) ∧
  (∀ a x, ((![v67, v105] : Fin 2 → IVec S16 32) a x).toNat < S752x64.size a) ∧
  (∀ a x, ((![v68, v105] : Fin 2 → IVec S16 32) a x).toNat < S752x64.size a) ∧
  (∀ a x, ((![v69, v105] : Fin 2 → IVec S16 32) a x).toNat < S752x64.size a) ∧
  (∀ a x, ((![v70, v105] : Fin 2 → IVec S16 32) a x).toNat < S752x64.size a) ∧
  (∀ a x, ((![v71, v105] : Fin 2 → IVec S16 32) a x).toNat < S752x64.size a) ∧
  (∀ a x, ((![v72, v105] : Fin 2 → IVec S16 32) a x).toNat < S752x64.size a)
theorem k1_idx67_inb : ∀ (v65 : IVec S16 32) (v66 : IVec S16 32) (v67 : IVec S16 32) (v68 : IVec S16 32) (v69 : IVec S16 32) (v70 : IVec S16 32) (v71 : IVec S16 32) (v72 : IVec S16 32) (v105 : IVec S16 32) (k1_hw11 : k1_chk11 v65 v66 v67 v68 v69 v70 v71 v72 v105), ∀ a x, ((![v65, v105] : Fin 2 → IVec S16 32) a x).toNat < S752x64.size a := fun v65 v66 v67 v68 v69 v70 v71 v72 v105 k1_hw11 => k1_hw11.1
theorem k1_idx75_inb : ∀ (v65 : IVec S16 32) (v66 : IVec S16 32) (v67 : IVec S16 32) (v68 : IVec S16 32) (v69 : IVec S16 32) (v70 : IVec S16 32) (v71 : IVec S16 32) (v72 : IVec S16 32) (v105 : IVec S16 32) (k1_hw11 : k1_chk11 v65 v66 v67 v68 v69 v70 v71 v72 v105), ∀ a x, ((![v66, v105] : Fin 2 → IVec S16 32) a x).toNat < S752x64.size a := fun v65 v66 v67 v68 v69 v70 v71 v72 v105 k1_hw11 => k1_hw11.2.1
theorem k1_idx83_inb : ∀ (v65 : IVec S16 32) (v66 : IVec S16 32) (v67 : IVec S16 32) (v68 : IVec S16 32) (v69 : IVec S16 32) (v70 : IVec S16 32) (v71 : IVec S16 32) (v72 : IVec S16 32) (v105 : IVec S16 32) (k1_hw11 : k1_chk11 v65 v66 v67 v68 v69 v70 v71 v72 v105), ∀ a x, ((![v67, v105] : Fin 2 → IVec S16 32) a x).toNat < S752x64.size a := fun v65 v66 v67 v68 v69 v70 v71 v72 v105 k1_hw11 => k1_hw11.2.2.1
theorem k1_idx91_inb : ∀ (v65 : IVec S16 32) (v66 : IVec S16 32) (v67 : IVec S16 32) (v68 : IVec S16 32) (v69 : IVec S16 32) (v70 : IVec S16 32) (v71 : IVec S16 32) (v72 : IVec S16 32) (v105 : IVec S16 32) (k1_hw11 : k1_chk11 v65 v66 v67 v68 v69 v70 v71 v72 v105), ∀ a x, ((![v68, v105] : Fin 2 → IVec S16 32) a x).toNat < S752x64.size a := fun v65 v66 v67 v68 v69 v70 v71 v72 v105 k1_hw11 => k1_hw11.2.2.2.1
theorem k1_idx99_inb : ∀ (v65 : IVec S16 32) (v66 : IVec S16 32) (v67 : IVec S16 32) (v68 : IVec S16 32) (v69 : IVec S16 32) (v70 : IVec S16 32) (v71 : IVec S16 32) (v72 : IVec S16 32) (v105 : IVec S16 32) (k1_hw11 : k1_chk11 v65 v66 v67 v68 v69 v70 v71 v72 v105), ∀ a x, ((![v69, v105] : Fin 2 → IVec S16 32) a x).toNat < S752x64.size a := fun v65 v66 v67 v68 v69 v70 v71 v72 v105 k1_hw11 => k1_hw11.2.2.2.2.1
theorem k1_idx107_inb : ∀ (v65 : IVec S16 32) (v66 : IVec S16 32) (v67 : IVec S16 32) (v68 : IVec S16 32) (v69 : IVec S16 32) (v70 : IVec S16 32) (v71 : IVec S16 32) (v72 : IVec S16 32) (v105 : IVec S16 32) (k1_hw11 : k1_chk11 v65 v66 v67 v68 v69 v70 v71 v72 v105), ∀ a x, ((![v70, v105] : Fin 2 → IVec S16 32) a x).toNat < S752x64.size a := fun v65 v66 v67 v68 v69 v70 v71 v72 v105 k1_hw11 => k1_hw11.2.2.2.2.2.1
theorem k1_idx115_inb : ∀ (v65 : IVec S16 32) (v66 : IVec S16 32) (v67 : IVec S16 32) (v68 : IVec S16 32) (v69 : IVec S16 32) (v70 : IVec S16 32) (v71 : IVec S16 32) (v72 : IVec S16 32) (v105 : IVec S16 32) (k1_hw11 : k1_chk11 v65 v66 v67 v68 v69 v70 v71 v72 v105), ∀ a x, ((![v71, v105] : Fin 2 → IVec S16 32) a x).toNat < S752x64.size a := fun v65 v66 v67 v68 v69 v70 v71 v72 v105 k1_hw11 => k1_hw11.2.2.2.2.2.2.1
theorem k1_idx123_inb : ∀ (v65 : IVec S16 32) (v66 : IVec S16 32) (v67 : IVec S16 32) (v68 : IVec S16 32) (v69 : IVec S16 32) (v70 : IVec S16 32) (v71 : IVec S16 32) (v72 : IVec S16 32) (v105 : IVec S16 32) (k1_hw11 : k1_chk11 v65 v66 v67 v68 v69 v70 v71 v72 v105), ∀ a x, ((![v72, v105] : Fin 2 → IVec S16 32) a x).toNat < S752x64.size a := fun v65 v66 v67 v68 v69 v70 v71 v72 v105 k1_hw11 => k1_hw11.2.2.2.2.2.2.2

def k1_chk12 (v65 : IVec S16 32) (v66 : IVec S16 32) (v67 : IVec S16 32) (v68 : IVec S16 32) (v69 : IVec S16 32) (v70 : IVec S16 32) (v71 : IVec S16 32) (v72 : IVec S16 32) (v109 : IVec S16 32) : Prop :=
  (∀ a x, ((![v65, v109] : Fin 2 → IVec S16 32) a x).toNat < S752x64.size a) ∧
  (∀ a x, ((![v66, v109] : Fin 2 → IVec S16 32) a x).toNat < S752x64.size a) ∧
  (∀ a x, ((![v67, v109] : Fin 2 → IVec S16 32) a x).toNat < S752x64.size a) ∧
  (∀ a x, ((![v68, v109] : Fin 2 → IVec S16 32) a x).toNat < S752x64.size a) ∧
  (∀ a x, ((![v69, v109] : Fin 2 → IVec S16 32) a x).toNat < S752x64.size a) ∧
  (∀ a x, ((![v70, v109] : Fin 2 → IVec S16 32) a x).toNat < S752x64.size a) ∧
  (∀ a x, ((![v71, v109] : Fin 2 → IVec S16 32) a x).toNat < S752x64.size a) ∧
  (∀ a x, ((![v72, v109] : Fin 2 → IVec S16 32) a x).toNat < S752x64.size a)
theorem k1_idx68_inb : ∀ (v65 : IVec S16 32) (v66 : IVec S16 32) (v67 : IVec S16 32) (v68 : IVec S16 32) (v69 : IVec S16 32) (v70 : IVec S16 32) (v71 : IVec S16 32) (v72 : IVec S16 32) (v109 : IVec S16 32) (k1_hw12 : k1_chk12 v65 v66 v67 v68 v69 v70 v71 v72 v109), ∀ a x, ((![v65, v109] : Fin 2 → IVec S16 32) a x).toNat < S752x64.size a := fun v65 v66 v67 v68 v69 v70 v71 v72 v109 k1_hw12 => k1_hw12.1
theorem k1_idx76_inb : ∀ (v65 : IVec S16 32) (v66 : IVec S16 32) (v67 : IVec S16 32) (v68 : IVec S16 32) (v69 : IVec S16 32) (v70 : IVec S16 32) (v71 : IVec S16 32) (v72 : IVec S16 32) (v109 : IVec S16 32) (k1_hw12 : k1_chk12 v65 v66 v67 v68 v69 v70 v71 v72 v109), ∀ a x, ((![v66, v109] : Fin 2 → IVec S16 32) a x).toNat < S752x64.size a := fun v65 v66 v67 v68 v69 v70 v71 v72 v109 k1_hw12 => k1_hw12.2.1
theorem k1_idx84_inb : ∀ (v65 : IVec S16 32) (v66 : IVec S16 32) (v67 : IVec S16 32) (v68 : IVec S16 32) (v69 : IVec S16 32) (v70 : IVec S16 32) (v71 : IVec S16 32) (v72 : IVec S16 32) (v109 : IVec S16 32) (k1_hw12 : k1_chk12 v65 v66 v67 v68 v69 v70 v71 v72 v109), ∀ a x, ((![v67, v109] : Fin 2 → IVec S16 32) a x).toNat < S752x64.size a := fun v65 v66 v67 v68 v69 v70 v71 v72 v109 k1_hw12 => k1_hw12.2.2.1
theorem k1_idx92_inb : ∀ (v65 : IVec S16 32) (v66 : IVec S16 32) (v67 : IVec S16 32) (v68 : IVec S16 32) (v69 : IVec S16 32) (v70 : IVec S16 32) (v71 : IVec S16 32) (v72 : IVec S16 32) (v109 : IVec S16 32) (k1_hw12 : k1_chk12 v65 v66 v67 v68 v69 v70 v71 v72 v109), ∀ a x, ((![v68, v109] : Fin 2 → IVec S16 32) a x).toNat < S752x64.size a := fun v65 v66 v67 v68 v69 v70 v71 v72 v109 k1_hw12 => k1_hw12.2.2.2.1
theorem k1_idx100_inb : ∀ (v65 : IVec S16 32) (v66 : IVec S16 32) (v67 : IVec S16 32) (v68 : IVec S16 32) (v69 : IVec S16 32) (v70 : IVec S16 32) (v71 : IVec S16 32) (v72 : IVec S16 32) (v109 : IVec S16 32) (k1_hw12 : k1_chk12 v65 v66 v67 v68 v69 v70 v71 v72 v109), ∀ a x, ((![v69, v109] : Fin 2 → IVec S16 32) a x).toNat < S752x64.size a := fun v65 v66 v67 v68 v69 v70 v71 v72 v109 k1_hw12 => k1_hw12.2.2.2.2.1
theorem k1_idx108_inb : ∀ (v65 : IVec S16 32) (v66 : IVec S16 32) (v67 : IVec S16 32) (v68 : IVec S16 32) (v69 : IVec S16 32) (v70 : IVec S16 32) (v71 : IVec S16 32) (v72 : IVec S16 32) (v109 : IVec S16 32) (k1_hw12 : k1_chk12 v65 v66 v67 v68 v69 v70 v71 v72 v109), ∀ a x, ((![v70, v109] : Fin 2 → IVec S16 32) a x).toNat < S752x64.size a := fun v65 v66 v67 v68 v69 v70 v71 v72 v109 k1_hw12 => k1_hw12.2.2.2.2.2.1
theorem k1_idx116_inb : ∀ (v65 : IVec S16 32) (v66 : IVec S16 32) (v67 : IVec S16 32) (v68 : IVec S16 32) (v69 : IVec S16 32) (v70 : IVec S16 32) (v71 : IVec S16 32) (v72 : IVec S16 32) (v109 : IVec S16 32) (k1_hw12 : k1_chk12 v65 v66 v67 v68 v69 v70 v71 v72 v109), ∀ a x, ((![v71, v109] : Fin 2 → IVec S16 32) a x).toNat < S752x64.size a := fun v65 v66 v67 v68 v69 v70 v71 v72 v109 k1_hw12 => k1_hw12.2.2.2.2.2.2.1
theorem k1_idx124_inb : ∀ (v65 : IVec S16 32) (v66 : IVec S16 32) (v67 : IVec S16 32) (v68 : IVec S16 32) (v69 : IVec S16 32) (v70 : IVec S16 32) (v71 : IVec S16 32) (v72 : IVec S16 32) (v109 : IVec S16 32) (k1_hw12 : k1_chk12 v65 v66 v67 v68 v69 v70 v71 v72 v109), ∀ a x, ((![v72, v109] : Fin 2 → IVec S16 32) a x).toNat < S752x64.size a := fun v65 v66 v67 v68 v69 v70 v71 v72 v109 k1_hw12 => k1_hw12.2.2.2.2.2.2.2

def k1_chk13 (v65 : IVec S16 32) (v66 : IVec S16 32) (v67 : IVec S16 32) (v68 : IVec S16 32) (v69 : IVec S16 32) (v70 : IVec S16 32) (v71 : IVec S16 32) (v72 : IVec S16 32) (v113 : IVec S16 32) : Prop :=
  (∀ a x, ((![v65, v113] : Fin 2 → IVec S16 32) a x).toNat < S752x64.size a) ∧
  (∀ a x, ((![v66, v113] : Fin 2 → IVec S16 32) a x).toNat < S752x64.size a) ∧
  (∀ a x, ((![v67, v113] : Fin 2 → IVec S16 32) a x).toNat < S752x64.size a) ∧
  (∀ a x, ((![v68, v113] : Fin 2 → IVec S16 32) a x).toNat < S752x64.size a) ∧
  (∀ a x, ((![v69, v113] : Fin 2 → IVec S16 32) a x).toNat < S752x64.size a) ∧
  (∀ a x, ((![v70, v113] : Fin 2 → IVec S16 32) a x).toNat < S752x64.size a) ∧
  (∀ a x, ((![v71, v113] : Fin 2 → IVec S16 32) a x).toNat < S752x64.size a) ∧
  (∀ a x, ((![v72, v113] : Fin 2 → IVec S16 32) a x).toNat < S752x64.size a)
theorem k1_idx69_inb : ∀ (v65 : IVec S16 32) (v66 : IVec S16 32) (v67 : IVec S16 32) (v68 : IVec S16 32) (v69 : IVec S16 32) (v70 : IVec S16 32) (v71 : IVec S16 32) (v72 : IVec S16 32) (v113 : IVec S16 32) (k1_hw13 : k1_chk13 v65 v66 v67 v68 v69 v70 v71 v72 v113), ∀ a x, ((![v65, v113] : Fin 2 → IVec S16 32) a x).toNat < S752x64.size a := fun v65 v66 v67 v68 v69 v70 v71 v72 v113 k1_hw13 => k1_hw13.1
theorem k1_idx77_inb : ∀ (v65 : IVec S16 32) (v66 : IVec S16 32) (v67 : IVec S16 32) (v68 : IVec S16 32) (v69 : IVec S16 32) (v70 : IVec S16 32) (v71 : IVec S16 32) (v72 : IVec S16 32) (v113 : IVec S16 32) (k1_hw13 : k1_chk13 v65 v66 v67 v68 v69 v70 v71 v72 v113), ∀ a x, ((![v66, v113] : Fin 2 → IVec S16 32) a x).toNat < S752x64.size a := fun v65 v66 v67 v68 v69 v70 v71 v72 v113 k1_hw13 => k1_hw13.2.1
theorem k1_idx85_inb : ∀ (v65 : IVec S16 32) (v66 : IVec S16 32) (v67 : IVec S16 32) (v68 : IVec S16 32) (v69 : IVec S16 32) (v70 : IVec S16 32) (v71 : IVec S16 32) (v72 : IVec S16 32) (v113 : IVec S16 32) (k1_hw13 : k1_chk13 v65 v66 v67 v68 v69 v70 v71 v72 v113), ∀ a x, ((![v67, v113] : Fin 2 → IVec S16 32) a x).toNat < S752x64.size a := fun v65 v66 v67 v68 v69 v70 v71 v72 v113 k1_hw13 => k1_hw13.2.2.1
theorem k1_idx93_inb : ∀ (v65 : IVec S16 32) (v66 : IVec S16 32) (v67 : IVec S16 32) (v68 : IVec S16 32) (v69 : IVec S16 32) (v70 : IVec S16 32) (v71 : IVec S16 32) (v72 : IVec S16 32) (v113 : IVec S16 32) (k1_hw13 : k1_chk13 v65 v66 v67 v68 v69 v70 v71 v72 v113), ∀ a x, ((![v68, v113] : Fin 2 → IVec S16 32) a x).toNat < S752x64.size a := fun v65 v66 v67 v68 v69 v70 v71 v72 v113 k1_hw13 => k1_hw13.2.2.2.1
theorem k1_idx101_inb : ∀ (v65 : IVec S16 32) (v66 : IVec S16 32) (v67 : IVec S16 32) (v68 : IVec S16 32) (v69 : IVec S16 32) (v70 : IVec S16 32) (v71 : IVec S16 32) (v72 : IVec S16 32) (v113 : IVec S16 32) (k1_hw13 : k1_chk13 v65 v66 v67 v68 v69 v70 v71 v72 v113), ∀ a x, ((![v69, v113] : Fin 2 → IVec S16 32) a x).toNat < S752x64.size a := fun v65 v66 v67 v68 v69 v70 v71 v72 v113 k1_hw13 => k1_hw13.2.2.2.2.1
theorem k1_idx109_inb : ∀ (v65 : IVec S16 32) (v66 : IVec S16 32) (v67 : IVec S16 32) (v68 : IVec S16 32) (v69 : IVec S16 32) (v70 : IVec S16 32) (v71 : IVec S16 32) (v72 : IVec S16 32) (v113 : IVec S16 32) (k1_hw13 : k1_chk13 v65 v66 v67 v68 v69 v70 v71 v72 v113), ∀ a x, ((![v70, v113] : Fin 2 → IVec S16 32) a x).toNat < S752x64.size a := fun v65 v66 v67 v68 v69 v70 v71 v72 v113 k1_hw13 => k1_hw13.2.2.2.2.2.1
theorem k1_idx117_inb : ∀ (v65 : IVec S16 32) (v66 : IVec S16 32) (v67 : IVec S16 32) (v68 : IVec S16 32) (v69 : IVec S16 32) (v70 : IVec S16 32) (v71 : IVec S16 32) (v72 : IVec S16 32) (v113 : IVec S16 32) (k1_hw13 : k1_chk13 v65 v66 v67 v68 v69 v70 v71 v72 v113), ∀ a x, ((![v71, v113] : Fin 2 → IVec S16 32) a x).toNat < S752x64.size a := fun v65 v66 v67 v68 v69 v70 v71 v72 v113 k1_hw13 => k1_hw13.2.2.2.2.2.2.1
theorem k1_idx125_inb : ∀ (v65 : IVec S16 32) (v66 : IVec S16 32) (v67 : IVec S16 32) (v68 : IVec S16 32) (v69 : IVec S16 32) (v70 : IVec S16 32) (v71 : IVec S16 32) (v72 : IVec S16 32) (v113 : IVec S16 32) (k1_hw13 : k1_chk13 v65 v66 v67 v68 v69 v70 v71 v72 v113), ∀ a x, ((![v72, v113] : Fin 2 → IVec S16 32) a x).toNat < S752x64.size a := fun v65 v66 v67 v68 v69 v70 v71 v72 v113 k1_hw13 => k1_hw13.2.2.2.2.2.2.2

def k1_chk14 (v65 : IVec S16 32) (v66 : IVec S16 32) (v67 : IVec S16 32) (v68 : IVec S16 32) (v69 : IVec S16 32) (v70 : IVec S16 32) (v71 : IVec S16 32) (v72 : IVec S16 32) (v117 : IVec S16 32) : Prop :=
  (∀ a x, ((![v65, v117] : Fin 2 → IVec S16 32) a x).toNat < S752x64.size a) ∧
  (∀ a x, ((![v66, v117] : Fin 2 → IVec S16 32) a x).toNat < S752x64.size a) ∧
  (∀ a x, ((![v67, v117] : Fin 2 → IVec S16 32) a x).toNat < S752x64.size a) ∧
  (∀ a x, ((![v68, v117] : Fin 2 → IVec S16 32) a x).toNat < S752x64.size a) ∧
  (∀ a x, ((![v69, v117] : Fin 2 → IVec S16 32) a x).toNat < S752x64.size a) ∧
  (∀ a x, ((![v70, v117] : Fin 2 → IVec S16 32) a x).toNat < S752x64.size a) ∧
  (∀ a x, ((![v71, v117] : Fin 2 → IVec S16 32) a x).toNat < S752x64.size a) ∧
  (∀ a x, ((![v72, v117] : Fin 2 → IVec S16 32) a x).toNat < S752x64.size a)
theorem k1_idx70_inb : ∀ (v65 : IVec S16 32) (v66 : IVec S16 32) (v67 : IVec S16 32) (v68 : IVec S16 32) (v69 : IVec S16 32) (v70 : IVec S16 32) (v71 : IVec S16 32) (v72 : IVec S16 32) (v117 : IVec S16 32) (k1_hw14 : k1_chk14 v65 v66 v67 v68 v69 v70 v71 v72 v117), ∀ a x, ((![v65, v117] : Fin 2 → IVec S16 32) a x).toNat < S752x64.size a := fun v65 v66 v67 v68 v69 v70 v71 v72 v117 k1_hw14 => k1_hw14.1
theorem k1_idx78_inb : ∀ (v65 : IVec S16 32) (v66 : IVec S16 32) (v67 : IVec S16 32) (v68 : IVec S16 32) (v69 : IVec S16 32) (v70 : IVec S16 32) (v71 : IVec S16 32) (v72 : IVec S16 32) (v117 : IVec S16 32) (k1_hw14 : k1_chk14 v65 v66 v67 v68 v69 v70 v71 v72 v117), ∀ a x, ((![v66, v117] : Fin 2 → IVec S16 32) a x).toNat < S752x64.size a := fun v65 v66 v67 v68 v69 v70 v71 v72 v117 k1_hw14 => k1_hw14.2.1
theorem k1_idx86_inb : ∀ (v65 : IVec S16 32) (v66 : IVec S16 32) (v67 : IVec S16 32) (v68 : IVec S16 32) (v69 : IVec S16 32) (v70 : IVec S16 32) (v71 : IVec S16 32) (v72 : IVec S16 32) (v117 : IVec S16 32) (k1_hw14 : k1_chk14 v65 v66 v67 v68 v69 v70 v71 v72 v117), ∀ a x, ((![v67, v117] : Fin 2 → IVec S16 32) a x).toNat < S752x64.size a := fun v65 v66 v67 v68 v69 v70 v71 v72 v117 k1_hw14 => k1_hw14.2.2.1
theorem k1_idx94_inb : ∀ (v65 : IVec S16 32) (v66 : IVec S16 32) (v67 : IVec S16 32) (v68 : IVec S16 32) (v69 : IVec S16 32) (v70 : IVec S16 32) (v71 : IVec S16 32) (v72 : IVec S16 32) (v117 : IVec S16 32) (k1_hw14 : k1_chk14 v65 v66 v67 v68 v69 v70 v71 v72 v117), ∀ a x, ((![v68, v117] : Fin 2 → IVec S16 32) a x).toNat < S752x64.size a := fun v65 v66 v67 v68 v69 v70 v71 v72 v117 k1_hw14 => k1_hw14.2.2.2.1
theorem k1_idx102_inb : ∀ (v65 : IVec S16 32) (v66 : IVec S16 32) (v67 : IVec S16 32) (v68 : IVec S16 32) (v69 : IVec S16 32) (v70 : IVec S16 32) (v71 : IVec S16 32) (v72 : IVec S16 32) (v117 : IVec S16 32) (k1_hw14 : k1_chk14 v65 v66 v67 v68 v69 v70 v71 v72 v117), ∀ a x, ((![v69, v117] : Fin 2 → IVec S16 32) a x).toNat < S752x64.size a := fun v65 v66 v67 v68 v69 v70 v71 v72 v117 k1_hw14 => k1_hw14.2.2.2.2.1
theorem k1_idx110_inb : ∀ (v65 : IVec S16 32) (v66 : IVec S16 32) (v67 : IVec S16 32) (v68 : IVec S16 32) (v69 : IVec S16 32) (v70 : IVec S16 32) (v71 : IVec S16 32) (v72 : IVec S16 32) (v117 : IVec S16 32) (k1_hw14 : k1_chk14 v65 v66 v67 v68 v69 v70 v71 v72 v117), ∀ a x, ((![v70, v117] : Fin 2 → IVec S16 32) a x).toNat < S752x64.size a := fun v65 v66 v67 v68 v69 v70 v71 v72 v117 k1_hw14 => k1_hw14.2.2.2.2.2.1
theorem k1_idx118_inb : ∀ (v65 : IVec S16 32) (v66 : IVec S16 32) (v67 : IVec S16 32) (v68 : IVec S16 32) (v69 : IVec S16 32) (v70 : IVec S16 32) (v71 : IVec S16 32) (v72 : IVec S16 32) (v117 : IVec S16 32) (k1_hw14 : k1_chk14 v65 v66 v67 v68 v69 v70 v71 v72 v117), ∀ a x, ((![v71, v117] : Fin 2 → IVec S16 32) a x).toNat < S752x64.size a := fun v65 v66 v67 v68 v69 v70 v71 v72 v117 k1_hw14 => k1_hw14.2.2.2.2.2.2.1
theorem k1_idx126_inb : ∀ (v65 : IVec S16 32) (v66 : IVec S16 32) (v67 : IVec S16 32) (v68 : IVec S16 32) (v69 : IVec S16 32) (v70 : IVec S16 32) (v71 : IVec S16 32) (v72 : IVec S16 32) (v117 : IVec S16 32) (k1_hw14 : k1_chk14 v65 v66 v67 v68 v69 v70 v71 v72 v117), ∀ a x, ((![v72, v117] : Fin 2 → IVec S16 32) a x).toNat < S752x64.size a := fun v65 v66 v67 v68 v69 v70 v71 v72 v117 k1_hw14 => k1_hw14.2.2.2.2.2.2.2

def k1_chk15 (v65 : IVec S16 32) (v66 : IVec S16 32) (v67 : IVec S16 32) (v68 : IVec S16 32) (v69 : IVec S16 32) (v70 : IVec S16 32) (v71 : IVec S16 32) (v72 : IVec S16 32) (v121 : IVec S16 32) : Prop :=
  (∀ a x, ((![v65, v121] : Fin 2 → IVec S16 32) a x).toNat < S752x64.size a) ∧
  (∀ a x, ((![v66, v121] : Fin 2 → IVec S16 32) a x).toNat < S752x64.size a) ∧
  (∀ a x, ((![v67, v121] : Fin 2 → IVec S16 32) a x).toNat < S752x64.size a) ∧
  (∀ a x, ((![v68, v121] : Fin 2 → IVec S16 32) a x).toNat < S752x64.size a) ∧
  (∀ a x, ((![v69, v121] : Fin 2 → IVec S16 32) a x).toNat < S752x64.size a) ∧
  (∀ a x, ((![v70, v121] : Fin 2 → IVec S16 32) a x).toNat < S752x64.size a) ∧
  (∀ a x, ((![v71, v121] : Fin 2 → IVec S16 32) a x).toNat < S752x64.size a) ∧
  (∀ a x, ((![v72, v121] : Fin 2 → IVec S16 32) a x).toNat < S752x64.size a)
theorem k1_idx71_inb : ∀ (v65 : IVec S16 32) (v66 : IVec S16 32) (v67 : IVec S16 32) (v68 : IVec S16 32) (v69 : IVec S16 32) (v70 : IVec S16 32) (v71 : IVec S16 32) (v72 : IVec S16 32) (v121 : IVec S16 32) (k1_hw15 : k1_chk15 v65 v66 v67 v68 v69 v70 v71 v72 v121), ∀ a x, ((![v65, v121] : Fin 2 → IVec S16 32) a x).toNat < S752x64.size a := fun v65 v66 v67 v68 v69 v70 v71 v72 v121 k1_hw15 => k1_hw15.1
theorem k1_idx79_inb : ∀ (v65 : IVec S16 32) (v66 : IVec S16 32) (v67 : IVec S16 32) (v68 : IVec S16 32) (v69 : IVec S16 32) (v70 : IVec S16 32) (v71 : IVec S16 32) (v72 : IVec S16 32) (v121 : IVec S16 32) (k1_hw15 : k1_chk15 v65 v66 v67 v68 v69 v70 v71 v72 v121), ∀ a x, ((![v66, v121] : Fin 2 → IVec S16 32) a x).toNat < S752x64.size a := fun v65 v66 v67 v68 v69 v70 v71 v72 v121 k1_hw15 => k1_hw15.2.1
theorem k1_idx87_inb : ∀ (v65 : IVec S16 32) (v66 : IVec S16 32) (v67 : IVec S16 32) (v68 : IVec S16 32) (v69 : IVec S16 32) (v70 : IVec S16 32) (v71 : IVec S16 32) (v72 : IVec S16 32) (v121 : IVec S16 32) (k1_hw15 : k1_chk15 v65 v66 v67 v68 v69 v70 v71 v72 v121), ∀ a x, ((![v67, v121] : Fin 2 → IVec S16 32) a x).toNat < S752x64.size a := fun v65 v66 v67 v68 v69 v70 v71 v72 v121 k1_hw15 => k1_hw15.2.2.1
theorem k1_idx95_inb : ∀ (v65 : IVec S16 32) (v66 : IVec S16 32) (v67 : IVec S16 32) (v68 : IVec S16 32) (v69 : IVec S16 32) (v70 : IVec S16 32) (v71 : IVec S16 32) (v72 : IVec S16 32) (v121 : IVec S16 32) (k1_hw15 : k1_chk15 v65 v66 v67 v68 v69 v70 v71 v72 v121), ∀ a x, ((![v68, v121] : Fin 2 → IVec S16 32) a x).toNat < S752x64.size a := fun v65 v66 v67 v68 v69 v70 v71 v72 v121 k1_hw15 => k1_hw15.2.2.2.1
theorem k1_idx103_inb : ∀ (v65 : IVec S16 32) (v66 : IVec S16 32) (v67 : IVec S16 32) (v68 : IVec S16 32) (v69 : IVec S16 32) (v70 : IVec S16 32) (v71 : IVec S16 32) (v72 : IVec S16 32) (v121 : IVec S16 32) (k1_hw15 : k1_chk15 v65 v66 v67 v68 v69 v70 v71 v72 v121), ∀ a x, ((![v69, v121] : Fin 2 → IVec S16 32) a x).toNat < S752x64.size a := fun v65 v66 v67 v68 v69 v70 v71 v72 v121 k1_hw15 => k1_hw15.2.2.2.2.1
theorem k1_idx111_inb : ∀ (v65 : IVec S16 32) (v66 : IVec S16 32) (v67 : IVec S16 32) (v68 : IVec S16 32) (v69 : IVec S16 32) (v70 : IVec S16 32) (v71 : IVec S16 32) (v72 : IVec S16 32) (v121 : IVec S16 32) (k1_hw15 : k1_chk15 v65 v66 v67 v68 v69 v70 v71 v72 v121), ∀ a x, ((![v70, v121] : Fin 2 → IVec S16 32) a x).toNat < S752x64.size a := fun v65 v66 v67 v68 v69 v70 v71 v72 v121 k1_hw15 => k1_hw15.2.2.2.2.2.1
theorem k1_idx119_inb : ∀ (v65 : IVec S16 32) (v66 : IVec S16 32) (v67 : IVec S16 32) (v68 : IVec S16 32) (v69 : IVec S16 32) (v70 : IVec S16 32) (v71 : IVec S16 32) (v72 : IVec S16 32) (v121 : IVec S16 32) (k1_hw15 : k1_chk15 v65 v66 v67 v68 v69 v70 v71 v72 v121), ∀ a x, ((![v71, v121] : Fin 2 → IVec S16 32) a x).toNat < S752x64.size a := fun v65 v66 v67 v68 v69 v70 v71 v72 v121 k1_hw15 => k1_hw15.2.2.2.2.2.2.1
theorem k1_idx127_inb : ∀ (v65 : IVec S16 32) (v66 : IVec S16 32) (v67 : IVec S16 32) (v68 : IVec S16 32) (v69 : IVec S16 32) (v70 : IVec S16 32) (v71 : IVec S16 32) (v72 : IVec S16 32) (v121 : IVec S16 32) (k1_hw15 : k1_chk15 v65 v66 v67 v68 v69 v70 v71 v72 v121), ∀ a x, ((![v72, v121] : Fin 2 → IVec S16 32) a x).toNat < S752x64.size a := fun v65 v66 v67 v68 v69 v70 v71 v72 v121 k1_hw15 => k1_hw15.2.2.2.2.2.2.2

def k1_chk16 (v65 : IVec S16 32) (v66 : IVec S16 32) (v67 : IVec S16 32) (v68 : IVec S16 32) (v69 : IVec S16 32) (v70 : IVec S16 32) (v71 : IVec S16 32) (v72 : IVec S16 32) (v125 : IVec S16 32) : Prop :=
  (∀ a x, ((![v65, v125] : Fin 2 → IVec S16 32) a x).toNat < S752x64.size a) ∧
  (∀ a x, ((![v66, v125] : Fin 2 → IVec S16 32) a x).toNat < S752x64.size a) ∧
  (∀ a x, ((![v67, v125] : Fin 2 → IVec S16 32) a x).toNat < S752x64.size a) ∧
  (∀ a x, ((![v68, v125] : Fin 2 → IVec S16 32) a x).toNat < S752x64.size a) ∧
  (∀ a x, ((![v69, v125] : Fin 2 → IVec S16 32) a x).toNat < S752x64.size a) ∧
  (∀ a x, ((![v70, v125] : Fin 2 → IVec S16 32) a x).toNat < S752x64.size a) ∧
  (∀ a x, ((![v71, v125] : Fin 2 → IVec S16 32) a x).toNat < S752x64.size a) ∧
  (∀ a x, ((![v72, v125] : Fin 2 → IVec S16 32) a x).toNat < S752x64.size a)
theorem k1_idx72_inb : ∀ (v65 : IVec S16 32) (v66 : IVec S16 32) (v67 : IVec S16 32) (v68 : IVec S16 32) (v69 : IVec S16 32) (v70 : IVec S16 32) (v71 : IVec S16 32) (v72 : IVec S16 32) (v125 : IVec S16 32) (k1_hw16 : k1_chk16 v65 v66 v67 v68 v69 v70 v71 v72 v125), ∀ a x, ((![v65, v125] : Fin 2 → IVec S16 32) a x).toNat < S752x64.size a := fun v65 v66 v67 v68 v69 v70 v71 v72 v125 k1_hw16 => k1_hw16.1
theorem k1_idx80_inb : ∀ (v65 : IVec S16 32) (v66 : IVec S16 32) (v67 : IVec S16 32) (v68 : IVec S16 32) (v69 : IVec S16 32) (v70 : IVec S16 32) (v71 : IVec S16 32) (v72 : IVec S16 32) (v125 : IVec S16 32) (k1_hw16 : k1_chk16 v65 v66 v67 v68 v69 v70 v71 v72 v125), ∀ a x, ((![v66, v125] : Fin 2 → IVec S16 32) a x).toNat < S752x64.size a := fun v65 v66 v67 v68 v69 v70 v71 v72 v125 k1_hw16 => k1_hw16.2.1
theorem k1_idx88_inb : ∀ (v65 : IVec S16 32) (v66 : IVec S16 32) (v67 : IVec S16 32) (v68 : IVec S16 32) (v69 : IVec S16 32) (v70 : IVec S16 32) (v71 : IVec S16 32) (v72 : IVec S16 32) (v125 : IVec S16 32) (k1_hw16 : k1_chk16 v65 v66 v67 v68 v69 v70 v71 v72 v125), ∀ a x, ((![v67, v125] : Fin 2 → IVec S16 32) a x).toNat < S752x64.size a := fun v65 v66 v67 v68 v69 v70 v71 v72 v125 k1_hw16 => k1_hw16.2.2.1
theorem k1_idx96_inb : ∀ (v65 : IVec S16 32) (v66 : IVec S16 32) (v67 : IVec S16 32) (v68 : IVec S16 32) (v69 : IVec S16 32) (v70 : IVec S16 32) (v71 : IVec S16 32) (v72 : IVec S16 32) (v125 : IVec S16 32) (k1_hw16 : k1_chk16 v65 v66 v67 v68 v69 v70 v71 v72 v125), ∀ a x, ((![v68, v125] : Fin 2 → IVec S16 32) a x).toNat < S752x64.size a := fun v65 v66 v67 v68 v69 v70 v71 v72 v125 k1_hw16 => k1_hw16.2.2.2.1
theorem k1_idx104_inb : ∀ (v65 : IVec S16 32) (v66 : IVec S16 32) (v67 : IVec S16 32) (v68 : IVec S16 32) (v69 : IVec S16 32) (v70 : IVec S16 32) (v71 : IVec S16 32) (v72 : IVec S16 32) (v125 : IVec S16 32) (k1_hw16 : k1_chk16 v65 v66 v67 v68 v69 v70 v71 v72 v125), ∀ a x, ((![v69, v125] : Fin 2 → IVec S16 32) a x).toNat < S752x64.size a := fun v65 v66 v67 v68 v69 v70 v71 v72 v125 k1_hw16 => k1_hw16.2.2.2.2.1
theorem k1_idx112_inb : ∀ (v65 : IVec S16 32) (v66 : IVec S16 32) (v67 : IVec S16 32) (v68 : IVec S16 32) (v69 : IVec S16 32) (v70 : IVec S16 32) (v71 : IVec S16 32) (v72 : IVec S16 32) (v125 : IVec S16 32) (k1_hw16 : k1_chk16 v65 v66 v67 v68 v69 v70 v71 v72 v125), ∀ a x, ((![v70, v125] : Fin 2 → IVec S16 32) a x).toNat < S752x64.size a := fun v65 v66 v67 v68 v69 v70 v71 v72 v125 k1_hw16 => k1_hw16.2.2.2.2.2.1
theorem k1_idx120_inb : ∀ (v65 : IVec S16 32) (v66 : IVec S16 32) (v67 : IVec S16 32) (v68 : IVec S16 32) (v69 : IVec S16 32) (v70 : IVec S16 32) (v71 : IVec S16 32) (v72 : IVec S16 32) (v125 : IVec S16 32) (k1_hw16 : k1_chk16 v65 v66 v67 v68 v69 v70 v71 v72 v125), ∀ a x, ((![v71, v125] : Fin 2 → IVec S16 32) a x).toNat < S752x64.size a := fun v65 v66 v67 v68 v69 v70 v71 v72 v125 k1_hw16 => k1_hw16.2.2.2.2.2.2.1
theorem k1_idx128_inb : ∀ (v65 : IVec S16 32) (v66 : IVec S16 32) (v67 : IVec S16 32) (v68 : IVec S16 32) (v69 : IVec S16 32) (v70 : IVec S16 32) (v71 : IVec S16 32) (v72 : IVec S16 32) (v125 : IVec S16 32) (k1_hw16 : k1_chk16 v65 v66 v67 v68 v69 v70 v71 v72 v125), ∀ a x, ((![v72, v125] : Fin 2 → IVec S16 32) a x).toNat < S752x64.size a := fun v65 v66 v67 v68 v69 v70 v71 v72 v125 k1_hw16 => k1_hw16.2.2.2.2.2.2.2
def k1_off36 (i : grid1.Coords) (c1_i32_32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c752_i32 : BitVec 32 := 752#32
  let v31 : BitVec 32 := Scalar.muli v28 c752_i32
  let c2248_i32 : BitVec 32 := 2248#32
  let v32 : BitVec 32 := Scalar.minsi v31 c2248_i32
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c8_i32_10 : BitVec 32 := 8#32
  let c0_i32_13 : BitVec 32 := 0#32
  let v39 : BitVec 1 := Scalar.cmpi .sgt c8_i32_10 c0_i32_13
  let v40 : BitVec 32 := Scalar.extui v39
  let c0_i32_14 : BitVec 32 := 0#32
  let v41 : BitVec 1 := Scalar.cmpi .slt c8_i32_10 c0_i32_14
  let v42 : BitVec 32 := Scalar.extui v41
  let v43 : BitVec 32 := Scalar.subi v40 v42
  let v44 : BitVec 1 := Scalar.cmpi .ne v38 v43
  let v45 : BitVec 32 := Scalar.remsi v32 c8_i32_10
  let c0_i32_15 : BitVec 32 := 0#32
  let v46 : BitVec 1 := Scalar.cmpi .ne v45 c0_i32_15
  let v47 : BitVec 1 := Scalar.andi v44 v46
  let v33 : BitVec 32 := Scalar.divsi v32 c8_i32_10
  let c1_i32_16 : BitVec 32 := 1#32
  let v48 : BitVec 32 := Scalar.subi v33 c1_i32_16
  let v49 : BitVec 32 := Scalar.select v47 v48 v33
  let v74 : BitVec 32 := Scalar.addi v49 c1_i32_32
  let c128_i32_33 : BitVec 32 := 128#32
  let v75 : BitVec 32 := Scalar.muli v74 c128_i32_33
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c16_i32 : BitVec 32 := 16#32
  let v30 : BitVec 32 := Scalar.muli v11 c16_i32
  let v76 : BitVec 32 := Scalar.addi v75 v30
  let c1024_i32_34 : BitVec 32 := 1024#32
  let v77 : BitVec 32 := Scalar.muli v76 c1024_i32_34
  ![v77.toNat]
def k1_off36_at (r : Fin 3) : BitVec 32 :=
  if r.val < 1 then
    1#32
  else
    if r.val < 2 then
      92#32
    else
      93#32
@[reducible] def k1_t3_loop : Scf.Loop 32 :=
  let c1_i32_36 : BitVec 32 := 1#32
  let c46_i32 : BitVec 32 := 46#32
  let v80 : BitVec 32 := Scalar.addi c1_i32_36 c46_i32
  let c1_i32_37 : BitVec 32 := 1#32
  ⟨c1_i32_36, v80, c1_i32_37⟩
def k1_off37 (i : grid1.Coords) (k1_t3 : Fin k1_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c752_i32 : BitVec 32 := 752#32
  let v31 : BitVec 32 := Scalar.muli v28 c752_i32
  let c2248_i32 : BitVec 32 := 2248#32
  let v32 : BitVec 32 := Scalar.minsi v31 c2248_i32
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c8_i32_10 : BitVec 32 := 8#32
  let c0_i32_13 : BitVec 32 := 0#32
  let v39 : BitVec 1 := Scalar.cmpi .sgt c8_i32_10 c0_i32_13
  let v40 : BitVec 32 := Scalar.extui v39
  let c0_i32_14 : BitVec 32 := 0#32
  let v41 : BitVec 1 := Scalar.cmpi .slt c8_i32_10 c0_i32_14
  let v42 : BitVec 32 := Scalar.extui v41
  let v43 : BitVec 32 := Scalar.subi v40 v42
  let v44 : BitVec 1 := Scalar.cmpi .ne v38 v43
  let v45 : BitVec 32 := Scalar.remsi v32 c8_i32_10
  let c0_i32_15 : BitVec 32 := 0#32
  let v46 : BitVec 1 := Scalar.cmpi .ne v45 c0_i32_15
  let v47 : BitVec 1 := Scalar.andi v44 v46
  let v33 : BitVec 32 := Scalar.divsi v32 c8_i32_10
  let c1_i32_16 : BitVec 32 := 1#32
  let v48 : BitVec 32 := Scalar.subi v33 c1_i32_16
  let v49 : BitVec 32 := Scalar.select v47 v48 v33
  let c2_i32_43 : BitVec 32 := 2#32
  let c1_i32_36 : BitVec 32 := 1#32
  let c1_i32_37 : BitVec 32 := 1#32
  let arg11 : BitVec 32 := Scf.iv c1_i32_36 c1_i32_37 k1_t3
  let v93 : BitVec 32 := Scalar.muli c2_i32_43 arg11
  let c2_i32_44 : BitVec 32 := 2#32
  let v94 : BitVec 32 := Scalar.subi v93 c2_i32_44
  let v95 : BitVec 32 := Scalar.addi v49 v94
  let c128_i32_45 : BitVec 32 := 128#32
  let v96 : BitVec 32 := Scalar.muli v95 c128_i32_45
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c16_i32 : BitVec 32 := 16#32
  let v30 : BitVec 32 := Scalar.muli v11 c16_i32
  let v97 : BitVec 32 := Scalar.addi v96 v30
  let c1024_i32_46 : BitVec 32 := 1024#32
  let v98 : BitVec 32 := Scalar.muli v97 c1024_i32_46
  ![v98.toNat]
@[reducible] def k1_t4_loop : Scf.Loop 32 :=
  let c0_i32_64 : BitVec 32 := 0#32
  let c16_i32_65 : BitVec 32 := 16#32
  let v125 : BitVec 32 := Scalar.addi c0_i32_64 c16_i32_65
  let c1_i32_66 : BitVec 32 := 1#32
  ⟨c0_i32_64, v125, c1_i32_66⟩
def k1_off38 (k1_t4 : Fin k1_t4_loop.trips) (c0_i32_100 : BitVec 32) : Fin 1 → Nat :=
  let c0_i32_64 : BitVec 32 := 0#32
  let c1_i32_66 : BitVec 32 := 1#32
  let arg12 : BitVec 32 := Scf.iv c0_i32_64 c1_i32_66 k1_t4
  let c128_i32_99 : BitVec 32 := 128#32
  let v173 : BitVec 32 := Scalar.muli arg12 c128_i32_99
  let v174 : BitVec 32 := Scalar.addi v173 c0_i32_100
  let v175 : Index := Scalar.indexCast v174
  ![v175.toNat]
def k1_off39 (k1_t4 : Fin k1_t4_loop.trips) : Fin 1 → Nat :=
  let c0_i32_64 : BitVec 32 := 0#32
  let c1_i32_66 : BitVec 32 := 1#32
  let arg12 : BitVec 32 := Scf.iv c0_i32_64 c1_i32_66 k1_t4
  let c1024_i32_98 : BitVec 32 := 1024#32
  let v172 : BitVec 32 := Scalar.muli arg12 c1024_i32_98
  let c0_i32_109 : BitVec 32 := 0#32
  let v206 : BitVec 32 := Scalar.addi v172 c0_i32_109
  let c0_i32_110 : BitVec 32 := 0#32
  let v207 : BitVec 32 := Scalar.addi v206 c0_i32_110
  let v208 : Index := Scalar.indexCast v207
  ![v208.toNat]
def k1_off40 (k1_t4 : Fin k1_t4_loop.trips) : Fin 1 → Nat :=
  let c0_i32_64 : BitVec 32 := 0#32
  let c1_i32_66 : BitVec 32 := 1#32
  let arg12 : BitVec 32 := Scf.iv c0_i32_64 c1_i32_66 k1_t4
  let c1024_i32_98 : BitVec 32 := 1024#32
  let v172 : BitVec 32 := Scalar.muli arg12 c1024_i32_98
  let c0_i32_111 : BitVec 32 := 0#32
  let v211 : BitVec 32 := Scalar.addi v172 c0_i32_111
  let c16_i32_112 : BitVec 32 := 16#32
  let v212 : BitVec 32 := Scalar.addi v211 c16_i32_112
  let v213 : Index := Scalar.indexCast v212
  ![v213.toNat]
def k1_off41 (k1_t4 : Fin k1_t4_loop.trips) : Fin 1 → Nat :=
  let c0_i32_64 : BitVec 32 := 0#32
  let c1_i32_66 : BitVec 32 := 1#32
  let arg12 : BitVec 32 := Scf.iv c0_i32_64 c1_i32_66 k1_t4
  let c1024_i32_98 : BitVec 32 := 1024#32
  let v172 : BitVec 32 := Scalar.muli arg12 c1024_i32_98
  let c0_i32_113 : BitVec 32 := 0#32
  let v216 : BitVec 32 := Scalar.addi v172 c0_i32_113
  let c32_i32_114 : BitVec 32 := 32#32
  let v217 : BitVec 32 := Scalar.addi v216 c32_i32_114
  let v218 : Index := Scalar.indexCast v217
  ![v218.toNat]
def k1_off42 (k1_t4 : Fin k1_t4_loop.trips) : Fin 1 → Nat :=
  let c0_i32_64 : BitVec 32 := 0#32
  let c1_i32_66 : BitVec 32 := 1#32
  let arg12 : BitVec 32 := Scf.iv c0_i32_64 c1_i32_66 k1_t4
  let c1024_i32_98 : BitVec 32 := 1024#32
  let v172 : BitVec 32 := Scalar.muli arg12 c1024_i32_98
  let c0_i32_115 : BitVec 32 := 0#32
  let v221 : BitVec 32 := Scalar.addi v172 c0_i32_115
  let c48_i32_116 : BitVec 32 := 48#32
  let v222 : BitVec 32 := Scalar.addi v221 c48_i32_116
  let v223 : Index := Scalar.indexCast v222
  ![v223.toNat]
def k1_off43 (k1_t4 : Fin k1_t4_loop.trips) : Fin 1 → Nat :=
  let c0_i32_64 : BitVec 32 := 0#32
  let c1_i32_66 : BitVec 32 := 1#32
  let arg12 : BitVec 32 := Scf.iv c0_i32_64 c1_i32_66 k1_t4
  let c1024_i32_98 : BitVec 32 := 1024#32
  let v172 : BitVec 32 := Scalar.muli arg12 c1024_i32_98
  let c0_i32_117 : BitVec 32 := 0#32
  let v226 : BitVec 32 := Scalar.addi v172 c0_i32_117
  let c64_i32_118 : BitVec 32 := 64#32
  let v227 : BitVec 32 := Scalar.addi v226 c64_i32_118
  let v228 : Index := Scalar.indexCast v227
  ![v228.toNat]
def k1_off44 (k1_t4 : Fin k1_t4_loop.trips) : Fin 1 → Nat :=
  let c0_i32_64 : BitVec 32 := 0#32
  let c1_i32_66 : BitVec 32 := 1#32
  let arg12 : BitVec 32 := Scf.iv c0_i32_64 c1_i32_66 k1_t4
  let c1024_i32_98 : BitVec 32 := 1024#32
  let v172 : BitVec 32 := Scalar.muli arg12 c1024_i32_98
  let c0_i32_119 : BitVec 32 := 0#32
  let v231 : BitVec 32 := Scalar.addi v172 c0_i32_119
  let c80_i32_120 : BitVec 32 := 80#32
  let v232 : BitVec 32 := Scalar.addi v231 c80_i32_120
  let v233 : Index := Scalar.indexCast v232
  ![v233.toNat]
def k1_off45 (k1_t4 : Fin k1_t4_loop.trips) : Fin 1 → Nat :=
  let c0_i32_64 : BitVec 32 := 0#32
  let c1_i32_66 : BitVec 32 := 1#32
  let arg12 : BitVec 32 := Scf.iv c0_i32_64 c1_i32_66 k1_t4
  let c1024_i32_98 : BitVec 32 := 1024#32
  let v172 : BitVec 32 := Scalar.muli arg12 c1024_i32_98
  let c0_i32_121 : BitVec 32 := 0#32
  let v236 : BitVec 32 := Scalar.addi v172 c0_i32_121
  let c96_i32_122 : BitVec 32 := 96#32
  let v237 : BitVec 32 := Scalar.addi v236 c96_i32_122
  let v238 : Index := Scalar.indexCast v237
  ![v238.toNat]
def k1_off46 (k1_t4 : Fin k1_t4_loop.trips) : Fin 1 → Nat :=
  let c0_i32_64 : BitVec 32 := 0#32
  let c1_i32_66 : BitVec 32 := 1#32
  let arg12 : BitVec 32 := Scf.iv c0_i32_64 c1_i32_66 k1_t4
  let c1024_i32_98 : BitVec 32 := 1024#32
  let v172 : BitVec 32 := Scalar.muli arg12 c1024_i32_98
  let c0_i32_123 : BitVec 32 := 0#32
  let v241 : BitVec 32 := Scalar.addi v172 c0_i32_123
  let c112_i32_124 : BitVec 32 := 112#32
  let v242 : BitVec 32 := Scalar.addi v241 c112_i32_124
  let v243 : Index := Scalar.indexCast v242
  ![v243.toNat]
def k1_off47 (k1_t4 : Fin k1_t4_loop.trips) (c0_i32_126 : BitVec 32) : Fin 1 → Nat :=
  let c0_i32_64 : BitVec 32 := 0#32
  let c1_i32_66 : BitVec 32 := 1#32
  let arg12 : BitVec 32 := Scf.iv c0_i32_64 c1_i32_66 k1_t4
  let c1024_i32_98 : BitVec 32 := 1024#32
  let v172 : BitVec 32 := Scalar.muli arg12 c1024_i32_98
  let c128_i32_125 : BitVec 32 := 128#32
  let v246 : BitVec 32 := Scalar.addi v172 c128_i32_125
  let v247 : BitVec 32 := Scalar.addi v246 c0_i32_126
  let v248 : Index := Scalar.indexCast v247
  ![v248.toNat]
def k1_off48 (k1_t4 : Fin k1_t4_loop.trips) (c0_i32_141 : BitVec 32) : Fin 1 → Nat :=
  let c0_i32_64 : BitVec 32 := 0#32
  let c1_i32_66 : BitVec 32 := 1#32
  let arg12 : BitVec 32 := Scf.iv c0_i32_64 c1_i32_66 k1_t4
  let c1024_i32_98 : BitVec 32 := 1024#32
  let v172 : BitVec 32 := Scalar.muli arg12 c1024_i32_98
  let c256_i32 : BitVec 32 := 256#32
  let v286 : BitVec 32 := Scalar.addi v172 c256_i32
  let v287 : BitVec 32 := Scalar.addi v286 c0_i32_141
  let v288 : Index := Scalar.indexCast v287
  ![v288.toNat]
def k1_off49 (k1_t4 : Fin k1_t4_loop.trips) (c0_i32_156 : BitVec 32) : Fin 1 → Nat :=
  let c0_i32_64 : BitVec 32 := 0#32
  let c1_i32_66 : BitVec 32 := 1#32
  let arg12 : BitVec 32 := Scf.iv c0_i32_64 c1_i32_66 k1_t4
  let c1024_i32_98 : BitVec 32 := 1024#32
  let v172 : BitVec 32 := Scalar.muli arg12 c1024_i32_98
  let c384_i32 : BitVec 32 := 384#32
  let v326 : BitVec 32 := Scalar.addi v172 c384_i32
  let v327 : BitVec 32 := Scalar.addi v326 c0_i32_156
  let v328 : Index := Scalar.indexCast v327
  ![v328.toNat]
def k1_off50 (k1_t4 : Fin k1_t4_loop.trips) (c0_i32_171 : BitVec 32) : Fin 1 → Nat :=
  let c0_i32_64 : BitVec 32 := 0#32
  let c1_i32_66 : BitVec 32 := 1#32
  let arg12 : BitVec 32 := Scf.iv c0_i32_64 c1_i32_66 k1_t4
  let c1024_i32_98 : BitVec 32 := 1024#32
  let v172 : BitVec 32 := Scalar.muli arg12 c1024_i32_98
  let c512_i32 : BitVec 32 := 512#32
  let v366 : BitVec 32 := Scalar.addi v172 c512_i32
  let v367 : BitVec 32 := Scalar.addi v366 c0_i32_171
  let v368 : Index := Scalar.indexCast v367
  ![v368.toNat]
def k1_off51 (k1_t4 : Fin k1_t4_loop.trips) (c0_i32_186 : BitVec 32) : Fin 1 → Nat :=
  let c0_i32_64 : BitVec 32 := 0#32
  let c1_i32_66 : BitVec 32 := 1#32
  let arg12 : BitVec 32 := Scf.iv c0_i32_64 c1_i32_66 k1_t4
  let c1024_i32_98 : BitVec 32 := 1024#32
  let v172 : BitVec 32 := Scalar.muli arg12 c1024_i32_98
  let c640_i32 : BitVec 32 := 640#32
  let v406 : BitVec 32 := Scalar.addi v172 c640_i32
  let v407 : BitVec 32 := Scalar.addi v406 c0_i32_186
  let v408 : Index := Scalar.indexCast v407
  ![v408.toNat]
def k1_off52 (k1_t4 : Fin k1_t4_loop.trips) (c0_i32_201 : BitVec 32) : Fin 1 → Nat :=
  let c0_i32_64 : BitVec 32 := 0#32
  let c1_i32_66 : BitVec 32 := 1#32
  let arg12 : BitVec 32 := Scf.iv c0_i32_64 c1_i32_66 k1_t4
  let c1024_i32_98 : BitVec 32 := 1024#32
  let v172 : BitVec 32 := Scalar.muli arg12 c1024_i32_98
  let c768_i32 : BitVec 32 := 768#32
  let v446 : BitVec 32 := Scalar.addi v172 c768_i32
  let v447 : BitVec 32 := Scalar.addi v446 c0_i32_201
  let v448 : Index := Scalar.indexCast v447
  ![v448.toNat]

def k1_chk17 (v103 : IVec S16 32) (v106 : IVec S16 32) (v109 : IVec S16 32) (v112 : IVec S16 32) (v115 : IVec S16 32) (v118 : IVec S16 32) (v121 : IVec S16 32) (v124 : IVec S16 32) (v176 : IVec S16 32) : Prop :=
  (∀ a x, ((![v103, v176] : Fin 2 → IVec S16 32) a x).toNat < S752x64.size a) ∧
  (∀ a x, ((![v106, v176] : Fin 2 → IVec S16 32) a x).toNat < S752x64.size a) ∧
  (∀ a x, ((![v109, v176] : Fin 2 → IVec S16 32) a x).toNat < S752x64.size a) ∧
  (∀ a x, ((![v112, v176] : Fin 2 → IVec S16 32) a x).toNat < S752x64.size a) ∧
  (∀ a x, ((![v115, v176] : Fin 2 → IVec S16 32) a x).toNat < S752x64.size a) ∧
  (∀ a x, ((![v118, v176] : Fin 2 → IVec S16 32) a x).toNat < S752x64.size a) ∧
  (∀ a x, ((![v121, v176] : Fin 2 → IVec S16 32) a x).toNat < S752x64.size a) ∧
  (∀ a x, ((![v124, v176] : Fin 2 → IVec S16 32) a x).toNat < S752x64.size a)
theorem k1_idx129_inb : ∀ (v103 : IVec S16 32) (v106 : IVec S16 32) (v109 : IVec S16 32) (v112 : IVec S16 32) (v115 : IVec S16 32) (v118 : IVec S16 32) (v121 : IVec S16 32) (v124 : IVec S16 32) (v176 : IVec S16 32) (k1_hw17 : k1_chk17 v103 v106 v109 v112 v115 v118 v121 v124 v176), ∀ a x, ((![v103, v176] : Fin 2 → IVec S16 32) a x).toNat < S752x64.size a := fun v103 v106 v109 v112 v115 v118 v121 v124 v176 k1_hw17 => k1_hw17.1
theorem k1_idx137_inb : ∀ (v103 : IVec S16 32) (v106 : IVec S16 32) (v109 : IVec S16 32) (v112 : IVec S16 32) (v115 : IVec S16 32) (v118 : IVec S16 32) (v121 : IVec S16 32) (v124 : IVec S16 32) (v176 : IVec S16 32) (k1_hw17 : k1_chk17 v103 v106 v109 v112 v115 v118 v121 v124 v176), ∀ a x, ((![v106, v176] : Fin 2 → IVec S16 32) a x).toNat < S752x64.size a := fun v103 v106 v109 v112 v115 v118 v121 v124 v176 k1_hw17 => k1_hw17.2.1
theorem k1_idx145_inb : ∀ (v103 : IVec S16 32) (v106 : IVec S16 32) (v109 : IVec S16 32) (v112 : IVec S16 32) (v115 : IVec S16 32) (v118 : IVec S16 32) (v121 : IVec S16 32) (v124 : IVec S16 32) (v176 : IVec S16 32) (k1_hw17 : k1_chk17 v103 v106 v109 v112 v115 v118 v121 v124 v176), ∀ a x, ((![v109, v176] : Fin 2 → IVec S16 32) a x).toNat < S752x64.size a := fun v103 v106 v109 v112 v115 v118 v121 v124 v176 k1_hw17 => k1_hw17.2.2.1
theorem k1_idx153_inb : ∀ (v103 : IVec S16 32) (v106 : IVec S16 32) (v109 : IVec S16 32) (v112 : IVec S16 32) (v115 : IVec S16 32) (v118 : IVec S16 32) (v121 : IVec S16 32) (v124 : IVec S16 32) (v176 : IVec S16 32) (k1_hw17 : k1_chk17 v103 v106 v109 v112 v115 v118 v121 v124 v176), ∀ a x, ((![v112, v176] : Fin 2 → IVec S16 32) a x).toNat < S752x64.size a := fun v103 v106 v109 v112 v115 v118 v121 v124 v176 k1_hw17 => k1_hw17.2.2.2.1
theorem k1_idx161_inb : ∀ (v103 : IVec S16 32) (v106 : IVec S16 32) (v109 : IVec S16 32) (v112 : IVec S16 32) (v115 : IVec S16 32) (v118 : IVec S16 32) (v121 : IVec S16 32) (v124 : IVec S16 32) (v176 : IVec S16 32) (k1_hw17 : k1_chk17 v103 v106 v109 v112 v115 v118 v121 v124 v176), ∀ a x, ((![v115, v176] : Fin 2 → IVec S16 32) a x).toNat < S752x64.size a := fun v103 v106 v109 v112 v115 v118 v121 v124 v176 k1_hw17 => k1_hw17.2.2.2.2.1
theorem k1_idx169_inb : ∀ (v103 : IVec S16 32) (v106 : IVec S16 32) (v109 : IVec S16 32) (v112 : IVec S16 32) (v115 : IVec S16 32) (v118 : IVec S16 32) (v121 : IVec S16 32) (v124 : IVec S16 32) (v176 : IVec S16 32) (k1_hw17 : k1_chk17 v103 v106 v109 v112 v115 v118 v121 v124 v176), ∀ a x, ((![v118, v176] : Fin 2 → IVec S16 32) a x).toNat < S752x64.size a := fun v103 v106 v109 v112 v115 v118 v121 v124 v176 k1_hw17 => k1_hw17.2.2.2.2.2.1
theorem k1_idx177_inb : ∀ (v103 : IVec S16 32) (v106 : IVec S16 32) (v109 : IVec S16 32) (v112 : IVec S16 32) (v115 : IVec S16 32) (v118 : IVec S16 32) (v121 : IVec S16 32) (v124 : IVec S16 32) (v176 : IVec S16 32) (k1_hw17 : k1_chk17 v103 v106 v109 v112 v115 v118 v121 v124 v176), ∀ a x, ((![v121, v176] : Fin 2 → IVec S16 32) a x).toNat < S752x64.size a := fun v103 v106 v109 v112 v115 v118 v121 v124 v176 k1_hw17 => k1_hw17.2.2.2.2.2.2.1
theorem k1_idx185_inb : ∀ (v103 : IVec S16 32) (v106 : IVec S16 32) (v109 : IVec S16 32) (v112 : IVec S16 32) (v115 : IVec S16 32) (v118 : IVec S16 32) (v121 : IVec S16 32) (v124 : IVec S16 32) (v176 : IVec S16 32) (k1_hw17 : k1_chk17 v103 v106 v109 v112 v115 v118 v121 v124 v176), ∀ a x, ((![v124, v176] : Fin 2 → IVec S16 32) a x).toNat < S752x64.size a := fun v103 v106 v109 v112 v115 v118 v121 v124 v176 k1_hw17 => k1_hw17.2.2.2.2.2.2.2
def k1_off53 (k1_t4 : Fin k1_t4_loop.trips) (c0_i32_216 : BitVec 32) : Fin 1 → Nat :=
  let c0_i32_64 : BitVec 32 := 0#32
  let c1_i32_66 : BitVec 32 := 1#32
  let arg12 : BitVec 32 := Scf.iv c0_i32_64 c1_i32_66 k1_t4
  let c1024_i32_98 : BitVec 32 := 1024#32
  let v172 : BitVec 32 := Scalar.muli arg12 c1024_i32_98
  let c896_i32 : BitVec 32 := 896#32
  let v486 : BitVec 32 := Scalar.addi v172 c896_i32
  let v487 : BitVec 32 := Scalar.addi v486 c0_i32_216
  let v488 : Index := Scalar.indexCast v487
  ![v488.toNat]

def k1_chk18 (v103 : IVec S16 32) (v106 : IVec S16 32) (v109 : IVec S16 32) (v112 : IVec S16 32) (v115 : IVec S16 32) (v118 : IVec S16 32) (v121 : IVec S16 32) (v124 : IVec S16 32) (v180 : IVec S16 32) : Prop :=
  (∀ a x, ((![v103, v180] : Fin 2 → IVec S16 32) a x).toNat < S752x64.size a) ∧
  (∀ a x, ((![v106, v180] : Fin 2 → IVec S16 32) a x).toNat < S752x64.size a) ∧
  (∀ a x, ((![v109, v180] : Fin 2 → IVec S16 32) a x).toNat < S752x64.size a) ∧
  (∀ a x, ((![v112, v180] : Fin 2 → IVec S16 32) a x).toNat < S752x64.size a) ∧
  (∀ a x, ((![v115, v180] : Fin 2 → IVec S16 32) a x).toNat < S752x64.size a) ∧
  (∀ a x, ((![v118, v180] : Fin 2 → IVec S16 32) a x).toNat < S752x64.size a) ∧
  (∀ a x, ((![v121, v180] : Fin 2 → IVec S16 32) a x).toNat < S752x64.size a) ∧
  (∀ a x, ((![v124, v180] : Fin 2 → IVec S16 32) a x).toNat < S752x64.size a)
theorem k1_idx130_inb : ∀ (v103 : IVec S16 32) (v106 : IVec S16 32) (v109 : IVec S16 32) (v112 : IVec S16 32) (v115 : IVec S16 32) (v118 : IVec S16 32) (v121 : IVec S16 32) (v124 : IVec S16 32) (v180 : IVec S16 32) (k1_hw18 : k1_chk18 v103 v106 v109 v112 v115 v118 v121 v124 v180), ∀ a x, ((![v103, v180] : Fin 2 → IVec S16 32) a x).toNat < S752x64.size a := fun v103 v106 v109 v112 v115 v118 v121 v124 v180 k1_hw18 => k1_hw18.1
theorem k1_idx138_inb : ∀ (v103 : IVec S16 32) (v106 : IVec S16 32) (v109 : IVec S16 32) (v112 : IVec S16 32) (v115 : IVec S16 32) (v118 : IVec S16 32) (v121 : IVec S16 32) (v124 : IVec S16 32) (v180 : IVec S16 32) (k1_hw18 : k1_chk18 v103 v106 v109 v112 v115 v118 v121 v124 v180), ∀ a x, ((![v106, v180] : Fin 2 → IVec S16 32) a x).toNat < S752x64.size a := fun v103 v106 v109 v112 v115 v118 v121 v124 v180 k1_hw18 => k1_hw18.2.1
theorem k1_idx146_inb : ∀ (v103 : IVec S16 32) (v106 : IVec S16 32) (v109 : IVec S16 32) (v112 : IVec S16 32) (v115 : IVec S16 32) (v118 : IVec S16 32) (v121 : IVec S16 32) (v124 : IVec S16 32) (v180 : IVec S16 32) (k1_hw18 : k1_chk18 v103 v106 v109 v112 v115 v118 v121 v124 v180), ∀ a x, ((![v109, v180] : Fin 2 → IVec S16 32) a x).toNat < S752x64.size a := fun v103 v106 v109 v112 v115 v118 v121 v124 v180 k1_hw18 => k1_hw18.2.2.1
theorem k1_idx154_inb : ∀ (v103 : IVec S16 32) (v106 : IVec S16 32) (v109 : IVec S16 32) (v112 : IVec S16 32) (v115 : IVec S16 32) (v118 : IVec S16 32) (v121 : IVec S16 32) (v124 : IVec S16 32) (v180 : IVec S16 32) (k1_hw18 : k1_chk18 v103 v106 v109 v112 v115 v118 v121 v124 v180), ∀ a x, ((![v112, v180] : Fin 2 → IVec S16 32) a x).toNat < S752x64.size a := fun v103 v106 v109 v112 v115 v118 v121 v124 v180 k1_hw18 => k1_hw18.2.2.2.1
theorem k1_idx162_inb : ∀ (v103 : IVec S16 32) (v106 : IVec S16 32) (v109 : IVec S16 32) (v112 : IVec S16 32) (v115 : IVec S16 32) (v118 : IVec S16 32) (v121 : IVec S16 32) (v124 : IVec S16 32) (v180 : IVec S16 32) (k1_hw18 : k1_chk18 v103 v106 v109 v112 v115 v118 v121 v124 v180), ∀ a x, ((![v115, v180] : Fin 2 → IVec S16 32) a x).toNat < S752x64.size a := fun v103 v106 v109 v112 v115 v118 v121 v124 v180 k1_hw18 => k1_hw18.2.2.2.2.1
theorem k1_idx170_inb : ∀ (v103 : IVec S16 32) (v106 : IVec S16 32) (v109 : IVec S16 32) (v112 : IVec S16 32) (v115 : IVec S16 32) (v118 : IVec S16 32) (v121 : IVec S16 32) (v124 : IVec S16 32) (v180 : IVec S16 32) (k1_hw18 : k1_chk18 v103 v106 v109 v112 v115 v118 v121 v124 v180), ∀ a x, ((![v118, v180] : Fin 2 → IVec S16 32) a x).toNat < S752x64.size a := fun v103 v106 v109 v112 v115 v118 v121 v124 v180 k1_hw18 => k1_hw18.2.2.2.2.2.1
theorem k1_idx178_inb : ∀ (v103 : IVec S16 32) (v106 : IVec S16 32) (v109 : IVec S16 32) (v112 : IVec S16 32) (v115 : IVec S16 32) (v118 : IVec S16 32) (v121 : IVec S16 32) (v124 : IVec S16 32) (v180 : IVec S16 32) (k1_hw18 : k1_chk18 v103 v106 v109 v112 v115 v118 v121 v124 v180), ∀ a x, ((![v121, v180] : Fin 2 → IVec S16 32) a x).toNat < S752x64.size a := fun v103 v106 v109 v112 v115 v118 v121 v124 v180 k1_hw18 => k1_hw18.2.2.2.2.2.2.1
theorem k1_idx186_inb : ∀ (v103 : IVec S16 32) (v106 : IVec S16 32) (v109 : IVec S16 32) (v112 : IVec S16 32) (v115 : IVec S16 32) (v118 : IVec S16 32) (v121 : IVec S16 32) (v124 : IVec S16 32) (v180 : IVec S16 32) (k1_hw18 : k1_chk18 v103 v106 v109 v112 v115 v118 v121 v124 v180), ∀ a x, ((![v124, v180] : Fin 2 → IVec S16 32) a x).toNat < S752x64.size a := fun v103 v106 v109 v112 v115 v118 v121 v124 v180 k1_hw18 => k1_hw18.2.2.2.2.2.2.2

def k1_chk19 (v103 : IVec S16 32) (v106 : IVec S16 32) (v109 : IVec S16 32) (v112 : IVec S16 32) (v115 : IVec S16 32) (v118 : IVec S16 32) (v121 : IVec S16 32) (v124 : IVec S16 32) (v184 : IVec S16 32) : Prop :=
  (∀ a x, ((![v103, v184] : Fin 2 → IVec S16 32) a x).toNat < S752x64.size a) ∧
  (∀ a x, ((![v106, v184] : Fin 2 → IVec S16 32) a x).toNat < S752x64.size a) ∧
  (∀ a x, ((![v109, v184] : Fin 2 → IVec S16 32) a x).toNat < S752x64.size a) ∧
  (∀ a x, ((![v112, v184] : Fin 2 → IVec S16 32) a x).toNat < S752x64.size a) ∧
  (∀ a x, ((![v115, v184] : Fin 2 → IVec S16 32) a x).toNat < S752x64.size a) ∧
  (∀ a x, ((![v118, v184] : Fin 2 → IVec S16 32) a x).toNat < S752x64.size a) ∧
  (∀ a x, ((![v121, v184] : Fin 2 → IVec S16 32) a x).toNat < S752x64.size a) ∧
  (∀ a x, ((![v124, v184] : Fin 2 → IVec S16 32) a x).toNat < S752x64.size a)
theorem k1_idx131_inb : ∀ (v103 : IVec S16 32) (v106 : IVec S16 32) (v109 : IVec S16 32) (v112 : IVec S16 32) (v115 : IVec S16 32) (v118 : IVec S16 32) (v121 : IVec S16 32) (v124 : IVec S16 32) (v184 : IVec S16 32) (k1_hw19 : k1_chk19 v103 v106 v109 v112 v115 v118 v121 v124 v184), ∀ a x, ((![v103, v184] : Fin 2 → IVec S16 32) a x).toNat < S752x64.size a := fun v103 v106 v109 v112 v115 v118 v121 v124 v184 k1_hw19 => k1_hw19.1
theorem k1_idx139_inb : ∀ (v103 : IVec S16 32) (v106 : IVec S16 32) (v109 : IVec S16 32) (v112 : IVec S16 32) (v115 : IVec S16 32) (v118 : IVec S16 32) (v121 : IVec S16 32) (v124 : IVec S16 32) (v184 : IVec S16 32) (k1_hw19 : k1_chk19 v103 v106 v109 v112 v115 v118 v121 v124 v184), ∀ a x, ((![v106, v184] : Fin 2 → IVec S16 32) a x).toNat < S752x64.size a := fun v103 v106 v109 v112 v115 v118 v121 v124 v184 k1_hw19 => k1_hw19.2.1
theorem k1_idx147_inb : ∀ (v103 : IVec S16 32) (v106 : IVec S16 32) (v109 : IVec S16 32) (v112 : IVec S16 32) (v115 : IVec S16 32) (v118 : IVec S16 32) (v121 : IVec S16 32) (v124 : IVec S16 32) (v184 : IVec S16 32) (k1_hw19 : k1_chk19 v103 v106 v109 v112 v115 v118 v121 v124 v184), ∀ a x, ((![v109, v184] : Fin 2 → IVec S16 32) a x).toNat < S752x64.size a := fun v103 v106 v109 v112 v115 v118 v121 v124 v184 k1_hw19 => k1_hw19.2.2.1
theorem k1_idx155_inb : ∀ (v103 : IVec S16 32) (v106 : IVec S16 32) (v109 : IVec S16 32) (v112 : IVec S16 32) (v115 : IVec S16 32) (v118 : IVec S16 32) (v121 : IVec S16 32) (v124 : IVec S16 32) (v184 : IVec S16 32) (k1_hw19 : k1_chk19 v103 v106 v109 v112 v115 v118 v121 v124 v184), ∀ a x, ((![v112, v184] : Fin 2 → IVec S16 32) a x).toNat < S752x64.size a := fun v103 v106 v109 v112 v115 v118 v121 v124 v184 k1_hw19 => k1_hw19.2.2.2.1
theorem k1_idx163_inb : ∀ (v103 : IVec S16 32) (v106 : IVec S16 32) (v109 : IVec S16 32) (v112 : IVec S16 32) (v115 : IVec S16 32) (v118 : IVec S16 32) (v121 : IVec S16 32) (v124 : IVec S16 32) (v184 : IVec S16 32) (k1_hw19 : k1_chk19 v103 v106 v109 v112 v115 v118 v121 v124 v184), ∀ a x, ((![v115, v184] : Fin 2 → IVec S16 32) a x).toNat < S752x64.size a := fun v103 v106 v109 v112 v115 v118 v121 v124 v184 k1_hw19 => k1_hw19.2.2.2.2.1
theorem k1_idx171_inb : ∀ (v103 : IVec S16 32) (v106 : IVec S16 32) (v109 : IVec S16 32) (v112 : IVec S16 32) (v115 : IVec S16 32) (v118 : IVec S16 32) (v121 : IVec S16 32) (v124 : IVec S16 32) (v184 : IVec S16 32) (k1_hw19 : k1_chk19 v103 v106 v109 v112 v115 v118 v121 v124 v184), ∀ a x, ((![v118, v184] : Fin 2 → IVec S16 32) a x).toNat < S752x64.size a := fun v103 v106 v109 v112 v115 v118 v121 v124 v184 k1_hw19 => k1_hw19.2.2.2.2.2.1
theorem k1_idx179_inb : ∀ (v103 : IVec S16 32) (v106 : IVec S16 32) (v109 : IVec S16 32) (v112 : IVec S16 32) (v115 : IVec S16 32) (v118 : IVec S16 32) (v121 : IVec S16 32) (v124 : IVec S16 32) (v184 : IVec S16 32) (k1_hw19 : k1_chk19 v103 v106 v109 v112 v115 v118 v121 v124 v184), ∀ a x, ((![v121, v184] : Fin 2 → IVec S16 32) a x).toNat < S752x64.size a := fun v103 v106 v109 v112 v115 v118 v121 v124 v184 k1_hw19 => k1_hw19.2.2.2.2.2.2.1
theorem k1_idx187_inb : ∀ (v103 : IVec S16 32) (v106 : IVec S16 32) (v109 : IVec S16 32) (v112 : IVec S16 32) (v115 : IVec S16 32) (v118 : IVec S16 32) (v121 : IVec S16 32) (v124 : IVec S16 32) (v184 : IVec S16 32) (k1_hw19 : k1_chk19 v103 v106 v109 v112 v115 v118 v121 v124 v184), ∀ a x, ((![v124, v184] : Fin 2 → IVec S16 32) a x).toNat < S752x64.size a := fun v103 v106 v109 v112 v115 v118 v121 v124 v184 k1_hw19 => k1_hw19.2.2.2.2.2.2.2

def k1_chk20 (v103 : IVec S16 32) (v106 : IVec S16 32) (v109 : IVec S16 32) (v112 : IVec S16 32) (v115 : IVec S16 32) (v118 : IVec S16 32) (v121 : IVec S16 32) (v124 : IVec S16 32) (v188 : IVec S16 32) : Prop :=
  (∀ a x, ((![v103, v188] : Fin 2 → IVec S16 32) a x).toNat < S752x64.size a) ∧
  (∀ a x, ((![v106, v188] : Fin 2 → IVec S16 32) a x).toNat < S752x64.size a) ∧
  (∀ a x, ((![v109, v188] : Fin 2 → IVec S16 32) a x).toNat < S752x64.size a) ∧
  (∀ a x, ((![v112, v188] : Fin 2 → IVec S16 32) a x).toNat < S752x64.size a) ∧
  (∀ a x, ((![v115, v188] : Fin 2 → IVec S16 32) a x).toNat < S752x64.size a) ∧
  (∀ a x, ((![v118, v188] : Fin 2 → IVec S16 32) a x).toNat < S752x64.size a) ∧
  (∀ a x, ((![v121, v188] : Fin 2 → IVec S16 32) a x).toNat < S752x64.size a) ∧
  (∀ a x, ((![v124, v188] : Fin 2 → IVec S16 32) a x).toNat < S752x64.size a)
theorem k1_idx132_inb : ∀ (v103 : IVec S16 32) (v106 : IVec S16 32) (v109 : IVec S16 32) (v112 : IVec S16 32) (v115 : IVec S16 32) (v118 : IVec S16 32) (v121 : IVec S16 32) (v124 : IVec S16 32) (v188 : IVec S16 32) (k1_hw20 : k1_chk20 v103 v106 v109 v112 v115 v118 v121 v124 v188), ∀ a x, ((![v103, v188] : Fin 2 → IVec S16 32) a x).toNat < S752x64.size a := fun v103 v106 v109 v112 v115 v118 v121 v124 v188 k1_hw20 => k1_hw20.1
theorem k1_idx140_inb : ∀ (v103 : IVec S16 32) (v106 : IVec S16 32) (v109 : IVec S16 32) (v112 : IVec S16 32) (v115 : IVec S16 32) (v118 : IVec S16 32) (v121 : IVec S16 32) (v124 : IVec S16 32) (v188 : IVec S16 32) (k1_hw20 : k1_chk20 v103 v106 v109 v112 v115 v118 v121 v124 v188), ∀ a x, ((![v106, v188] : Fin 2 → IVec S16 32) a x).toNat < S752x64.size a := fun v103 v106 v109 v112 v115 v118 v121 v124 v188 k1_hw20 => k1_hw20.2.1
theorem k1_idx148_inb : ∀ (v103 : IVec S16 32) (v106 : IVec S16 32) (v109 : IVec S16 32) (v112 : IVec S16 32) (v115 : IVec S16 32) (v118 : IVec S16 32) (v121 : IVec S16 32) (v124 : IVec S16 32) (v188 : IVec S16 32) (k1_hw20 : k1_chk20 v103 v106 v109 v112 v115 v118 v121 v124 v188), ∀ a x, ((![v109, v188] : Fin 2 → IVec S16 32) a x).toNat < S752x64.size a := fun v103 v106 v109 v112 v115 v118 v121 v124 v188 k1_hw20 => k1_hw20.2.2.1
theorem k1_idx156_inb : ∀ (v103 : IVec S16 32) (v106 : IVec S16 32) (v109 : IVec S16 32) (v112 : IVec S16 32) (v115 : IVec S16 32) (v118 : IVec S16 32) (v121 : IVec S16 32) (v124 : IVec S16 32) (v188 : IVec S16 32) (k1_hw20 : k1_chk20 v103 v106 v109 v112 v115 v118 v121 v124 v188), ∀ a x, ((![v112, v188] : Fin 2 → IVec S16 32) a x).toNat < S752x64.size a := fun v103 v106 v109 v112 v115 v118 v121 v124 v188 k1_hw20 => k1_hw20.2.2.2.1
theorem k1_idx164_inb : ∀ (v103 : IVec S16 32) (v106 : IVec S16 32) (v109 : IVec S16 32) (v112 : IVec S16 32) (v115 : IVec S16 32) (v118 : IVec S16 32) (v121 : IVec S16 32) (v124 : IVec S16 32) (v188 : IVec S16 32) (k1_hw20 : k1_chk20 v103 v106 v109 v112 v115 v118 v121 v124 v188), ∀ a x, ((![v115, v188] : Fin 2 → IVec S16 32) a x).toNat < S752x64.size a := fun v103 v106 v109 v112 v115 v118 v121 v124 v188 k1_hw20 => k1_hw20.2.2.2.2.1
theorem k1_idx172_inb : ∀ (v103 : IVec S16 32) (v106 : IVec S16 32) (v109 : IVec S16 32) (v112 : IVec S16 32) (v115 : IVec S16 32) (v118 : IVec S16 32) (v121 : IVec S16 32) (v124 : IVec S16 32) (v188 : IVec S16 32) (k1_hw20 : k1_chk20 v103 v106 v109 v112 v115 v118 v121 v124 v188), ∀ a x, ((![v118, v188] : Fin 2 → IVec S16 32) a x).toNat < S752x64.size a := fun v103 v106 v109 v112 v115 v118 v121 v124 v188 k1_hw20 => k1_hw20.2.2.2.2.2.1
theorem k1_idx180_inb : ∀ (v103 : IVec S16 32) (v106 : IVec S16 32) (v109 : IVec S16 32) (v112 : IVec S16 32) (v115 : IVec S16 32) (v118 : IVec S16 32) (v121 : IVec S16 32) (v124 : IVec S16 32) (v188 : IVec S16 32) (k1_hw20 : k1_chk20 v103 v106 v109 v112 v115 v118 v121 v124 v188), ∀ a x, ((![v121, v188] : Fin 2 → IVec S16 32) a x).toNat < S752x64.size a := fun v103 v106 v109 v112 v115 v118 v121 v124 v188 k1_hw20 => k1_hw20.2.2.2.2.2.2.1
theorem k1_idx188_inb : ∀ (v103 : IVec S16 32) (v106 : IVec S16 32) (v109 : IVec S16 32) (v112 : IVec S16 32) (v115 : IVec S16 32) (v118 : IVec S16 32) (v121 : IVec S16 32) (v124 : IVec S16 32) (v188 : IVec S16 32) (k1_hw20 : k1_chk20 v103 v106 v109 v112 v115 v118 v121 v124 v188), ∀ a x, ((![v124, v188] : Fin 2 → IVec S16 32) a x).toNat < S752x64.size a := fun v103 v106 v109 v112 v115 v118 v121 v124 v188 k1_hw20 => k1_hw20.2.2.2.2.2.2.2

def k1_chk21 (v103 : IVec S16 32) (v106 : IVec S16 32) (v109 : IVec S16 32) (v112 : IVec S16 32) (v115 : IVec S16 32) (v118 : IVec S16 32) (v121 : IVec S16 32) (v124 : IVec S16 32) (v192 : IVec S16 32) : Prop :=
  (∀ a x, ((![v103, v192] : Fin 2 → IVec S16 32) a x).toNat < S752x64.size a) ∧
  (∀ a x, ((![v106, v192] : Fin 2 → IVec S16 32) a x).toNat < S752x64.size a) ∧
  (∀ a x, ((![v109, v192] : Fin 2 → IVec S16 32) a x).toNat < S752x64.size a) ∧
  (∀ a x, ((![v112, v192] : Fin 2 → IVec S16 32) a x).toNat < S752x64.size a) ∧
  (∀ a x, ((![v115, v192] : Fin 2 → IVec S16 32) a x).toNat < S752x64.size a) ∧
  (∀ a x, ((![v118, v192] : Fin 2 → IVec S16 32) a x).toNat < S752x64.size a) ∧
  (∀ a x, ((![v121, v192] : Fin 2 → IVec S16 32) a x).toNat < S752x64.size a) ∧
  (∀ a x, ((![v124, v192] : Fin 2 → IVec S16 32) a x).toNat < S752x64.size a)
theorem k1_idx133_inb : ∀ (v103 : IVec S16 32) (v106 : IVec S16 32) (v109 : IVec S16 32) (v112 : IVec S16 32) (v115 : IVec S16 32) (v118 : IVec S16 32) (v121 : IVec S16 32) (v124 : IVec S16 32) (v192 : IVec S16 32) (k1_hw21 : k1_chk21 v103 v106 v109 v112 v115 v118 v121 v124 v192), ∀ a x, ((![v103, v192] : Fin 2 → IVec S16 32) a x).toNat < S752x64.size a := fun v103 v106 v109 v112 v115 v118 v121 v124 v192 k1_hw21 => k1_hw21.1
theorem k1_idx141_inb : ∀ (v103 : IVec S16 32) (v106 : IVec S16 32) (v109 : IVec S16 32) (v112 : IVec S16 32) (v115 : IVec S16 32) (v118 : IVec S16 32) (v121 : IVec S16 32) (v124 : IVec S16 32) (v192 : IVec S16 32) (k1_hw21 : k1_chk21 v103 v106 v109 v112 v115 v118 v121 v124 v192), ∀ a x, ((![v106, v192] : Fin 2 → IVec S16 32) a x).toNat < S752x64.size a := fun v103 v106 v109 v112 v115 v118 v121 v124 v192 k1_hw21 => k1_hw21.2.1
theorem k1_idx149_inb : ∀ (v103 : IVec S16 32) (v106 : IVec S16 32) (v109 : IVec S16 32) (v112 : IVec S16 32) (v115 : IVec S16 32) (v118 : IVec S16 32) (v121 : IVec S16 32) (v124 : IVec S16 32) (v192 : IVec S16 32) (k1_hw21 : k1_chk21 v103 v106 v109 v112 v115 v118 v121 v124 v192), ∀ a x, ((![v109, v192] : Fin 2 → IVec S16 32) a x).toNat < S752x64.size a := fun v103 v106 v109 v112 v115 v118 v121 v124 v192 k1_hw21 => k1_hw21.2.2.1
theorem k1_idx157_inb : ∀ (v103 : IVec S16 32) (v106 : IVec S16 32) (v109 : IVec S16 32) (v112 : IVec S16 32) (v115 : IVec S16 32) (v118 : IVec S16 32) (v121 : IVec S16 32) (v124 : IVec S16 32) (v192 : IVec S16 32) (k1_hw21 : k1_chk21 v103 v106 v109 v112 v115 v118 v121 v124 v192), ∀ a x, ((![v112, v192] : Fin 2 → IVec S16 32) a x).toNat < S752x64.size a := fun v103 v106 v109 v112 v115 v118 v121 v124 v192 k1_hw21 => k1_hw21.2.2.2.1
theorem k1_idx165_inb : ∀ (v103 : IVec S16 32) (v106 : IVec S16 32) (v109 : IVec S16 32) (v112 : IVec S16 32) (v115 : IVec S16 32) (v118 : IVec S16 32) (v121 : IVec S16 32) (v124 : IVec S16 32) (v192 : IVec S16 32) (k1_hw21 : k1_chk21 v103 v106 v109 v112 v115 v118 v121 v124 v192), ∀ a x, ((![v115, v192] : Fin 2 → IVec S16 32) a x).toNat < S752x64.size a := fun v103 v106 v109 v112 v115 v118 v121 v124 v192 k1_hw21 => k1_hw21.2.2.2.2.1
theorem k1_idx173_inb : ∀ (v103 : IVec S16 32) (v106 : IVec S16 32) (v109 : IVec S16 32) (v112 : IVec S16 32) (v115 : IVec S16 32) (v118 : IVec S16 32) (v121 : IVec S16 32) (v124 : IVec S16 32) (v192 : IVec S16 32) (k1_hw21 : k1_chk21 v103 v106 v109 v112 v115 v118 v121 v124 v192), ∀ a x, ((![v118, v192] : Fin 2 → IVec S16 32) a x).toNat < S752x64.size a := fun v103 v106 v109 v112 v115 v118 v121 v124 v192 k1_hw21 => k1_hw21.2.2.2.2.2.1
theorem k1_idx181_inb : ∀ (v103 : IVec S16 32) (v106 : IVec S16 32) (v109 : IVec S16 32) (v112 : IVec S16 32) (v115 : IVec S16 32) (v118 : IVec S16 32) (v121 : IVec S16 32) (v124 : IVec S16 32) (v192 : IVec S16 32) (k1_hw21 : k1_chk21 v103 v106 v109 v112 v115 v118 v121 v124 v192), ∀ a x, ((![v121, v192] : Fin 2 → IVec S16 32) a x).toNat < S752x64.size a := fun v103 v106 v109 v112 v115 v118 v121 v124 v192 k1_hw21 => k1_hw21.2.2.2.2.2.2.1
theorem k1_idx189_inb : ∀ (v103 : IVec S16 32) (v106 : IVec S16 32) (v109 : IVec S16 32) (v112 : IVec S16 32) (v115 : IVec S16 32) (v118 : IVec S16 32) (v121 : IVec S16 32) (v124 : IVec S16 32) (v192 : IVec S16 32) (k1_hw21 : k1_chk21 v103 v106 v109 v112 v115 v118 v121 v124 v192), ∀ a x, ((![v124, v192] : Fin 2 → IVec S16 32) a x).toNat < S752x64.size a := fun v103 v106 v109 v112 v115 v118 v121 v124 v192 k1_hw21 => k1_hw21.2.2.2.2.2.2.2

def k1_chk22 (v103 : IVec S16 32) (v106 : IVec S16 32) (v109 : IVec S16 32) (v112 : IVec S16 32) (v115 : IVec S16 32) (v118 : IVec S16 32) (v121 : IVec S16 32) (v124 : IVec S16 32) (v196 : IVec S16 32) : Prop :=
  (∀ a x, ((![v103, v196] : Fin 2 → IVec S16 32) a x).toNat < S752x64.size a) ∧
  (∀ a x, ((![v106, v196] : Fin 2 → IVec S16 32) a x).toNat < S752x64.size a) ∧
  (∀ a x, ((![v109, v196] : Fin 2 → IVec S16 32) a x).toNat < S752x64.size a) ∧
  (∀ a x, ((![v112, v196] : Fin 2 → IVec S16 32) a x).toNat < S752x64.size a) ∧
  (∀ a x, ((![v115, v196] : Fin 2 → IVec S16 32) a x).toNat < S752x64.size a) ∧
  (∀ a x, ((![v118, v196] : Fin 2 → IVec S16 32) a x).toNat < S752x64.size a) ∧
  (∀ a x, ((![v121, v196] : Fin 2 → IVec S16 32) a x).toNat < S752x64.size a) ∧
  (∀ a x, ((![v124, v196] : Fin 2 → IVec S16 32) a x).toNat < S752x64.size a)
theorem k1_idx134_inb : ∀ (v103 : IVec S16 32) (v106 : IVec S16 32) (v109 : IVec S16 32) (v112 : IVec S16 32) (v115 : IVec S16 32) (v118 : IVec S16 32) (v121 : IVec S16 32) (v124 : IVec S16 32) (v196 : IVec S16 32) (k1_hw22 : k1_chk22 v103 v106 v109 v112 v115 v118 v121 v124 v196), ∀ a x, ((![v103, v196] : Fin 2 → IVec S16 32) a x).toNat < S752x64.size a := fun v103 v106 v109 v112 v115 v118 v121 v124 v196 k1_hw22 => k1_hw22.1
theorem k1_idx142_inb : ∀ (v103 : IVec S16 32) (v106 : IVec S16 32) (v109 : IVec S16 32) (v112 : IVec S16 32) (v115 : IVec S16 32) (v118 : IVec S16 32) (v121 : IVec S16 32) (v124 : IVec S16 32) (v196 : IVec S16 32) (k1_hw22 : k1_chk22 v103 v106 v109 v112 v115 v118 v121 v124 v196), ∀ a x, ((![v106, v196] : Fin 2 → IVec S16 32) a x).toNat < S752x64.size a := fun v103 v106 v109 v112 v115 v118 v121 v124 v196 k1_hw22 => k1_hw22.2.1
theorem k1_idx150_inb : ∀ (v103 : IVec S16 32) (v106 : IVec S16 32) (v109 : IVec S16 32) (v112 : IVec S16 32) (v115 : IVec S16 32) (v118 : IVec S16 32) (v121 : IVec S16 32) (v124 : IVec S16 32) (v196 : IVec S16 32) (k1_hw22 : k1_chk22 v103 v106 v109 v112 v115 v118 v121 v124 v196), ∀ a x, ((![v109, v196] : Fin 2 → IVec S16 32) a x).toNat < S752x64.size a := fun v103 v106 v109 v112 v115 v118 v121 v124 v196 k1_hw22 => k1_hw22.2.2.1
theorem k1_idx158_inb : ∀ (v103 : IVec S16 32) (v106 : IVec S16 32) (v109 : IVec S16 32) (v112 : IVec S16 32) (v115 : IVec S16 32) (v118 : IVec S16 32) (v121 : IVec S16 32) (v124 : IVec S16 32) (v196 : IVec S16 32) (k1_hw22 : k1_chk22 v103 v106 v109 v112 v115 v118 v121 v124 v196), ∀ a x, ((![v112, v196] : Fin 2 → IVec S16 32) a x).toNat < S752x64.size a := fun v103 v106 v109 v112 v115 v118 v121 v124 v196 k1_hw22 => k1_hw22.2.2.2.1
theorem k1_idx166_inb : ∀ (v103 : IVec S16 32) (v106 : IVec S16 32) (v109 : IVec S16 32) (v112 : IVec S16 32) (v115 : IVec S16 32) (v118 : IVec S16 32) (v121 : IVec S16 32) (v124 : IVec S16 32) (v196 : IVec S16 32) (k1_hw22 : k1_chk22 v103 v106 v109 v112 v115 v118 v121 v124 v196), ∀ a x, ((![v115, v196] : Fin 2 → IVec S16 32) a x).toNat < S752x64.size a := fun v103 v106 v109 v112 v115 v118 v121 v124 v196 k1_hw22 => k1_hw22.2.2.2.2.1
theorem k1_idx174_inb : ∀ (v103 : IVec S16 32) (v106 : IVec S16 32) (v109 : IVec S16 32) (v112 : IVec S16 32) (v115 : IVec S16 32) (v118 : IVec S16 32) (v121 : IVec S16 32) (v124 : IVec S16 32) (v196 : IVec S16 32) (k1_hw22 : k1_chk22 v103 v106 v109 v112 v115 v118 v121 v124 v196), ∀ a x, ((![v118, v196] : Fin 2 → IVec S16 32) a x).toNat < S752x64.size a := fun v103 v106 v109 v112 v115 v118 v121 v124 v196 k1_hw22 => k1_hw22.2.2.2.2.2.1
theorem k1_idx182_inb : ∀ (v103 : IVec S16 32) (v106 : IVec S16 32) (v109 : IVec S16 32) (v112 : IVec S16 32) (v115 : IVec S16 32) (v118 : IVec S16 32) (v121 : IVec S16 32) (v124 : IVec S16 32) (v196 : IVec S16 32) (k1_hw22 : k1_chk22 v103 v106 v109 v112 v115 v118 v121 v124 v196), ∀ a x, ((![v121, v196] : Fin 2 → IVec S16 32) a x).toNat < S752x64.size a := fun v103 v106 v109 v112 v115 v118 v121 v124 v196 k1_hw22 => k1_hw22.2.2.2.2.2.2.1
theorem k1_idx190_inb : ∀ (v103 : IVec S16 32) (v106 : IVec S16 32) (v109 : IVec S16 32) (v112 : IVec S16 32) (v115 : IVec S16 32) (v118 : IVec S16 32) (v121 : IVec S16 32) (v124 : IVec S16 32) (v196 : IVec S16 32) (k1_hw22 : k1_chk22 v103 v106 v109 v112 v115 v118 v121 v124 v196), ∀ a x, ((![v124, v196] : Fin 2 → IVec S16 32) a x).toNat < S752x64.size a := fun v103 v106 v109 v112 v115 v118 v121 v124 v196 k1_hw22 => k1_hw22.2.2.2.2.2.2.2

def k1_chk23 (v103 : IVec S16 32) (v106 : IVec S16 32) (v109 : IVec S16 32) (v112 : IVec S16 32) (v115 : IVec S16 32) (v118 : IVec S16 32) (v121 : IVec S16 32) (v124 : IVec S16 32) (v200 : IVec S16 32) : Prop :=
  (∀ a x, ((![v103, v200] : Fin 2 → IVec S16 32) a x).toNat < S752x64.size a) ∧
  (∀ a x, ((![v106, v200] : Fin 2 → IVec S16 32) a x).toNat < S752x64.size a) ∧
  (∀ a x, ((![v109, v200] : Fin 2 → IVec S16 32) a x).toNat < S752x64.size a) ∧
  (∀ a x, ((![v112, v200] : Fin 2 → IVec S16 32) a x).toNat < S752x64.size a) ∧
  (∀ a x, ((![v115, v200] : Fin 2 → IVec S16 32) a x).toNat < S752x64.size a) ∧
  (∀ a x, ((![v118, v200] : Fin 2 → IVec S16 32) a x).toNat < S752x64.size a) ∧
  (∀ a x, ((![v121, v200] : Fin 2 → IVec S16 32) a x).toNat < S752x64.size a) ∧
  (∀ a x, ((![v124, v200] : Fin 2 → IVec S16 32) a x).toNat < S752x64.size a)
theorem k1_idx135_inb : ∀ (v103 : IVec S16 32) (v106 : IVec S16 32) (v109 : IVec S16 32) (v112 : IVec S16 32) (v115 : IVec S16 32) (v118 : IVec S16 32) (v121 : IVec S16 32) (v124 : IVec S16 32) (v200 : IVec S16 32) (k1_hw23 : k1_chk23 v103 v106 v109 v112 v115 v118 v121 v124 v200), ∀ a x, ((![v103, v200] : Fin 2 → IVec S16 32) a x).toNat < S752x64.size a := fun v103 v106 v109 v112 v115 v118 v121 v124 v200 k1_hw23 => k1_hw23.1
theorem k1_idx143_inb : ∀ (v103 : IVec S16 32) (v106 : IVec S16 32) (v109 : IVec S16 32) (v112 : IVec S16 32) (v115 : IVec S16 32) (v118 : IVec S16 32) (v121 : IVec S16 32) (v124 : IVec S16 32) (v200 : IVec S16 32) (k1_hw23 : k1_chk23 v103 v106 v109 v112 v115 v118 v121 v124 v200), ∀ a x, ((![v106, v200] : Fin 2 → IVec S16 32) a x).toNat < S752x64.size a := fun v103 v106 v109 v112 v115 v118 v121 v124 v200 k1_hw23 => k1_hw23.2.1
theorem k1_idx151_inb : ∀ (v103 : IVec S16 32) (v106 : IVec S16 32) (v109 : IVec S16 32) (v112 : IVec S16 32) (v115 : IVec S16 32) (v118 : IVec S16 32) (v121 : IVec S16 32) (v124 : IVec S16 32) (v200 : IVec S16 32) (k1_hw23 : k1_chk23 v103 v106 v109 v112 v115 v118 v121 v124 v200), ∀ a x, ((![v109, v200] : Fin 2 → IVec S16 32) a x).toNat < S752x64.size a := fun v103 v106 v109 v112 v115 v118 v121 v124 v200 k1_hw23 => k1_hw23.2.2.1
theorem k1_idx159_inb : ∀ (v103 : IVec S16 32) (v106 : IVec S16 32) (v109 : IVec S16 32) (v112 : IVec S16 32) (v115 : IVec S16 32) (v118 : IVec S16 32) (v121 : IVec S16 32) (v124 : IVec S16 32) (v200 : IVec S16 32) (k1_hw23 : k1_chk23 v103 v106 v109 v112 v115 v118 v121 v124 v200), ∀ a x, ((![v112, v200] : Fin 2 → IVec S16 32) a x).toNat < S752x64.size a := fun v103 v106 v109 v112 v115 v118 v121 v124 v200 k1_hw23 => k1_hw23.2.2.2.1
theorem k1_idx167_inb : ∀ (v103 : IVec S16 32) (v106 : IVec S16 32) (v109 : IVec S16 32) (v112 : IVec S16 32) (v115 : IVec S16 32) (v118 : IVec S16 32) (v121 : IVec S16 32) (v124 : IVec S16 32) (v200 : IVec S16 32) (k1_hw23 : k1_chk23 v103 v106 v109 v112 v115 v118 v121 v124 v200), ∀ a x, ((![v115, v200] : Fin 2 → IVec S16 32) a x).toNat < S752x64.size a := fun v103 v106 v109 v112 v115 v118 v121 v124 v200 k1_hw23 => k1_hw23.2.2.2.2.1
theorem k1_idx175_inb : ∀ (v103 : IVec S16 32) (v106 : IVec S16 32) (v109 : IVec S16 32) (v112 : IVec S16 32) (v115 : IVec S16 32) (v118 : IVec S16 32) (v121 : IVec S16 32) (v124 : IVec S16 32) (v200 : IVec S16 32) (k1_hw23 : k1_chk23 v103 v106 v109 v112 v115 v118 v121 v124 v200), ∀ a x, ((![v118, v200] : Fin 2 → IVec S16 32) a x).toNat < S752x64.size a := fun v103 v106 v109 v112 v115 v118 v121 v124 v200 k1_hw23 => k1_hw23.2.2.2.2.2.1
theorem k1_idx183_inb : ∀ (v103 : IVec S16 32) (v106 : IVec S16 32) (v109 : IVec S16 32) (v112 : IVec S16 32) (v115 : IVec S16 32) (v118 : IVec S16 32) (v121 : IVec S16 32) (v124 : IVec S16 32) (v200 : IVec S16 32) (k1_hw23 : k1_chk23 v103 v106 v109 v112 v115 v118 v121 v124 v200), ∀ a x, ((![v121, v200] : Fin 2 → IVec S16 32) a x).toNat < S752x64.size a := fun v103 v106 v109 v112 v115 v118 v121 v124 v200 k1_hw23 => k1_hw23.2.2.2.2.2.2.1
theorem k1_idx191_inb : ∀ (v103 : IVec S16 32) (v106 : IVec S16 32) (v109 : IVec S16 32) (v112 : IVec S16 32) (v115 : IVec S16 32) (v118 : IVec S16 32) (v121 : IVec S16 32) (v124 : IVec S16 32) (v200 : IVec S16 32) (k1_hw23 : k1_chk23 v103 v106 v109 v112 v115 v118 v121 v124 v200), ∀ a x, ((![v124, v200] : Fin 2 → IVec S16 32) a x).toNat < S752x64.size a := fun v103 v106 v109 v112 v115 v118 v121 v124 v200 k1_hw23 => k1_hw23.2.2.2.2.2.2.2

def k1_chk24 (v103 : IVec S16 32) (v106 : IVec S16 32) (v109 : IVec S16 32) (v112 : IVec S16 32) (v115 : IVec S16 32) (v118 : IVec S16 32) (v121 : IVec S16 32) (v124 : IVec S16 32) (v204 : IVec S16 32) : Prop :=
  (∀ a x, ((![v103, v204] : Fin 2 → IVec S16 32) a x).toNat < S752x64.size a) ∧
  (∀ a x, ((![v106, v204] : Fin 2 → IVec S16 32) a x).toNat < S752x64.size a) ∧
  (∀ a x, ((![v109, v204] : Fin 2 → IVec S16 32) a x).toNat < S752x64.size a) ∧
  (∀ a x, ((![v112, v204] : Fin 2 → IVec S16 32) a x).toNat < S752x64.size a) ∧
  (∀ a x, ((![v115, v204] : Fin 2 → IVec S16 32) a x).toNat < S752x64.size a) ∧
  (∀ a x, ((![v118, v204] : Fin 2 → IVec S16 32) a x).toNat < S752x64.size a) ∧
  (∀ a x, ((![v121, v204] : Fin 2 → IVec S16 32) a x).toNat < S752x64.size a) ∧
  (∀ a x, ((![v124, v204] : Fin 2 → IVec S16 32) a x).toNat < S752x64.size a)
theorem k1_idx136_inb : ∀ (v103 : IVec S16 32) (v106 : IVec S16 32) (v109 : IVec S16 32) (v112 : IVec S16 32) (v115 : IVec S16 32) (v118 : IVec S16 32) (v121 : IVec S16 32) (v124 : IVec S16 32) (v204 : IVec S16 32) (k1_hw24 : k1_chk24 v103 v106 v109 v112 v115 v118 v121 v124 v204), ∀ a x, ((![v103, v204] : Fin 2 → IVec S16 32) a x).toNat < S752x64.size a := fun v103 v106 v109 v112 v115 v118 v121 v124 v204 k1_hw24 => k1_hw24.1
theorem k1_idx144_inb : ∀ (v103 : IVec S16 32) (v106 : IVec S16 32) (v109 : IVec S16 32) (v112 : IVec S16 32) (v115 : IVec S16 32) (v118 : IVec S16 32) (v121 : IVec S16 32) (v124 : IVec S16 32) (v204 : IVec S16 32) (k1_hw24 : k1_chk24 v103 v106 v109 v112 v115 v118 v121 v124 v204), ∀ a x, ((![v106, v204] : Fin 2 → IVec S16 32) a x).toNat < S752x64.size a := fun v103 v106 v109 v112 v115 v118 v121 v124 v204 k1_hw24 => k1_hw24.2.1
theorem k1_idx152_inb : ∀ (v103 : IVec S16 32) (v106 : IVec S16 32) (v109 : IVec S16 32) (v112 : IVec S16 32) (v115 : IVec S16 32) (v118 : IVec S16 32) (v121 : IVec S16 32) (v124 : IVec S16 32) (v204 : IVec S16 32) (k1_hw24 : k1_chk24 v103 v106 v109 v112 v115 v118 v121 v124 v204), ∀ a x, ((![v109, v204] : Fin 2 → IVec S16 32) a x).toNat < S752x64.size a := fun v103 v106 v109 v112 v115 v118 v121 v124 v204 k1_hw24 => k1_hw24.2.2.1
theorem k1_idx160_inb : ∀ (v103 : IVec S16 32) (v106 : IVec S16 32) (v109 : IVec S16 32) (v112 : IVec S16 32) (v115 : IVec S16 32) (v118 : IVec S16 32) (v121 : IVec S16 32) (v124 : IVec S16 32) (v204 : IVec S16 32) (k1_hw24 : k1_chk24 v103 v106 v109 v112 v115 v118 v121 v124 v204), ∀ a x, ((![v112, v204] : Fin 2 → IVec S16 32) a x).toNat < S752x64.size a := fun v103 v106 v109 v112 v115 v118 v121 v124 v204 k1_hw24 => k1_hw24.2.2.2.1
theorem k1_idx168_inb : ∀ (v103 : IVec S16 32) (v106 : IVec S16 32) (v109 : IVec S16 32) (v112 : IVec S16 32) (v115 : IVec S16 32) (v118 : IVec S16 32) (v121 : IVec S16 32) (v124 : IVec S16 32) (v204 : IVec S16 32) (k1_hw24 : k1_chk24 v103 v106 v109 v112 v115 v118 v121 v124 v204), ∀ a x, ((![v115, v204] : Fin 2 → IVec S16 32) a x).toNat < S752x64.size a := fun v103 v106 v109 v112 v115 v118 v121 v124 v204 k1_hw24 => k1_hw24.2.2.2.2.1
theorem k1_idx176_inb : ∀ (v103 : IVec S16 32) (v106 : IVec S16 32) (v109 : IVec S16 32) (v112 : IVec S16 32) (v115 : IVec S16 32) (v118 : IVec S16 32) (v121 : IVec S16 32) (v124 : IVec S16 32) (v204 : IVec S16 32) (k1_hw24 : k1_chk24 v103 v106 v109 v112 v115 v118 v121 v124 v204), ∀ a x, ((![v118, v204] : Fin 2 → IVec S16 32) a x).toNat < S752x64.size a := fun v103 v106 v109 v112 v115 v118 v121 v124 v204 k1_hw24 => k1_hw24.2.2.2.2.2.1
theorem k1_idx184_inb : ∀ (v103 : IVec S16 32) (v106 : IVec S16 32) (v109 : IVec S16 32) (v112 : IVec S16 32) (v115 : IVec S16 32) (v118 : IVec S16 32) (v121 : IVec S16 32) (v124 : IVec S16 32) (v204 : IVec S16 32) (k1_hw24 : k1_chk24 v103 v106 v109 v112 v115 v118 v121 v124 v204), ∀ a x, ((![v121, v204] : Fin 2 → IVec S16 32) a x).toNat < S752x64.size a := fun v103 v106 v109 v112 v115 v118 v121 v124 v204 k1_hw24 => k1_hw24.2.2.2.2.2.2.1
theorem k1_idx192_inb : ∀ (v103 : IVec S16 32) (v106 : IVec S16 32) (v109 : IVec S16 32) (v112 : IVec S16 32) (v115 : IVec S16 32) (v118 : IVec S16 32) (v121 : IVec S16 32) (v124 : IVec S16 32) (v204 : IVec S16 32) (k1_hw24 : k1_chk24 v103 v106 v109 v112 v115 v118 v121 v124 v204), ∀ a x, ((![v124, v204] : Fin 2 → IVec S16 32) a x).toNat < S752x64.size a := fun v103 v106 v109 v112 v115 v118 v121 v124 v204 k1_hw24 => k1_hw24.2.2.2.2.2.2.2
def k1_off54 (i : grid1.Coords) (k1_t3 : Fin k1_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c752_i32 : BitVec 32 := 752#32
  let v31 : BitVec 32 := Scalar.muli v28 c752_i32
  let c2248_i32 : BitVec 32 := 2248#32
  let v32 : BitVec 32 := Scalar.minsi v31 c2248_i32
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c8_i32_10 : BitVec 32 := 8#32
  let c0_i32_13 : BitVec 32 := 0#32
  let v39 : BitVec 1 := Scalar.cmpi .sgt c8_i32_10 c0_i32_13
  let v40 : BitVec 32 := Scalar.extui v39
  let c0_i32_14 : BitVec 32 := 0#32
  let v41 : BitVec 1 := Scalar.cmpi .slt c8_i32_10 c0_i32_14
  let v42 : BitVec 32 := Scalar.extui v41
  let v43 : BitVec 32 := Scalar.subi v40 v42
  let v44 : BitVec 1 := Scalar.cmpi .ne v38 v43
  let v45 : BitVec 32 := Scalar.remsi v32 c8_i32_10
  let c0_i32_15 : BitVec 32 := 0#32
  let v46 : BitVec 1 := Scalar.cmpi .ne v45 c0_i32_15
  let v47 : BitVec 1 := Scalar.andi v44 v46
  let v33 : BitVec 32 := Scalar.divsi v32 c8_i32_10
  let c1_i32_16 : BitVec 32 := 1#32
  let v48 : BitVec 32 := Scalar.subi v33 c1_i32_16
  let v49 : BitVec 32 := Scalar.select v47 v48 v33
  let c2_i32_43 : BitVec 32 := 2#32
  let c1_i32_36 : BitVec 32 := 1#32
  let c1_i32_37 : BitVec 32 := 1#32
  let arg11 : BitVec 32 := Scf.iv c1_i32_36 c1_i32_37 k1_t3
  let v93 : BitVec 32 := Scalar.muli c2_i32_43 arg11
  let v126 : BitVec 32 := Scalar.addi v49 v93
  let c128_i32_68 : BitVec 32 := 128#32
  let v127 : BitVec 32 := Scalar.muli v126 c128_i32_68
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c16_i32 : BitVec 32 := 16#32
  let v30 : BitVec 32 := Scalar.muli v11 c16_i32
  let v128 : BitVec 32 := Scalar.addi v127 v30
  let c1024_i32_69 : BitVec 32 := 1024#32
  let v129 : BitVec 32 := Scalar.muli v128 c1024_i32_69
  ![v129.toNat]
def k1_off55 (i : grid1.Coords) (k1_t3 : Fin k1_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c752_i32 : BitVec 32 := 752#32
  let v31 : BitVec 32 := Scalar.muli v28 c752_i32
  let c2248_i32 : BitVec 32 := 2248#32
  let v32 : BitVec 32 := Scalar.minsi v31 c2248_i32
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c8_i32_10 : BitVec 32 := 8#32
  let c0_i32_13 : BitVec 32 := 0#32
  let v39 : BitVec 1 := Scalar.cmpi .sgt c8_i32_10 c0_i32_13
  let v40 : BitVec 32 := Scalar.extui v39
  let c0_i32_14 : BitVec 32 := 0#32
  let v41 : BitVec 1 := Scalar.cmpi .slt c8_i32_10 c0_i32_14
  let v42 : BitVec 32 := Scalar.extui v41
  let v43 : BitVec 32 := Scalar.subi v40 v42
  let v44 : BitVec 1 := Scalar.cmpi .ne v38 v43
  let v45 : BitVec 32 := Scalar.remsi v32 c8_i32_10
  let c0_i32_15 : BitVec 32 := 0#32
  let v46 : BitVec 1 := Scalar.cmpi .ne v45 c0_i32_15
  let v47 : BitVec 1 := Scalar.andi v44 v46
  let v33 : BitVec 32 := Scalar.divsi v32 c8_i32_10
  let c1_i32_16 : BitVec 32 := 1#32
  let v48 : BitVec 32 := Scalar.subi v33 c1_i32_16
  let v49 : BitVec 32 := Scalar.select v47 v48 v33
  let c2_i32_43 : BitVec 32 := 2#32
  let c1_i32_36 : BitVec 32 := 1#32
  let c1_i32_37 : BitVec 32 := 1#32
  let arg11 : BitVec 32 := Scf.iv c1_i32_36 c1_i32_37 k1_t3
  let v93 : BitVec 32 := Scalar.muli c2_i32_43 arg11
  let c1_i32_70 : BitVec 32 := 1#32
  let v132 : BitVec 32 := Scalar.subi v93 c1_i32_70
  let v133 : BitVec 32 := Scalar.addi v49 v132
  let c128_i32_71 : BitVec 32 := 128#32
  let v134 : BitVec 32 := Scalar.muli v133 c128_i32_71
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c16_i32 : BitVec 32 := 16#32
  let v30 : BitVec 32 := Scalar.muli v11 c16_i32
  let v135 : BitVec 32 := Scalar.addi v134 v30
  let c1024_i32_72 : BitVec 32 := 1024#32
  let v136 : BitVec 32 := Scalar.muli v135 c1024_i32_72
  ![v136.toNat]
@[reducible] def k1_t5_loop : Scf.Loop 32 :=
  let c0_i32_91 : BitVec 32 := 0#32
  let c16_i32_92 : BitVec 32 := 16#32
  let v164 : BitVec 32 := Scalar.addi c0_i32_91 c16_i32_92
  let c1_i32_93 : BitVec 32 := 1#32
  ⟨c0_i32_91, v164, c1_i32_93⟩
def k1_off56 (k1_t5 : Fin k1_t5_loop.trips) (c0_i32_100 : BitVec 32) : Fin 1 → Nat :=
  let c0_i32_91 : BitVec 32 := 0#32
  let c1_i32_93 : BitVec 32 := 1#32
  let arg12 : BitVec 32 := Scf.iv c0_i32_91 c1_i32_93 k1_t5
  let c128_i32_99 : BitVec 32 := 128#32
  let v173 : BitVec 32 := Scalar.muli arg12 c128_i32_99
  let v174 : BitVec 32 := Scalar.addi v173 c0_i32_100
  let v175 : Index := Scalar.indexCast v174
  ![v175.toNat]
def k1_off57 (k1_t5 : Fin k1_t5_loop.trips) : Fin 1 → Nat :=
  let c0_i32_91 : BitVec 32 := 0#32
  let c1_i32_93 : BitVec 32 := 1#32
  let arg12 : BitVec 32 := Scf.iv c0_i32_91 c1_i32_93 k1_t5
  let c1024_i32_98 : BitVec 32 := 1024#32
  let v172 : BitVec 32 := Scalar.muli arg12 c1024_i32_98
  let c0_i32_109 : BitVec 32 := 0#32
  let v206 : BitVec 32 := Scalar.addi v172 c0_i32_109
  let c0_i32_110 : BitVec 32 := 0#32
  let v207 : BitVec 32 := Scalar.addi v206 c0_i32_110
  let v208 : Index := Scalar.indexCast v207
  ![v208.toNat]
def k1_off58 (k1_t5 : Fin k1_t5_loop.trips) : Fin 1 → Nat :=
  let c0_i32_91 : BitVec 32 := 0#32
  let c1_i32_93 : BitVec 32 := 1#32
  let arg12 : BitVec 32 := Scf.iv c0_i32_91 c1_i32_93 k1_t5
  let c1024_i32_98 : BitVec 32 := 1024#32
  let v172 : BitVec 32 := Scalar.muli arg12 c1024_i32_98
  let c0_i32_111 : BitVec 32 := 0#32
  let v211 : BitVec 32 := Scalar.addi v172 c0_i32_111
  let c16_i32_112 : BitVec 32 := 16#32
  let v212 : BitVec 32 := Scalar.addi v211 c16_i32_112
  let v213 : Index := Scalar.indexCast v212
  ![v213.toNat]
def k1_off59 (k1_t5 : Fin k1_t5_loop.trips) : Fin 1 → Nat :=
  let c0_i32_91 : BitVec 32 := 0#32
  let c1_i32_93 : BitVec 32 := 1#32
  let arg12 : BitVec 32 := Scf.iv c0_i32_91 c1_i32_93 k1_t5
  let c1024_i32_98 : BitVec 32 := 1024#32
  let v172 : BitVec 32 := Scalar.muli arg12 c1024_i32_98
  let c0_i32_113 : BitVec 32 := 0#32
  let v216 : BitVec 32 := Scalar.addi v172 c0_i32_113
  let c32_i32_114 : BitVec 32 := 32#32
  let v217 : BitVec 32 := Scalar.addi v216 c32_i32_114
  let v218 : Index := Scalar.indexCast v217
  ![v218.toNat]
def k1_off60 (k1_t5 : Fin k1_t5_loop.trips) : Fin 1 → Nat :=
  let c0_i32_91 : BitVec 32 := 0#32
  let c1_i32_93 : BitVec 32 := 1#32
  let arg12 : BitVec 32 := Scf.iv c0_i32_91 c1_i32_93 k1_t5
  let c1024_i32_98 : BitVec 32 := 1024#32
  let v172 : BitVec 32 := Scalar.muli arg12 c1024_i32_98
  let c0_i32_115 : BitVec 32 := 0#32
  let v221 : BitVec 32 := Scalar.addi v172 c0_i32_115
  let c48_i32_116 : BitVec 32 := 48#32
  let v222 : BitVec 32 := Scalar.addi v221 c48_i32_116
  let v223 : Index := Scalar.indexCast v222
  ![v223.toNat]
def k1_off61 (k1_t5 : Fin k1_t5_loop.trips) : Fin 1 → Nat :=
  let c0_i32_91 : BitVec 32 := 0#32
  let c1_i32_93 : BitVec 32 := 1#32
  let arg12 : BitVec 32 := Scf.iv c0_i32_91 c1_i32_93 k1_t5
  let c1024_i32_98 : BitVec 32 := 1024#32
  let v172 : BitVec 32 := Scalar.muli arg12 c1024_i32_98
  let c0_i32_117 : BitVec 32 := 0#32
  let v226 : BitVec 32 := Scalar.addi v172 c0_i32_117
  let c64_i32_118 : BitVec 32 := 64#32
  let v227 : BitVec 32 := Scalar.addi v226 c64_i32_118
  let v228 : Index := Scalar.indexCast v227
  ![v228.toNat]
def k1_off62 (k1_t5 : Fin k1_t5_loop.trips) : Fin 1 → Nat :=
  let c0_i32_91 : BitVec 32 := 0#32
  let c1_i32_93 : BitVec 32 := 1#32
  let arg12 : BitVec 32 := Scf.iv c0_i32_91 c1_i32_93 k1_t5
  let c1024_i32_98 : BitVec 32 := 1024#32
  let v172 : BitVec 32 := Scalar.muli arg12 c1024_i32_98
  let c0_i32_119 : BitVec 32 := 0#32
  let v231 : BitVec 32 := Scalar.addi v172 c0_i32_119
  let c80_i32_120 : BitVec 32 := 80#32
  let v232 : BitVec 32 := Scalar.addi v231 c80_i32_120
  let v233 : Index := Scalar.indexCast v232
  ![v233.toNat]
def k1_off63 (k1_t5 : Fin k1_t5_loop.trips) : Fin 1 → Nat :=
  let c0_i32_91 : BitVec 32 := 0#32
  let c1_i32_93 : BitVec 32 := 1#32
  let arg12 : BitVec 32 := Scf.iv c0_i32_91 c1_i32_93 k1_t5
  let c1024_i32_98 : BitVec 32 := 1024#32
  let v172 : BitVec 32 := Scalar.muli arg12 c1024_i32_98
  let c0_i32_121 : BitVec 32 := 0#32
  let v236 : BitVec 32 := Scalar.addi v172 c0_i32_121
  let c96_i32_122 : BitVec 32 := 96#32
  let v237 : BitVec 32 := Scalar.addi v236 c96_i32_122
  let v238 : Index := Scalar.indexCast v237
  ![v238.toNat]
def k1_off64 (k1_t5 : Fin k1_t5_loop.trips) : Fin 1 → Nat :=
  let c0_i32_91 : BitVec 32 := 0#32
  let c1_i32_93 : BitVec 32 := 1#32
  let arg12 : BitVec 32 := Scf.iv c0_i32_91 c1_i32_93 k1_t5
  let c1024_i32_98 : BitVec 32 := 1024#32
  let v172 : BitVec 32 := Scalar.muli arg12 c1024_i32_98
  let c0_i32_123 : BitVec 32 := 0#32
  let v241 : BitVec 32 := Scalar.addi v172 c0_i32_123
  let c112_i32_124 : BitVec 32 := 112#32
  let v242 : BitVec 32 := Scalar.addi v241 c112_i32_124
  let v243 : Index := Scalar.indexCast v242
  ![v243.toNat]
def k1_off65 (k1_t5 : Fin k1_t5_loop.trips) (c0_i32_126 : BitVec 32) : Fin 1 → Nat :=
  let c0_i32_91 : BitVec 32 := 0#32
  let c1_i32_93 : BitVec 32 := 1#32
  let arg12 : BitVec 32 := Scf.iv c0_i32_91 c1_i32_93 k1_t5
  let c1024_i32_98 : BitVec 32 := 1024#32
  let v172 : BitVec 32 := Scalar.muli arg12 c1024_i32_98
  let c128_i32_125 : BitVec 32 := 128#32
  let v246 : BitVec 32 := Scalar.addi v172 c128_i32_125
  let v247 : BitVec 32 := Scalar.addi v246 c0_i32_126
  let v248 : Index := Scalar.indexCast v247
  ![v248.toNat]
def k1_off66 (k1_t5 : Fin k1_t5_loop.trips) (c0_i32_141 : BitVec 32) : Fin 1 → Nat :=
  let c0_i32_91 : BitVec 32 := 0#32
  let c1_i32_93 : BitVec 32 := 1#32
  let arg12 : BitVec 32 := Scf.iv c0_i32_91 c1_i32_93 k1_t5
  let c1024_i32_98 : BitVec 32 := 1024#32
  let v172 : BitVec 32 := Scalar.muli arg12 c1024_i32_98
  let c256_i32 : BitVec 32 := 256#32
  let v286 : BitVec 32 := Scalar.addi v172 c256_i32
  let v287 : BitVec 32 := Scalar.addi v286 c0_i32_141
  let v288 : Index := Scalar.indexCast v287
  ![v288.toNat]
def k1_off67 (k1_t5 : Fin k1_t5_loop.trips) (c0_i32_156 : BitVec 32) : Fin 1 → Nat :=
  let c0_i32_91 : BitVec 32 := 0#32
  let c1_i32_93 : BitVec 32 := 1#32
  let arg12 : BitVec 32 := Scf.iv c0_i32_91 c1_i32_93 k1_t5
  let c1024_i32_98 : BitVec 32 := 1024#32
  let v172 : BitVec 32 := Scalar.muli arg12 c1024_i32_98
  let c384_i32 : BitVec 32 := 384#32
  let v326 : BitVec 32 := Scalar.addi v172 c384_i32
  let v327 : BitVec 32 := Scalar.addi v326 c0_i32_156
  let v328 : Index := Scalar.indexCast v327
  ![v328.toNat]
def k1_off68 (k1_t5 : Fin k1_t5_loop.trips) (c0_i32_171 : BitVec 32) : Fin 1 → Nat :=
  let c0_i32_91 : BitVec 32 := 0#32
  let c1_i32_93 : BitVec 32 := 1#32
  let arg12 : BitVec 32 := Scf.iv c0_i32_91 c1_i32_93 k1_t5
  let c1024_i32_98 : BitVec 32 := 1024#32
  let v172 : BitVec 32 := Scalar.muli arg12 c1024_i32_98
  let c512_i32 : BitVec 32 := 512#32
  let v366 : BitVec 32 := Scalar.addi v172 c512_i32
  let v367 : BitVec 32 := Scalar.addi v366 c0_i32_171
  let v368 : Index := Scalar.indexCast v367
  ![v368.toNat]
def k1_off69 (k1_t5 : Fin k1_t5_loop.trips) (c0_i32_186 : BitVec 32) : Fin 1 → Nat :=
  let c0_i32_91 : BitVec 32 := 0#32
  let c1_i32_93 : BitVec 32 := 1#32
  let arg12 : BitVec 32 := Scf.iv c0_i32_91 c1_i32_93 k1_t5
  let c1024_i32_98 : BitVec 32 := 1024#32
  let v172 : BitVec 32 := Scalar.muli arg12 c1024_i32_98
  let c640_i32 : BitVec 32 := 640#32
  let v406 : BitVec 32 := Scalar.addi v172 c640_i32
  let v407 : BitVec 32 := Scalar.addi v406 c0_i32_186
  let v408 : Index := Scalar.indexCast v407
  ![v408.toNat]
def k1_off70 (k1_t5 : Fin k1_t5_loop.trips) (c0_i32_201 : BitVec 32) : Fin 1 → Nat :=
  let c0_i32_91 : BitVec 32 := 0#32
  let c1_i32_93 : BitVec 32 := 1#32
  let arg12 : BitVec 32 := Scf.iv c0_i32_91 c1_i32_93 k1_t5
  let c1024_i32_98 : BitVec 32 := 1024#32
  let v172 : BitVec 32 := Scalar.muli arg12 c1024_i32_98
  let c768_i32 : BitVec 32 := 768#32
  let v446 : BitVec 32 := Scalar.addi v172 c768_i32
  let v447 : BitVec 32 := Scalar.addi v446 c0_i32_201
  let v448 : Index := Scalar.indexCast v447
  ![v448.toNat]

def k1_chk25 (v142 : IVec S16 32) (v145 : IVec S16 32) (v148 : IVec S16 32) (v151 : IVec S16 32) (v154 : IVec S16 32) (v157 : IVec S16 32) (v160 : IVec S16 32) (v163 : IVec S16 32) (v176 : IVec S16 32) : Prop :=
  (∀ a x, ((![v142, v176] : Fin 2 → IVec S16 32) a x).toNat < S752x64.size a) ∧
  (∀ a x, ((![v145, v176] : Fin 2 → IVec S16 32) a x).toNat < S752x64.size a) ∧
  (∀ a x, ((![v148, v176] : Fin 2 → IVec S16 32) a x).toNat < S752x64.size a) ∧
  (∀ a x, ((![v151, v176] : Fin 2 → IVec S16 32) a x).toNat < S752x64.size a) ∧
  (∀ a x, ((![v154, v176] : Fin 2 → IVec S16 32) a x).toNat < S752x64.size a) ∧
  (∀ a x, ((![v157, v176] : Fin 2 → IVec S16 32) a x).toNat < S752x64.size a) ∧
  (∀ a x, ((![v160, v176] : Fin 2 → IVec S16 32) a x).toNat < S752x64.size a) ∧
  (∀ a x, ((![v163, v176] : Fin 2 → IVec S16 32) a x).toNat < S752x64.size a)
theorem k1_idx193_inb : ∀ (v142 : IVec S16 32) (v145 : IVec S16 32) (v148 : IVec S16 32) (v151 : IVec S16 32) (v154 : IVec S16 32) (v157 : IVec S16 32) (v160 : IVec S16 32) (v163 : IVec S16 32) (v176 : IVec S16 32) (k1_hw25 : k1_chk25 v142 v145 v148 v151 v154 v157 v160 v163 v176), ∀ a x, ((![v142, v176] : Fin 2 → IVec S16 32) a x).toNat < S752x64.size a := fun v142 v145 v148 v151 v154 v157 v160 v163 v176 k1_hw25 => k1_hw25.1
theorem k1_idx201_inb : ∀ (v142 : IVec S16 32) (v145 : IVec S16 32) (v148 : IVec S16 32) (v151 : IVec S16 32) (v154 : IVec S16 32) (v157 : IVec S16 32) (v160 : IVec S16 32) (v163 : IVec S16 32) (v176 : IVec S16 32) (k1_hw25 : k1_chk25 v142 v145 v148 v151 v154 v157 v160 v163 v176), ∀ a x, ((![v145, v176] : Fin 2 → IVec S16 32) a x).toNat < S752x64.size a := fun v142 v145 v148 v151 v154 v157 v160 v163 v176 k1_hw25 => k1_hw25.2.1
theorem k1_idx209_inb : ∀ (v142 : IVec S16 32) (v145 : IVec S16 32) (v148 : IVec S16 32) (v151 : IVec S16 32) (v154 : IVec S16 32) (v157 : IVec S16 32) (v160 : IVec S16 32) (v163 : IVec S16 32) (v176 : IVec S16 32) (k1_hw25 : k1_chk25 v142 v145 v148 v151 v154 v157 v160 v163 v176), ∀ a x, ((![v148, v176] : Fin 2 → IVec S16 32) a x).toNat < S752x64.size a := fun v142 v145 v148 v151 v154 v157 v160 v163 v176 k1_hw25 => k1_hw25.2.2.1
theorem k1_idx217_inb : ∀ (v142 : IVec S16 32) (v145 : IVec S16 32) (v148 : IVec S16 32) (v151 : IVec S16 32) (v154 : IVec S16 32) (v157 : IVec S16 32) (v160 : IVec S16 32) (v163 : IVec S16 32) (v176 : IVec S16 32) (k1_hw25 : k1_chk25 v142 v145 v148 v151 v154 v157 v160 v163 v176), ∀ a x, ((![v151, v176] : Fin 2 → IVec S16 32) a x).toNat < S752x64.size a := fun v142 v145 v148 v151 v154 v157 v160 v163 v176 k1_hw25 => k1_hw25.2.2.2.1
theorem k1_idx225_inb : ∀ (v142 : IVec S16 32) (v145 : IVec S16 32) (v148 : IVec S16 32) (v151 : IVec S16 32) (v154 : IVec S16 32) (v157 : IVec S16 32) (v160 : IVec S16 32) (v163 : IVec S16 32) (v176 : IVec S16 32) (k1_hw25 : k1_chk25 v142 v145 v148 v151 v154 v157 v160 v163 v176), ∀ a x, ((![v154, v176] : Fin 2 → IVec S16 32) a x).toNat < S752x64.size a := fun v142 v145 v148 v151 v154 v157 v160 v163 v176 k1_hw25 => k1_hw25.2.2.2.2.1
theorem k1_idx233_inb : ∀ (v142 : IVec S16 32) (v145 : IVec S16 32) (v148 : IVec S16 32) (v151 : IVec S16 32) (v154 : IVec S16 32) (v157 : IVec S16 32) (v160 : IVec S16 32) (v163 : IVec S16 32) (v176 : IVec S16 32) (k1_hw25 : k1_chk25 v142 v145 v148 v151 v154 v157 v160 v163 v176), ∀ a x, ((![v157, v176] : Fin 2 → IVec S16 32) a x).toNat < S752x64.size a := fun v142 v145 v148 v151 v154 v157 v160 v163 v176 k1_hw25 => k1_hw25.2.2.2.2.2.1
theorem k1_idx241_inb : ∀ (v142 : IVec S16 32) (v145 : IVec S16 32) (v148 : IVec S16 32) (v151 : IVec S16 32) (v154 : IVec S16 32) (v157 : IVec S16 32) (v160 : IVec S16 32) (v163 : IVec S16 32) (v176 : IVec S16 32) (k1_hw25 : k1_chk25 v142 v145 v148 v151 v154 v157 v160 v163 v176), ∀ a x, ((![v160, v176] : Fin 2 → IVec S16 32) a x).toNat < S752x64.size a := fun v142 v145 v148 v151 v154 v157 v160 v163 v176 k1_hw25 => k1_hw25.2.2.2.2.2.2.1
theorem k1_idx249_inb : ∀ (v142 : IVec S16 32) (v145 : IVec S16 32) (v148 : IVec S16 32) (v151 : IVec S16 32) (v154 : IVec S16 32) (v157 : IVec S16 32) (v160 : IVec S16 32) (v163 : IVec S16 32) (v176 : IVec S16 32) (k1_hw25 : k1_chk25 v142 v145 v148 v151 v154 v157 v160 v163 v176), ∀ a x, ((![v163, v176] : Fin 2 → IVec S16 32) a x).toNat < S752x64.size a := fun v142 v145 v148 v151 v154 v157 v160 v163 v176 k1_hw25 => k1_hw25.2.2.2.2.2.2.2
def k1_off71 (k1_t5 : Fin k1_t5_loop.trips) (c0_i32_216 : BitVec 32) : Fin 1 → Nat :=
  let c0_i32_91 : BitVec 32 := 0#32
  let c1_i32_93 : BitVec 32 := 1#32
  let arg12 : BitVec 32 := Scf.iv c0_i32_91 c1_i32_93 k1_t5
  let c1024_i32_98 : BitVec 32 := 1024#32
  let v172 : BitVec 32 := Scalar.muli arg12 c1024_i32_98
  let c896_i32 : BitVec 32 := 896#32
  let v486 : BitVec 32 := Scalar.addi v172 c896_i32
  let v487 : BitVec 32 := Scalar.addi v486 c0_i32_216
  let v488 : Index := Scalar.indexCast v487
  ![v488.toNat]

def k1_chk26 (v142 : IVec S16 32) (v145 : IVec S16 32) (v148 : IVec S16 32) (v151 : IVec S16 32) (v154 : IVec S16 32) (v157 : IVec S16 32) (v160 : IVec S16 32) (v163 : IVec S16 32) (v180 : IVec S16 32) : Prop :=
  (∀ a x, ((![v142, v180] : Fin 2 → IVec S16 32) a x).toNat < S752x64.size a) ∧
  (∀ a x, ((![v145, v180] : Fin 2 → IVec S16 32) a x).toNat < S752x64.size a) ∧
  (∀ a x, ((![v148, v180] : Fin 2 → IVec S16 32) a x).toNat < S752x64.size a) ∧
  (∀ a x, ((![v151, v180] : Fin 2 → IVec S16 32) a x).toNat < S752x64.size a) ∧
  (∀ a x, ((![v154, v180] : Fin 2 → IVec S16 32) a x).toNat < S752x64.size a) ∧
  (∀ a x, ((![v157, v180] : Fin 2 → IVec S16 32) a x).toNat < S752x64.size a) ∧
  (∀ a x, ((![v160, v180] : Fin 2 → IVec S16 32) a x).toNat < S752x64.size a) ∧
  (∀ a x, ((![v163, v180] : Fin 2 → IVec S16 32) a x).toNat < S752x64.size a)
theorem k1_idx194_inb : ∀ (v142 : IVec S16 32) (v145 : IVec S16 32) (v148 : IVec S16 32) (v151 : IVec S16 32) (v154 : IVec S16 32) (v157 : IVec S16 32) (v160 : IVec S16 32) (v163 : IVec S16 32) (v180 : IVec S16 32) (k1_hw26 : k1_chk26 v142 v145 v148 v151 v154 v157 v160 v163 v180), ∀ a x, ((![v142, v180] : Fin 2 → IVec S16 32) a x).toNat < S752x64.size a := fun v142 v145 v148 v151 v154 v157 v160 v163 v180 k1_hw26 => k1_hw26.1
theorem k1_idx202_inb : ∀ (v142 : IVec S16 32) (v145 : IVec S16 32) (v148 : IVec S16 32) (v151 : IVec S16 32) (v154 : IVec S16 32) (v157 : IVec S16 32) (v160 : IVec S16 32) (v163 : IVec S16 32) (v180 : IVec S16 32) (k1_hw26 : k1_chk26 v142 v145 v148 v151 v154 v157 v160 v163 v180), ∀ a x, ((![v145, v180] : Fin 2 → IVec S16 32) a x).toNat < S752x64.size a := fun v142 v145 v148 v151 v154 v157 v160 v163 v180 k1_hw26 => k1_hw26.2.1
theorem k1_idx210_inb : ∀ (v142 : IVec S16 32) (v145 : IVec S16 32) (v148 : IVec S16 32) (v151 : IVec S16 32) (v154 : IVec S16 32) (v157 : IVec S16 32) (v160 : IVec S16 32) (v163 : IVec S16 32) (v180 : IVec S16 32) (k1_hw26 : k1_chk26 v142 v145 v148 v151 v154 v157 v160 v163 v180), ∀ a x, ((![v148, v180] : Fin 2 → IVec S16 32) a x).toNat < S752x64.size a := fun v142 v145 v148 v151 v154 v157 v160 v163 v180 k1_hw26 => k1_hw26.2.2.1
theorem k1_idx218_inb : ∀ (v142 : IVec S16 32) (v145 : IVec S16 32) (v148 : IVec S16 32) (v151 : IVec S16 32) (v154 : IVec S16 32) (v157 : IVec S16 32) (v160 : IVec S16 32) (v163 : IVec S16 32) (v180 : IVec S16 32) (k1_hw26 : k1_chk26 v142 v145 v148 v151 v154 v157 v160 v163 v180), ∀ a x, ((![v151, v180] : Fin 2 → IVec S16 32) a x).toNat < S752x64.size a := fun v142 v145 v148 v151 v154 v157 v160 v163 v180 k1_hw26 => k1_hw26.2.2.2.1
theorem k1_idx226_inb : ∀ (v142 : IVec S16 32) (v145 : IVec S16 32) (v148 : IVec S16 32) (v151 : IVec S16 32) (v154 : IVec S16 32) (v157 : IVec S16 32) (v160 : IVec S16 32) (v163 : IVec S16 32) (v180 : IVec S16 32) (k1_hw26 : k1_chk26 v142 v145 v148 v151 v154 v157 v160 v163 v180), ∀ a x, ((![v154, v180] : Fin 2 → IVec S16 32) a x).toNat < S752x64.size a := fun v142 v145 v148 v151 v154 v157 v160 v163 v180 k1_hw26 => k1_hw26.2.2.2.2.1
theorem k1_idx234_inb : ∀ (v142 : IVec S16 32) (v145 : IVec S16 32) (v148 : IVec S16 32) (v151 : IVec S16 32) (v154 : IVec S16 32) (v157 : IVec S16 32) (v160 : IVec S16 32) (v163 : IVec S16 32) (v180 : IVec S16 32) (k1_hw26 : k1_chk26 v142 v145 v148 v151 v154 v157 v160 v163 v180), ∀ a x, ((![v157, v180] : Fin 2 → IVec S16 32) a x).toNat < S752x64.size a := fun v142 v145 v148 v151 v154 v157 v160 v163 v180 k1_hw26 => k1_hw26.2.2.2.2.2.1
theorem k1_idx242_inb : ∀ (v142 : IVec S16 32) (v145 : IVec S16 32) (v148 : IVec S16 32) (v151 : IVec S16 32) (v154 : IVec S16 32) (v157 : IVec S16 32) (v160 : IVec S16 32) (v163 : IVec S16 32) (v180 : IVec S16 32) (k1_hw26 : k1_chk26 v142 v145 v148 v151 v154 v157 v160 v163 v180), ∀ a x, ((![v160, v180] : Fin 2 → IVec S16 32) a x).toNat < S752x64.size a := fun v142 v145 v148 v151 v154 v157 v160 v163 v180 k1_hw26 => k1_hw26.2.2.2.2.2.2.1
theorem k1_idx250_inb : ∀ (v142 : IVec S16 32) (v145 : IVec S16 32) (v148 : IVec S16 32) (v151 : IVec S16 32) (v154 : IVec S16 32) (v157 : IVec S16 32) (v160 : IVec S16 32) (v163 : IVec S16 32) (v180 : IVec S16 32) (k1_hw26 : k1_chk26 v142 v145 v148 v151 v154 v157 v160 v163 v180), ∀ a x, ((![v163, v180] : Fin 2 → IVec S16 32) a x).toNat < S752x64.size a := fun v142 v145 v148 v151 v154 v157 v160 v163 v180 k1_hw26 => k1_hw26.2.2.2.2.2.2.2

def k1_chk27 (v142 : IVec S16 32) (v145 : IVec S16 32) (v148 : IVec S16 32) (v151 : IVec S16 32) (v154 : IVec S16 32) (v157 : IVec S16 32) (v160 : IVec S16 32) (v163 : IVec S16 32) (v184 : IVec S16 32) : Prop :=
  (∀ a x, ((![v142, v184] : Fin 2 → IVec S16 32) a x).toNat < S752x64.size a) ∧
  (∀ a x, ((![v145, v184] : Fin 2 → IVec S16 32) a x).toNat < S752x64.size a) ∧
  (∀ a x, ((![v148, v184] : Fin 2 → IVec S16 32) a x).toNat < S752x64.size a) ∧
  (∀ a x, ((![v151, v184] : Fin 2 → IVec S16 32) a x).toNat < S752x64.size a) ∧
  (∀ a x, ((![v154, v184] : Fin 2 → IVec S16 32) a x).toNat < S752x64.size a) ∧
  (∀ a x, ((![v157, v184] : Fin 2 → IVec S16 32) a x).toNat < S752x64.size a) ∧
  (∀ a x, ((![v160, v184] : Fin 2 → IVec S16 32) a x).toNat < S752x64.size a) ∧
  (∀ a x, ((![v163, v184] : Fin 2 → IVec S16 32) a x).toNat < S752x64.size a)
theorem k1_idx195_inb : ∀ (v142 : IVec S16 32) (v145 : IVec S16 32) (v148 : IVec S16 32) (v151 : IVec S16 32) (v154 : IVec S16 32) (v157 : IVec S16 32) (v160 : IVec S16 32) (v163 : IVec S16 32) (v184 : IVec S16 32) (k1_hw27 : k1_chk27 v142 v145 v148 v151 v154 v157 v160 v163 v184), ∀ a x, ((![v142, v184] : Fin 2 → IVec S16 32) a x).toNat < S752x64.size a := fun v142 v145 v148 v151 v154 v157 v160 v163 v184 k1_hw27 => k1_hw27.1
theorem k1_idx203_inb : ∀ (v142 : IVec S16 32) (v145 : IVec S16 32) (v148 : IVec S16 32) (v151 : IVec S16 32) (v154 : IVec S16 32) (v157 : IVec S16 32) (v160 : IVec S16 32) (v163 : IVec S16 32) (v184 : IVec S16 32) (k1_hw27 : k1_chk27 v142 v145 v148 v151 v154 v157 v160 v163 v184), ∀ a x, ((![v145, v184] : Fin 2 → IVec S16 32) a x).toNat < S752x64.size a := fun v142 v145 v148 v151 v154 v157 v160 v163 v184 k1_hw27 => k1_hw27.2.1
theorem k1_idx211_inb : ∀ (v142 : IVec S16 32) (v145 : IVec S16 32) (v148 : IVec S16 32) (v151 : IVec S16 32) (v154 : IVec S16 32) (v157 : IVec S16 32) (v160 : IVec S16 32) (v163 : IVec S16 32) (v184 : IVec S16 32) (k1_hw27 : k1_chk27 v142 v145 v148 v151 v154 v157 v160 v163 v184), ∀ a x, ((![v148, v184] : Fin 2 → IVec S16 32) a x).toNat < S752x64.size a := fun v142 v145 v148 v151 v154 v157 v160 v163 v184 k1_hw27 => k1_hw27.2.2.1
theorem k1_idx219_inb : ∀ (v142 : IVec S16 32) (v145 : IVec S16 32) (v148 : IVec S16 32) (v151 : IVec S16 32) (v154 : IVec S16 32) (v157 : IVec S16 32) (v160 : IVec S16 32) (v163 : IVec S16 32) (v184 : IVec S16 32) (k1_hw27 : k1_chk27 v142 v145 v148 v151 v154 v157 v160 v163 v184), ∀ a x, ((![v151, v184] : Fin 2 → IVec S16 32) a x).toNat < S752x64.size a := fun v142 v145 v148 v151 v154 v157 v160 v163 v184 k1_hw27 => k1_hw27.2.2.2.1
theorem k1_idx227_inb : ∀ (v142 : IVec S16 32) (v145 : IVec S16 32) (v148 : IVec S16 32) (v151 : IVec S16 32) (v154 : IVec S16 32) (v157 : IVec S16 32) (v160 : IVec S16 32) (v163 : IVec S16 32) (v184 : IVec S16 32) (k1_hw27 : k1_chk27 v142 v145 v148 v151 v154 v157 v160 v163 v184), ∀ a x, ((![v154, v184] : Fin 2 → IVec S16 32) a x).toNat < S752x64.size a := fun v142 v145 v148 v151 v154 v157 v160 v163 v184 k1_hw27 => k1_hw27.2.2.2.2.1
theorem k1_idx235_inb : ∀ (v142 : IVec S16 32) (v145 : IVec S16 32) (v148 : IVec S16 32) (v151 : IVec S16 32) (v154 : IVec S16 32) (v157 : IVec S16 32) (v160 : IVec S16 32) (v163 : IVec S16 32) (v184 : IVec S16 32) (k1_hw27 : k1_chk27 v142 v145 v148 v151 v154 v157 v160 v163 v184), ∀ a x, ((![v157, v184] : Fin 2 → IVec S16 32) a x).toNat < S752x64.size a := fun v142 v145 v148 v151 v154 v157 v160 v163 v184 k1_hw27 => k1_hw27.2.2.2.2.2.1
theorem k1_idx243_inb : ∀ (v142 : IVec S16 32) (v145 : IVec S16 32) (v148 : IVec S16 32) (v151 : IVec S16 32) (v154 : IVec S16 32) (v157 : IVec S16 32) (v160 : IVec S16 32) (v163 : IVec S16 32) (v184 : IVec S16 32) (k1_hw27 : k1_chk27 v142 v145 v148 v151 v154 v157 v160 v163 v184), ∀ a x, ((![v160, v184] : Fin 2 → IVec S16 32) a x).toNat < S752x64.size a := fun v142 v145 v148 v151 v154 v157 v160 v163 v184 k1_hw27 => k1_hw27.2.2.2.2.2.2.1
theorem k1_idx251_inb : ∀ (v142 : IVec S16 32) (v145 : IVec S16 32) (v148 : IVec S16 32) (v151 : IVec S16 32) (v154 : IVec S16 32) (v157 : IVec S16 32) (v160 : IVec S16 32) (v163 : IVec S16 32) (v184 : IVec S16 32) (k1_hw27 : k1_chk27 v142 v145 v148 v151 v154 v157 v160 v163 v184), ∀ a x, ((![v163, v184] : Fin 2 → IVec S16 32) a x).toNat < S752x64.size a := fun v142 v145 v148 v151 v154 v157 v160 v163 v184 k1_hw27 => k1_hw27.2.2.2.2.2.2.2

def k1_chk28 (v142 : IVec S16 32) (v145 : IVec S16 32) (v148 : IVec S16 32) (v151 : IVec S16 32) (v154 : IVec S16 32) (v157 : IVec S16 32) (v160 : IVec S16 32) (v163 : IVec S16 32) (v188 : IVec S16 32) : Prop :=
  (∀ a x, ((![v142, v188] : Fin 2 → IVec S16 32) a x).toNat < S752x64.size a) ∧
  (∀ a x, ((![v145, v188] : Fin 2 → IVec S16 32) a x).toNat < S752x64.size a) ∧
  (∀ a x, ((![v148, v188] : Fin 2 → IVec S16 32) a x).toNat < S752x64.size a) ∧
  (∀ a x, ((![v151, v188] : Fin 2 → IVec S16 32) a x).toNat < S752x64.size a) ∧
  (∀ a x, ((![v154, v188] : Fin 2 → IVec S16 32) a x).toNat < S752x64.size a) ∧
  (∀ a x, ((![v157, v188] : Fin 2 → IVec S16 32) a x).toNat < S752x64.size a) ∧
  (∀ a x, ((![v160, v188] : Fin 2 → IVec S16 32) a x).toNat < S752x64.size a) ∧
  (∀ a x, ((![v163, v188] : Fin 2 → IVec S16 32) a x).toNat < S752x64.size a)
theorem k1_idx196_inb : ∀ (v142 : IVec S16 32) (v145 : IVec S16 32) (v148 : IVec S16 32) (v151 : IVec S16 32) (v154 : IVec S16 32) (v157 : IVec S16 32) (v160 : IVec S16 32) (v163 : IVec S16 32) (v188 : IVec S16 32) (k1_hw28 : k1_chk28 v142 v145 v148 v151 v154 v157 v160 v163 v188), ∀ a x, ((![v142, v188] : Fin 2 → IVec S16 32) a x).toNat < S752x64.size a := fun v142 v145 v148 v151 v154 v157 v160 v163 v188 k1_hw28 => k1_hw28.1
theorem k1_idx204_inb : ∀ (v142 : IVec S16 32) (v145 : IVec S16 32) (v148 : IVec S16 32) (v151 : IVec S16 32) (v154 : IVec S16 32) (v157 : IVec S16 32) (v160 : IVec S16 32) (v163 : IVec S16 32) (v188 : IVec S16 32) (k1_hw28 : k1_chk28 v142 v145 v148 v151 v154 v157 v160 v163 v188), ∀ a x, ((![v145, v188] : Fin 2 → IVec S16 32) a x).toNat < S752x64.size a := fun v142 v145 v148 v151 v154 v157 v160 v163 v188 k1_hw28 => k1_hw28.2.1
theorem k1_idx212_inb : ∀ (v142 : IVec S16 32) (v145 : IVec S16 32) (v148 : IVec S16 32) (v151 : IVec S16 32) (v154 : IVec S16 32) (v157 : IVec S16 32) (v160 : IVec S16 32) (v163 : IVec S16 32) (v188 : IVec S16 32) (k1_hw28 : k1_chk28 v142 v145 v148 v151 v154 v157 v160 v163 v188), ∀ a x, ((![v148, v188] : Fin 2 → IVec S16 32) a x).toNat < S752x64.size a := fun v142 v145 v148 v151 v154 v157 v160 v163 v188 k1_hw28 => k1_hw28.2.2.1
theorem k1_idx220_inb : ∀ (v142 : IVec S16 32) (v145 : IVec S16 32) (v148 : IVec S16 32) (v151 : IVec S16 32) (v154 : IVec S16 32) (v157 : IVec S16 32) (v160 : IVec S16 32) (v163 : IVec S16 32) (v188 : IVec S16 32) (k1_hw28 : k1_chk28 v142 v145 v148 v151 v154 v157 v160 v163 v188), ∀ a x, ((![v151, v188] : Fin 2 → IVec S16 32) a x).toNat < S752x64.size a := fun v142 v145 v148 v151 v154 v157 v160 v163 v188 k1_hw28 => k1_hw28.2.2.2.1
theorem k1_idx228_inb : ∀ (v142 : IVec S16 32) (v145 : IVec S16 32) (v148 : IVec S16 32) (v151 : IVec S16 32) (v154 : IVec S16 32) (v157 : IVec S16 32) (v160 : IVec S16 32) (v163 : IVec S16 32) (v188 : IVec S16 32) (k1_hw28 : k1_chk28 v142 v145 v148 v151 v154 v157 v160 v163 v188), ∀ a x, ((![v154, v188] : Fin 2 → IVec S16 32) a x).toNat < S752x64.size a := fun v142 v145 v148 v151 v154 v157 v160 v163 v188 k1_hw28 => k1_hw28.2.2.2.2.1
theorem k1_idx236_inb : ∀ (v142 : IVec S16 32) (v145 : IVec S16 32) (v148 : IVec S16 32) (v151 : IVec S16 32) (v154 : IVec S16 32) (v157 : IVec S16 32) (v160 : IVec S16 32) (v163 : IVec S16 32) (v188 : IVec S16 32) (k1_hw28 : k1_chk28 v142 v145 v148 v151 v154 v157 v160 v163 v188), ∀ a x, ((![v157, v188] : Fin 2 → IVec S16 32) a x).toNat < S752x64.size a := fun v142 v145 v148 v151 v154 v157 v160 v163 v188 k1_hw28 => k1_hw28.2.2.2.2.2.1
theorem k1_idx244_inb : ∀ (v142 : IVec S16 32) (v145 : IVec S16 32) (v148 : IVec S16 32) (v151 : IVec S16 32) (v154 : IVec S16 32) (v157 : IVec S16 32) (v160 : IVec S16 32) (v163 : IVec S16 32) (v188 : IVec S16 32) (k1_hw28 : k1_chk28 v142 v145 v148 v151 v154 v157 v160 v163 v188), ∀ a x, ((![v160, v188] : Fin 2 → IVec S16 32) a x).toNat < S752x64.size a := fun v142 v145 v148 v151 v154 v157 v160 v163 v188 k1_hw28 => k1_hw28.2.2.2.2.2.2.1
theorem k1_idx252_inb : ∀ (v142 : IVec S16 32) (v145 : IVec S16 32) (v148 : IVec S16 32) (v151 : IVec S16 32) (v154 : IVec S16 32) (v157 : IVec S16 32) (v160 : IVec S16 32) (v163 : IVec S16 32) (v188 : IVec S16 32) (k1_hw28 : k1_chk28 v142 v145 v148 v151 v154 v157 v160 v163 v188), ∀ a x, ((![v163, v188] : Fin 2 → IVec S16 32) a x).toNat < S752x64.size a := fun v142 v145 v148 v151 v154 v157 v160 v163 v188 k1_hw28 => k1_hw28.2.2.2.2.2.2.2

def k1_chk29 (v142 : IVec S16 32) (v145 : IVec S16 32) (v148 : IVec S16 32) (v151 : IVec S16 32) (v154 : IVec S16 32) (v157 : IVec S16 32) (v160 : IVec S16 32) (v163 : IVec S16 32) (v192 : IVec S16 32) : Prop :=
  (∀ a x, ((![v142, v192] : Fin 2 → IVec S16 32) a x).toNat < S752x64.size a) ∧
  (∀ a x, ((![v145, v192] : Fin 2 → IVec S16 32) a x).toNat < S752x64.size a) ∧
  (∀ a x, ((![v148, v192] : Fin 2 → IVec S16 32) a x).toNat < S752x64.size a) ∧
  (∀ a x, ((![v151, v192] : Fin 2 → IVec S16 32) a x).toNat < S752x64.size a) ∧
  (∀ a x, ((![v154, v192] : Fin 2 → IVec S16 32) a x).toNat < S752x64.size a) ∧
  (∀ a x, ((![v157, v192] : Fin 2 → IVec S16 32) a x).toNat < S752x64.size a) ∧
  (∀ a x, ((![v160, v192] : Fin 2 → IVec S16 32) a x).toNat < S752x64.size a) ∧
  (∀ a x, ((![v163, v192] : Fin 2 → IVec S16 32) a x).toNat < S752x64.size a)
theorem k1_idx197_inb : ∀ (v142 : IVec S16 32) (v145 : IVec S16 32) (v148 : IVec S16 32) (v151 : IVec S16 32) (v154 : IVec S16 32) (v157 : IVec S16 32) (v160 : IVec S16 32) (v163 : IVec S16 32) (v192 : IVec S16 32) (k1_hw29 : k1_chk29 v142 v145 v148 v151 v154 v157 v160 v163 v192), ∀ a x, ((![v142, v192] : Fin 2 → IVec S16 32) a x).toNat < S752x64.size a := fun v142 v145 v148 v151 v154 v157 v160 v163 v192 k1_hw29 => k1_hw29.1
theorem k1_idx205_inb : ∀ (v142 : IVec S16 32) (v145 : IVec S16 32) (v148 : IVec S16 32) (v151 : IVec S16 32) (v154 : IVec S16 32) (v157 : IVec S16 32) (v160 : IVec S16 32) (v163 : IVec S16 32) (v192 : IVec S16 32) (k1_hw29 : k1_chk29 v142 v145 v148 v151 v154 v157 v160 v163 v192), ∀ a x, ((![v145, v192] : Fin 2 → IVec S16 32) a x).toNat < S752x64.size a := fun v142 v145 v148 v151 v154 v157 v160 v163 v192 k1_hw29 => k1_hw29.2.1
theorem k1_idx213_inb : ∀ (v142 : IVec S16 32) (v145 : IVec S16 32) (v148 : IVec S16 32) (v151 : IVec S16 32) (v154 : IVec S16 32) (v157 : IVec S16 32) (v160 : IVec S16 32) (v163 : IVec S16 32) (v192 : IVec S16 32) (k1_hw29 : k1_chk29 v142 v145 v148 v151 v154 v157 v160 v163 v192), ∀ a x, ((![v148, v192] : Fin 2 → IVec S16 32) a x).toNat < S752x64.size a := fun v142 v145 v148 v151 v154 v157 v160 v163 v192 k1_hw29 => k1_hw29.2.2.1
theorem k1_idx221_inb : ∀ (v142 : IVec S16 32) (v145 : IVec S16 32) (v148 : IVec S16 32) (v151 : IVec S16 32) (v154 : IVec S16 32) (v157 : IVec S16 32) (v160 : IVec S16 32) (v163 : IVec S16 32) (v192 : IVec S16 32) (k1_hw29 : k1_chk29 v142 v145 v148 v151 v154 v157 v160 v163 v192), ∀ a x, ((![v151, v192] : Fin 2 → IVec S16 32) a x).toNat < S752x64.size a := fun v142 v145 v148 v151 v154 v157 v160 v163 v192 k1_hw29 => k1_hw29.2.2.2.1
theorem k1_idx229_inb : ∀ (v142 : IVec S16 32) (v145 : IVec S16 32) (v148 : IVec S16 32) (v151 : IVec S16 32) (v154 : IVec S16 32) (v157 : IVec S16 32) (v160 : IVec S16 32) (v163 : IVec S16 32) (v192 : IVec S16 32) (k1_hw29 : k1_chk29 v142 v145 v148 v151 v154 v157 v160 v163 v192), ∀ a x, ((![v154, v192] : Fin 2 → IVec S16 32) a x).toNat < S752x64.size a := fun v142 v145 v148 v151 v154 v157 v160 v163 v192 k1_hw29 => k1_hw29.2.2.2.2.1
theorem k1_idx237_inb : ∀ (v142 : IVec S16 32) (v145 : IVec S16 32) (v148 : IVec S16 32) (v151 : IVec S16 32) (v154 : IVec S16 32) (v157 : IVec S16 32) (v160 : IVec S16 32) (v163 : IVec S16 32) (v192 : IVec S16 32) (k1_hw29 : k1_chk29 v142 v145 v148 v151 v154 v157 v160 v163 v192), ∀ a x, ((![v157, v192] : Fin 2 → IVec S16 32) a x).toNat < S752x64.size a := fun v142 v145 v148 v151 v154 v157 v160 v163 v192 k1_hw29 => k1_hw29.2.2.2.2.2.1
theorem k1_idx245_inb : ∀ (v142 : IVec S16 32) (v145 : IVec S16 32) (v148 : IVec S16 32) (v151 : IVec S16 32) (v154 : IVec S16 32) (v157 : IVec S16 32) (v160 : IVec S16 32) (v163 : IVec S16 32) (v192 : IVec S16 32) (k1_hw29 : k1_chk29 v142 v145 v148 v151 v154 v157 v160 v163 v192), ∀ a x, ((![v160, v192] : Fin 2 → IVec S16 32) a x).toNat < S752x64.size a := fun v142 v145 v148 v151 v154 v157 v160 v163 v192 k1_hw29 => k1_hw29.2.2.2.2.2.2.1
theorem k1_idx253_inb : ∀ (v142 : IVec S16 32) (v145 : IVec S16 32) (v148 : IVec S16 32) (v151 : IVec S16 32) (v154 : IVec S16 32) (v157 : IVec S16 32) (v160 : IVec S16 32) (v163 : IVec S16 32) (v192 : IVec S16 32) (k1_hw29 : k1_chk29 v142 v145 v148 v151 v154 v157 v160 v163 v192), ∀ a x, ((![v163, v192] : Fin 2 → IVec S16 32) a x).toNat < S752x64.size a := fun v142 v145 v148 v151 v154 v157 v160 v163 v192 k1_hw29 => k1_hw29.2.2.2.2.2.2.2

def k1_chk30 (v142 : IVec S16 32) (v145 : IVec S16 32) (v148 : IVec S16 32) (v151 : IVec S16 32) (v154 : IVec S16 32) (v157 : IVec S16 32) (v160 : IVec S16 32) (v163 : IVec S16 32) (v196 : IVec S16 32) : Prop :=
  (∀ a x, ((![v142, v196] : Fin 2 → IVec S16 32) a x).toNat < S752x64.size a) ∧
  (∀ a x, ((![v145, v196] : Fin 2 → IVec S16 32) a x).toNat < S752x64.size a) ∧
  (∀ a x, ((![v148, v196] : Fin 2 → IVec S16 32) a x).toNat < S752x64.size a) ∧
  (∀ a x, ((![v151, v196] : Fin 2 → IVec S16 32) a x).toNat < S752x64.size a) ∧
  (∀ a x, ((![v154, v196] : Fin 2 → IVec S16 32) a x).toNat < S752x64.size a) ∧
  (∀ a x, ((![v157, v196] : Fin 2 → IVec S16 32) a x).toNat < S752x64.size a) ∧
  (∀ a x, ((![v160, v196] : Fin 2 → IVec S16 32) a x).toNat < S752x64.size a) ∧
  (∀ a x, ((![v163, v196] : Fin 2 → IVec S16 32) a x).toNat < S752x64.size a)
theorem k1_idx198_inb : ∀ (v142 : IVec S16 32) (v145 : IVec S16 32) (v148 : IVec S16 32) (v151 : IVec S16 32) (v154 : IVec S16 32) (v157 : IVec S16 32) (v160 : IVec S16 32) (v163 : IVec S16 32) (v196 : IVec S16 32) (k1_hw30 : k1_chk30 v142 v145 v148 v151 v154 v157 v160 v163 v196), ∀ a x, ((![v142, v196] : Fin 2 → IVec S16 32) a x).toNat < S752x64.size a := fun v142 v145 v148 v151 v154 v157 v160 v163 v196 k1_hw30 => k1_hw30.1
theorem k1_idx206_inb : ∀ (v142 : IVec S16 32) (v145 : IVec S16 32) (v148 : IVec S16 32) (v151 : IVec S16 32) (v154 : IVec S16 32) (v157 : IVec S16 32) (v160 : IVec S16 32) (v163 : IVec S16 32) (v196 : IVec S16 32) (k1_hw30 : k1_chk30 v142 v145 v148 v151 v154 v157 v160 v163 v196), ∀ a x, ((![v145, v196] : Fin 2 → IVec S16 32) a x).toNat < S752x64.size a := fun v142 v145 v148 v151 v154 v157 v160 v163 v196 k1_hw30 => k1_hw30.2.1
theorem k1_idx214_inb : ∀ (v142 : IVec S16 32) (v145 : IVec S16 32) (v148 : IVec S16 32) (v151 : IVec S16 32) (v154 : IVec S16 32) (v157 : IVec S16 32) (v160 : IVec S16 32) (v163 : IVec S16 32) (v196 : IVec S16 32) (k1_hw30 : k1_chk30 v142 v145 v148 v151 v154 v157 v160 v163 v196), ∀ a x, ((![v148, v196] : Fin 2 → IVec S16 32) a x).toNat < S752x64.size a := fun v142 v145 v148 v151 v154 v157 v160 v163 v196 k1_hw30 => k1_hw30.2.2.1
theorem k1_idx222_inb : ∀ (v142 : IVec S16 32) (v145 : IVec S16 32) (v148 : IVec S16 32) (v151 : IVec S16 32) (v154 : IVec S16 32) (v157 : IVec S16 32) (v160 : IVec S16 32) (v163 : IVec S16 32) (v196 : IVec S16 32) (k1_hw30 : k1_chk30 v142 v145 v148 v151 v154 v157 v160 v163 v196), ∀ a x, ((![v151, v196] : Fin 2 → IVec S16 32) a x).toNat < S752x64.size a := fun v142 v145 v148 v151 v154 v157 v160 v163 v196 k1_hw30 => k1_hw30.2.2.2.1
theorem k1_idx230_inb : ∀ (v142 : IVec S16 32) (v145 : IVec S16 32) (v148 : IVec S16 32) (v151 : IVec S16 32) (v154 : IVec S16 32) (v157 : IVec S16 32) (v160 : IVec S16 32) (v163 : IVec S16 32) (v196 : IVec S16 32) (k1_hw30 : k1_chk30 v142 v145 v148 v151 v154 v157 v160 v163 v196), ∀ a x, ((![v154, v196] : Fin 2 → IVec S16 32) a x).toNat < S752x64.size a := fun v142 v145 v148 v151 v154 v157 v160 v163 v196 k1_hw30 => k1_hw30.2.2.2.2.1
theorem k1_idx238_inb : ∀ (v142 : IVec S16 32) (v145 : IVec S16 32) (v148 : IVec S16 32) (v151 : IVec S16 32) (v154 : IVec S16 32) (v157 : IVec S16 32) (v160 : IVec S16 32) (v163 : IVec S16 32) (v196 : IVec S16 32) (k1_hw30 : k1_chk30 v142 v145 v148 v151 v154 v157 v160 v163 v196), ∀ a x, ((![v157, v196] : Fin 2 → IVec S16 32) a x).toNat < S752x64.size a := fun v142 v145 v148 v151 v154 v157 v160 v163 v196 k1_hw30 => k1_hw30.2.2.2.2.2.1
theorem k1_idx246_inb : ∀ (v142 : IVec S16 32) (v145 : IVec S16 32) (v148 : IVec S16 32) (v151 : IVec S16 32) (v154 : IVec S16 32) (v157 : IVec S16 32) (v160 : IVec S16 32) (v163 : IVec S16 32) (v196 : IVec S16 32) (k1_hw30 : k1_chk30 v142 v145 v148 v151 v154 v157 v160 v163 v196), ∀ a x, ((![v160, v196] : Fin 2 → IVec S16 32) a x).toNat < S752x64.size a := fun v142 v145 v148 v151 v154 v157 v160 v163 v196 k1_hw30 => k1_hw30.2.2.2.2.2.2.1
theorem k1_idx254_inb : ∀ (v142 : IVec S16 32) (v145 : IVec S16 32) (v148 : IVec S16 32) (v151 : IVec S16 32) (v154 : IVec S16 32) (v157 : IVec S16 32) (v160 : IVec S16 32) (v163 : IVec S16 32) (v196 : IVec S16 32) (k1_hw30 : k1_chk30 v142 v145 v148 v151 v154 v157 v160 v163 v196), ∀ a x, ((![v163, v196] : Fin 2 → IVec S16 32) a x).toNat < S752x64.size a := fun v142 v145 v148 v151 v154 v157 v160 v163 v196 k1_hw30 => k1_hw30.2.2.2.2.2.2.2

def k1_chk31 (v142 : IVec S16 32) (v145 : IVec S16 32) (v148 : IVec S16 32) (v151 : IVec S16 32) (v154 : IVec S16 32) (v157 : IVec S16 32) (v160 : IVec S16 32) (v163 : IVec S16 32) (v200 : IVec S16 32) : Prop :=
  (∀ a x, ((![v142, v200] : Fin 2 → IVec S16 32) a x).toNat < S752x64.size a) ∧
  (∀ a x, ((![v145, v200] : Fin 2 → IVec S16 32) a x).toNat < S752x64.size a) ∧
  (∀ a x, ((![v148, v200] : Fin 2 → IVec S16 32) a x).toNat < S752x64.size a) ∧
  (∀ a x, ((![v151, v200] : Fin 2 → IVec S16 32) a x).toNat < S752x64.size a) ∧
  (∀ a x, ((![v154, v200] : Fin 2 → IVec S16 32) a x).toNat < S752x64.size a) ∧
  (∀ a x, ((![v157, v200] : Fin 2 → IVec S16 32) a x).toNat < S752x64.size a) ∧
  (∀ a x, ((![v160, v200] : Fin 2 → IVec S16 32) a x).toNat < S752x64.size a) ∧
  (∀ a x, ((![v163, v200] : Fin 2 → IVec S16 32) a x).toNat < S752x64.size a)
theorem k1_idx199_inb : ∀ (v142 : IVec S16 32) (v145 : IVec S16 32) (v148 : IVec S16 32) (v151 : IVec S16 32) (v154 : IVec S16 32) (v157 : IVec S16 32) (v160 : IVec S16 32) (v163 : IVec S16 32) (v200 : IVec S16 32) (k1_hw31 : k1_chk31 v142 v145 v148 v151 v154 v157 v160 v163 v200), ∀ a x, ((![v142, v200] : Fin 2 → IVec S16 32) a x).toNat < S752x64.size a := fun v142 v145 v148 v151 v154 v157 v160 v163 v200 k1_hw31 => k1_hw31.1
theorem k1_idx207_inb : ∀ (v142 : IVec S16 32) (v145 : IVec S16 32) (v148 : IVec S16 32) (v151 : IVec S16 32) (v154 : IVec S16 32) (v157 : IVec S16 32) (v160 : IVec S16 32) (v163 : IVec S16 32) (v200 : IVec S16 32) (k1_hw31 : k1_chk31 v142 v145 v148 v151 v154 v157 v160 v163 v200), ∀ a x, ((![v145, v200] : Fin 2 → IVec S16 32) a x).toNat < S752x64.size a := fun v142 v145 v148 v151 v154 v157 v160 v163 v200 k1_hw31 => k1_hw31.2.1
theorem k1_idx215_inb : ∀ (v142 : IVec S16 32) (v145 : IVec S16 32) (v148 : IVec S16 32) (v151 : IVec S16 32) (v154 : IVec S16 32) (v157 : IVec S16 32) (v160 : IVec S16 32) (v163 : IVec S16 32) (v200 : IVec S16 32) (k1_hw31 : k1_chk31 v142 v145 v148 v151 v154 v157 v160 v163 v200), ∀ a x, ((![v148, v200] : Fin 2 → IVec S16 32) a x).toNat < S752x64.size a := fun v142 v145 v148 v151 v154 v157 v160 v163 v200 k1_hw31 => k1_hw31.2.2.1
theorem k1_idx223_inb : ∀ (v142 : IVec S16 32) (v145 : IVec S16 32) (v148 : IVec S16 32) (v151 : IVec S16 32) (v154 : IVec S16 32) (v157 : IVec S16 32) (v160 : IVec S16 32) (v163 : IVec S16 32) (v200 : IVec S16 32) (k1_hw31 : k1_chk31 v142 v145 v148 v151 v154 v157 v160 v163 v200), ∀ a x, ((![v151, v200] : Fin 2 → IVec S16 32) a x).toNat < S752x64.size a := fun v142 v145 v148 v151 v154 v157 v160 v163 v200 k1_hw31 => k1_hw31.2.2.2.1
theorem k1_idx231_inb : ∀ (v142 : IVec S16 32) (v145 : IVec S16 32) (v148 : IVec S16 32) (v151 : IVec S16 32) (v154 : IVec S16 32) (v157 : IVec S16 32) (v160 : IVec S16 32) (v163 : IVec S16 32) (v200 : IVec S16 32) (k1_hw31 : k1_chk31 v142 v145 v148 v151 v154 v157 v160 v163 v200), ∀ a x, ((![v154, v200] : Fin 2 → IVec S16 32) a x).toNat < S752x64.size a := fun v142 v145 v148 v151 v154 v157 v160 v163 v200 k1_hw31 => k1_hw31.2.2.2.2.1
theorem k1_idx239_inb : ∀ (v142 : IVec S16 32) (v145 : IVec S16 32) (v148 : IVec S16 32) (v151 : IVec S16 32) (v154 : IVec S16 32) (v157 : IVec S16 32) (v160 : IVec S16 32) (v163 : IVec S16 32) (v200 : IVec S16 32) (k1_hw31 : k1_chk31 v142 v145 v148 v151 v154 v157 v160 v163 v200), ∀ a x, ((![v157, v200] : Fin 2 → IVec S16 32) a x).toNat < S752x64.size a := fun v142 v145 v148 v151 v154 v157 v160 v163 v200 k1_hw31 => k1_hw31.2.2.2.2.2.1
theorem k1_idx247_inb : ∀ (v142 : IVec S16 32) (v145 : IVec S16 32) (v148 : IVec S16 32) (v151 : IVec S16 32) (v154 : IVec S16 32) (v157 : IVec S16 32) (v160 : IVec S16 32) (v163 : IVec S16 32) (v200 : IVec S16 32) (k1_hw31 : k1_chk31 v142 v145 v148 v151 v154 v157 v160 v163 v200), ∀ a x, ((![v160, v200] : Fin 2 → IVec S16 32) a x).toNat < S752x64.size a := fun v142 v145 v148 v151 v154 v157 v160 v163 v200 k1_hw31 => k1_hw31.2.2.2.2.2.2.1
theorem k1_idx255_inb : ∀ (v142 : IVec S16 32) (v145 : IVec S16 32) (v148 : IVec S16 32) (v151 : IVec S16 32) (v154 : IVec S16 32) (v157 : IVec S16 32) (v160 : IVec S16 32) (v163 : IVec S16 32) (v200 : IVec S16 32) (k1_hw31 : k1_chk31 v142 v145 v148 v151 v154 v157 v160 v163 v200), ∀ a x, ((![v163, v200] : Fin 2 → IVec S16 32) a x).toNat < S752x64.size a := fun v142 v145 v148 v151 v154 v157 v160 v163 v200 k1_hw31 => k1_hw31.2.2.2.2.2.2.2

def k1_chk32 (v142 : IVec S16 32) (v145 : IVec S16 32) (v148 : IVec S16 32) (v151 : IVec S16 32) (v154 : IVec S16 32) (v157 : IVec S16 32) (v160 : IVec S16 32) (v163 : IVec S16 32) (v204 : IVec S16 32) : Prop :=
  (∀ a x, ((![v142, v204] : Fin 2 → IVec S16 32) a x).toNat < S752x64.size a) ∧
  (∀ a x, ((![v145, v204] : Fin 2 → IVec S16 32) a x).toNat < S752x64.size a) ∧
  (∀ a x, ((![v148, v204] : Fin 2 → IVec S16 32) a x).toNat < S752x64.size a) ∧
  (∀ a x, ((![v151, v204] : Fin 2 → IVec S16 32) a x).toNat < S752x64.size a) ∧
  (∀ a x, ((![v154, v204] : Fin 2 → IVec S16 32) a x).toNat < S752x64.size a) ∧
  (∀ a x, ((![v157, v204] : Fin 2 → IVec S16 32) a x).toNat < S752x64.size a) ∧
  (∀ a x, ((![v160, v204] : Fin 2 → IVec S16 32) a x).toNat < S752x64.size a) ∧
  (∀ a x, ((![v163, v204] : Fin 2 → IVec S16 32) a x).toNat < S752x64.size a)
theorem k1_idx200_inb : ∀ (v142 : IVec S16 32) (v145 : IVec S16 32) (v148 : IVec S16 32) (v151 : IVec S16 32) (v154 : IVec S16 32) (v157 : IVec S16 32) (v160 : IVec S16 32) (v163 : IVec S16 32) (v204 : IVec S16 32) (k1_hw32 : k1_chk32 v142 v145 v148 v151 v154 v157 v160 v163 v204), ∀ a x, ((![v142, v204] : Fin 2 → IVec S16 32) a x).toNat < S752x64.size a := fun v142 v145 v148 v151 v154 v157 v160 v163 v204 k1_hw32 => k1_hw32.1
theorem k1_idx208_inb : ∀ (v142 : IVec S16 32) (v145 : IVec S16 32) (v148 : IVec S16 32) (v151 : IVec S16 32) (v154 : IVec S16 32) (v157 : IVec S16 32) (v160 : IVec S16 32) (v163 : IVec S16 32) (v204 : IVec S16 32) (k1_hw32 : k1_chk32 v142 v145 v148 v151 v154 v157 v160 v163 v204), ∀ a x, ((![v145, v204] : Fin 2 → IVec S16 32) a x).toNat < S752x64.size a := fun v142 v145 v148 v151 v154 v157 v160 v163 v204 k1_hw32 => k1_hw32.2.1
theorem k1_idx216_inb : ∀ (v142 : IVec S16 32) (v145 : IVec S16 32) (v148 : IVec S16 32) (v151 : IVec S16 32) (v154 : IVec S16 32) (v157 : IVec S16 32) (v160 : IVec S16 32) (v163 : IVec S16 32) (v204 : IVec S16 32) (k1_hw32 : k1_chk32 v142 v145 v148 v151 v154 v157 v160 v163 v204), ∀ a x, ((![v148, v204] : Fin 2 → IVec S16 32) a x).toNat < S752x64.size a := fun v142 v145 v148 v151 v154 v157 v160 v163 v204 k1_hw32 => k1_hw32.2.2.1
theorem k1_idx224_inb : ∀ (v142 : IVec S16 32) (v145 : IVec S16 32) (v148 : IVec S16 32) (v151 : IVec S16 32) (v154 : IVec S16 32) (v157 : IVec S16 32) (v160 : IVec S16 32) (v163 : IVec S16 32) (v204 : IVec S16 32) (k1_hw32 : k1_chk32 v142 v145 v148 v151 v154 v157 v160 v163 v204), ∀ a x, ((![v151, v204] : Fin 2 → IVec S16 32) a x).toNat < S752x64.size a := fun v142 v145 v148 v151 v154 v157 v160 v163 v204 k1_hw32 => k1_hw32.2.2.2.1
theorem k1_idx232_inb : ∀ (v142 : IVec S16 32) (v145 : IVec S16 32) (v148 : IVec S16 32) (v151 : IVec S16 32) (v154 : IVec S16 32) (v157 : IVec S16 32) (v160 : IVec S16 32) (v163 : IVec S16 32) (v204 : IVec S16 32) (k1_hw32 : k1_chk32 v142 v145 v148 v151 v154 v157 v160 v163 v204), ∀ a x, ((![v154, v204] : Fin 2 → IVec S16 32) a x).toNat < S752x64.size a := fun v142 v145 v148 v151 v154 v157 v160 v163 v204 k1_hw32 => k1_hw32.2.2.2.2.1
theorem k1_idx240_inb : ∀ (v142 : IVec S16 32) (v145 : IVec S16 32) (v148 : IVec S16 32) (v151 : IVec S16 32) (v154 : IVec S16 32) (v157 : IVec S16 32) (v160 : IVec S16 32) (v163 : IVec S16 32) (v204 : IVec S16 32) (k1_hw32 : k1_chk32 v142 v145 v148 v151 v154 v157 v160 v163 v204), ∀ a x, ((![v157, v204] : Fin 2 → IVec S16 32) a x).toNat < S752x64.size a := fun v142 v145 v148 v151 v154 v157 v160 v163 v204 k1_hw32 => k1_hw32.2.2.2.2.2.1
theorem k1_idx248_inb : ∀ (v142 : IVec S16 32) (v145 : IVec S16 32) (v148 : IVec S16 32) (v151 : IVec S16 32) (v154 : IVec S16 32) (v157 : IVec S16 32) (v160 : IVec S16 32) (v163 : IVec S16 32) (v204 : IVec S16 32) (k1_hw32 : k1_chk32 v142 v145 v148 v151 v154 v157 v160 v163 v204), ∀ a x, ((![v160, v204] : Fin 2 → IVec S16 32) a x).toNat < S752x64.size a := fun v142 v145 v148 v151 v154 v157 v160 v163 v204 k1_hw32 => k1_hw32.2.2.2.2.2.2.1
theorem k1_idx256_inb : ∀ (v142 : IVec S16 32) (v145 : IVec S16 32) (v148 : IVec S16 32) (v151 : IVec S16 32) (v154 : IVec S16 32) (v157 : IVec S16 32) (v160 : IVec S16 32) (v163 : IVec S16 32) (v204 : IVec S16 32) (k1_hw32 : k1_chk32 v142 v145 v148 v151 v154 v157 v160 v163 v204), ∀ a x, ((![v163, v204] : Fin 2 → IVec S16 32) a x).toNat < S752x64.size a := fun v142 v145 v148 v151 v154 v157 v160 v163 v204 k1_hw32 => k1_hw32.2.2.2.2.2.2.2
def k1_off72 (i : grid1.Coords) (k1_t3 : Fin k1_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c752_i32 : BitVec 32 := 752#32
  let v31 : BitVec 32 := Scalar.muli v28 c752_i32
  let c2248_i32 : BitVec 32 := 2248#32
  let v32 : BitVec 32 := Scalar.minsi v31 c2248_i32
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c8_i32_10 : BitVec 32 := 8#32
  let c0_i32_13 : BitVec 32 := 0#32
  let v39 : BitVec 1 := Scalar.cmpi .sgt c8_i32_10 c0_i32_13
  let v40 : BitVec 32 := Scalar.extui v39
  let c0_i32_14 : BitVec 32 := 0#32
  let v41 : BitVec 1 := Scalar.cmpi .slt c8_i32_10 c0_i32_14
  let v42 : BitVec 32 := Scalar.extui v41
  let v43 : BitVec 32 := Scalar.subi v40 v42
  let v44 : BitVec 1 := Scalar.cmpi .ne v38 v43
  let v45 : BitVec 32 := Scalar.remsi v32 c8_i32_10
  let c0_i32_15 : BitVec 32 := 0#32
  let v46 : BitVec 1 := Scalar.cmpi .ne v45 c0_i32_15
  let v47 : BitVec 1 := Scalar.andi v44 v46
  let v33 : BitVec 32 := Scalar.divsi v32 c8_i32_10
  let c1_i32_16 : BitVec 32 := 1#32
  let v48 : BitVec 32 := Scalar.subi v33 c1_i32_16
  let v49 : BitVec 32 := Scalar.select v47 v48 v33
  let c2_i32_43 : BitVec 32 := 2#32
  let c1_i32_36 : BitVec 32 := 1#32
  let c1_i32_37 : BitVec 32 := 1#32
  let arg11 : BitVec 32 := Scf.iv c1_i32_36 c1_i32_37 k1_t3
  let v93 : BitVec 32 := Scalar.muli c2_i32_43 arg11
  let c1_i32_95 : BitVec 32 := 1#32
  let v165 : BitVec 32 := Scalar.addi v93 c1_i32_95
  let v166 : BitVec 32 := Scalar.addi v49 v165
  let c128_i32_96 : BitVec 32 := 128#32
  let v167 : BitVec 32 := Scalar.muli v166 c128_i32_96
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c16_i32 : BitVec 32 := 16#32
  let v30 : BitVec 32 := Scalar.muli v11 c16_i32
  let v168 : BitVec 32 := Scalar.addi v167 v30
  let c1024_i32_97 : BitVec 32 := 1024#32
  let v169 : BitVec 32 := Scalar.muli v168 c1024_i32_97
  ![v169.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S64x128 : Shape := ⟨2, ![64, 128]⟩
abbrev S3000x64 : Shape := ⟨2, ![3000, 64]⟩
abbrev S1x64x128 : Shape := ⟨3, ![1, 64, 128]⟩
abbrev S16384x1x128 : Shape := ⟨3, ![16384, 1, 128]⟩
abbrev S16384x64x128 : Shape := ⟨3, ![16384, 64, 128]⟩
abbrev S_ : Shape := ⟨0, ![]⟩
abbrev S16384x64 : Shape := ⟨2, ![16384, 64]⟩
abbrev S16384 : Shape := ⟨1, ![16384]⟩
abbrev S16384x1 : Shape := ⟨2, ![16384, 1]⟩
abbrev S1 : Shape := ⟨1, ![1]⟩
abbrev S1x1 : Shape := ⟨2, ![1, 1]⟩
abbrev S3000x16384 : Shape := ⟨2, ![3000, 16384]⟩
abbrev S16384x3000 : Shape := ⟨2, ![16384, 3000]⟩

abbrev nBuf : Space → Nat
  | .hbm => 41
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S64x128, .f32⟩
  | .hbm, ⟨2, _⟩ => ⟨S3000x64, .f32⟩
  | .hbm, ⟨3, _⟩ => ⟨S1x64x128, .f32⟩
  | .hbm, ⟨4, _⟩ => ⟨S16384x1x128, .f32⟩
  | .hbm, ⟨5, _⟩ => ⟨S16384x64x128, .f32⟩
  | .hbm, ⟨6, _⟩ => ⟨S16384x64x128, .f32⟩
  | .hbm, ⟨7, _⟩ => ⟨S16384x64x128, .f32⟩
  | .hbm, ⟨8, _⟩ => ⟨S16384x64x128, .f32⟩
  | .hbm, ⟨9, _⟩ => ⟨S_, .f32⟩
  | .hbm, ⟨10, _⟩ => ⟨S16384x64, .f32⟩
  | .hbm, ⟨11, _⟩ => ⟨S16384x64, .f32⟩
  | .hbm, ⟨12, _⟩ => ⟨S16384x64, .i32⟩
  | .hbm, ⟨13, _⟩ => ⟨S_, .f32⟩
  | .hbm, ⟨14, _⟩ => ⟨S_, .i32⟩
  | .hbm, ⟨15, _⟩ => ⟨S16384, .f32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S1, .i32⟩
  | .hbm, ⟨26, _⟩ => ⟨S_, .i32⟩
  | .hbm, ⟨27, _⟩ => ⟨S16384x1, .i32⟩
  | .hbm, ⟨28, _⟩ => ⟨S16384x1, .i1⟩
  | .hbm, ⟨29, _⟩ => ⟨S1x1, .i32⟩
  | .hbm, ⟨30, _⟩ => ⟨S16384x1, .i32⟩
  | .hbm, ⟨31, _⟩ => ⟨S16384x1, .i1⟩
  | .hbm, ⟨32, _⟩ => ⟨S16384x1, .i1⟩
  | .hbm, ⟨33, _⟩ => ⟨S_, .i1⟩
  | .hbm, ⟨34, _⟩ => ⟨S16384, .i1⟩
  | .hbm, ⟨35, _⟩ => ⟨S3000x16384, .f32⟩
  | .hbm, ⟨36, _⟩ => ⟨S3000x16384, .i1⟩
  | .hbm, ⟨37, _⟩ => ⟨S_, .f32⟩
  | .hbm, ⟨38, _⟩ => ⟨S3000x16384, .f32⟩
  | .hbm, ⟨39, _⟩ => ⟨S3000x16384, .f32⟩
  | .hbm, ⟨40, _⟩ => ⟨S16384x3000, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v8 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_v14 : Ref sig .tc := ⟨.hbm, 36, rfl⟩
abbrev main_call1_cst : Ref sig .tc := ⟨.hbm, 37, rfl⟩
abbrev main_call1_v15 : Ref sig .tc := ⟨.hbm, 38, rfl⟩
abbrev main_v9 : Ref sig .tc := ⟨.hbm, 39, rfl⟩
abbrev main_v10 : Ref sig .tc := ⟨.hbm, 40, rfl⟩

abbrev nD : Nat := 1
abbrev τ : Topo := Topo.v7x

variable {F : FTy → Type} [FloatOps F]
-- ==== Proof.ICommon.lean ====
/-
  What the modules about the kernel share: the program as the SparseCore launch theorem sees it, the resource algebra
  (the handshakes' rounds, the TensorCore pipeline's rounds, write mode for the result array, the transfers' counters),
  and the arrays as locations.
-/
module

public import proofs.«01_k».proof.Defs
public import proofs.«01_k».proof.Proof.Gen.KernelIdeal
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.WriteMode
public import Idealize.ShloMosaic.Lib.Tactic

@[expose] public section

noncomputable section

namespace Cert.Proof.I

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none

/-! ## The resource algebra -/

abbrev UH : Type := URounds (GSem nD τ sig) ℕ
abbrev UP : Type := URounds (GSem nD τ sig) Unit
abbrev UW (F : FTy → Type) : Type := WmRA nD τ sig (Elt F)
/-- The handshakes' rounds, the pipeline's rounds, the write-mode cells and the transfers' counters, side by side. -/
abbrev UU (F : FTy → Type) : Type := UH × (UP × (UW F × Counters))

local notation "𝕄" => MT nD τ sig (HIx 1) (Elt F) ℕ (UU F) ℕ

/-- The handshakes' rounds, -/
abbrev EH : Emb UH (MT nD τ sig (HIx 1) (Elt F) ℕ (UU F) ℕ) := embL

/-- the pipeline's, -/
def EP : Emb UP (MT nD τ sig (HIx 1) (Elt F) ℕ (UU F) ℕ) := (Emb.inl : Emb UP (UP × (UW F × Counters))).trans embR

instance EP_landsIn : (EP (F := F)).LandsIn (upEmb : UEmb _ 𝕄) := by unfold EP; infer_instance

/-- and the write-mode cells within the user's algebra. -/
def EW : UEmb (UW F) (UU F) := ((UEmb.inl : UEmb (UW F) (UW F × Counters)).trans UEmb.inr).trans UEmb.inr

end Cert.Proof.I

end
-- ==== Proof.IFill.lean ====
/-
  One step of the tile's gather: loading sixteen target numbers, gathering sixteen table entries, and storing them into
  the block buffer. The steps are stated as entailments between weakest preconditions, so that the printed straight-line
  code is run by applying them one after another.
-/
module

public import proofs.«01_k».proof.Proof.ICommon

@[expose] public section

noncomputable section

namespace Cert.Proof.I

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU F) ℕ

/-- The position `n` of a row of `2048` target numbers (folded into range). -/
def ixI (n : ℕ) : S2048.Idx := fun a => ⟨n % S2048.size a, Nat.mod_lt _ (by fin_cases a; decide)⟩
/-- The table position row `r`, column `c` (folded into range). -/
def ixT (r c : ℕ) : S752x64.Idx := fun
  | 0 => ⟨r % 752, Nat.mod_lt _ (by decide)⟩
  | 1 => ⟨c % 64, Nat.mod_lt _ (by decide)⟩

/-- The entry at flat position `p` of block `blk`: row `8 blk + (p / 128) mod 8` of the table at the column the target
    number `128 (p / 1024) + p mod 128` names. -/
def gat (Tb : S752x64.Idx → Elt F .f32) (Ix : S2048.Idx → Elt F .i32) (blk p : ℕ) : Elt F .f32 :=
  Tb (ixT (8 * blk + p / 128 % 8) (BitVec.toNat (w := 32) (Ix (ixI (p / 1024 * 128 + p % 128)))))

/-- Sixteen entries from position `n` on. -/
def seg (Tb : S752x64.Idx → Elt F .f32) (Ix : S2048.Idx → Elt F .i32) (blk n : ℕ) : Vec F S16 .f32 :=
  fun x => gat Tb Ix blk (n + (x 0).val)

/-- Sixteen target numbers from position `n` on. -/
def iseg (Ix : S2048.Idx → Elt F .i32) (n : ℕ) : Vec F S16 .i32 := fun x => Ix (ixI (n + (x 0).val))

variable [FloatOps F] (d : Dev nD) (c : Fin τ.nSC) (i : Fin τ.nSub)

local notation "tabM" => (Memref.whole cc1_scratch0 : Memref sig Kind.scVector Space.vmem S752x64 EltTy.f32)
local notation "idxM" => (Memref.whole cc1_scratch1 : Memref sig Kind.scVector Space.vmem S2048 EltTy.i32)

/-- The tile's private memory while it fills buffer `b` for block `blk`: the table, the target numbers, and `b` holding
    the block's entries below `n`. -/
def St (Tb : S752x64.Idx → Elt F .f32) (Ix : S2048.Idx → Elt F .i32) (b : Memref sig .scVector .vmem S16384 .f32)
    (blk n : ℕ) : sProp 𝕄 :=
  iprop(((V d c i).loc cc1_scratch0 ↦{fullShare} (Tb : Buf (Elt F) ((V d c i).loc cc1_scratch0)))
    ∗ ((V d c i).loc cc1_scratch1 ↦{fullShare} (Ix : Buf (Elt F) ((V d c i).loc cc1_scratch1)))
    ∗ ∃ f, ⌜∀ x : S16384.Idx, (x 0).val < n → b.view.read (Elt F) f x = gat Tb Ix blk (x 0).val⌝ ∗ (b.view.loc (V d c i) ↦{fullShare} f))

variable {d c i}
variable {Tb : S752x64.Idx → Elt F .f32} {Ix : S2048.Idx → Elt F .i32} {b : Memref sig .scVector .vmem S16384 .f32} {blk : ℕ}
variable {α : Type} {Q : α → sProp (MT nD τ sig (HIx 1) (Elt F) ℕ (UU F) ℕ)}

/-- A load of the block buffer, whatever it reads. -/
theorem load_step {n : ℕ} {r : LoadRect S16384} {hl : b.view.LoadsAt r}
    {k : (r.shape.Idx → Elt F .f32) → Prog (TpuEff nD τ sig (Elt F) Λ₀ (.scVector c i)) α}
    (h : ∀ v, St d c i Tb Ix b blk n ⊢ wp frame (wpE defs₀ 𝒱₀ (V d c i) none) Set.univ (k v) Q) :
    St d c i Tb Ix b blk n ⊢ wp frame (wpE defs₀ 𝒱₀ (V d c i) none) Set.univ (.op (.load b r hl) k) Q := by
  iintro H
  unfold St at h ⊢
  icases H with ⟨HT, HI, %f, %hf, Hb⟩
  iapply (wp_load 𝒱₀ (V d c i) none Set.univ (m := b) (S := Finset.univ) (Finset.subset_univ _)) $$ Hb
  iintro Hb
  iapply (h _)
  isplitl [HT]; · iexact HT
  isplitl [HI]; · iexact HI
  iexists f
  isplitr; · ipureintro; exact hf
  iexact Hb

/-- A store of the sixteen entries from `n` on, at offset `n`. -/
theorem store_step {n : ℕ} {o : Fin 1 → ℕ} {inb} {hx hm} (ho : o = ![n])
    {k : PUnit → Prog (TpuEff nD τ sig (Elt F) Λ₀ (.scVector c i)) α}
    (h : St d c i Tb Ix b blk (n + 16) ⊢ wp frame (wpE defs₀ 𝒱₀ (V d c i) none) Set.univ (k ⟨⟩) Q) :
    St d c i Tb Ix b blk n ⊢ wp frame (wpE defs₀ 𝒱₀ (V d c i) none) Set.univ
      (.op (.store b (Rect.unit (s := S16384) o S16.size inb) (seg Tb Ix blk n) Finset.univ hx hm) k) Q := by
  subst ho
  iintro H
  unfold St at h ⊢
  icases H with ⟨HT, HI, %f, %hf, Hb⟩
  iapply (wp_store 𝒱₀ (V d c i) none Set.univ (m := b) (r := Rect.unit (s := S16384) ![n] S16.size inb) (f := f) (w := seg Tb Ix blk n) (Mk := Finset.univ) (S := Finset.univ) (Finset.subset_univ _)) $$ Hb
  iintro Hb
  iapply h
  isplitl [HT]; · iexact HT
  isplitl [HI]; · iexact HI
  iexists _
  isplitr
  rotate_left
  · iexact Hb
  ipureintro
  intro x hx
  by_cases hlt : (x 0).val < n
  · rw [← hf x hlt, View.read_apply, View.read_apply, View.write_of_not_mem]
    intro hmem
    have hmem' : b.view.emb x ∈ (b.view.slice (Rect.unit (s := S16384) ![n] S16.size inb)).set := hmem
    rw [View.set_slice, Finset.mem_map' b.view.emb, Rect.mem_set_unit] at hmem'
    have h0 : n ≤ (x 0).val := (hmem' 0).1
    omega
  · have h16 : (x 0).val - n < S16.size 0 := by show (x 0).val - n < 16; omega
    have hx' : x = (Rect.unit (s := S16384) ![n] S16.size inb).emb (fun a => ⟨(x 0).val - n, by
        obtain rfl : a = 0 := Subsingleton.elim _ _
        exact h16⟩) := by
      funext a
      obtain rfl : a = 0 := Subsingleton.elim _ _
      apply Fin.ext
      rw [Rect.emb_apply]
      show (x 0).val = n + 1 * ((x 0).val - n)
      omega
    have hw := View.write_emb_of_mem (v := b.access (Rect.unit (s := S16384) ![n] S16.size inb)) (Val := Elt F) f (seg Tb Ix blk n)
      (Finset.mem_univ (fun a : Fin 1 => (⟨(x 0).val - n, by
        obtain rfl : a = 0 := Subsingleton.elim _ _
        exact h16⟩ : Fin (S16.size a))))
    rw [View.read_apply]
    conv_lhs => rw [hx']
    refine (congrArg _ hw).trans ?_
    rw [cast_cast, cast_eq]
    show gat Tb Ix blk (n + ((x 0).val - n)) = _
    rw [Nat.add_sub_cancel' (Nat.le_of_not_lt hlt)]

/-- A load of sixteen target numbers. -/
theorem idx_step {n m : ℕ} {o : Fin 1 → ℕ} {inb} {hl} (ho : o = ![m])
    {k : _ → Prog (TpuEff nD τ sig (Elt F) Λ₀ (.scVector c i)) α}
    (h : St d c i Tb Ix b blk n ⊢ wp frame (wpE defs₀ 𝒱₀ (V d c i) none) Set.univ (k (iseg Ix m)) Q) :
    St d c i Tb Ix b blk n ⊢ wp frame (wpE defs₀ 𝒱₀ (V d c i) none) Set.univ
      (.op (.load idxM (Rect.unit (s := S2048) o S16.size inb).toLoadRect hl) k) Q := by
  subst ho
  iintro H
  unfold St at h ⊢
  icases H with ⟨HT, HI, Hb⟩
  iapply (wp_load 𝒱₀ (V d c i) none Set.univ (m := idxM) (S := Finset.univ) (Finset.subset_univ _)) $$ HI
  iintro HI
  have e : (idxM).view.readAt (Elt F) (Rect.unit (s := S2048) ![m] S16.size inb).toLoadRect Ix = iseg Ix m := by
    funext x
    rw [View.readAt_apply]
    refine (congrFun (View.read_whole cc1_scratch1 Ix) _).trans ?_
    refine congrArg Ix (funext fun (a : Fin 1) => ?_)
    obtain rfl : a = 0 := Subsingleton.elim _ _
    apply Fin.ext
    have hb := inb 0
    have hx := (x 0).isLt
    show m + 1 * (x 0).val = (m + (x 0).val) % 2048
    have h1 : m + 16 ≤ 2048 := hb
    have h2 : (x 0).val < 16 := hx
    omega
  rw [e]
  iapply h
  isplitl [HT]; · iexact HT
  isplitl [HI]; · iexact HI
  iexact Hb

/-- A checked condition that holds. -/
theorem assume_step {X : sProp 𝕄} {P : Prop} {dec : Decidable P} (hP : P)
    {k : PLift P → Prog (TpuEff nD τ sig (Elt F) Λ₀ (.scVector c i)) α}
    (h : X ⊢ wp frame (wpE defs₀ 𝒱₀ (V d c i) none) Set.univ (k ⟨hP⟩) Q) :
    X ⊢ wp frame (wpE defs₀ 𝒱₀ (V d c i) none) Set.univ (.op (.assume P dec) k) Q := by
  rw [wp_assume_of _ _ _ _ hP]; exact h

/-- The gather's read of the whole table. -/
theorem table_step {n : ℕ} {hl}
    {k : _ → Prog (TpuEff nD τ sig (Elt F) Λ₀ (.scVector c i)) α}
    (h : St d c i Tb Ix b blk n ⊢ wp frame (wpE defs₀ 𝒱₀ (V d c i) none) Set.univ (k Tb) Q) :
    St d c i Tb Ix b blk n ⊢ wp frame (wpE defs₀ 𝒱₀ (V d c i) none) Set.univ
      (.op (.load tabM (.whole S752x64) hl) k) Q := by
  iintro H
  unfold St at h ⊢
  icases H with ⟨HT, HI, Hb⟩
  iapply (wp_load_rect 𝒱₀ (V d c i) none Set.univ (m := tabM) (r := Rect.whole S752x64) (S := Finset.univ) (q := fullShare) (Finset.subset_univ _)) $$ HT
  iintro HT
  have e : ((tabM).access (.whole S752x64)).read (Elt F) Tb = Tb := by
    funext x
    rw [View.read_apply, cast_eq]
    refine congrArg Tb (funext fun a => Fin.ext ?_)
    show 0 + 1 * (x a).val = _
    omega
  have h' : ∀ v, v = Tb → St d c i Tb Ix b blk n ⊢ wp frame (wpE defs₀ 𝒱₀ (V d c i) none) Set.univ (k v) Q := by
    rintro v rfl; exact h
  iapply (h' _ e)
  unfold St
  isplitl [HT]; · iexact HT
  isplitl [HI]; · iexact HI
  iexact Hb

/-- Sixteen table entries gathered by row `8 blk + s / 8` and the target numbers of column group `s mod 8` are
    the block's entries from `1024 jj + 16 s` on. -/
theorem gather_eq {jj : ℕ} (s : ℕ) (hs : s < 64) {kv : IVec S16 32} {hidx}
    (hk : ∀ x, (kv x).toNat = 8 * blk + s / 8) :
    loadIdx Tb ![kv, iseg Ix (128 * jj + 16 * (s % 8))] hidx = seg Tb Ix blk (1024 * jj + 16 * s) := by
  funext x
  have hx : (x 0).val < 16 := (x 0).isLt
  show Tb (idxAt ![kv, iseg Ix (128 * jj + 16 * (s % 8))] hidx x) = gat Tb Ix blk (1024 * jj + 16 * s + (x 0).val)
  refine congrArg Tb (funext fun a => Fin.ext ?_)
  have h0 := hidx 0 x
  have h1 := hidx 1 x
  have e1 : (1024 * jj + 16 * s + (x 0).val) / 128 % 8 = s / 8 := by omega
  have e2 : (1024 * jj + 16 * s + (x 0).val) / 1024 * 128 + (1024 * jj + 16 * s + (x 0).val) % 128
      = 128 * jj + 16 * (s % 8) + (x 0).val := by omega
  rw [e1, e2]
  fin_cases a
  · show (kv x).toNat = (8 * blk + s / 8) % 752
    have h0' : (kv x).toNat < 752 := h0
    rw [hk] at h0' ⊢
    omega
  · show (iseg Ix (128 * jj + 16 * (s % 8)) x).toNat = BitVec.toNat (w := 32) (Ix (ixI (128 * jj + 16 * (s % 8) + (x 0).val))) % 64
    have h1' : (iseg Ix (128 * jj + 16 * (s % 8)) x).toNat < 64 := h1
    have h2 : BitVec.toNat (w := 32) (Ix (ixI (128 * jj + 16 * (s % 8) + (x 0).val))) < 64 := h1'
    rw [Nat.mod_eq_of_lt h2]
    rfl

/-- `store_step` of a vector known to be those entries, with the next position given its own name. -/
theorem store_step' (n n' : ℕ) {o : Fin 1 → ℕ} {inb} {w : Vec F S16 .f32} {hx hm} (ho : o = ![n]) (hw : w = seg Tb Ix blk n) (hn : n' = n + 16)
    {k : PUnit → Prog (TpuEff nD τ sig (Elt F) Λ₀ (.scVector c i)) α}
    (h : St d c i Tb Ix b blk n' ⊢ wp frame (wpE defs₀ 𝒱₀ (V d c i) none) Set.univ (k ⟨⟩) Q) :
    St d c i Tb Ix b blk n ⊢ wp frame (wpE defs₀ 𝒱₀ (V d c i) none) Set.univ
      (.op (.store b (Rect.unit (s := S16384) o S16.size inb) w Finset.univ hx hm) k) Q := by
  subst hn hw; exact store_step ho h

theorem vec1 {a b : ℕ} (h : a = b) : (![a] : Fin 1 → ℕ) = ![b] := by rw [h]

theorem vec3 {o : Fin 1 → ℕ} {a b c s : ℕ} (ho : o = ![a + 16 * b + c]) (h : 16 * b + c = 16 * s) : o = ![a + 16 * s] := by
  rw [ho, Nat.add_assoc, h]

/-- Segment `s` put in the block buffer: what it held there is read, and the segment is stored. -/
theorem put_step {jj : ℕ} (s : ℕ) {r : LoadRect S16384} {hl : b.view.LoadsAt r} {o : Fin 1 → ℕ} {inb} {w : Vec F S16 .f32} {hx hm}
    (ho : o = ![1024 * jj + 16 * s]) (hw : w = seg Tb Ix blk (1024 * jj + 16 * s))
    {k : PUnit → Prog (TpuEff nD τ sig (Elt F) Λ₀ (.scVector c i)) α}
    (h : St d c i Tb Ix b blk (1024 * jj + 16 * (s + 1)) ⊢ wp frame (wpE defs₀ 𝒱₀ (V d c i) none) Set.univ (k ⟨⟩) Q) :
    St d c i Tb Ix b blk (1024 * jj + 16 * s) ⊢ wp frame (wpE defs₀ 𝒱₀ (V d c i) none) Set.univ
      (.op (.load b r hl) fun _ => .op (.store b (Rect.unit (s := S16384) o S16.size inb) w Finset.univ hx hm) k) Q :=
  load_step fun _ => store_step' _ _ ho hw (by omega) h

/-- A gather by a row of the table and target numbers below `64` stays inside the table. -/
theorem idx_inb (hI : ∀ n, BitVec.toNat (w := 32) (Ix n) < 64) {kv : IVec S16 32} {r m : ℕ}
    (hk : ∀ x, (kv x).toNat = 8 * blk + r) (hr : r < 8) (hb : blk < 94) :
    ∀ a x, ((![kv, iseg Ix m] : Fin 2 → IVec S16 32) a x).toNat < S752x64.size a := by
  intro a x
  fin_cases a
  · show (kv x).toNat < 752
    rw [hk]; omega
  · exact hI _

/-- The eight gathers of one row of target numbers stay inside the table. -/
theorem chk8 (hI : ∀ n, BitVec.toNat (w := 32) (Ix n) < 64) (hb : blk < 94) {kv0 kv1 kv2 kv3 kv4 kv5 kv6 kv7 : IVec S16 32} {m : ℕ}
    (hk0 : ∀ x, (kv0 x).toNat = 8 * blk + 0) (hk1 : ∀ x, (kv1 x).toNat = 8 * blk + 1)
    (hk2 : ∀ x, (kv2 x).toNat = 8 * blk + 2) (hk3 : ∀ x, (kv3 x).toNat = 8 * blk + 3)
    (hk4 : ∀ x, (kv4 x).toNat = 8 * blk + 4) (hk5 : ∀ x, (kv5 x).toNat = 8 * blk + 5)
    (hk6 : ∀ x, (kv6 x).toNat = 8 * blk + 6) (hk7 : ∀ x, (kv7 x).toNat = 8 * blk + 7) :
    (∀ a x, ((![kv0, iseg Ix m] : Fin 2 → IVec S16 32) a x).toNat < S752x64.size a) ∧
    (∀ a x, ((![kv1, iseg Ix m] : Fin 2 → IVec S16 32) a x).toNat < S752x64.size a) ∧
    (∀ a x, ((![kv2, iseg Ix m] : Fin 2 → IVec S16 32) a x).toNat < S752x64.size a) ∧
    (∀ a x, ((![kv3, iseg Ix m] : Fin 2 → IVec S16 32) a x).toNat < S752x64.size a) ∧
    (∀ a x, ((![kv4, iseg Ix m] : Fin 2 → IVec S16 32) a x).toNat < S752x64.size a) ∧
    (∀ a x, ((![kv5, iseg Ix m] : Fin 2 → IVec S16 32) a x).toNat < S752x64.size a) ∧
    (∀ a x, ((![kv6, iseg Ix m] : Fin 2 → IVec S16 32) a x).toNat < S752x64.size a) ∧
    (∀ a x, ((![kv7, iseg Ix m] : Fin 2 → IVec S16 32) a x).toNat < S752x64.size a) :=
  ⟨idx_inb hI hk0 (by decide) hb, idx_inb hI hk1 (by decide) hb, idx_inb hI hk2 (by decide) hb, idx_inb hI hk3 (by decide) hb,
    idx_inb hI hk4 (by decide) hb, idx_inb hI hk5 (by decide) hb, idx_inb hI hk6 (by decide) hb, idx_inb hI hk7 (by decide) hb⟩

end Cert.Proof.I
-- ==== Proof.IOffs.lean ====
/-
  Where each tile reads and writes: tile `(core, subcore)` is number `w = 2 subcore + core`; it takes the target numbers
  `2048 (w mod 8) …`, the table rows `8 (i0 w) …`, and writes blocks `i0 w, …, i0 w + 93` of the column group `w mod 8`.
-/
module

public import proofs.«01_k».proof.Proof.ICommon

@[expose] public section

noncomputable section

namespace Cert.Proof.I

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-- The tile's number. -/
def wid (i : grid1.Coords) : ℕ := 2 * (i 1).val + (i 0).val
/-- The tile's first block of eight table rows. -/
def i0 (i : grid1.Coords) : ℕ := min (94 * (wid i / 8)) 281
/-- The tile's first group of 128 target numbers. -/
def j0 (i : grid1.Coords) : ℕ := 16 * (wid i % 8)
/-- Where the tile's block `n` lies in the result. -/
def bo (i : grid1.Coords) (n : ℕ) : ℕ := ((i0 i + n) * 128 + j0 i) * 1024

theorem wid_lt (i : grid1.Coords) : wid i < 32 := by
  have h0 : (i 0).val < 2 := (i 0).isLt
  have h1 : (i 1).val < 16 := (i 1).isLt
  unfold wid; omega

theorem bo_lt (i : grid1.Coords) {n : ℕ} (hn : n < 94) : bo i n + 16384 ≤ 49152000 := by
  unfold bo i0 j0; have := wid_lt i; omega

theorem bo_step (i : grid1.Coords) {n k : ℕ} (h : n < k) : bo i n + 16384 ≤ bo i k := by
  unfold bo; omega

theorem off1_eq : ∀ i : grid1.Coords, k1_off1 i = ![8 * i0 i, 0] := by decide +kernel
theorem off2_eq : ∀ i : grid1.Coords, k1_off2 i = ![128 * j0 i] := by decide +kernel
theorem off19_eq : ∀ i : grid1.Coords, k1_off19 i = ![bo i 0] := by decide +kernel
theorem off36_eq : ∀ i : grid1.Coords, k1_off36 i 1#32 = ![bo i 1] := by decide +kernel
theorem off54_eq : ∀ (i : grid1.Coords) (t : Fin k1_t3_loop.trips), k1_off54 i t = ![bo i (2 * (t.val + 1))] := by decide +kernel
theorem off72_eq : ∀ (i : grid1.Coords) (t : Fin k1_t3_loop.trips), k1_off72 i t = ![bo i (2 * (t.val + 1) + 1)] := by decide +kernel

/-- The row numbers of block `2 (t + 1)`, as the loop's arithmetic makes them. -/
theorem row_even : ∀ (t : Fin k1_t3_loop.trips) (r : Fin 8),
    (Scalar.addi (Scalar.muli (Scalar.muli 2#32 (Scf.iv 1#32 1#32 t)) 8#32) (BitVec.ofNat 32 r.val)).toNat = 8 * (2 * (t.val + 1)) + r.val := by
  decide +kernel
/-- The row numbers of block `2 (t + 1) + 1`. -/
theorem row_odd : ∀ (t : Fin k1_t3_loop.trips) (r : Fin 8),
    (Scalar.addi (Scalar.muli (Scalar.addi (Scalar.muli 2#32 (Scf.iv 1#32 1#32 t)) 1#32) 8#32) (BitVec.ofNat 32 r.val)).toNat
      = 8 * (2 * (t.val + 1) + 1) + r.val := by
  decide +kernel

end Cert.Proof.I

end
-- ==== Proof.IWrite.lean ====
/-
  The result in write mode: every tile holds a share of the whole result buffer with the value each element is going to
  have, and a record of the elements known written. Two tiles may then write the same block at once, since both write the
  value the element is going to have.
-/
module

public import proofs.«01_k».proof.Proof.IFill
public import proofs.«01_k».proof.Proof.IOffs

@[expose] public section

noncomputable section

namespace Cert.Proof.I

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

open Idealize.ShloMosaic.Transfers

variable {F : FTy → Type}

local notation "𝕄" => MT nD τ sig (HIx 1) (Elt F) ℕ (UU F) ℕ
local notation "zM" => (Memref.whole main_v2_scv : Memref sig Kind.scVector Space.hbm S49152000 EltTy.f32)

/-- The flat result of the SparseCore call. -/
abbrev zLoc (d : Dev nD) : Loc nD τ sig := (SparseCore.T d).loc main_v2

section Share

variable (d : Dev nD) (f₀ G : S49152000.Idx → Elt F .f32)

/-- A share `q` of the elements `I` of the result, which held `f₀`, are going to hold `G`, and hold it already on `W`. -/
def zW (q : PosShare TreeShare) (I W : Finset S49152000.Idx) : sProp 𝕄 :=
  willBeTo (EW (F := F)) (zLoc d) I q (f₀ : Buf (Elt F) (zLoc d)) (fun x => some (G x)) W

instance zW_storable {q : PosShare TreeShare} {I W : Finset S49152000.Idx} : Storable (upEmb : UEmb _ 𝕄) (zW d f₀ G q I W) := by
  unfold zW; infer_instance

variable {d f₀ G}
variable {q q₁ q₂ : PosShare TreeShare} {I J W W' : Finset S49152000.Idx}

/-- Only the record on the held elements matters. -/
theorem zW_congr (h : ∀ x ∈ I, x ∈ W ↔ x ∈ W') : (zW d f₀ G q I W : sProp 𝕄) = zW d f₀ G q I W' := by
  unfold zW
  exact BI.Region.willBe_congr (fun _ _ => rfl) (fun _ _ => rfl) h

/-- Some elements carved out. -/
theorem zW_take (h : J ⊆ I) : (zW d f₀ G q I W : sProp 𝕄) ⊢ iprop(zW d f₀ G q J W ∗ zW d f₀ G q (I \ J) W) := by
  unfold zW
  exact (BI.Region.held_split_subset (ι := (wmEmb (HIx 1) (EW (F := F))).toEmb) h).1

/-- A written block put back. -/
theorem zW_put (h : Disjoint I J) : iprop(zW d f₀ G q I W ∗ zW d f₀ G q J J) ⊢ (zW d f₀ G q (I ∪ J) (W ∪ J) : sProp 𝕄) := by
  have e1 : (zW d f₀ G q I W : sProp 𝕄) = zW d f₀ G q I (W ∪ J) := zW_congr fun x hx => by
    rw [Finset.mem_union]
    exact ⟨Or.inl, fun h' => h'.resolve_right (Finset.disjoint_left.mp h hx)⟩
  have e2 : (zW d f₀ G q J J : sProp 𝕄) = zW d f₀ G q J (W ∪ J) := zW_congr fun x hx => by
    rw [Finset.mem_union]; exact ⟨fun _ => Or.inr hx, fun _ => hx⟩
  rw [e1, e2]
  unfold zW
  exact (BI.Region.held_union (ι := (wmEmb (HIx 1) (EW (F := F))).toEmb) h).2

/-- Along the share, the records joined. -/
theorem zW_share (h : q ∈ PCS.op q₁ q₂) :
    (zW d f₀ G q I (W ∪ W') : sProp 𝕄) ⊣⊢ iprop(zW d f₀ G q₁ I W ∗ zW d f₀ G q₂ I W') := by
  unfold zW
  refine BI.Region.held_share (ι := (wmEmb (HIx 1) (EW (F := F))).toEmb) h fun x _ => ?_
  simp only [Finset.mem_union, Bool.decide_or]
  exact Region.WB.mem_mk_op_mk _ _ _ _

/-- The read shares of the first `k` holders and the rest, nothing known written. -/
theorem zW_toks_range (k : ℕ) : (zW d f₀ G q I ∅ : sProp 𝕄)
    ⊢ iprop(zW d f₀ G (shareDrop q k) I ∅ ∗ bigSep (Finset.range k) fun n => zW d f₀ G (shareTokN q n) I ∅) := by
  induction k with
  | zero => rw [Finset.range_zero, bigSep_empty]; exact Laws.sep_emp.mpr
  | succ k ih =>
    rw [Finset.range_add_one, SparseCore.bigSep_insert' Finset.notMem_range_self]
    have hs : (zW d f₀ G (shareDrop q k) I ∅ : sProp 𝕄)
        ⊢ iprop(zW d f₀ G (shareDrop q (k + 1)) I ∅ ∗ zW d f₀ G (shareTokN q k) I ∅) := by
      have := (zW_share (d := d) (f₀ := f₀) (G := G) (I := I) (W := ∅) (W' := ∅) (PosShare.mem_left_op_right (shareDrop q k))).1
      rwa [Finset.union_empty] at this
    refine ih.trans ((sep_mono_left hs).trans ?_)
    iintro ⟨⟨Hd, Ht⟩, Hts⟩
    isplitl [Hd]; · iexact Hd
    isplitl [Ht] <;> iassumption

/-- The shares joined, each with its own record. -/
theorem zW_toks_range_join (Ws : ℕ → Finset S49152000.Idx) (k : ℕ) :
    iprop(zW d f₀ G (shareDrop q k) I ∅ ∗ bigSep (Finset.range k) fun n => zW d f₀ G (shareTokN q n) I (Ws n))
      ⊢ (zW d f₀ G q I ((Finset.range k).biUnion Ws) : sProp 𝕄) := by
  suffices h : ∀ W, iprop(zW d f₀ G (shareDrop q k) I W ∗ bigSep (Finset.range k) fun n => zW d f₀ G (shareTokN q n) I (Ws n))
      ⊢ (zW d f₀ G q I (W ∪ (Finset.range k).biUnion Ws) : sProp 𝕄) by
    have := h ∅; rwa [Finset.empty_union] at this
  induction k with
  | zero => intro W; rw [Finset.range_zero, bigSep_empty, Finset.biUnion_empty, Finset.union_empty]; exact Laws.sep_emp.mp
  | succ k ih =>
    intro W
    rw [Finset.range_add_one, SparseCore.bigSep_insert' Finset.notMem_range_self, Finset.biUnion_insert, ← Finset.union_assoc]
    refine BIBase.Entails.trans ?_ (ih (W ∪ Ws k))
    iintro ⟨Hd, Ht, Hts⟩
    isplitr [Hts]
    · iapply (zW_share (d := d) (f₀ := f₀) (G := G) (I := I) (W := W) (W' := Ws k) (PosShare.mem_left_op_right (shareDrop q k))).2
      isplitl [Hd]; · iexact Hd
      iexact Ht
    · iexact Hts

theorem bigSep_fin_range (k : ℕ) (Φ : ℕ → sProp 𝕄) : (bigSep Finset.univ fun n : Fin k => Φ n.val) = bigSep (Finset.range k) Φ := by
  rw [← Nat.Iio_eq_range, ← Fin.map_valEmbedding_univ, bigSep_map]; rfl

theorem zW_toks (k : ℕ) : (zW d f₀ G q I ∅ : sProp 𝕄)
    ⊢ iprop(zW d f₀ G (shareDrop q k) I ∅ ∗ bigSep Finset.univ fun n : Fin k => zW d f₀ G (shareTok q k n) I ∅) := by
  rw [bigSep_fin_range k fun n => zW d f₀ G (shareTokN q n) I ∅]; exact zW_toks_range k

theorem zW_toks_join (Ws : ℕ → Finset S49152000.Idx) (k : ℕ) :
    iprop(zW d f₀ G (shareDrop q k) I ∅ ∗ bigSep Finset.univ fun n : Fin k => zW d f₀ G (shareTok q k n) I (Ws n.val))
      ⊢ (zW d f₀ G q I ((Finset.range k).biUnion Ws) : sProp 𝕄) := by
  rw [bigSep_fin_range k fun n => zW d f₀ G (shareTokN q n) I (Ws n)]; exact zW_toks_range_join Ws k

end Share

/-- The elements of the tile's block `n`. -/
def blkSet (i : grid1.Coords) (n : ℕ) : Finset S49152000.Idx :=
  Finset.univ.filter fun x => bo i n ≤ (x 0).val ∧ (x 0).val < bo i n + 16384

theorem mem_blkSet {i : grid1.Coords} {n : ℕ} {x : S49152000.Idx} :
    x ∈ blkSet i n ↔ bo i n ≤ (x 0).val ∧ (x 0).val < bo i n + 16384 := by
  unfold blkSet; rw [Finset.mem_filter]; exact ⟨fun h => h.2, fun h => ⟨Finset.mem_univ _, h⟩⟩

theorem blkSet_disjoint {i : grid1.Coords} {n k : ℕ} (h : n < k) : Disjoint (blkSet i n) (blkSet i k) :=
  Finset.disjoint_left.mpr fun x hx hy => by
    have h1 := (mem_blkSet.mp hx).2
    have h2 := (mem_blkSet.mp hy).1
    have := bo_step i h
    omega

/-- The slice of the result a block is copied to is the block's elements. -/
theorem set_slice_blk {i : grid1.Coords} {n : ℕ} {o : Fin 1 → ℕ} {inb} {ho'} (ho : o = ![bo i n]) :
    ((zM).slice (Rect.unit (s := S49152000) o S16384.size inb) ho').view.set = blkSet i n := by
  subst ho
  show ((View.whole main_v2_scv).slice (Rect.unit (s := S49152000) ![bo i n] S16384.size inb)).set = _
  rw [View.set_slice]
  refine Finset.map_refl.trans (Finset.ext fun x => ?_)
  rw [Rect.mem_set_unit, mem_blkSet]
  exact ⟨fun h => h (0 : Fin 1), fun h (a : Fin 1) => by exact (Subsingleton.elim (α := Fin 1) 0 a) ▸ h⟩

variable [FloatOps F] {d : Dev nD} {c : Fin τ.nSC} {i : Fin τ.nSub}
variable {α : Type} {Q : α → sProp (MT nD τ sig (HIx 1) (Elt F) ℕ (UU F) ℕ)}

/-- The transfers' counters within the user's algebra. -/
abbrev EC : UEmb Counters (MT nD τ sig (HIx 1) (Elt F) ℕ (UU F) ℕ) := countersEmb

/-- The transfer counter's units of a copy of one block. -/
def NZ : ℕ := sig.dmaCredit .scVector (Kind.scVector.table .hbm) (main_v2_scv : Ref sig .scVector).idx S16384 .f32
theorem amount_z {o : Fin 1 → ℕ} {inb} {ho'} {sem : DmaSem sig} :
    ((zM).slice (Rect.unit (s := S49152000) o S16384.size inb) ho').view.amount (.dma sem) = NZ := rfl
theorem dmaCredit_z {o : Fin 1 → ℕ} {inb} {ho'} :
    ((zM).slice (Rect.unit (s := S49152000) o S16384.size inb) ho').view.dmaCredit = NZ := rfl
theorem NZ_pos : 0 < NZ := sig.dmaCredit_pos _ _ _ _ _ (by decide)

/-- A copy of a filled block out to the result: what is in flight hands back the block of the result, written, and the
    buffer. -/
theorem out_step {f₀ G : S49152000.Idx → Elt F .f32} {q : PosShare TreeShare} {I W : Finset S49152000.Idx} {ιwm : ℕ}
    {b : Memref sig .scVector .vmem S16384 .f32} {f : Buf (Elt F) (b.view.loc (V d c i))} {L : grid1.Coords} {n : ℕ}
    {o : Fin 1 → ℕ} {inb} {ho'} {sem : DmaSem sig} {hsrc hdst hsem}
    (hset : b.view.set = Finset.univ) (ho : o = ![bo L n]) (hI : blkSet L n ⊆ I)
    (hG : ∀ (x : S16384.Idx) (y : S49152000.Idx), (y 0).val = bo L n + (x 0).val → b.view.read (Elt F) f x = G y)
    {k : PUnit → Prog (TpuEff nD τ sig (Elt F) Λ₀ (.scVector c i)) α} :
    iprop(wmInv (EW (F := F)) ιwm ∗ (b.view.loc (V d c i) ↦{fullShare} f) ∗ zW d f₀ G q I W ∗ semVal (V d c i, .dma sem) 0)
      ⊢ iprop((Flight (EC (F := F)) (V d c i) (.dma sem) none NZ
                  iprop(zW d f₀ G q (blkSet L n) (blkSet L n) ∗ ∃ f, b.view.loc (V d c i) ↦{fullShare} f)
                -∗ zW d f₀ G q (I \ blkSet L n) W -∗ wp frame (wpE defs₀ 𝒱₀ (V d c i) none) Set.univ (k ⟨⟩) Q)
          -∗ wp frame (wpE defs₀ 𝒱₀ (V d c i) none) Set.univ
              (.op (.enqueueDma b (.here ((zM).slice (Rect.unit (s := S49152000) o S16384.size inb) ho')) (.dma sem) hsrc hdst hsem) k) Q) := by
  iintro ⟨#Hwm, Hb, Hz, Hv⟩ Hk
  ihave Hz' := (zW_take (d := d) (f₀ := f₀) (G := G) (q := q) (W := W) hI) $$ Hz
  icases Hz' with ⟨Hz, Hrest⟩
  imod (flight_alloc (EC (F := F)) NZ_pos iprop(zW d f₀ G q (blkSet L n) (blkSet L n) ∗ ∃ f, b.view.loc (V d c i) ↦{fullShare} f)
    (g := (V d c i, .dma sem))) $$ Hv with ⟨%γ, %δ, %κ, #Hinv, Hγ, Hδ⟩
  have hs := set_slice_blk (i := L) (n := n) (inb := inb) (ho' := ho') ho
  have hadm : ((zM).slice (Rect.unit (s := S49152000) o S16384.size inb) ho').view.Admitted (Elt F) (fun x => some (G x))
      (b.view.read (Elt F) f) Finset.univ := by
    intro x _ u hu
    rw [View.read_apply, cast_eq] at hu
    obtain rfl := Option.some.inj hu
    refine hG x _ ?_
    subst ho
    show bo L n + 1 * (x 0).val = _
    rw [Nat.one_mul]
  have hin : (zW d f₀ G q (blkSet L n) W : sProp 𝕄)
      = willBeTo (EW (F := F)) (((zM).slice (Rect.unit (s := S49152000) o S16384.size inb) ho').view.loc (V d c i))
          ((zM).slice (Rect.unit (s := S49152000) o S16384.size inb) ho').view.set q f₀ (fun x => some (G x)) W := by
    rw [hs]; rfl
  have hout : willBeTo (EW (F := F)) (((zM).slice (Rect.unit (s := S49152000) o S16384.size inb) ho').view.loc (V d c i))
          ((zM).slice (Rect.unit (s := S49152000) o S16384.size inb) ho').view.set q f₀ (fun x => some (G x))
            (W ∪ ((zM).slice (Rect.unit (s := S49152000) o S16384.size inb) ho').view.set)
      = (zW d f₀ G q (blkSet L n) (blkSet L n) : sProp 𝕄) := by
    rw [hs]
    exact zW_congr fun x hx => ⟨fun _ => hx, fun _ => Finset.mem_union_right _ hx⟩
  iapply (wp_enqueueDma_willBeTo (emb := EW (F := F)) (ιwm := ιwm) 𝒱₀ (V d c i) none Set.univ
    (dst := (zM).slice (Rect.unit (s := S49152000) o S16384.size inb) ho') none NZ amount_z hadm
    (q := fullShare) (fs := f) (qd := q) (fd := f₀) (W := W)) $$ [Hb Hz] [Hγ]
  · rw [hset]
    isplitl [Hb]; · iexact Hb
    isplitr; · iexact Hwm
    iapply (Entails.of_eq hin); iexact Hz
  · iapply (Transfers.creditUpdate_anti (R := iprop(zW d f₀ G q (blkSet L n) (blkSet L n) ∗ ∃ f, b.view.loc (V d c i) ↦{fullShare} f)) ?deliv)
    case deliv =>
      rw [hset]
      exact BI.sep_mono (Entails.of_eq hout) (BIClass.exists_intro (Φ := fun f => iprop(b.view.loc (V d c i) ↦{fullShare} f)) f)
    iapply (flight_creditUpdate (EC (F := F)) (δ := δ))
    isplitr; · iexact Hinv
    iexact Hγ
  iintro Hcred
  iapply Hk $$ [Hδ Hcred] Hrest
  iapply (flight_intro (EC (F := F)) (V d c i) (κ := κ))
  isplitr; · iexact Hinv
  isplitl [Hδ] <;> iassumption

end Cert.Proof.I

end
-- ==== Proof.ISteps.lean ====
/-
  The tile's moves, as rules handed the continuation: a copy in and its wait, filling a block, copying it out, waiting for a
  copy out.
-/
module

public import proofs.«01_k».proof.Proof.IWrite

@[expose] public section

noncomputable section

namespace Cert.Proof.I

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

open Idealize.ShloMosaic.Transfers

variable {F : FTy → Type} [FloatOps F]

local notation "𝕄" => MT nD τ sig (HIx 1) (Elt F) ℕ (UU F) ℕ
local notation "zM" => (Memref.whole main_v2_scv : Memref sig Kind.scVector Space.hbm S49152000 EltTy.f32)
local notation "aM" => (Memref.whole main_arg2_scv : Memref sig Kind.scVector Space.hbm S3000x64 EltTy.f32)
local notation "nM" => (Memref.whole main_v1_scv : Memref sig Kind.scVector Space.hbm S16384 EltTy.i32)

variable {d : Dev nD} {c : Fin τ.nSC} {i : Fin τ.nSub}
variable {α : Type} {Q : α → sProp (MT nD τ sig (HIx 1) (Elt F) ℕ (UU F) ℕ)}
variable {O : CellTallies nD τ sig (HIx 1)} {W : Waits sig (HIx 1)}

/-- What a thread owes once more waits of its own are recorded. -/
def Ow (thr : Thread nD τ) (O : CellTallies nD τ sig (HIx 1)) (W : Waits sig (HIx 1)) : sProp 𝕄 :=
  iprop(∃ W', ⌜∀ p ∈ W', p ∈ W ∨ p.2 = none⌝ ∗ owes thr O W')

theorem Ow_intro {thr : Thread nD τ} : (owes thr O W : sProp 𝕄) ⊢ Ow thr O W := by
  unfold Ow
  iintro H
  iexists W
  isplitr; · ipureintro; exact fun _ h => .inl h
  iexact H

/-- Waiting for a copy in flight. -/
theorem wait_step (hO : ∀ g, O g none = 0) {s s' : Shape} {e e' : EltTy} {sp sp' : Space} {sem : DmaSem sig} {N : ℕ} {D : sProp 𝕄}
    {srcw : Memref sig .scVector sp' s' e'} {dstw : Memref sig .scVector sp s e} {hsrc : srcw.view.WordExact} {hdst : dstw.view.WordExact}
    (hN : dstw.view.dmaCredit = N)
    {k : PUnit → Prog (TpuEff nD τ sig (Elt F) Λ₀ (.scVector c i)) α} :
    iprop(levAts (K (F := F)).L (K (F := F)).lev ∗ Flight (EC (F := F)) (V d c i) (.dma sem) none N D ∗ Ow (V d c i) O W)
      ⊢ iprop((D -∗ semVal (V d c i, .dma sem) 0 -∗ Ow (V d c i) O W -∗ wp frame (wpE defs₀ 𝒱₀ (V d c i) none) Set.univ (k ⟨⟩) Q)
          -∗ wp frame (wpE defs₀ 𝒱₀ (V d c i) none) Set.univ (.op (.waitDma2 sem srcw dstw hsrc hdst) k) Q) := by
  unfold Ow
  iintro ⟨#Hlv, Hf, %W', %hW', HO⟩ Hk
  iapply (wp_waitLocalO (EC (F := F)) 𝒱₀ (V d c i) none none hN (O := O) (W := W')) $$ [Hf HO]
  · isplitl [Hf]; · iexact Hf
    isplitl [HO]; · iexact HO
    iapply ((K (F := F)).mayWait_none (SemLoc.dma sem) hO); iexact Hlv
  iintro ⟨HD, Hv, HO⟩
  iapply Hk $$ HD Hv
  iexists _
  isplitr
  rotate_left
  · iexact HO
  ipureintro
  intro p hp
  rcases Finset.mem_insert.mp hp with rfl | hp
  · exact .inr rfl
  · exact hW' p hp

/-- A copy in and its wait: the destination then holds what the source's window read, and the source is as it was. -/
theorem in_step (hO : ∀ g, O g none = 0) {s s' : Shape} {e e' : EltTy} {sp sp' sp'' : Space} {sem : DmaSem sig}
    {src : Memref sig .scVector sp s e} {dst : Memref sig .scVector sp' s e} {srcw : Memref sig .scVector sp'' s' e'}
    {hsrc hdst hsem hsrc' hdst'} {q : PosShare TreeShare} {fs : Buf (Elt F) (src.view.loc (V d c i))}
    (hN0 : 0 < dst.view.dmaCredit)
    {k : PUnit → Prog (TpuEff nD τ sig (Elt F) Λ₀ (.scVector c i)) α} :
    iprop(levAts (K (F := F)).L (K (F := F)).lev ∗ (src.view.loc (V d c i) ↦{q} fs) ∗ (∃ f, dst.view.loc (V d c i) ↦{fullShare} f)
        ∗ semVal (V d c i, .dma sem) 0 ∗ Ow (V d c i) O W)
      ⊢ iprop(((src.view.loc (V d c i) ↦{q} fs) -∗ (∃ fd, dst.view.loc (V d c i) ↦{fullShare} (dst.view.write (Elt F) fd (src.view.read (Elt F) fs) Finset.univ))
            -∗ semVal (V d c i, .dma sem) 0 -∗ Ow (V d c i) O W -∗ wp frame (wpE defs₀ 𝒱₀ (V d c i) none) Set.univ (k ⟨⟩) Q)
          -∗ wp frame (wpE defs₀ 𝒱₀ (V d c i) none) Set.univ
              (.op (.enqueueDma src (.here dst) (.dma sem) hsrc hdst hsem) fun _ => .op (.waitDma2 sem srcw dst hsrc' hdst') k) Q) := by
  iintro ⟨#Hlv, Hs, ⟨%fd, Hd⟩, Hv, HO⟩ Hk
  ihave Hs' := (pointsTo_split_subset (Finset.subset_univ src.view.set)).1 $$ Hs
  icases Hs' with ⟨Hs, Hsr⟩
  iapply (wp_dmaLocal (EC (F := F)) 𝒱₀ (V d c i) none (via := ReadAs.same) (src := src) (dst := dst) none dst.view.dmaCredit rfl hN0 (Finset.subset_univ _) (sm := .dma sem) (fs := fs) (q := q) (fd := fd)) $$ [Hs Hd Hv]
  · isplitl [Hs]; · iexact Hs
    isplitl [Hd]; · iexact Hd
    iexact Hv
  iintro Hf
  iapply (wait_step (O := O) (W := W) hO rfl) $$ [Hf HO]
  · isplitr; · iexact Hlv
    isplitl [Hf]; · iexact Hf
    iexact HO
  iintro ⟨Hd, Hs⟩ Hv HO
  iapply Hk $$ [Hs Hsr] [Hd] Hv HO
  · iapply (pointsTo_split_subset (Finset.subset_univ src.view.set)).2
    isplitl [Hs]; · iexact Hs
    iexact Hsr
  · iexists fd; iexact Hd

section Fill

variable {Tb : S752x64.Idx → Elt F .f32} {Ix : S2048.Idx → Elt F .i32} {b : Memref sig .scVector .vmem S16384 .f32} {blk : ℕ}

/-- A loop of sixteen trips, each filling another 1024 entries, fills the block. -/
theorem fill_rule {L : Scf.Loop 32} {ok} {body : Fin L.trips → PUnit → Prog (TpuEff nD τ sig (Elt F) Λ₀ (.scVector c i)) PUnit}
    (hT : L.trips = 16)
    (hbody : ∀ t a, St d c i Tb Ix b blk (1024 * t.val) ⊢ wp frame (wpE defs₀ 𝒱₀ (V d c i) none) Set.univ (body t a)
      fun _ => St d c i Tb Ix b blk (1024 * (t.val + 1)))
    {kk : PUnit → Prog (TpuEff nD τ sig (Elt F) Λ₀ (.scVector c i)) α} :
    St d c i Tb Ix b blk 0
      ⊢ iprop((St d c i Tb Ix b blk 16384 -∗ wp frame (wpE defs₀ 𝒱₀ (V d c i) none) Set.univ (kk ⟨⟩) Q)
          -∗ wp frame (wpE defs₀ 𝒱₀ (V d c i) none) Set.univ (Scf.Loop.for L ok ⟨⟩ body >>= kk) Q) := by
  have h := Scf.wp_for_bind frame (wpE (defs₀ (F := F)) 𝒱₀ (V d c i) none) Set.univ L.lb L.ub L.st ok ⟨⟩ body
    (fun t _ => St d c i Tb Ix b blk (1024 * t)) hbody (kk := kk) (Q := Q)
  refine h.trans ?_
  iintro H Hk
  iapply H
  iintro %acc HS
  iapply Hk
  have e : Scf.trips L.lb L.ub L.st = 16 := hT
  rw [e]
  iexact HS

/-- The two private arrays of the gather. -/
def TI (d : Dev nD) (c : Fin τ.nSC) (i : Fin τ.nSub) (Tb : S752x64.Idx → Elt F .f32) (Ix : S2048.Idx → Elt F .i32) : sProp 𝕄 :=
  iprop(((V d c i).loc cc1_scratch0 ↦{fullShare} (Tb : Buf (Elt F) ((V d c i).loc cc1_scratch0)))
    ∗ ((V d c i).loc cc1_scratch1 ↦{fullShare} (Ix : Buf (Elt F) ((V d c i).loc cc1_scratch1))))

/-- An empty block buffer, whatever it holds. -/
theorem St_zero : iprop(TI d c i Tb Ix ∗ ∃ f, b.view.loc (V d c i) ↦{fullShare} f) ⊢ St d c i Tb Ix b blk 0 := by
  unfold St TI
  iintro ⟨⟨HT, HI⟩, %f, Hb⟩
  isplitl [HT]; · iexact HT
  isplitl [HI]; · iexact HI
  iexists f
  isplitr; · ipureintro; exact fun _ h => absurd h (Nat.not_lt_zero _)
  iexact Hb

/-- A full block copied out. -/
theorem full_out_step {f₀ G : S49152000.Idx → Elt F .f32} {q : PosShare TreeShare} {I W : Finset S49152000.Idx} {ιwm : ℕ}
    {L : grid1.Coords} {n : ℕ} {o : Fin 1 → ℕ} {inb} {ho'} {sem : DmaSem sig} {hsrc hdst hsem}
    (hset : b.view.set = Finset.univ) (ho : o = ![bo L n]) (hI : blkSet L n ⊆ I)
    (hG : ∀ (x : S16384.Idx) (y : S49152000.Idx), (y 0).val = bo L n + (x 0).val → gat Tb Ix n (x 0).val = G y)
    {k : PUnit → Prog (TpuEff nD τ sig (Elt F) Λ₀ (.scVector c i)) α} :
    iprop(wmInv (EW (F := F)) ιwm ∗ St d c i Tb Ix b n 16384 ∗ zW d f₀ G q I W ∗ semVal (V d c i, .dma sem) 0)
      ⊢ iprop((TI d c i Tb Ix -∗ Flight (EC (F := F)) (V d c i) (.dma sem) none NZ
                  iprop(zW d f₀ G q (blkSet L n) (blkSet L n) ∗ ∃ f, b.view.loc (V d c i) ↦{fullShare} f)
                -∗ zW d f₀ G q (I \ blkSet L n) W -∗ wp frame (wpE defs₀ 𝒱₀ (V d c i) none) Set.univ (k ⟨⟩) Q)
          -∗ wp frame (wpE defs₀ 𝒱₀ (V d c i) none) Set.univ
              (.op (.enqueueDma b (.here ((zM).slice (Rect.unit (s := S49152000) o S16384.size inb) ho')) (.dma sem) hsrc hdst hsem) k) Q) := by
  unfold St TI
  iintro ⟨#Hwm, ⟨HT, HI, %f, %hf, Hb⟩, Hz, Hv⟩ Hk
  iapply (out_step (f := f) (f₀ := f₀) (G := G) (q := q) (I := I) (W := W) (ιwm := ιwm) hset ho hI
    (fun x y h => (hf x (x 0).isLt).trans (hG x y h))) $$ [Hb Hz Hv]
  · isplitr; · iexact Hwm
    isplitl [Hb]; · iexact Hb
    isplitl [Hz]; · iexact Hz
    iexact Hv
  iintro Hf Hz
  iapply Hk $$ [HT HI] Hf Hz
  isplitl [HT]; · iexact HT
  iexact HI

end Fill

/-- The first of two blocks in flight put back, written. -/
theorem zW_back {f₀ G : S49152000.Idx → Elt F .f32} {q : PosShare TreeShare} {X Y W : Finset S49152000.Idx} (h : Disjoint X Y) :
    iprop(zW d f₀ G q ((Finset.univ \ X) \ Y) W ∗ zW d f₀ G q X X) ⊢ (zW d f₀ G q (Finset.univ \ Y) (W ∪ X) : sProp 𝕄) := by
  have e : ((Finset.univ \ X) \ Y) ∪ X = Finset.univ \ Y := by
    ext x
    simp only [Finset.mem_union, Finset.mem_sdiff, Finset.mem_univ, true_and]
    constructor
    · rintro (⟨_, h2⟩ | h1)
      · exact h2
      · exact Finset.disjoint_left.mp h h1
    · intro h2
      by_cases h1 : x ∈ X
      · exact .inr h1
      · exact .inl ⟨h1, h2⟩
  rw [← e]
  refine zW_put (Finset.disjoint_left.mpr fun x hx => ?_)
  simp only [Finset.mem_sdiff, Finset.mem_univ, true_and] at hx
  exact hx.1

/-- The last block put back, written. -/
theorem zW_back_last {f₀ G : S49152000.Idx → Elt F .f32} {q : PosShare TreeShare} {X W : Finset S49152000.Idx} :
    iprop(zW d f₀ G q (Finset.univ \ X) W ∗ zW d f₀ G q X X) ⊢ (zW d f₀ G q Finset.univ (W ∪ X) : sProp 𝕄) := by
  have h := zW_put (d := d) (f₀ := f₀) (G := G) (q := q) (W := W) (I := Finset.univ \ X) (J := X) Finset.sdiff_disjoint
  rwa [Finset.sdiff_union_of_subset (Finset.subset_univ X)] at h

/-- The blocks the tile has written before block `n`. -/
def Wn (L : grid1.Coords) (n : ℕ) : Finset S49152000.Idx := (Finset.range n).biUnion (blkSet L)

theorem Wn_zero (L : grid1.Coords) : Wn L 0 = ∅ := rfl
theorem Wn_succ (L : grid1.Coords) (n : ℕ) : Wn L n ∪ blkSet L n = Wn L (n + 1) := by
  unfold Wn
  rw [Finset.range_add_one, Finset.biUnion_insert, Finset.union_comm]

/-- The table rows a tile reads. -/
def tabOf (L : grid1.Coords) (C : S3000x64.Idx → Elt F .f32) : S752x64.Idx → Elt F .f32 :=
  ((aM).slice (Rect.unit (s := S3000x64) (k1_off1 L) S752x64.size (k1_off1_inb L)) (fun _ => rfl)).view.read (Elt F) C
/-- The target numbers a tile reads. -/
def idxOf (L : grid1.Coords) (N : S16384.Idx → Elt F .i32) : S2048.Idx → Elt F .i32 :=
  ((nM).slice (Rect.unit (s := S16384) (k1_off2 L) S2048.size (k1_off2_inb L)) (fun _ => rfl)).view.read (Elt F) N

/-- Position `(r, c)` of the table (folded into range). -/
def ixC (r c : ℕ) : S3000x64.Idx := fun
  | 0 => ⟨r % 3000, Nat.mod_lt _ (by decide)⟩
  | 1 => ⟨c % 64, Nat.mod_lt _ (by decide)⟩
/-- Position `n` of the target numbers (folded into range). -/
def ixN (n : ℕ) : S16384.Idx := fun a => ⟨n % S16384.size a, Nat.mod_lt _ (by fin_cases a; decide)⟩

/-- The flat result of the SparseCore call from the table and the target numbers: position `y` is row
    `8 (y / 131072) + (y / 128) mod 8` of the table at the column that target number `128 ((y / 1024) mod 128) + y mod 128` names. -/
def Gv (C : S3000x64.Idx → Elt F .f32) (N : S16384.Idx → Elt F .i32) : S49152000.Idx → Elt F .f32 := fun y =>
  C (ixC ((y 0).val / 131072 * 8 + (y 0).val / 128 % 8)
    (BitVec.toNat (w := 32) (N (ixN ((y 0).val / 1024 % 128 * 128 + (y 0).val % 128)))))

omit [FloatOps F] in
theorem idxOf_apply (L : grid1.Coords) (N : S16384.Idx → Elt F .i32) (n : ℕ) (hn : n < 2048) :
    idxOf L N (ixI n) = N (ixN (128 * j0 L + n)) := by
  unfold idxOf
  refine congrArg N (funext fun (a : Fin 1) => Fin.ext ?_)
  obtain rfl : a = 0 := Subsingleton.elim _ _
  have hj : j0 L ≤ 112 := by unfold j0; omega
  show k1_off2 L 0 + 1 * (n % 2048) = (128 * j0 L + n) % 16384
  rw [off2_eq]
  show 128 * j0 L + 1 * (n % 2048) = _
  omega

omit [FloatOps F] in
theorem tabOf_apply (L : grid1.Coords) (C : S3000x64.Idx → Elt F .f32) (r k : ℕ) (hr : r < 752) :
    tabOf L C (ixT r k) = C (ixC (8 * i0 L + r) k) := by
  unfold tabOf
  have hj : i0 L ≤ 281 := by unfold i0; omega
  refine congrArg C (funext fun (a : Fin 2) => Fin.ext ?_)
  match a with
  | 0 =>
    show k1_off1 L 0 + 1 * (r % 752) = (8 * i0 L + r) % 3000
    rw [off1_eq]
    show 8 * i0 L + 1 * (r % 752) = _
    omega
  | 1 =>
    show k1_off1 L 1 + 1 * (k % 64) = k % 64
    rw [off1_eq]
    show 0 + 1 * (k % 64) = _
    omega

omit [FloatOps F] in
/-- What a tile gathers for block `n` is the result there. -/
theorem gat_Gv (L : grid1.Coords) (C : S3000x64.Idx → Elt F .f32) (N : S16384.Idx → Elt F .i32) {n : ℕ} (hn : n < 94)
    (x : S16384.Idx) (y : S49152000.Idx) (h : (y 0).val = bo L n + (x 0).val) :
    gat (tabOf L C) (idxOf L N) n (x 0).val = Gv C N y := by
  have hx : (x 0).val < 16384 := (x 0).isLt
  have hj : ∃ j, j < 8 ∧ j0 L = 16 * j := ⟨wid L % 8, Nat.mod_lt _ (by decide), rfl⟩
  obtain ⟨j, hj, ej⟩ := hj
  generalize hp : (x 0).val = p at *
  unfold gat Gv
  rw [idxOf_apply L N _ (by omega), tabOf_apply L C _ _ (by omega), h]
  unfold bo
  rw [ej]
  have e1 : ((i0 L + n) * 128 + 16 * j) * 1024 + p = (i0 L + n) * 131072 + (16384 * j + p) := by ring
  rw [e1]
  have a1 : ((i0 L + n) * 131072 + (16384 * j + p)) / 131072 * 8 + ((i0 L + n) * 131072 + (16384 * j + p)) / 128 % 8 = 8 * i0 L + (8 * n + p / 128 % 8) := by omega
  have a2 : ((i0 L + n) * 131072 + (16384 * j + p)) / 1024 % 128 * 128 + ((i0 L + n) * 131072 + (16384 * j + p)) % 128 = 128 * (16 * j) + (p / 1024 * 128 + p % 128) := by omega
  rw [a1, a2]

omit [FloatOps F] in
theorem idxOf_lt (L : grid1.Coords) (N : S16384.Idx → Elt F .i32) (hN : ∀ x, BitVec.toNat (w := 32) (N x) < 64) (n : S2048.Idx) :
    BitVec.toNat (w := 32) (idxOf L N n) < 64 := hN _

end Cert.Proof.I

end
-- ==== Proof.ITrip1.lean ====
/-
  The gather's straight-line code, trip 1 of the four loops: each printed window of the code, run on the tile's private
  memory by the steps of `Fill`.
-/
module

public import proofs.«01_k».proof.Proof.IFill

@[expose] public section

noncomputable section

namespace Cert.Proof.I

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ
local notation "tabM" => (Memref.whole cc1_scratch0 : Memref sig Kind.scVector Space.vmem S752x64 EltTy.f32)
local notation "idxM" => (Memref.whole cc1_scratch1 : Memref sig Kind.scVector Space.vmem S2048 EltTy.i32)

variable {d : Dev nD} {i : grid1.Coords}
variable {arg2 : Memref sig .scVector .hbm S3000x64 .f32} {harg2 : arg2.IsWhole} {arg3 : Memref sig .scVector .hbm S16384 .i32} {harg3 : arg3.IsWhole}
  {arg4 : Memref sig .scVector .hbm S49152000 .f32} {harg4 : arg4.IsWhole} {harg5 : (tabM).IsWhole} {harg6 : (idxM).IsWhole}
  {arg7 : Memref sig .scVector .vmem S16384 .f32} {harg7 : arg7.IsWhole} {arg8 : Memref sig .scVector .vmem S16384 .f32} {harg8 : arg8.IsWhole}
  {arg9 arg10 r0 r1 : DmaSems sig S_}
variable {Tb : S752x64.Idx → Elt F .f32} {Ix : S2048.Idx → Elt F .i32} {blk : ℕ}
variable {α : Type} {Q : α → sProp (MT nD τ sig (HIx 1) (Elt F) ℕ (UU F) ℕ)}
variable {t : Fin k1_t1_loop.trips} {v50 v51 v52 v53 v54 v55 v56 v57 : IVec S16 32}
variable (hI : ∀ n, BitVec.toNat (w := 32) (Ix n) < 64) (hb : blk < 94)
  (hk0 : ∀ x, (v50 x).toNat = 8 * blk + 0) (hk1 : ∀ x, (v51 x).toNat = 8 * blk + 1) (hk2 : ∀ x, (v52 x).toNat = 8 * blk + 2) (hk3 : ∀ x, (v53 x).toNat = 8 * blk + 3)
  (hk4 : ∀ x, (v54 x).toNat = 8 * blk + 4) (hk5 : ∀ x, (v55 x).toNat = 8 * blk + 5) (hk6 : ∀ x, (v56 x).toNat = 8 * blk + 6) (hk7 : ∀ x, (v57 x).toNat = 8 * blk + 7)

local notation "ix " j:max => iseg Ix (128 * Fin.val t + 16 * j)
local notation "sg " s:max => seg Tb Ix blk (1024 * Fin.val t + 16 * s)
local notation "st " s:max => St d (Fin.castLE hcore1 (i 0)) (Fin.castLE hsub1 (i 1)) Tb Ix arg7 blk (1024 * Fin.val t + 16 * s)
local notation "run " p:max => wp frame (wpE defs₀ 𝒱₀ (V d (Fin.castLE hcore1 (i 0)) (Fin.castLE hsub1 (i 1))) none) Set.univ p Q
local notation "code " f:max => f i arg2 harg2 arg3 harg3 arg4 harg4 tabM harg5 idxM harg6 arg7 harg7 arg8 harg8 arg9 arg10 r0 r1 v50 v51 v52 v53 v54 v55 v56 v57

include hI hb hk0 hk1 hk2 hk3 hk4 hk5 hk6 hk7

/-- Window 1 of trip 1's code: from 0 to 0 segments of the first block buffer. -/
theorem part1_step {c0_i32_21} {c1_i32_23} {k : _ → Prog _ α}
    (h : ∀ w h0 h1 h2 h3 h4 h5 h6 h7 w', w' = sg 0 → st 0 ⊢ run (k ⟨w, ix 0, h0, ix 1, h1, ix 2, h2, ix 3, h3, ix 4, h4, ix 5, h5, ix 6, h6, ix 7, h7, w'⟩)) :
    st 0 ⊢ run ((code k1_part1) c0_i32_21 c1_i32_23 t >>= k) := by
  unfold k1_part1
  refine idx_step (m := 128 * t.val + 16 * 0) (k1_off3_eq t 0) (assume_step (chk8 hI hb hk0 hk1 hk2 hk3 hk4 hk5 hk6 hk7) ?_)
  refine idx_step (m := 128 * t.val + 16 * 1) (k1_off3_eq t 1) (assume_step (chk8 hI hb hk0 hk1 hk2 hk3 hk4 hk5 hk6 hk7) ?_)
  refine idx_step (m := 128 * t.val + 16 * 2) (k1_off3_eq t 2) (assume_step (chk8 hI hb hk0 hk1 hk2 hk3 hk4 hk5 hk6 hk7) ?_)
  refine idx_step (m := 128 * t.val + 16 * 3) (k1_off3_eq t 3) (assume_step (chk8 hI hb hk0 hk1 hk2 hk3 hk4 hk5 hk6 hk7) ?_)
  refine idx_step (m := 128 * t.val + 16 * 4) (k1_off3_eq t 4) (assume_step (chk8 hI hb hk0 hk1 hk2 hk3 hk4 hk5 hk6 hk7) ?_)
  refine idx_step (m := 128 * t.val + 16 * 5) (k1_off3_eq t 5) (assume_step (chk8 hI hb hk0 hk1 hk2 hk3 hk4 hk5 hk6 hk7) ?_)
  refine idx_step (m := 128 * t.val + 16 * 6) (k1_off3_eq t 6) (assume_step (chk8 hI hb hk0 hk1 hk2 hk3 hk4 hk5 hk6 hk7) ?_)
  refine idx_step (m := 128 * t.val + 16 * 7) (k1_off3_eq t 7) (assume_step (chk8 hI hb hk0 hk1 hk2 hk3 hk4 hk5 hk6 hk7) ?_)
  exact table_step (h _ _ _ _ _ _ _ _ _ _ (gather_eq 0 (by decide) hk0))

/-- Window 2 of trip 1's code: from 0 to 7 segments of the first block buffer. -/
theorem part2_step {v93} {k1_hw2} {k1_hw3} {k1_hw4} {k1_hw5} {k1_hw6} {k1_hw7} {k1_hw8} {w} (hw : w = sg 0) {k : _ → Prog _ α}
    (h : ∀ w w', w' = sg 7 → st 7 ⊢ run (k ⟨w', w⟩)) :
    st 0 ⊢ run ((code k1_part2) t v93 (ix 1) k1_hw2 (ix 2) k1_hw3 (ix 3) k1_hw4 (ix 4) k1_hw5 (ix 5) k1_hw6 (ix 6) k1_hw7 (ix 7) k1_hw8 w >>= k) := by
  unfold k1_part2
  refine put_step 0 ((k1_off4_eq t).trans (vec1 (by omega))) hw ?_
  refine table_step (put_step 1 ((k1_off5_eq t).trans (vec1 (by omega))) (gather_eq 1 (by decide) hk0) ?_)
  refine table_step (put_step 2 ((k1_off6_eq t).trans (vec1 (by omega))) (gather_eq 2 (by decide) hk0) ?_)
  refine table_step (put_step 3 ((k1_off7_eq t).trans (vec1 (by omega))) (gather_eq 3 (by decide) hk0) ?_)
  refine table_step (put_step 4 ((k1_off8_eq t).trans (vec1 (by omega))) (gather_eq 4 (by decide) hk0) ?_)
  refine table_step (put_step 5 ((k1_off9_eq t).trans (vec1 (by omega))) (gather_eq 5 (by decide) hk0) ?_)
  refine table_step (put_step 6 ((k1_off10_eq t).trans (vec1 (by omega))) (gather_eq 6 (by decide) hk0) ?_)
  exact table_step (h _ _ (gather_eq 7 (by decide) hk0))

/-- Window 3 of trip 1's code: from 7 to 15 segments of the first block buffer. -/
theorem part3_step {v93} {k1_hw1} {k1_hw2} {k1_hw3} {k1_hw4} {k1_hw5} {k1_hw6} {k1_hw7} {k1_hw8} {w} {v163} (hw : w = sg 7) {k : _ → Prog _ α}
    (h : ∀ w', w' = sg 15 → st 15 ⊢ run (k w')) :
    st 7 ⊢ run ((code k1_part3) t v93 (ix 0) k1_hw1 (ix 1) k1_hw2 (ix 2) k1_hw3 (ix 3) k1_hw4 (ix 4) k1_hw5 (ix 5) k1_hw6 (ix 6) k1_hw7 (ix 7) k1_hw8 w v163 >>= k) := by
  unfold k1_part3
  refine put_step 7 ((k1_off11_eq t).trans (vec1 (by omega))) hw ?_
  refine table_step (put_step 8 (vec3 (k1_off12_eq t 0) rfl) (gather_eq 8 (by decide) hk1) ?_)
  refine table_step (put_step 9 (vec3 (k1_off12_eq t 1) rfl) (gather_eq 9 (by decide) hk1) ?_)
  refine table_step (put_step 10 (vec3 (k1_off12_eq t 2) rfl) (gather_eq 10 (by decide) hk1) ?_)
  refine table_step (put_step 11 (vec3 (k1_off12_eq t 3) rfl) (gather_eq 11 (by decide) hk1) ?_)
  refine table_step (put_step 12 (vec3 (k1_off12_eq t 4) rfl) (gather_eq 12 (by decide) hk1) ?_)
  refine table_step (put_step 13 (vec3 (k1_off12_eq t 5) rfl) (gather_eq 13 (by decide) hk1) ?_)
  refine table_step (put_step 14 (vec3 (k1_off12_eq t 6) rfl) (gather_eq 14 (by decide) hk1) ?_)
  exact table_step (h _ (gather_eq 15 (by decide) hk1))

/-- Window 4 of trip 1's code: from 15 to 22 segments of the first block buffer. -/
theorem part4_step {v93} {k1_hw1} {k1_hw2} {k1_hw3} {k1_hw4} {k1_hw5} {k1_hw6} {k1_hw7} {w} (hw : w = sg 15) {k : _ → Prog _ α}
    (h : ∀ w w', w' = sg 22 → st 22 ⊢ run (k ⟨w', w⟩)) :
    st 15 ⊢ run ((code k1_part4) t v93 (ix 0) k1_hw1 (ix 1) k1_hw2 (ix 2) k1_hw3 (ix 3) k1_hw4 (ix 4) k1_hw5 (ix 5) k1_hw6 (ix 6) k1_hw7 w >>= k) := by
  unfold k1_part4
  refine put_step 15 (vec3 (k1_off12_eq t 7) rfl) hw ?_
  refine table_step (put_step 16 (vec3 (k1_off13_eq t 0) rfl) (gather_eq 16 (by decide) hk2) ?_)
  refine table_step (put_step 17 (vec3 (k1_off13_eq t 1) rfl) (gather_eq 17 (by decide) hk2) ?_)
  refine table_step (put_step 18 (vec3 (k1_off13_eq t 2) rfl) (gather_eq 18 (by decide) hk2) ?_)
  refine table_step (put_step 19 (vec3 (k1_off13_eq t 3) rfl) (gather_eq 19 (by decide) hk2) ?_)
  refine table_step (put_step 20 (vec3 (k1_off13_eq t 4) rfl) (gather_eq 20 (by decide) hk2) ?_)
  refine table_step (put_step 21 (vec3 (k1_off13_eq t 5) rfl) (gather_eq 21 (by decide) hk2) ?_)
  exact table_step (h _ _ (gather_eq 22 (by decide) hk2))

/-- Window 5 of trip 1's code: from 22 to 30 segments of the first block buffer. -/
theorem part5_step {v93} {k1_hw1} {k1_hw2} {k1_hw3} {k1_hw4} {k1_hw5} {k1_hw6} {k1_hw7} {k1_hw8} {w} {v238} (hw : w = sg 22) {k : _ → Prog _ α}
    (h : ∀ w', w' = sg 30 → st 30 ⊢ run (k w')) :
    st 22 ⊢ run ((code k1_part5) t v93 (ix 0) k1_hw1 (ix 1) k1_hw2 (ix 2) k1_hw3 (ix 3) k1_hw4 (ix 4) k1_hw5 (ix 5) k1_hw6 (ix 6) k1_hw7 (ix 7) k1_hw8 w v238 >>= k) := by
  unfold k1_part5
  refine put_step 22 (vec3 (k1_off13_eq t 6) rfl) hw ?_
  refine table_step (put_step 23 (vec3 (k1_off13_eq t 7) rfl) (gather_eq 23 (by decide) hk2) ?_)
  refine table_step (put_step 24 (vec3 (k1_off14_eq t 0) rfl) (gather_eq 24 (by decide) hk3) ?_)
  refine table_step (put_step 25 (vec3 (k1_off14_eq t 1) rfl) (gather_eq 25 (by decide) hk3) ?_)
  refine table_step (put_step 26 (vec3 (k1_off14_eq t 2) rfl) (gather_eq 26 (by decide) hk3) ?_)
  refine table_step (put_step 27 (vec3 (k1_off14_eq t 3) rfl) (gather_eq 27 (by decide) hk3) ?_)
  refine table_step (put_step 28 (vec3 (k1_off14_eq t 4) rfl) (gather_eq 28 (by decide) hk3) ?_)
  refine table_step (put_step 29 (vec3 (k1_off14_eq t 5) rfl) (gather_eq 29 (by decide) hk3) ?_)
  exact table_step (h _ (gather_eq 30 (by decide) hk3))

/-- Window 6 of trip 1's code: from 30 to 37 segments of the first block buffer. -/
theorem part6_step {v93} {k1_hw1} {k1_hw2} {k1_hw3} {k1_hw4} {k1_hw5} {k1_hw6} {k1_hw8} {w} (hw : w = sg 30) {k : _ → Prog _ α}
    (h : ∀ w w', w' = sg 37 → st 37 ⊢ run (k ⟨w', w⟩)) :
    st 30 ⊢ run ((code k1_part6) t v93 (ix 0) k1_hw1 (ix 1) k1_hw2 (ix 2) k1_hw3 (ix 3) k1_hw4 (ix 4) k1_hw5 (ix 5) k1_hw6 (ix 7) k1_hw8 w >>= k) := by
  unfold k1_part6
  refine put_step 30 (vec3 (k1_off14_eq t 6) rfl) hw ?_
  refine table_step (put_step 31 (vec3 (k1_off14_eq t 7) rfl) (gather_eq 31 (by decide) hk3) ?_)
  refine table_step (put_step 32 (vec3 (k1_off15_eq t 0) rfl) (gather_eq 32 (by decide) hk4) ?_)
  refine table_step (put_step 33 (vec3 (k1_off15_eq t 1) rfl) (gather_eq 33 (by decide) hk4) ?_)
  refine table_step (put_step 34 (vec3 (k1_off15_eq t 2) rfl) (gather_eq 34 (by decide) hk4) ?_)
  refine table_step (put_step 35 (vec3 (k1_off15_eq t 3) rfl) (gather_eq 35 (by decide) hk4) ?_)
  refine table_step (put_step 36 (vec3 (k1_off15_eq t 4) rfl) (gather_eq 36 (by decide) hk4) ?_)
  exact table_step (h _ _ (gather_eq 37 (by decide) hk4))

/-- Window 7 of trip 1's code: from 37 to 45 segments of the first block buffer. -/
theorem part7_step {v93} {k1_hw1} {k1_hw2} {k1_hw3} {k1_hw4} {k1_hw5} {k1_hw6} {k1_hw7} {k1_hw8} {w} {v313} (hw : w = sg 37) {k : _ → Prog _ α}
    (h : ∀ w', w' = sg 45 → st 45 ⊢ run (k w')) :
    st 37 ⊢ run ((code k1_part7) t v93 (ix 0) k1_hw1 (ix 1) k1_hw2 (ix 2) k1_hw3 (ix 3) k1_hw4 (ix 4) k1_hw5 (ix 5) k1_hw6 (ix 6) k1_hw7 (ix 7) k1_hw8 w v313 >>= k) := by
  unfold k1_part7
  refine put_step 37 (vec3 (k1_off15_eq t 5) rfl) hw ?_
  refine table_step (put_step 38 (vec3 (k1_off15_eq t 6) rfl) (gather_eq 38 (by decide) hk4) ?_)
  refine table_step (put_step 39 (vec3 (k1_off15_eq t 7) rfl) (gather_eq 39 (by decide) hk4) ?_)
  refine table_step (put_step 40 (vec3 (k1_off16_eq t 0) rfl) (gather_eq 40 (by decide) hk5) ?_)
  refine table_step (put_step 41 (vec3 (k1_off16_eq t 1) rfl) (gather_eq 41 (by decide) hk5) ?_)
  refine table_step (put_step 42 (vec3 (k1_off16_eq t 2) rfl) (gather_eq 42 (by decide) hk5) ?_)
  refine table_step (put_step 43 (vec3 (k1_off16_eq t 3) rfl) (gather_eq 43 (by decide) hk5) ?_)
  refine table_step (put_step 44 (vec3 (k1_off16_eq t 4) rfl) (gather_eq 44 (by decide) hk5) ?_)
  exact table_step (h _ (gather_eq 45 (by decide) hk5))

/-- Window 8 of trip 1's code: from 45 to 52 segments of the first block buffer. -/
theorem part8_step {v93} {k1_hw1} {k1_hw2} {k1_hw3} {k1_hw4} {k1_hw5} {k1_hw7} {k1_hw8} {w} (hw : w = sg 45) {k : _ → Prog _ α}
    (h : ∀ w w', w' = sg 52 → st 52 ⊢ run (k ⟨w', w⟩)) :
    st 45 ⊢ run ((code k1_part8) t v93 (ix 0) k1_hw1 (ix 1) k1_hw2 (ix 2) k1_hw3 (ix 3) k1_hw4 (ix 4) k1_hw5 (ix 6) k1_hw7 (ix 7) k1_hw8 w >>= k) := by
  unfold k1_part8
  refine put_step 45 (vec3 (k1_off16_eq t 5) rfl) hw ?_
  refine table_step (put_step 46 (vec3 (k1_off16_eq t 6) rfl) (gather_eq 46 (by decide) hk5) ?_)
  refine table_step (put_step 47 (vec3 (k1_off16_eq t 7) rfl) (gather_eq 47 (by decide) hk5) ?_)
  refine table_step (put_step 48 (vec3 (k1_off17_eq t 0) rfl) (gather_eq 48 (by decide) hk6) ?_)
  refine table_step (put_step 49 (vec3 (k1_off17_eq t 1) rfl) (gather_eq 49 (by decide) hk6) ?_)
  refine table_step (put_step 50 (vec3 (k1_off17_eq t 2) rfl) (gather_eq 50 (by decide) hk6) ?_)
  refine table_step (put_step 51 (vec3 (k1_off17_eq t 3) rfl) (gather_eq 51 (by decide) hk6) ?_)
  exact table_step (h _ _ (gather_eq 52 (by decide) hk6))

/-- Window 9 of trip 1's code: from 52 to 60 segments of the first block buffer. -/
theorem part9_step {v93} {k1_hw1} {k1_hw2} {k1_hw3} {k1_hw4} {k1_hw5} {k1_hw6} {k1_hw7} {k1_hw8} {w} {v388} (hw : w = sg 52) {k : _ → Prog _ α}
    (h : ∀ w', w' = sg 60 → st 60 ⊢ run (k w')) :
    st 52 ⊢ run ((code k1_part9) t v93 (ix 0) k1_hw1 (ix 1) k1_hw2 (ix 2) k1_hw3 (ix 3) k1_hw4 (ix 4) k1_hw5 (ix 5) k1_hw6 (ix 6) k1_hw7 (ix 7) k1_hw8 w v388 >>= k) := by
  unfold k1_part9
  refine put_step 52 (vec3 (k1_off17_eq t 4) rfl) hw ?_
  refine table_step (put_step 53 (vec3 (k1_off17_eq t 5) rfl) (gather_eq 53 (by decide) hk6) ?_)
  refine table_step (put_step 54 (vec3 (k1_off17_eq t 6) rfl) (gather_eq 54 (by decide) hk6) ?_)
  refine table_step (put_step 55 (vec3 (k1_off17_eq t 7) rfl) (gather_eq 55 (by decide) hk6) ?_)
  refine table_step (put_step 56 (vec3 (k1_off18_eq t 0) rfl) (gather_eq 56 (by decide) hk7) ?_)
  refine table_step (put_step 57 (vec3 (k1_off18_eq t 1) rfl) (gather_eq 57 (by decide) hk7) ?_)
  refine table_step (put_step 58 (vec3 (k1_off18_eq t 2) rfl) (gather_eq 58 (by decide) hk7) ?_)
  refine table_step (put_step 59 (vec3 (k1_off18_eq t 3) rfl) (gather_eq 59 (by decide) hk7) ?_)
  exact table_step (h _ (gather_eq 60 (by decide) hk7))

end Cert.Proof.I

end
-- ==== Proof.IPart40.lean ====
/-
  The first stretch of a tile's task: its table rows and target numbers copied in, and the first block filled.
-/
module

public import proofs.«01_k».proof.Proof.ISteps
public import proofs.«01_k».proof.Proof.ITrip1

@[expose] public section

noncomputable section

namespace Cert.Proof.I

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

open Idealize.ShloMosaic.Transfers

variable {F : FTy → Type} [FloatOps F]

local notation "𝕄" => MT nD τ sig (HIx 1) (Elt F) ℕ (UU F) ℕ
local notation "zM" => (Memref.whole main_v2_scv : Memref sig Kind.scVector Space.hbm S49152000 EltTy.f32)
local notation "aM" => (Memref.whole main_arg2_scv : Memref sig Kind.scVector Space.hbm S3000x64 EltTy.f32)
local notation "nM" => (Memref.whole main_v1_scv : Memref sig Kind.scVector Space.hbm S16384 EltTy.i32)
local notation "tabM" => (Memref.whole cc1_scratch0 : Memref sig Kind.scVector Space.vmem S752x64 EltTy.f32)
local notation "idxM" => (Memref.whole cc1_scratch1 : Memref sig Kind.scVector Space.vmem S2048 EltTy.i32)
local notation "b7" => (Memref.whole cc1_scratch2 : Memref sig Kind.scVector Space.vmem S16384 EltTy.f32)
local notation "b8" => (Memref.whole cc1_scratch3 : Memref sig Kind.scVector Space.vmem S16384 EltTy.f32)
local notation "VT" d i => V d (Fin.castLE hcore1 (i 0)) (Fin.castLE hsub1 (i 1))

variable {d : Dev nD} {i : grid1.Coords}
variable {O : CellTallies nD τ sig (HIx 1)} {W : Waits sig (HIx 1)}
variable {C : S3000x64.Idx → Elt F .f32} {N : S16384.Idx → Elt F .i32} {f₀ : S49152000.Idx → Elt F .f32} {q qa qn : PosShare TreeShare} {ιwm : ℕ}

theorem tab_pos : 0 < (tabM).view.dmaCredit := sig.dmaCredit_pos _ _ _ S752x64 _ (by decide)
theorem idx_pos : 0 < (idxM).view.dmaCredit := sig.dmaCredit_pos _ _ _ S2048 _ (by decide)
omit [FloatOps F] in
theorem tab_in {fd : Buf (Elt F) ((V d (Fin.castLE hcore1 (i 0)) (Fin.castLE hsub1 (i 1))).loc cc1_scratch0)} :
    ((tabM).view.loc (V d (Fin.castLE hcore1 (i 0)) (Fin.castLE hsub1 (i 1))) ↦{fullShare} ((tabM).view.write (Elt F) fd
        (((aM).slice (Rect.unit (s := S3000x64) (k1_off1 i) S752x64.size (k1_off1_inb i)) (fun _ => rfl)).view.read (Elt F) C) Finset.univ) : sProp 𝕄)
      = ((V d (Fin.castLE hcore1 (i 0)) (Fin.castLE hsub1 (i 1))).loc cc1_scratch0 ↦{fullShare} (tabOf i C : Buf (Elt F) ((V d (Fin.castLE hcore1 (i 0)) (Fin.castLE hsub1 (i 1))).loc cc1_scratch0))) :=
  congrArg (fun f => ((tabM).view.loc (V d (Fin.castLE hcore1 (i 0)) (Fin.castLE hsub1 (i 1))) ↦{fullShare} f : sProp 𝕄)) (View.write_whole_univ cc1_scratch0 fd _)
omit [FloatOps F] in
theorem idx_in {fd : Buf (Elt F) ((V d (Fin.castLE hcore1 (i 0)) (Fin.castLE hsub1 (i 1))).loc cc1_scratch1)} :
    ((idxM).view.loc (V d (Fin.castLE hcore1 (i 0)) (Fin.castLE hsub1 (i 1))) ↦{fullShare} ((idxM).view.write (Elt F) fd
        (((nM).slice (Rect.unit (s := S16384) (k1_off2 i) S2048.size (k1_off2_inb i)) (fun _ => rfl)).view.read (Elt F) N) Finset.univ) : sProp 𝕄)
      = ((V d (Fin.castLE hcore1 (i 0)) (Fin.castLE hsub1 (i 1))).loc cc1_scratch1 ↦{fullShare} (idxOf i N : Buf (Elt F) ((V d (Fin.castLE hcore1 (i 0)) (Fin.castLE hsub1 (i 1))).loc cc1_scratch1))) :=
  congrArg (fun f => ((idxM).view.loc (V d (Fin.castLE hcore1 (i 0)) (Fin.castLE hsub1 (i 1))) ↦{fullShare} f : sProp 𝕄)) (View.write_whole_univ cc1_scratch1 fd _)

/-- The copies in and the first block. -/
theorem part40_rule (hO : ∀ g, O g none = 0) (hN : ∀ x, BitVec.toNat (w := 32) (N x) < 64) {v32 c8 v33 v35 : BitVec 32} {v36 : BitVec 1}
    {Q : (Σ' (_ : BitVec 32), BitVec 32) → sProp (MT nD τ sig (HIx 1) (Elt F) ℕ (UU F) ℕ)} :
    iprop(levAts (K (F := F)).L (K (F := F)).lev
        ∗ ((V d (Fin.castLE hcore1 (i 0)) (Fin.castLE hsub1 (i 1))).loc main_arg2_scv ↦{qa} (C : Buf (Elt F) ((V d (Fin.castLE hcore1 (i 0)) (Fin.castLE hsub1 (i 1))).loc main_arg2_scv)))
        ∗ ((V d (Fin.castLE hcore1 (i 0)) (Fin.castLE hsub1 (i 1))).loc main_v1_scv ↦{qn} (N : Buf (Elt F) ((V d (Fin.castLE hcore1 (i 0)) (Fin.castLE hsub1 (i 1))).loc main_v1_scv)))
        ∗ (∃ f, (V d (Fin.castLE hcore1 (i 0)) (Fin.castLE hsub1 (i 1))).loc cc1_scratch0 ↦{fullShare} f) ∗ (∃ f, (V d (Fin.castLE hcore1 (i 0)) (Fin.castLE hsub1 (i 1))).loc cc1_scratch1 ↦{fullShare} f)
        ∗ (∃ f, (V d (Fin.castLE hcore1 (i 0)) (Fin.castLE hsub1 (i 1))).loc cc1_scratch2 ↦{fullShare} f)
        ∗ semVal (V d (Fin.castLE hcore1 (i 0)) (Fin.castLE hsub1 (i 1)), .dma cc1_scoped0.sem) 0 ∗ semVal (V d (Fin.castLE hcore1 (i 0)) (Fin.castLE hsub1 (i 1)), .dma cc1_scoped1.sem) 0 ∗ Ow (V d (Fin.castLE hcore1 (i 0)) (Fin.castLE hsub1 (i 1))) O W)
      ⊢ iprop((∀ v, ((V d (Fin.castLE hcore1 (i 0)) (Fin.castLE hsub1 (i 1))).loc main_arg2_scv ↦{qa} (C : Buf (Elt F) ((V d (Fin.castLE hcore1 (i 0)) (Fin.castLE hsub1 (i 1))).loc main_arg2_scv)))
            -∗ ((V d (Fin.castLE hcore1 (i 0)) (Fin.castLE hsub1 (i 1))).loc main_v1_scv ↦{qn} (N : Buf (Elt F) ((V d (Fin.castLE hcore1 (i 0)) (Fin.castLE hsub1 (i 1))).loc main_v1_scv)))
            -∗ St d (Fin.castLE hcore1 (i 0)) (Fin.castLE hsub1 (i 1)) (tabOf i C) (idxOf i N) b7 0 16384
            -∗ semVal (V d (Fin.castLE hcore1 (i 0)) (Fin.castLE hsub1 (i 1)), .dma cc1_scoped0.sem) 0 -∗ semVal (V d (Fin.castLE hcore1 (i 0)) (Fin.castLE hsub1 (i 1)), .dma cc1_scoped1.sem) 0 -∗ Ow (V d (Fin.castLE hcore1 (i 0)) (Fin.castLE hsub1 (i 1))) O W -∗ Q v)
          -∗ wp frame (wpE defs₀ 𝒱₀ (V d (Fin.castLE hcore1 (i 0)) (Fin.castLE hsub1 (i 1))) none) Set.univ
            (k1_part40 i aM (Memref.isWhole_whole _) nM (Memref.isWhole_whole _) zM (Memref.isWhole_whole _) tabM (Memref.isWhole_whole _) idxM (Memref.isWhole_whole _)
        b7 (Memref.isWhole_whole _) b8 (Memref.isWhole_whole _) cc1_scratch4 cc1_scratch5 cc1_scoped0 cc1_scoped1 v32 c8 v33 v35 v36) Q) := by
  have hI := idxOf_lt i N hN
  have hb : (0 : ℕ) < 94 := by decide
  have hk0 : ∀ x, BitVec.toNat (w := 32) ((broadcast S16 0#32 : IVec S16 32) x) = 8 * 0 + 0 := fun _ => rfl
  have hk1 : ∀ x, BitVec.toNat (w := 32) ((broadcast S16 1#32 : IVec S16 32) x) = 8 * 0 + 1 := fun _ => rfl
  have hk2 : ∀ x, BitVec.toNat (w := 32) ((broadcast S16 2#32 : IVec S16 32) x) = 8 * 0 + 2 := fun _ => rfl
  have hk3 : ∀ x, BitVec.toNat (w := 32) ((broadcast S16 3#32 : IVec S16 32) x) = 8 * 0 + 3 := fun _ => rfl
  have hk4 : ∀ x, BitVec.toNat (w := 32) ((broadcast S16 4#32 : IVec S16 32) x) = 8 * 0 + 4 := fun _ => rfl
  have hk5 : ∀ x, BitVec.toNat (w := 32) ((broadcast S16 5#32 : IVec S16 32) x) = 8 * 0 + 5 := fun _ => rfl
  have hk6 : ∀ x, BitVec.toNat (w := 32) ((broadcast S16 6#32 : IVec S16 32) x) = 8 * 0 + 6 := fun _ => rfl
  have hk7 : ∀ x, BitVec.toNat (w := 32) ((broadcast S16 7#32 : IVec S16 32) x) = 8 * 0 + 7 := fun _ => rfl
  unfold k1_part40
  iintro ⟨#Hlv, Ha, Hn, Ht, Hi, Hb, Hs0, Hs1, HO⟩ Hk
  iapply (in_step (O := O) (W := W) hO (src := (aM).slice (Rect.unit (s := S3000x64) (k1_off1 i) S752x64.size (k1_off1_inb i)) (fun _ => rfl))
    (dst := tabM) (q := qa) (fs := C) tab_pos) $$ [Ha Ht Hs0 HO]
  · isplitr; · iexact Hlv
    isplitl [Ha]; · iexact Ha
    isplitl [Ht]; · iexact Ht
    isplitl [Hs0]; · iexact Hs0
    iexact HO
  iintro Ha ⟨%fd, Ht⟩ Hs0 HO
  iapply (in_step (O := O) (W := W) hO (src := (nM).slice (Rect.unit (s := S16384) (k1_off2 i) S2048.size (k1_off2_inb i)) (fun _ => rfl))
    (dst := idxM) (q := qn) (fs := N) idx_pos) $$ [Hn Hi Hs1 HO]
  · isplitr; · iexact Hlv
    isplitl [Hn]; · iexact Hn
    isplitl [Hi]; · iexact Hi
    isplitl [Hs1]; · iexact Hs1
    iexact HO
  iintro Hn ⟨%fi, Hi⟩ Hs1 HO
  iapply (fill_rule (b := b7) (blk := 0) (Tb := tabOf i C) (Ix := idxOf i N) (L := k1_t1_loop) (by decide) ?hbody) $$ [Ht Hi Hb]
  rotate_left
  · iapply (St_zero (Tb := tabOf i C) (Ix := idxOf i N))
    isplitl [Ht Hi]
    · unfold TI
      isplitl [Ht]
      · iapply (Entails.of_eq (tab_in (d := d) (i := i) (C := C) (fd := fd))) $$ Ht
      · iapply (Entails.of_eq (idx_in (d := d) (i := i) (N := N) (fd := fi))) $$ Hi
    · iexact Hb
  rotate_left
  · intro t _
    rw [show 1024 * t.val = 1024 * t.val + 16 * 0 from rfl]
    refine part1_step hI hb hk0 hk1 hk2 hk3 hk4 hk5 hk6 hk7 fun _ _ _ _ _ _ _ _ _ w hw0 => ?_
    refine part2_step hI hb hk0 hk1 hk2 hk3 hk4 hk5 hk6 hk7 hw0 fun _ _ hw1 => ?_
    refine part3_step hI hb hk0 hk1 hk2 hk3 hk4 hk5 hk6 hk7 hw1 fun _ hw2 => ?_
    refine part4_step hI hb hk0 hk1 hk2 hk3 hk4 hk5 hk6 hk7 hw2 fun _ _ hw3 => ?_
    refine part5_step hI hb hk0 hk1 hk2 hk3 hk4 hk5 hk6 hk7 hw3 fun _ hw4 => ?_
    refine part6_step hI hb hk0 hk1 hk2 hk3 hk4 hk5 hk6 hk7 hw4 fun _ _ hw5 => ?_
    refine part7_step hI hb hk0 hk1 hk2 hk3 hk4 hk5 hk6 hk7 hw5 fun _ hw6 => ?_
    refine part8_step hI hb hk0 hk1 hk2 hk3 hk4 hk5 hk6 hk7 hw6 fun _ _ hw7 => ?_
    refine part9_step hI hb hk0 hk1 hk2 hk3 hk4 hk5 hk6 hk7 hw7 fun _ hw8 => ?_
    refine load_step fun _ => ?_
    refine store_step' (1024 * t.val + 16 * 60) (1024 * t.val + 16 * 61) ?_ ?_ (by omega) ?_
    · exact (k1_off18_eq t ⟨4, by decide⟩).trans (vec1 (by show 1024 * t.val + 16 * 4 + 896 = _; omega))
    · exact hw8
    refine table_step ?_
    refine load_step fun _ => ?_
    refine store_step' (1024 * t.val + 16 * 61) (1024 * t.val + 16 * 62) ?_ ?_ (by omega) ?_
    · exact (k1_off18_eq t ⟨5, by decide⟩).trans (vec1 (by show 1024 * t.val + 16 * 5 + 896 = _; omega))
    · exact gather_eq 61 (by decide) hk7
    refine table_step ?_
    refine load_step fun _ => ?_
    refine store_step' (1024 * t.val + 16 * 62) (1024 * t.val + 16 * 63) ?_ ?_ (by omega) ?_
    · exact (k1_off18_eq t ⟨6, by decide⟩).trans (vec1 (by show 1024 * t.val + 16 * 6 + 896 = _; omega))
    · exact gather_eq 62 (by decide) hk7
    refine table_step ?_
    refine load_step fun _ => ?_
    refine store_step' (1024 * t.val + 16 * 63) (1024 * t.val + 16 * 64) ?_ ?_ (by omega) ?_
    · exact (k1_off18_eq t ⟨7, by decide⟩).trans (vec1 (by show 1024 * t.val + 16 * 7 + 896 = _; omega))
    · exact gather_eq 63 (by decide) hk7
    refine BIBase.Entails.trans ?_ (Entails.of_eq (wp_pure _ _ _ _ _).symm)
    rw [show 1024 * t.val + 16 * 64 = 1024 * (t.val + 1) by omega]
    exact fupd_intro
  iintro HS
  rw [wp_pure]
  imodintro
  iapply Hk $$ Ha Hn HS Hs0 Hs1 HO

end Cert.Proof.I

end
-- ==== Proof.ITrip3.lean ====
/-
  The gather's straight-line code, trip 3 of the four loops: each printed window of the code, run on the tile's private
  memory by the steps of `Fill`.
-/
module

public import proofs.«01_k».proof.Proof.IFill

@[expose] public section

noncomputable section

namespace Cert.Proof.I

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ
local notation "tabM" => (Memref.whole cc1_scratch0 : Memref sig Kind.scVector Space.vmem S752x64 EltTy.f32)
local notation "idxM" => (Memref.whole cc1_scratch1 : Memref sig Kind.scVector Space.vmem S2048 EltTy.i32)

variable {d : Dev nD} {i : grid1.Coords}
variable {arg2 : Memref sig .scVector .hbm S3000x64 .f32} {harg2 : arg2.IsWhole} {arg3 : Memref sig .scVector .hbm S16384 .i32} {harg3 : arg3.IsWhole}
  {arg4 : Memref sig .scVector .hbm S49152000 .f32} {harg4 : arg4.IsWhole} {harg5 : (tabM).IsWhole} {harg6 : (idxM).IsWhole}
  {arg7 : Memref sig .scVector .vmem S16384 .f32} {harg7 : arg7.IsWhole} {arg8 : Memref sig .scVector .vmem S16384 .f32} {harg8 : arg8.IsWhole}
  {arg9 arg10 r0 r1 : DmaSems sig S_}
variable {Tb : S752x64.Idx → Elt F .f32} {Ix : S2048.Idx → Elt F .i32} {blk : ℕ}
variable {α : Type} {Q : α → sProp (MT nD τ sig (HIx 1) (Elt F) ℕ (UU F) ℕ)}
variable {t : Fin k1_t4_loop.trips} {v103 v106 v109 v112 v115 v118 v121 v124 : IVec S16 32}
variable (hI : ∀ n, BitVec.toNat (w := 32) (Ix n) < 64) (hb : blk < 94)
  (hk0 : ∀ x, (v103 x).toNat = 8 * blk + 0) (hk1 : ∀ x, (v106 x).toNat = 8 * blk + 1) (hk2 : ∀ x, (v109 x).toNat = 8 * blk + 2) (hk3 : ∀ x, (v112 x).toNat = 8 * blk + 3)
  (hk4 : ∀ x, (v115 x).toNat = 8 * blk + 4) (hk5 : ∀ x, (v118 x).toNat = 8 * blk + 5) (hk6 : ∀ x, (v121 x).toNat = 8 * blk + 6) (hk7 : ∀ x, (v124 x).toNat = 8 * blk + 7)

local notation "ix " j:max => iseg Ix (128 * Fin.val t + 16 * j)
local notation "sg " s:max => seg Tb Ix blk (1024 * Fin.val t + 16 * s)
local notation "st " s:max => St d (Fin.castLE hcore1 (i 0)) (Fin.castLE hsub1 (i 1)) Tb Ix arg7 blk (1024 * Fin.val t + 16 * s)
local notation "run " p:max => wp frame (wpE defs₀ 𝒱₀ (V d (Fin.castLE hcore1 (i 0)) (Fin.castLE hsub1 (i 1))) none) Set.univ p Q
local notation "code " f:max => f i arg2 harg2 arg3 harg3 arg4 harg4 tabM harg5 idxM harg6 arg7 harg7 arg8 harg8 arg9 arg10 r0 r1 v103 v106 v109 v112 v115 v118 v121 v124

include hI hb hk0 hk1 hk2 hk3 hk4 hk5 hk6 hk7

/-- Window 1 of trip 3's code: from 0 to 0 segments of the first block buffer. -/
theorem part19_step {c0_i32_64} {c1_i32_66} {k : _ → Prog _ α}
    (h : ∀ w h0 h1 h2 h3 h4 h5 h6 h7 w', w' = sg 0 → st 0 ⊢ run (k ⟨w, ix 0, h0, ix 1, h1, ix 2, h2, ix 3, h3, ix 4, h4, ix 5, h5, ix 6, h6, ix 7, h7, w'⟩)) :
    st 0 ⊢ run ((code k1_part19) c0_i32_64 c1_i32_66 t >>= k) := by
  unfold k1_part19
  refine idx_step (m := 128 * t.val + 16 * 0) (k1_off38_eq t 0) (assume_step (chk8 hI hb hk0 hk1 hk2 hk3 hk4 hk5 hk6 hk7) ?_)
  refine idx_step (m := 128 * t.val + 16 * 1) (k1_off38_eq t 1) (assume_step (chk8 hI hb hk0 hk1 hk2 hk3 hk4 hk5 hk6 hk7) ?_)
  refine idx_step (m := 128 * t.val + 16 * 2) (k1_off38_eq t 2) (assume_step (chk8 hI hb hk0 hk1 hk2 hk3 hk4 hk5 hk6 hk7) ?_)
  refine idx_step (m := 128 * t.val + 16 * 3) (k1_off38_eq t 3) (assume_step (chk8 hI hb hk0 hk1 hk2 hk3 hk4 hk5 hk6 hk7) ?_)
  refine idx_step (m := 128 * t.val + 16 * 4) (k1_off38_eq t 4) (assume_step (chk8 hI hb hk0 hk1 hk2 hk3 hk4 hk5 hk6 hk7) ?_)
  refine idx_step (m := 128 * t.val + 16 * 5) (k1_off38_eq t 5) (assume_step (chk8 hI hb hk0 hk1 hk2 hk3 hk4 hk5 hk6 hk7) ?_)
  refine idx_step (m := 128 * t.val + 16 * 6) (k1_off38_eq t 6) (assume_step (chk8 hI hb hk0 hk1 hk2 hk3 hk4 hk5 hk6 hk7) ?_)
  refine idx_step (m := 128 * t.val + 16 * 7) (k1_off38_eq t 7) (assume_step (chk8 hI hb hk0 hk1 hk2 hk3 hk4 hk5 hk6 hk7) ?_)
  exact table_step (h _ _ _ _ _ _ _ _ _ _ (gather_eq 0 (by decide) hk0))

/-- Window 2 of trip 3's code: from 0 to 7 segments of the first block buffer. -/
theorem part20_step {v172} {k1_hw18} {k1_hw19} {k1_hw20} {k1_hw21} {k1_hw22} {k1_hw23} {k1_hw24} {w} (hw : w = sg 0) {k : _ → Prog _ α}
    (h : ∀ w w', w' = sg 7 → st 7 ⊢ run (k ⟨w', w⟩)) :
    st 0 ⊢ run ((code k1_part20) t v172 (ix 1) k1_hw18 (ix 2) k1_hw19 (ix 3) k1_hw20 (ix 4) k1_hw21 (ix 5) k1_hw22 (ix 6) k1_hw23 (ix 7) k1_hw24 w >>= k) := by
  unfold k1_part20
  refine put_step 0 ((k1_off39_eq t).trans (vec1 (by omega))) hw ?_
  refine table_step (put_step 1 ((k1_off40_eq t).trans (vec1 (by omega))) (gather_eq 1 (by decide) hk0) ?_)
  refine table_step (put_step 2 ((k1_off41_eq t).trans (vec1 (by omega))) (gather_eq 2 (by decide) hk0) ?_)
  refine table_step (put_step 3 ((k1_off42_eq t).trans (vec1 (by omega))) (gather_eq 3 (by decide) hk0) ?_)
  refine table_step (put_step 4 ((k1_off43_eq t).trans (vec1 (by omega))) (gather_eq 4 (by decide) hk0) ?_)
  refine table_step (put_step 5 ((k1_off44_eq t).trans (vec1 (by omega))) (gather_eq 5 (by decide) hk0) ?_)
  refine table_step (put_step 6 ((k1_off45_eq t).trans (vec1 (by omega))) (gather_eq 6 (by decide) hk0) ?_)
  exact table_step (h _ _ (gather_eq 7 (by decide) hk0))

/-- Window 3 of trip 3's code: from 7 to 15 segments of the first block buffer. -/
theorem part21_step {v172} {k1_hw17} {k1_hw18} {k1_hw19} {k1_hw20} {k1_hw21} {k1_hw22} {k1_hw23} {k1_hw24} {w} {v242} (hw : w = sg 7) {k : _ → Prog _ α}
    (h : ∀ w', w' = sg 15 → st 15 ⊢ run (k w')) :
    st 7 ⊢ run ((code k1_part21) t v172 (ix 0) k1_hw17 (ix 1) k1_hw18 (ix 2) k1_hw19 (ix 3) k1_hw20 (ix 4) k1_hw21 (ix 5) k1_hw22 (ix 6) k1_hw23 (ix 7) k1_hw24 w v242 >>= k) := by
  unfold k1_part21
  refine put_step 7 ((k1_off46_eq t).trans (vec1 (by omega))) hw ?_
  refine table_step (put_step 8 (vec3 (k1_off47_eq t 0) rfl) (gather_eq 8 (by decide) hk1) ?_)
  refine table_step (put_step 9 (vec3 (k1_off47_eq t 1) rfl) (gather_eq 9 (by decide) hk1) ?_)
  refine table_step (put_step 10 (vec3 (k1_off47_eq t 2) rfl) (gather_eq 10 (by decide) hk1) ?_)
  refine table_step (put_step 11 (vec3 (k1_off47_eq t 3) rfl) (gather_eq 11 (by decide) hk1) ?_)
  refine table_step (put_step 12 (vec3 (k1_off47_eq t 4) rfl) (gather_eq 12 (by decide) hk1) ?_)
  refine table_step (put_step 13 (vec3 (k1_off47_eq t 5) rfl) (gather_eq 13 (by decide) hk1) ?_)
  refine table_step (put_step 14 (vec3 (k1_off47_eq t 6) rfl) (gather_eq 14 (by decide) hk1) ?_)
  exact table_step (h _ (gather_eq 15 (by decide) hk1))

/-- Window 4 of trip 3's code: from 15 to 22 segments of the first block buffer. -/
theorem part22_step {v172} {k1_hw17} {k1_hw18} {k1_hw19} {k1_hw20} {k1_hw21} {k1_hw22} {k1_hw23} {w} (hw : w = sg 15) {k : _ → Prog _ α}
    (h : ∀ w w', w' = sg 22 → st 22 ⊢ run (k ⟨w', w⟩)) :
    st 15 ⊢ run ((code k1_part22) t v172 (ix 0) k1_hw17 (ix 1) k1_hw18 (ix 2) k1_hw19 (ix 3) k1_hw20 (ix 4) k1_hw21 (ix 5) k1_hw22 (ix 6) k1_hw23 w >>= k) := by
  unfold k1_part22
  refine put_step 15 (vec3 (k1_off47_eq t 7) rfl) hw ?_
  refine table_step (put_step 16 (vec3 (k1_off48_eq t 0) rfl) (gather_eq 16 (by decide) hk2) ?_)
  refine table_step (put_step 17 (vec3 (k1_off48_eq t 1) rfl) (gather_eq 17 (by decide) hk2) ?_)
  refine table_step (put_step 18 (vec3 (k1_off48_eq t 2) rfl) (gather_eq 18 (by decide) hk2) ?_)
  refine table_step (put_step 19 (vec3 (k1_off48_eq t 3) rfl) (gather_eq 19 (by decide) hk2) ?_)
  refine table_step (put_step 20 (vec3 (k1_off48_eq t 4) rfl) (gather_eq 20 (by decide) hk2) ?_)
  refine table_step (put_step 21 (vec3 (k1_off48_eq t 5) rfl) (gather_eq 21 (by decide) hk2) ?_)
  exact table_step (h _ _ (gather_eq 22 (by decide) hk2))

/-- Window 5 of trip 3's code: from 22 to 30 segments of the first block buffer. -/
theorem part23_step {v172} {k1_hw17} {k1_hw18} {k1_hw19} {k1_hw20} {k1_hw21} {k1_hw22} {k1_hw23} {k1_hw24} {w} {v317} (hw : w = sg 22) {k : _ → Prog _ α}
    (h : ∀ w', w' = sg 30 → st 30 ⊢ run (k w')) :
    st 22 ⊢ run ((code k1_part23) t v172 (ix 0) k1_hw17 (ix 1) k1_hw18 (ix 2) k1_hw19 (ix 3) k1_hw20 (ix 4) k1_hw21 (ix 5) k1_hw22 (ix 6) k1_hw23 (ix 7) k1_hw24 w v317 >>= k) := by
  unfold k1_part23
  refine put_step 22 (vec3 (k1_off48_eq t 6) rfl) hw ?_
  refine table_step (put_step 23 (vec3 (k1_off48_eq t 7) rfl) (gather_eq 23 (by decide) hk2) ?_)
  refine table_step (put_step 24 (vec3 (k1_off49_eq t 0) rfl) (gather_eq 24 (by decide) hk3) ?_)
  refine table_step (put_step 25 (vec3 (k1_off49_eq t 1) rfl) (gather_eq 25 (by decide) hk3) ?_)
  refine table_step (put_step 26 (vec3 (k1_off49_eq t 2) rfl) (gather_eq 26 (by decide) hk3) ?_)
  refine table_step (put_step 27 (vec3 (k1_off49_eq t 3) rfl) (gather_eq 27 (by decide) hk3) ?_)
  refine table_step (put_step 28 (vec3 (k1_off49_eq t 4) rfl) (gather_eq 28 (by decide) hk3) ?_)
  refine table_step (put_step 29 (vec3 (k1_off49_eq t 5) rfl) (gather_eq 29 (by decide) hk3) ?_)
  exact table_step (h _ (gather_eq 30 (by decide) hk3))

/-- Window 6 of trip 3's code: from 30 to 37 segments of the first block buffer. -/
theorem part24_step {v172} {k1_hw17} {k1_hw18} {k1_hw19} {k1_hw20} {k1_hw21} {k1_hw22} {k1_hw24} {w} (hw : w = sg 30) {k : _ → Prog _ α}
    (h : ∀ w w', w' = sg 37 → st 37 ⊢ run (k ⟨w', w⟩)) :
    st 30 ⊢ run ((code k1_part24) t v172 (ix 0) k1_hw17 (ix 1) k1_hw18 (ix 2) k1_hw19 (ix 3) k1_hw20 (ix 4) k1_hw21 (ix 5) k1_hw22 (ix 7) k1_hw24 w >>= k) := by
  unfold k1_part24
  refine put_step 30 (vec3 (k1_off49_eq t 6) rfl) hw ?_
  refine table_step (put_step 31 (vec3 (k1_off49_eq t 7) rfl) (gather_eq 31 (by decide) hk3) ?_)
  refine table_step (put_step 32 (vec3 (k1_off50_eq t 0) rfl) (gather_eq 32 (by decide) hk4) ?_)
  refine table_step (put_step 33 (vec3 (k1_off50_eq t 1) rfl) (gather_eq 33 (by decide) hk4) ?_)
  refine table_step (put_step 34 (vec3 (k1_off50_eq t 2) rfl) (gather_eq 34 (by decide) hk4) ?_)
  refine table_step (put_step 35 (vec3 (k1_off50_eq t 3) rfl) (gather_eq 35 (by decide) hk4) ?_)
  refine table_step (put_step 36 (vec3 (k1_off50_eq t 4) rfl) (gather_eq 36 (by decide) hk4) ?_)
  exact table_step (h _ _ (gather_eq 37 (by decide) hk4))

/-- Window 7 of trip 3's code: from 37 to 45 segments of the first block buffer. -/
theorem part25_step {v172} {k1_hw17} {k1_hw18} {k1_hw19} {k1_hw20} {k1_hw21} {k1_hw22} {k1_hw23} {k1_hw24} {w} {v392} (hw : w = sg 37) {k : _ → Prog _ α}
    (h : ∀ w', w' = sg 45 → st 45 ⊢ run (k w')) :
    st 37 ⊢ run ((code k1_part25) t v172 (ix 0) k1_hw17 (ix 1) k1_hw18 (ix 2) k1_hw19 (ix 3) k1_hw20 (ix 4) k1_hw21 (ix 5) k1_hw22 (ix 6) k1_hw23 (ix 7) k1_hw24 w v392 >>= k) := by
  unfold k1_part25
  refine put_step 37 (vec3 (k1_off50_eq t 5) rfl) hw ?_
  refine table_step (put_step 38 (vec3 (k1_off50_eq t 6) rfl) (gather_eq 38 (by decide) hk4) ?_)
  refine table_step (put_step 39 (vec3 (k1_off50_eq t 7) rfl) (gather_eq 39 (by decide) hk4) ?_)
  refine table_step (put_step 40 (vec3 (k1_off51_eq t 0) rfl) (gather_eq 40 (by decide) hk5) ?_)
  refine table_step (put_step 41 (vec3 (k1_off51_eq t 1) rfl) (gather_eq 41 (by decide) hk5) ?_)
  refine table_step (put_step 42 (vec3 (k1_off51_eq t 2) rfl) (gather_eq 42 (by decide) hk5) ?_)
  refine table_step (put_step 43 (vec3 (k1_off51_eq t 3) rfl) (gather_eq 43 (by decide) hk5) ?_)
  refine table_step (put_step 44 (vec3 (k1_off51_eq t 4) rfl) (gather_eq 44 (by decide) hk5) ?_)
  exact table_step (h _ (gather_eq 45 (by decide) hk5))

/-- Window 8 of trip 3's code: from 45 to 52 segments of the first block buffer. -/
theorem part26_step {v172} {k1_hw17} {k1_hw18} {k1_hw19} {k1_hw20} {k1_hw21} {k1_hw23} {k1_hw24} {w} (hw : w = sg 45) {k : _ → Prog _ α}
    (h : ∀ w w', w' = sg 52 → st 52 ⊢ run (k ⟨w', w⟩)) :
    st 45 ⊢ run ((code k1_part26) t v172 (ix 0) k1_hw17 (ix 1) k1_hw18 (ix 2) k1_hw19 (ix 3) k1_hw20 (ix 4) k1_hw21 (ix 6) k1_hw23 (ix 7) k1_hw24 w >>= k) := by
  unfold k1_part26
  refine put_step 45 (vec3 (k1_off51_eq t 5) rfl) hw ?_
  refine table_step (put_step 46 (vec3 (k1_off51_eq t 6) rfl) (gather_eq 46 (by decide) hk5) ?_)
  refine table_step (put_step 47 (vec3 (k1_off51_eq t 7) rfl) (gather_eq 47 (by decide) hk5) ?_)
  refine table_step (put_step 48 (vec3 (k1_off52_eq t 0) rfl) (gather_eq 48 (by decide) hk6) ?_)
  refine table_step (put_step 49 (vec3 (k1_off52_eq t 1) rfl) (gather_eq 49 (by decide) hk6) ?_)
  refine table_step (put_step 50 (vec3 (k1_off52_eq t 2) rfl) (gather_eq 50 (by decide) hk6) ?_)
  refine table_step (put_step 51 (vec3 (k1_off52_eq t 3) rfl) (gather_eq 51 (by decide) hk6) ?_)
  exact table_step (h _ _ (gather_eq 52 (by decide) hk6))

/-- Window 9 of trip 3's code: from 52 to 60 segments of the first block buffer. -/
theorem part27_step {v172} {k1_hw17} {k1_hw18} {k1_hw19} {k1_hw20} {k1_hw21} {k1_hw22} {k1_hw23} {k1_hw24} {w} {v467} (hw : w = sg 52) {k : _ → Prog _ α}
    (h : ∀ w', w' = sg 60 → st 60 ⊢ run (k w')) :
    st 52 ⊢ run ((code k1_part27) t v172 (ix 0) k1_hw17 (ix 1) k1_hw18 (ix 2) k1_hw19 (ix 3) k1_hw20 (ix 4) k1_hw21 (ix 5) k1_hw22 (ix 6) k1_hw23 (ix 7) k1_hw24 w v467 >>= k) := by
  unfold k1_part27
  refine put_step 52 (vec3 (k1_off52_eq t 4) rfl) hw ?_
  refine table_step (put_step 53 (vec3 (k1_off52_eq t 5) rfl) (gather_eq 53 (by decide) hk6) ?_)
  refine table_step (put_step 54 (vec3 (k1_off52_eq t 6) rfl) (gather_eq 54 (by decide) hk6) ?_)
  refine table_step (put_step 55 (vec3 (k1_off52_eq t 7) rfl) (gather_eq 55 (by decide) hk6) ?_)
  refine table_step (put_step 56 (vec3 (k1_off53_eq t 0) rfl) (gather_eq 56 (by decide) hk7) ?_)
  refine table_step (put_step 57 (vec3 (k1_off53_eq t 1) rfl) (gather_eq 57 (by decide) hk7) ?_)
  refine table_step (put_step 58 (vec3 (k1_off53_eq t 2) rfl) (gather_eq 58 (by decide) hk7) ?_)
  refine table_step (put_step 59 (vec3 (k1_off53_eq t 3) rfl) (gather_eq 59 (by decide) hk7) ?_)
  exact table_step (h _ (gather_eq 60 (by decide) hk7))

end Cert.Proof.I

end
-- ==== Proof.IPart37.lean ====
/-
  The pipelined loop of a tile's task, first half of a trip: the copy out of the first buffer awaited and the buffer filled anew.
-/
module

public import proofs.«01_k».proof.Proof.ISteps
public import proofs.«01_k».proof.Proof.ITrip3

@[expose] public section

noncomputable section

namespace Cert.Proof.I

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

open Idealize.ShloMosaic.Transfers

variable {F : FTy → Type} [FloatOps F]

local notation "𝕄" => MT nD τ sig (HIx 1) (Elt F) ℕ (UU F) ℕ
local notation "zM" => (Memref.whole main_v2_scv : Memref sig Kind.scVector Space.hbm S49152000 EltTy.f32)
local notation "aM" => (Memref.whole main_arg2_scv : Memref sig Kind.scVector Space.hbm S3000x64 EltTy.f32)
local notation "nM" => (Memref.whole main_v1_scv : Memref sig Kind.scVector Space.hbm S16384 EltTy.i32)
local notation "tabM" => (Memref.whole cc1_scratch0 : Memref sig Kind.scVector Space.vmem S752x64 EltTy.f32)
local notation "idxM" => (Memref.whole cc1_scratch1 : Memref sig Kind.scVector Space.vmem S2048 EltTy.i32)
local notation "b7" => (Memref.whole cc1_scratch2 : Memref sig Kind.scVector Space.vmem S16384 EltTy.f32)
local notation "b8" => (Memref.whole cc1_scratch3 : Memref sig Kind.scVector Space.vmem S16384 EltTy.f32)
local notation "VT" d i => V d (Fin.castLE hcore1 (i 0)) (Fin.castLE hsub1 (i 1))

variable {d : Dev nD} {i : grid1.Coords}
variable {O : CellTallies nD τ sig (HIx 1)} {W : Waits sig (HIx 1)}
variable {C : S3000x64.Idx → Elt F .f32} {N : S16384.Idx → Elt F .i32} {f₀ : S49152000.Idx → Elt F .f32} {q qa qn : PosShare TreeShare} {ιwm : ℕ}

/-- The first buffer, once its copy out has landed, filled with block `2 (t + 1)`. -/
theorem part37_rule (hO : ∀ g, O g none = 0) (hN : ∀ x, BitVec.toNat (w := 32) (N x) < 64) {v30 v49 : BitVec 32} {t3 : Fin k1_t3_loop.trips} {n : ℕ}
    {Q : BitVec 32 → sProp (MT nD τ sig (HIx 1) (Elt F) ℕ (UU F) ℕ)} :
    iprop(levAts (K (F := F)).L (K (F := F)).lev
        ∗ Flight (EC (F := F)) (V d (Fin.castLE hcore1 (i 0)) (Fin.castLE hsub1 (i 1))) (.dma cc1_scratch4.sem) none NZ
          iprop(zW d f₀ (Gv C N) q (blkSet i (n)) (blkSet i (n)) ∗ ∃ f, (V d (Fin.castLE hcore1 (i 0)) (Fin.castLE hsub1 (i 1))).loc cc1_scratch2 ↦{fullShare} f)
        ∗ TI d (Fin.castLE hcore1 (i 0)) (Fin.castLE hsub1 (i 1)) (tabOf i C) (idxOf i N) ∗ Ow (V d (Fin.castLE hcore1 (i 0)) (Fin.castLE hsub1 (i 1))) O W)
      ⊢ iprop((zW d f₀ (Gv C N) q (blkSet i n) (blkSet i n)
            -∗ St d (Fin.castLE hcore1 (i 0)) (Fin.castLE hsub1 (i 1)) (tabOf i C) (idxOf i N) b7 (2 * (t3.val + 1)) 16384
            -∗ semVal (V d (Fin.castLE hcore1 (i 0)) (Fin.castLE hsub1 (i 1)), .dma cc1_scratch4.sem) 0 -∗ Ow (V d (Fin.castLE hcore1 (i 0)) (Fin.castLE hsub1 (i 1))) O W -∗ Q (Scalar.muli 2#32 (Scf.iv 1#32 1#32 t3)))
          -∗ wp frame (wpE defs₀ 𝒱₀ (V d (Fin.castLE hcore1 (i 0)) (Fin.castLE hsub1 (i 1))) none) Set.univ
            (k1_part37 i aM (Memref.isWhole_whole _) nM (Memref.isWhole_whole _) zM (Memref.isWhole_whole _) tabM (Memref.isWhole_whole _) idxM (Memref.isWhole_whole _)
        b7 (Memref.isWhole_whole _) b8 (Memref.isWhole_whole _) cc1_scratch4 cc1_scratch5 cc1_scoped0 cc1_scoped1 v30 v49 1#32 1#32 t3) Q) := by
  have hI := idxOf_lt i N hN
  have hb : 2 * (t3.val + 1) < 94 := by
    have h1 := t3.isLt
    have h2 : k1_t3_loop.trips = 46 := by decide
    omega
  have hk0 : ∀ x, BitVec.toNat (w := 32) ((broadcast S16 (Scalar.addi (Scalar.muli (Scalar.muli 2#32 (Scf.iv 1#32 1#32 t3)) 8#32) 0#32) : IVec S16 32) x) = 8 * (2 * (t3.val + 1)) + 0 := fun _ => row_even t3 ⟨0, by decide⟩
  have hk1 : ∀ x, BitVec.toNat (w := 32) ((broadcast S16 (Scalar.addi (Scalar.muli (Scalar.muli 2#32 (Scf.iv 1#32 1#32 t3)) 8#32) 1#32) : IVec S16 32) x) = 8 * (2 * (t3.val + 1)) + 1 := fun _ => row_even t3 ⟨1, by decide⟩
  have hk2 : ∀ x, BitVec.toNat (w := 32) ((broadcast S16 (Scalar.addi (Scalar.muli (Scalar.muli 2#32 (Scf.iv 1#32 1#32 t3)) 8#32) 2#32) : IVec S16 32) x) = 8 * (2 * (t3.val + 1)) + 2 := fun _ => row_even t3 ⟨2, by decide⟩
  have hk3 : ∀ x, BitVec.toNat (w := 32) ((broadcast S16 (Scalar.addi (Scalar.muli (Scalar.muli 2#32 (Scf.iv 1#32 1#32 t3)) 8#32) 3#32) : IVec S16 32) x) = 8 * (2 * (t3.val + 1)) + 3 := fun _ => row_even t3 ⟨3, by decide⟩
  have hk4 : ∀ x, BitVec.toNat (w := 32) ((broadcast S16 (Scalar.addi (Scalar.muli (Scalar.muli 2#32 (Scf.iv 1#32 1#32 t3)) 8#32) 4#32) : IVec S16 32) x) = 8 * (2 * (t3.val + 1)) + 4 := fun _ => row_even t3 ⟨4, by decide⟩
  have hk5 : ∀ x, BitVec.toNat (w := 32) ((broadcast S16 (Scalar.addi (Scalar.muli (Scalar.muli 2#32 (Scf.iv 1#32 1#32 t3)) 8#32) 5#32) : IVec S16 32) x) = 8 * (2 * (t3.val + 1)) + 5 := fun _ => row_even t3 ⟨5, by decide⟩
  have hk6 : ∀ x, BitVec.toNat (w := 32) ((broadcast S16 (Scalar.addi (Scalar.muli (Scalar.muli 2#32 (Scf.iv 1#32 1#32 t3)) 8#32) 6#32) : IVec S16 32) x) = 8 * (2 * (t3.val + 1)) + 6 := fun _ => row_even t3 ⟨6, by decide⟩
  have hk7 : ∀ x, BitVec.toNat (w := 32) ((broadcast S16 (Scalar.addi (Scalar.muli (Scalar.muli 2#32 (Scf.iv 1#32 1#32 t3)) 8#32) 7#32) : IVec S16 32) x) = 8 * (2 * (t3.val + 1)) + 7 := fun _ => row_even t3 ⟨7, by decide⟩
  unfold k1_part37
  iintro ⟨#Hlv, Hf, HTI, HO⟩ Hk
  iapply (wait_step (O := O) (W := W) hO dmaCredit_z) $$ [Hf HO]
  · isplitr; · iexact Hlv
    isplitl [Hf]; · iexact Hf
    iexact HO
  iintro ⟨Hz, Hb⟩ Hs HO
  iapply (fill_rule (b := b7) (blk := 2 * (t3.val + 1)) (Tb := tabOf i C) (Ix := idxOf i N) (L := k1_t4_loop) (by decide) ?hbody) $$ [HTI Hb]
  rotate_left
  · iapply (St_zero (Tb := tabOf i C) (Ix := idxOf i N))
    isplitl [HTI]; · iexact HTI
    iexact Hb
  rotate_left
  · intro t _
    rw [show 1024 * t.val = 1024 * t.val + 16 * 0 from rfl]
    refine part19_step hI hb hk0 hk1 hk2 hk3 hk4 hk5 hk6 hk7 fun _ _ _ _ _ _ _ _ _ w hw0 => ?_
    refine part20_step hI hb hk0 hk1 hk2 hk3 hk4 hk5 hk6 hk7 hw0 fun _ _ hw1 => ?_
    refine part21_step hI hb hk0 hk1 hk2 hk3 hk4 hk5 hk6 hk7 hw1 fun _ hw2 => ?_
    refine part22_step hI hb hk0 hk1 hk2 hk3 hk4 hk5 hk6 hk7 hw2 fun _ _ hw3 => ?_
    refine part23_step hI hb hk0 hk1 hk2 hk3 hk4 hk5 hk6 hk7 hw3 fun _ hw4 => ?_
    refine part24_step hI hb hk0 hk1 hk2 hk3 hk4 hk5 hk6 hk7 hw4 fun _ _ hw5 => ?_
    refine part25_step hI hb hk0 hk1 hk2 hk3 hk4 hk5 hk6 hk7 hw5 fun _ hw6 => ?_
    refine part26_step hI hb hk0 hk1 hk2 hk3 hk4 hk5 hk6 hk7 hw6 fun _ _ hw7 => ?_
    refine part27_step hI hb hk0 hk1 hk2 hk3 hk4 hk5 hk6 hk7 hw7 fun _ hw8 => ?_
    refine load_step fun _ => ?_
    refine store_step' (1024 * t.val + 16 * 60) (1024 * t.val + 16 * 61) ?_ ?_ (by omega) ?_
    · exact (k1_off53_eq t ⟨4, by decide⟩).trans (vec1 (by show 1024 * t.val + 16 * 4 + 896 = _; omega))
    · exact hw8
    refine table_step ?_
    refine load_step fun _ => ?_
    refine store_step' (1024 * t.val + 16 * 61) (1024 * t.val + 16 * 62) ?_ ?_ (by omega) ?_
    · exact (k1_off53_eq t ⟨5, by decide⟩).trans (vec1 (by show 1024 * t.val + 16 * 5 + 896 = _; omega))
    · exact gather_eq 61 (by decide) hk7
    refine table_step ?_
    refine load_step fun _ => ?_
    refine store_step' (1024 * t.val + 16 * 62) (1024 * t.val + 16 * 63) ?_ ?_ (by omega) ?_
    · exact (k1_off53_eq t ⟨6, by decide⟩).trans (vec1 (by show 1024 * t.val + 16 * 6 + 896 = _; omega))
    · exact gather_eq 62 (by decide) hk7
    refine table_step ?_
    refine load_step fun _ => ?_
    refine store_step' (1024 * t.val + 16 * 63) (1024 * t.val + 16 * 64) ?_ ?_ (by omega) ?_
    · exact (k1_off53_eq t ⟨7, by decide⟩).trans (vec1 (by show 1024 * t.val + 16 * 7 + 896 = _; omega))
    · exact gather_eq 63 (by decide) hk7
    refine BIBase.Entails.trans ?_ (Entails.of_eq (wp_pure _ _ _ _ _).symm)
    rw [show 1024 * t.val + 16 * 64 = 1024 * (t.val + 1) by omega]
    exact fupd_intro
  iintro HS
  rw [wp_pure]
  imodintro
  iapply Hk $$ Hz HS Hs HO

end Cert.Proof.I

end
-- ==== Proof.IPart38.lean ====
/-
  The pipelined loop of a tile's task, second half of a trip: the first buffer copied out and the copy out of the second awaited.
-/
module

public import proofs.«01_k».proof.Proof.ISteps

@[expose] public section

noncomputable section

namespace Cert.Proof.I

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

open Idealize.ShloMosaic.Transfers

variable {F : FTy → Type} [FloatOps F]

local notation "𝕄" => MT nD τ sig (HIx 1) (Elt F) ℕ (UU F) ℕ
local notation "zM" => (Memref.whole main_v2_scv : Memref sig Kind.scVector Space.hbm S49152000 EltTy.f32)
local notation "aM" => (Memref.whole main_arg2_scv : Memref sig Kind.scVector Space.hbm S3000x64 EltTy.f32)
local notation "nM" => (Memref.whole main_v1_scv : Memref sig Kind.scVector Space.hbm S16384 EltTy.i32)
local notation "tabM" => (Memref.whole cc1_scratch0 : Memref sig Kind.scVector Space.vmem S752x64 EltTy.f32)
local notation "idxM" => (Memref.whole cc1_scratch1 : Memref sig Kind.scVector Space.vmem S2048 EltTy.i32)
local notation "b7" => (Memref.whole cc1_scratch2 : Memref sig Kind.scVector Space.vmem S16384 EltTy.f32)
local notation "b8" => (Memref.whole cc1_scratch3 : Memref sig Kind.scVector Space.vmem S16384 EltTy.f32)
local notation "VT" d i => V d (Fin.castLE hcore1 (i 0)) (Fin.castLE hsub1 (i 1))

variable {d : Dev nD} {i : grid1.Coords}
variable {O : CellTallies nD τ sig (HIx 1)} {W : Waits sig (HIx 1)}
variable {C : S3000x64.Idx → Elt F .f32} {N : S16384.Idx → Elt F .i32} {f₀ : S49152000.Idx → Elt F .f32} {q qa qn : PosShare TreeShare} {ιwm : ℕ}

/-- The first buffer copied out to block `2 (t + 1)`; the second, once its copy out has landed, free again. -/
theorem part38_rule (hO : ∀ g, O g none = 0) {v30 v49 v93 : BitVec 32} {t3 : Fin k1_t3_loop.trips} {n : ℕ} {I Wr : Finset S49152000.Idx}
    (hI : blkSet i (2 * (t3.val + 1)) ⊆ I)
    {Q : (Σ' (_ : IVec S16 32) (_ : IVec S16 32) (_ : IVec S16 32) (_ : IVec S16 32) (_ : IVec S16 32) (_ : IVec S16 32) (_ : IVec S16 32), BitVec 32)
      → sProp (MT nD τ sig (HIx 1) (Elt F) ℕ (UU F) ℕ)} :
    iprop(levAts (K (F := F)).L (K (F := F)).lev ∗ wmInv (EW (F := F)) ιwm
        ∗ St d (Fin.castLE hcore1 (i 0)) (Fin.castLE hsub1 (i 1)) (tabOf i C) (idxOf i N) b7 (2 * (t3.val + 1)) 16384
        ∗ zW d f₀ (Gv C N) q (I) (Wr) ∗ semVal (V d (Fin.castLE hcore1 (i 0)) (Fin.castLE hsub1 (i 1)), .dma cc1_scratch4.sem) 0
        ∗ Flight (EC (F := F)) (V d (Fin.castLE hcore1 (i 0)) (Fin.castLE hsub1 (i 1))) (.dma cc1_scratch5.sem) none NZ
          iprop(zW d f₀ (Gv C N) q (blkSet i (n)) (blkSet i (n)) ∗ ∃ f, (V d (Fin.castLE hcore1 (i 0)) (Fin.castLE hsub1 (i 1))).loc cc1_scratch3 ↦{fullShare} f)
        ∗ Ow (V d (Fin.castLE hcore1 (i 0)) (Fin.castLE hsub1 (i 1))) O W)
      ⊢ iprop((TI d (Fin.castLE hcore1 (i 0)) (Fin.castLE hsub1 (i 1)) (tabOf i C) (idxOf i N)
            -∗ Flight (EC (F := F)) (V d (Fin.castLE hcore1 (i 0)) (Fin.castLE hsub1 (i 1))) (.dma cc1_scratch4.sem) none NZ
          iprop(zW d f₀ (Gv C N) q (blkSet i (2 * (t3.val + 1))) (blkSet i (2 * (t3.val + 1))) ∗ ∃ f, (V d (Fin.castLE hcore1 (i 0)) (Fin.castLE hsub1 (i 1))).loc cc1_scratch2 ↦{fullShare} f)
            -∗ zW d f₀ (Gv C N) q (I \ blkSet i (2 * (t3.val + 1))) (Wr)
            -∗ zW d f₀ (Gv C N) q (blkSet i n) (blkSet i n)
            -∗ (∃ f, (V d (Fin.castLE hcore1 (i 0)) (Fin.castLE hsub1 (i 1))).loc cc1_scratch3 ↦{fullShare} f)
            -∗ semVal (V d (Fin.castLE hcore1 (i 0)) (Fin.castLE hsub1 (i 1)), .dma cc1_scratch5.sem) 0 -∗ Ow (V d (Fin.castLE hcore1 (i 0)) (Fin.castLE hsub1 (i 1))) O W
            -∗ Q ⟨broadcast S16 (Scalar.addi (Scalar.muli (Scalar.addi v93 1#32) 8#32) 0#32), broadcast S16 (Scalar.addi (Scalar.muli (Scalar.addi v93 1#32) 8#32) 1#32), broadcast S16 (Scalar.addi (Scalar.muli (Scalar.addi v93 1#32) 8#32) 2#32), broadcast S16 (Scalar.addi (Scalar.muli (Scalar.addi v93 1#32) 8#32) 3#32), broadcast S16 (Scalar.addi (Scalar.muli (Scalar.addi v93 1#32) 8#32) 4#32), broadcast S16 (Scalar.addi (Scalar.muli (Scalar.addi v93 1#32) 8#32) 5#32), broadcast S16 (Scalar.addi (Scalar.muli (Scalar.addi v93 1#32) 8#32) 6#32), Scalar.muli (Scalar.addi v93 1#32) 8#32⟩)
          -∗ wp frame (wpE defs₀ 𝒱₀ (V d (Fin.castLE hcore1 (i 0)) (Fin.castLE hsub1 (i 1))) none) Set.univ
            (k1_part38 i aM (Memref.isWhole_whole _) nM (Memref.isWhole_whole _) zM (Memref.isWhole_whole _) tabM (Memref.isWhole_whole _) idxM (Memref.isWhole_whole _)
        b7 (Memref.isWhole_whole _) b8 (Memref.isWhole_whole _) cc1_scratch4 cc1_scratch5 cc1_scoped0 cc1_scoped1 v30 v49 t3 v93) Q) := by
  have hb : 2 * (t3.val + 1) < 94 := by
    have h1 := t3.isLt
    have h2 : k1_t3_loop.trips = 46 := by decide
    omega
  unfold k1_part38
  iintro ⟨#Hlv, #Hwm, HS, Hz, Hs, Hf, HO⟩ Hk
  iapply (full_out_step (f₀ := f₀) (G := Gv C N) (q := q) (I := I) (W := Wr) (ιwm := ιwm) (b := b7) (L := i) (n := 2 * (t3.val + 1))
    (View.set_whole cc1_scratch2) (off54_eq i t3) hI (gat_Gv i C N hb)) $$ [HS Hz Hs]
  · isplitr; · iexact Hwm
    isplitl [HS]; · iexact HS
    isplitl [Hz]; · iexact Hz
    iexact Hs
  iintro HTI Hf7 Hz
  iapply (wait_step (O := O) (W := W) hO dmaCredit_z) $$ [Hf HO]
  · isplitr; · iexact Hlv
    isplitl [Hf]; · iexact Hf
    iexact HO
  iintro ⟨Hzb, Hb⟩ Hs HO
  iapply (Entails.of_eq (wp_pure _ _ _ _ _).symm)
  imodintro
  iapply Hk $$ HTI Hf7 Hz Hzb Hb Hs HO

end Cert.Proof.I

end
-- ==== Proof.ITrip2.lean ====
/-
  The gather's straight-line code, trip 2 of the four loops: each printed window of the code, run on the tile's private
  memory by the steps of `Fill`.
-/
module

public import proofs.«01_k».proof.Proof.IFill

@[expose] public section

noncomputable section

namespace Cert.Proof.I

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ
local notation "tabM" => (Memref.whole cc1_scratch0 : Memref sig Kind.scVector Space.vmem S752x64 EltTy.f32)
local notation "idxM" => (Memref.whole cc1_scratch1 : Memref sig Kind.scVector Space.vmem S2048 EltTy.i32)

variable {d : Dev nD} {i : grid1.Coords}
variable {arg2 : Memref sig .scVector .hbm S3000x64 .f32} {harg2 : arg2.IsWhole} {arg3 : Memref sig .scVector .hbm S16384 .i32} {harg3 : arg3.IsWhole}
  {arg4 : Memref sig .scVector .hbm S49152000 .f32} {harg4 : arg4.IsWhole} {harg5 : (tabM).IsWhole} {harg6 : (idxM).IsWhole}
  {arg7 : Memref sig .scVector .vmem S16384 .f32} {harg7 : arg7.IsWhole} {arg8 : Memref sig .scVector .vmem S16384 .f32} {harg8 : arg8.IsWhole}
  {arg9 arg10 r0 r1 : DmaSems sig S_}
variable {Tb : S752x64.Idx → Elt F .f32} {Ix : S2048.Idx → Elt F .i32} {blk : ℕ}
variable {α : Type} {Q : α → sProp (MT nD τ sig (HIx 1) (Elt F) ℕ (UU F) ℕ)}
variable {t : Fin k1_t2_loop.trips} {v65 v66 v67 v68 v69 v70 v71 v72 : IVec S16 32}
variable (hI : ∀ n, BitVec.toNat (w := 32) (Ix n) < 64) (hb : blk < 94)
  (hk0 : ∀ x, (v65 x).toNat = 8 * blk + 0) (hk1 : ∀ x, (v66 x).toNat = 8 * blk + 1) (hk2 : ∀ x, (v67 x).toNat = 8 * blk + 2) (hk3 : ∀ x, (v68 x).toNat = 8 * blk + 3)
  (hk4 : ∀ x, (v69 x).toNat = 8 * blk + 4) (hk5 : ∀ x, (v70 x).toNat = 8 * blk + 5) (hk6 : ∀ x, (v71 x).toNat = 8 * blk + 6) (hk7 : ∀ x, (v72 x).toNat = 8 * blk + 7)

local notation "ix " j:max => iseg Ix (128 * Fin.val t + 16 * j)
local notation "sg " s:max => seg Tb Ix blk (1024 * Fin.val t + 16 * s)
local notation "st " s:max => St d (Fin.castLE hcore1 (i 0)) (Fin.castLE hsub1 (i 1)) Tb Ix arg8 blk (1024 * Fin.val t + 16 * s)
local notation "run " p:max => wp frame (wpE defs₀ 𝒱₀ (V d (Fin.castLE hcore1 (i 0)) (Fin.castLE hsub1 (i 1))) none) Set.univ p Q
local notation "code " f:max => f i arg2 harg2 arg3 harg3 arg4 harg4 tabM harg5 idxM harg6 arg7 harg7 arg8 harg8 arg9 arg10 r0 r1 v65 v66 v67 v68 v69 v70 v71 v72

include hI hb hk0 hk1 hk2 hk3 hk4 hk5 hk6 hk7

/-- Window 1 of trip 2's code: from 0 to 0 segments of the second block buffer. -/
theorem part10_step {c0_i32_28} {c1_i32_30} {k : _ → Prog _ α}
    (h : ∀ w h0 h1 h2 h3 h4 h5 h6 h7 w', w' = sg 0 → st 0 ⊢ run (k ⟨w, ix 0, h0, ix 1, h1, ix 2, h2, ix 3, h3, ix 4, h4, ix 5, h5, ix 6, h6, ix 7, h7, w'⟩)) :
    st 0 ⊢ run ((code k1_part10) c0_i32_28 c1_i32_30 t >>= k) := by
  unfold k1_part10
  refine idx_step (m := 128 * t.val + 16 * 0) (k1_off20_eq t 0) (assume_step (chk8 hI hb hk0 hk1 hk2 hk3 hk4 hk5 hk6 hk7) ?_)
  refine idx_step (m := 128 * t.val + 16 * 1) (k1_off20_eq t 1) (assume_step (chk8 hI hb hk0 hk1 hk2 hk3 hk4 hk5 hk6 hk7) ?_)
  refine idx_step (m := 128 * t.val + 16 * 2) (k1_off20_eq t 2) (assume_step (chk8 hI hb hk0 hk1 hk2 hk3 hk4 hk5 hk6 hk7) ?_)
  refine idx_step (m := 128 * t.val + 16 * 3) (k1_off20_eq t 3) (assume_step (chk8 hI hb hk0 hk1 hk2 hk3 hk4 hk5 hk6 hk7) ?_)
  refine idx_step (m := 128 * t.val + 16 * 4) (k1_off20_eq t 4) (assume_step (chk8 hI hb hk0 hk1 hk2 hk3 hk4 hk5 hk6 hk7) ?_)
  refine idx_step (m := 128 * t.val + 16 * 5) (k1_off20_eq t 5) (assume_step (chk8 hI hb hk0 hk1 hk2 hk3 hk4 hk5 hk6 hk7) ?_)
  refine idx_step (m := 128 * t.val + 16 * 6) (k1_off20_eq t 6) (assume_step (chk8 hI hb hk0 hk1 hk2 hk3 hk4 hk5 hk6 hk7) ?_)
  refine idx_step (m := 128 * t.val + 16 * 7) (k1_off20_eq t 7) (assume_step (chk8 hI hb hk0 hk1 hk2 hk3 hk4 hk5 hk6 hk7) ?_)
  exact table_step (h _ _ _ _ _ _ _ _ _ _ (gather_eq 0 (by decide) hk0))

/-- Window 2 of trip 2's code: from 0 to 7 segments of the second block buffer. -/
theorem part11_step {v93} {k1_hw10} {k1_hw11} {k1_hw12} {k1_hw13} {k1_hw14} {k1_hw15} {k1_hw16} {w} (hw : w = sg 0) {k : _ → Prog _ α}
    (h : ∀ w w', w' = sg 7 → st 7 ⊢ run (k ⟨w', w⟩)) :
    st 0 ⊢ run ((code k1_part11) t v93 (ix 1) k1_hw10 (ix 2) k1_hw11 (ix 3) k1_hw12 (ix 4) k1_hw13 (ix 5) k1_hw14 (ix 6) k1_hw15 (ix 7) k1_hw16 w >>= k) := by
  unfold k1_part11
  refine put_step 0 ((k1_off21_eq t).trans (vec1 (by omega))) hw ?_
  refine table_step (put_step 1 ((k1_off22_eq t).trans (vec1 (by omega))) (gather_eq 1 (by decide) hk0) ?_)
  refine table_step (put_step 2 ((k1_off23_eq t).trans (vec1 (by omega))) (gather_eq 2 (by decide) hk0) ?_)
  refine table_step (put_step 3 ((k1_off24_eq t).trans (vec1 (by omega))) (gather_eq 3 (by decide) hk0) ?_)
  refine table_step (put_step 4 ((k1_off25_eq t).trans (vec1 (by omega))) (gather_eq 4 (by decide) hk0) ?_)
  refine table_step (put_step 5 ((k1_off26_eq t).trans (vec1 (by omega))) (gather_eq 5 (by decide) hk0) ?_)
  refine table_step (put_step 6 ((k1_off27_eq t).trans (vec1 (by omega))) (gather_eq 6 (by decide) hk0) ?_)
  exact table_step (h _ _ (gather_eq 7 (by decide) hk0))

/-- Window 3 of trip 2's code: from 7 to 15 segments of the second block buffer. -/
theorem part12_step {v93} {k1_hw9} {k1_hw10} {k1_hw11} {k1_hw12} {k1_hw13} {k1_hw14} {k1_hw15} {k1_hw16} {w} {v163} (hw : w = sg 7) {k : _ → Prog _ α}
    (h : ∀ w', w' = sg 15 → st 15 ⊢ run (k w')) :
    st 7 ⊢ run ((code k1_part12) t v93 (ix 0) k1_hw9 (ix 1) k1_hw10 (ix 2) k1_hw11 (ix 3) k1_hw12 (ix 4) k1_hw13 (ix 5) k1_hw14 (ix 6) k1_hw15 (ix 7) k1_hw16 w v163 >>= k) := by
  unfold k1_part12
  refine put_step 7 ((k1_off28_eq t).trans (vec1 (by omega))) hw ?_
  refine table_step (put_step 8 (vec3 (k1_off29_eq t 0) rfl) (gather_eq 8 (by decide) hk1) ?_)
  refine table_step (put_step 9 (vec3 (k1_off29_eq t 1) rfl) (gather_eq 9 (by decide) hk1) ?_)
  refine table_step (put_step 10 (vec3 (k1_off29_eq t 2) rfl) (gather_eq 10 (by decide) hk1) ?_)
  refine table_step (put_step 11 (vec3 (k1_off29_eq t 3) rfl) (gather_eq 11 (by decide) hk1) ?_)
  refine table_step (put_step 12 (vec3 (k1_off29_eq t 4) rfl) (gather_eq 12 (by decide) hk1) ?_)
  refine table_step (put_step 13 (vec3 (k1_off29_eq t 5) rfl) (gather_eq 13 (by decide) hk1) ?_)
  refine table_step (put_step 14 (vec3 (k1_off29_eq t 6) rfl) (gather_eq 14 (by decide) hk1) ?_)
  exact table_step (h _ (gather_eq 15 (by decide) hk1))

/-- Window 4 of trip 2's code: from 15 to 22 segments of the second block buffer. -/
theorem part13_step {v93} {k1_hw9} {k1_hw10} {k1_hw11} {k1_hw12} {k1_hw13} {k1_hw14} {k1_hw15} {w} (hw : w = sg 15) {k : _ → Prog _ α}
    (h : ∀ w w', w' = sg 22 → st 22 ⊢ run (k ⟨w', w⟩)) :
    st 15 ⊢ run ((code k1_part13) t v93 (ix 0) k1_hw9 (ix 1) k1_hw10 (ix 2) k1_hw11 (ix 3) k1_hw12 (ix 4) k1_hw13 (ix 5) k1_hw14 (ix 6) k1_hw15 w >>= k) := by
  unfold k1_part13
  refine put_step 15 (vec3 (k1_off29_eq t 7) rfl) hw ?_
  refine table_step (put_step 16 (vec3 (k1_off30_eq t 0) rfl) (gather_eq 16 (by decide) hk2) ?_)
  refine table_step (put_step 17 (vec3 (k1_off30_eq t 1) rfl) (gather_eq 17 (by decide) hk2) ?_)
  refine table_step (put_step 18 (vec3 (k1_off30_eq t 2) rfl) (gather_eq 18 (by decide) hk2) ?_)
  refine table_step (put_step 19 (vec3 (k1_off30_eq t 3) rfl) (gather_eq 19 (by decide) hk2) ?_)
  refine table_step (put_step 20 (vec3 (k1_off30_eq t 4) rfl) (gather_eq 20 (by decide) hk2) ?_)
  refine table_step (put_step 21 (vec3 (k1_off30_eq t 5) rfl) (gather_eq 21 (by decide) hk2) ?_)
  exact table_step (h _ _ (gather_eq 22 (by decide) hk2))

/-- Window 5 of trip 2's code: from 22 to 30 segments of the second block buffer. -/
theorem part14_step {v93} {k1_hw9} {k1_hw10} {k1_hw11} {k1_hw12} {k1_hw13} {k1_hw14} {k1_hw15} {k1_hw16} {w} {v238} (hw : w = sg 22) {k : _ → Prog _ α}
    (h : ∀ w', w' = sg 30 → st 30 ⊢ run (k w')) :
    st 22 ⊢ run ((code k1_part14) t v93 (ix 0) k1_hw9 (ix 1) k1_hw10 (ix 2) k1_hw11 (ix 3) k1_hw12 (ix 4) k1_hw13 (ix 5) k1_hw14 (ix 6) k1_hw15 (ix 7) k1_hw16 w v238 >>= k) := by
  unfold k1_part14
  refine put_step 22 (vec3 (k1_off30_eq t 6) rfl) hw ?_
  refine table_step (put_step 23 (vec3 (k1_off30_eq t 7) rfl) (gather_eq 23 (by decide) hk2) ?_)
  refine table_step (put_step 24 (vec3 (k1_off31_eq t 0) rfl) (gather_eq 24 (by decide) hk3) ?_)
  refine table_step (put_step 25 (vec3 (k1_off31_eq t 1) rfl) (gather_eq 25 (by decide) hk3) ?_)
  refine table_step (put_step 26 (vec3 (k1_off31_eq t 2) rfl) (gather_eq 26 (by decide) hk3) ?_)
  refine table_step (put_step 27 (vec3 (k1_off31_eq t 3) rfl) (gather_eq 27 (by decide) hk3) ?_)
  refine table_step (put_step 28 (vec3 (k1_off31_eq t 4) rfl) (gather_eq 28 (by decide) hk3) ?_)
  refine table_step (put_step 29 (vec3 (k1_off31_eq t 5) rfl) (gather_eq 29 (by decide) hk3) ?_)
  exact table_step (h _ (gather_eq 30 (by decide) hk3))

/-- Window 6 of trip 2's code: from 30 to 37 segments of the second block buffer. -/
theorem part15_step {v93} {k1_hw9} {k1_hw10} {k1_hw11} {k1_hw12} {k1_hw13} {k1_hw14} {k1_hw16} {w} (hw : w = sg 30) {k : _ → Prog _ α}
    (h : ∀ w w', w' = sg 37 → st 37 ⊢ run (k ⟨w', w⟩)) :
    st 30 ⊢ run ((code k1_part15) t v93 (ix 0) k1_hw9 (ix 1) k1_hw10 (ix 2) k1_hw11 (ix 3) k1_hw12 (ix 4) k1_hw13 (ix 5) k1_hw14 (ix 7) k1_hw16 w >>= k) := by
  unfold k1_part15
  refine put_step 30 (vec3 (k1_off31_eq t 6) rfl) hw ?_
  refine table_step (put_step 31 (vec3 (k1_off31_eq t 7) rfl) (gather_eq 31 (by decide) hk3) ?_)
  refine table_step (put_step 32 (vec3 (k1_off32_eq t 0) rfl) (gather_eq 32 (by decide) hk4) ?_)
  refine table_step (put_step 33 (vec3 (k1_off32_eq t 1) rfl) (gather_eq 33 (by decide) hk4) ?_)
  refine table_step (put_step 34 (vec3 (k1_off32_eq t 2) rfl) (gather_eq 34 (by decide) hk4) ?_)
  refine table_step (put_step 35 (vec3 (k1_off32_eq t 3) rfl) (gather_eq 35 (by decide) hk4) ?_)
  refine table_step (put_step 36 (vec3 (k1_off32_eq t 4) rfl) (gather_eq 36 (by decide) hk4) ?_)
  exact table_step (h _ _ (gather_eq 37 (by decide) hk4))

/-- Window 7 of trip 2's code: from 37 to 45 segments of the second block buffer. -/
theorem part16_step {v93} {k1_hw9} {k1_hw10} {k1_hw11} {k1_hw12} {k1_hw13} {k1_hw14} {k1_hw15} {k1_hw16} {w} {v313} (hw : w = sg 37) {k : _ → Prog _ α}
    (h : ∀ w', w' = sg 45 → st 45 ⊢ run (k w')) :
    st 37 ⊢ run ((code k1_part16) t v93 (ix 0) k1_hw9 (ix 1) k1_hw10 (ix 2) k1_hw11 (ix 3) k1_hw12 (ix 4) k1_hw13 (ix 5) k1_hw14 (ix 6) k1_hw15 (ix 7) k1_hw16 w v313 >>= k) := by
  unfold k1_part16
  refine put_step 37 (vec3 (k1_off32_eq t 5) rfl) hw ?_
  refine table_step (put_step 38 (vec3 (k1_off32_eq t 6) rfl) (gather_eq 38 (by decide) hk4) ?_)
  refine table_step (put_step 39 (vec3 (k1_off32_eq t 7) rfl) (gather_eq 39 (by decide) hk4) ?_)
  refine table_step (put_step 40 (vec3 (k1_off33_eq t 0) rfl) (gather_eq 40 (by decide) hk5) ?_)
  refine table_step (put_step 41 (vec3 (k1_off33_eq t 1) rfl) (gather_eq 41 (by decide) hk5) ?_)
  refine table_step (put_step 42 (vec3 (k1_off33_eq t 2) rfl) (gather_eq 42 (by decide) hk5) ?_)
  refine table_step (put_step 43 (vec3 (k1_off33_eq t 3) rfl) (gather_eq 43 (by decide) hk5) ?_)
  refine table_step (put_step 44 (vec3 (k1_off33_eq t 4) rfl) (gather_eq 44 (by decide) hk5) ?_)
  exact table_step (h _ (gather_eq 45 (by decide) hk5))

/-- Window 8 of trip 2's code: from 45 to 52 segments of the second block buffer. -/
theorem part17_step {v93} {k1_hw9} {k1_hw10} {k1_hw11} {k1_hw12} {k1_hw13} {k1_hw15} {k1_hw16} {w} (hw : w = sg 45) {k : _ → Prog _ α}
    (h : ∀ w w', w' = sg 52 → st 52 ⊢ run (k ⟨w', w⟩)) :
    st 45 ⊢ run ((code k1_part17) t v93 (ix 0) k1_hw9 (ix 1) k1_hw10 (ix 2) k1_hw11 (ix 3) k1_hw12 (ix 4) k1_hw13 (ix 6) k1_hw15 (ix 7) k1_hw16 w >>= k) := by
  unfold k1_part17
  refine put_step 45 (vec3 (k1_off33_eq t 5) rfl) hw ?_
  refine table_step (put_step 46 (vec3 (k1_off33_eq t 6) rfl) (gather_eq 46 (by decide) hk5) ?_)
  refine table_step (put_step 47 (vec3 (k1_off33_eq t 7) rfl) (gather_eq 47 (by decide) hk5) ?_)
  refine table_step (put_step 48 (vec3 (k1_off34_eq t 0) rfl) (gather_eq 48 (by decide) hk6) ?_)
  refine table_step (put_step 49 (vec3 (k1_off34_eq t 1) rfl) (gather_eq 49 (by decide) hk6) ?_)
  refine table_step (put_step 50 (vec3 (k1_off34_eq t 2) rfl) (gather_eq 50 (by decide) hk6) ?_)
  refine table_step (put_step 51 (vec3 (k1_off34_eq t 3) rfl) (gather_eq 51 (by decide) hk6) ?_)
  exact table_step (h _ _ (gather_eq 52 (by decide) hk6))

/-- Window 9 of trip 2's code: from 52 to 60 segments of the second block buffer. -/
theorem part18_step {v93} {k1_hw9} {k1_hw10} {k1_hw11} {k1_hw12} {k1_hw13} {k1_hw14} {k1_hw15} {k1_hw16} {w} {v388} (hw : w = sg 52) {k : _ → Prog _ α}
    (h : ∀ w', w' = sg 60 → st 60 ⊢ run (k w')) :
    st 52 ⊢ run ((code k1_part18) t v93 (ix 0) k1_hw9 (ix 1) k1_hw10 (ix 2) k1_hw11 (ix 3) k1_hw12 (ix 4) k1_hw13 (ix 5) k1_hw14 (ix 6) k1_hw15 (ix 7) k1_hw16 w v388 >>= k) := by
  unfold k1_part18
  refine put_step 52 (vec3 (k1_off34_eq t 4) rfl) hw ?_
  refine table_step (put_step 53 (vec3 (k1_off34_eq t 5) rfl) (gather_eq 53 (by decide) hk6) ?_)
  refine table_step (put_step 54 (vec3 (k1_off34_eq t 6) rfl) (gather_eq 54 (by decide) hk6) ?_)
  refine table_step (put_step 55 (vec3 (k1_off34_eq t 7) rfl) (gather_eq 55 (by decide) hk6) ?_)
  refine table_step (put_step 56 (vec3 (k1_off35_eq t 0) rfl) (gather_eq 56 (by decide) hk7) ?_)
  refine table_step (put_step 57 (vec3 (k1_off35_eq t 1) rfl) (gather_eq 57 (by decide) hk7) ?_)
  refine table_step (put_step 58 (vec3 (k1_off35_eq t 2) rfl) (gather_eq 58 (by decide) hk7) ?_)
  refine table_step (put_step 59 (vec3 (k1_off35_eq t 3) rfl) (gather_eq 59 (by decide) hk7) ?_)
  exact table_step (h _ (gather_eq 60 (by decide) hk7))

end Cert.Proof.I

end
-- ==== Proof.ITrip4.lean ====
/-
  The gather's straight-line code, trip 4 of the four loops: each printed window of the code, run on the tile's private
  memory by the steps of `Fill`.
-/
module

public import proofs.«01_k».proof.Proof.IFill

@[expose] public section

noncomputable section

namespace Cert.Proof.I

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ
local notation "tabM" => (Memref.whole cc1_scratch0 : Memref sig Kind.scVector Space.vmem S752x64 EltTy.f32)
local notation "idxM" => (Memref.whole cc1_scratch1 : Memref sig Kind.scVector Space.vmem S2048 EltTy.i32)

variable {d : Dev nD} {i : grid1.Coords}
variable {arg2 : Memref sig .scVector .hbm S3000x64 .f32} {harg2 : arg2.IsWhole} {arg3 : Memref sig .scVector .hbm S16384 .i32} {harg3 : arg3.IsWhole}
  {arg4 : Memref sig .scVector .hbm S49152000 .f32} {harg4 : arg4.IsWhole} {harg5 : (tabM).IsWhole} {harg6 : (idxM).IsWhole}
  {arg7 : Memref sig .scVector .vmem S16384 .f32} {harg7 : arg7.IsWhole} {arg8 : Memref sig .scVector .vmem S16384 .f32} {harg8 : arg8.IsWhole}
  {arg9 arg10 r0 r1 : DmaSems sig S_}
variable {Tb : S752x64.Idx → Elt F .f32} {Ix : S2048.Idx → Elt F .i32} {blk : ℕ}
variable {α : Type} {Q : α → sProp (MT nD τ sig (HIx 1) (Elt F) ℕ (UU F) ℕ)}
variable {t : Fin k1_t5_loop.trips} {v142 v145 v148 v151 v154 v157 v160 v163 : IVec S16 32}
variable (hI : ∀ n, BitVec.toNat (w := 32) (Ix n) < 64) (hb : blk < 94)
  (hk0 : ∀ x, (v142 x).toNat = 8 * blk + 0) (hk1 : ∀ x, (v145 x).toNat = 8 * blk + 1) (hk2 : ∀ x, (v148 x).toNat = 8 * blk + 2) (hk3 : ∀ x, (v151 x).toNat = 8 * blk + 3)
  (hk4 : ∀ x, (v154 x).toNat = 8 * blk + 4) (hk5 : ∀ x, (v157 x).toNat = 8 * blk + 5) (hk6 : ∀ x, (v160 x).toNat = 8 * blk + 6) (hk7 : ∀ x, (v163 x).toNat = 8 * blk + 7)

local notation "ix " j:max => iseg Ix (128 * Fin.val t + 16 * j)
local notation "sg " s:max => seg Tb Ix blk (1024 * Fin.val t + 16 * s)
local notation "st " s:max => St d (Fin.castLE hcore1 (i 0)) (Fin.castLE hsub1 (i 1)) Tb Ix arg8 blk (1024 * Fin.val t + 16 * s)
local notation "run " p:max => wp frame (wpE defs₀ 𝒱₀ (V d (Fin.castLE hcore1 (i 0)) (Fin.castLE hsub1 (i 1))) none) Set.univ p Q
local notation "code " f:max => f i arg2 harg2 arg3 harg3 arg4 harg4 tabM harg5 idxM harg6 arg7 harg7 arg8 harg8 arg9 arg10 r0 r1 v142 v145 v148 v151 v154 v157 v160 v163

include hI hb hk0 hk1 hk2 hk3 hk4 hk5 hk6 hk7

/-- Window 1 of trip 4's code: from 0 to 0 segments of the second block buffer. -/
theorem part28_step {c0_i32_91} {c1_i32_93} {k : _ → Prog _ α}
    (h : ∀ w h0 h1 h2 h3 h4 h5 h6 h7 w', w' = sg 0 → st 0 ⊢ run (k ⟨w, ix 0, h0, ix 1, h1, ix 2, h2, ix 3, h3, ix 4, h4, ix 5, h5, ix 6, h6, ix 7, h7, w'⟩)) :
    st 0 ⊢ run ((code k1_part28) c0_i32_91 c1_i32_93 t >>= k) := by
  unfold k1_part28
  refine idx_step (m := 128 * t.val + 16 * 0) (k1_off56_eq t 0) (assume_step (chk8 hI hb hk0 hk1 hk2 hk3 hk4 hk5 hk6 hk7) ?_)
  refine idx_step (m := 128 * t.val + 16 * 1) (k1_off56_eq t 1) (assume_step (chk8 hI hb hk0 hk1 hk2 hk3 hk4 hk5 hk6 hk7) ?_)
  refine idx_step (m := 128 * t.val + 16 * 2) (k1_off56_eq t 2) (assume_step (chk8 hI hb hk0 hk1 hk2 hk3 hk4 hk5 hk6 hk7) ?_)
  refine idx_step (m := 128 * t.val + 16 * 3) (k1_off56_eq t 3) (assume_step (chk8 hI hb hk0 hk1 hk2 hk3 hk4 hk5 hk6 hk7) ?_)
  refine idx_step (m := 128 * t.val + 16 * 4) (k1_off56_eq t 4) (assume_step (chk8 hI hb hk0 hk1 hk2 hk3 hk4 hk5 hk6 hk7) ?_)
  refine idx_step (m := 128 * t.val + 16 * 5) (k1_off56_eq t 5) (assume_step (chk8 hI hb hk0 hk1 hk2 hk3 hk4 hk5 hk6 hk7) ?_)
  refine idx_step (m := 128 * t.val + 16 * 6) (k1_off56_eq t 6) (assume_step (chk8 hI hb hk0 hk1 hk2 hk3 hk4 hk5 hk6 hk7) ?_)
  refine idx_step (m := 128 * t.val + 16 * 7) (k1_off56_eq t 7) (assume_step (chk8 hI hb hk0 hk1 hk2 hk3 hk4 hk5 hk6 hk7) ?_)
  exact table_step (h _ _ _ _ _ _ _ _ _ _ (gather_eq 0 (by decide) hk0))

/-- Window 2 of trip 4's code: from 0 to 7 segments of the second block buffer. -/
theorem part29_step {v172} {k1_hw26} {k1_hw27} {k1_hw28} {k1_hw29} {k1_hw30} {k1_hw31} {k1_hw32} {w} (hw : w = sg 0) {k : _ → Prog _ α}
    (h : ∀ w w', w' = sg 7 → st 7 ⊢ run (k ⟨w', w⟩)) :
    st 0 ⊢ run ((code k1_part29) t v172 (ix 1) k1_hw26 (ix 2) k1_hw27 (ix 3) k1_hw28 (ix 4) k1_hw29 (ix 5) k1_hw30 (ix 6) k1_hw31 (ix 7) k1_hw32 w >>= k) := by
  unfold k1_part29
  refine put_step 0 ((k1_off57_eq t).trans (vec1 (by omega))) hw ?_
  refine table_step (put_step 1 ((k1_off58_eq t).trans (vec1 (by omega))) (gather_eq 1 (by decide) hk0) ?_)
  refine table_step (put_step 2 ((k1_off59_eq t).trans (vec1 (by omega))) (gather_eq 2 (by decide) hk0) ?_)
  refine table_step (put_step 3 ((k1_off60_eq t).trans (vec1 (by omega))) (gather_eq 3 (by decide) hk0) ?_)
  refine table_step (put_step 4 ((k1_off61_eq t).trans (vec1 (by omega))) (gather_eq 4 (by decide) hk0) ?_)
  refine table_step (put_step 5 ((k1_off62_eq t).trans (vec1 (by omega))) (gather_eq 5 (by decide) hk0) ?_)
  refine table_step (put_step 6 ((k1_off63_eq t).trans (vec1 (by omega))) (gather_eq 6 (by decide) hk0) ?_)
  exact table_step (h _ _ (gather_eq 7 (by decide) hk0))

/-- Window 3 of trip 4's code: from 7 to 15 segments of the second block buffer. -/
theorem part30_step {v172} {k1_hw25} {k1_hw26} {k1_hw27} {k1_hw28} {k1_hw29} {k1_hw30} {k1_hw31} {k1_hw32} {w} {v242} (hw : w = sg 7) {k : _ → Prog _ α}
    (h : ∀ w', w' = sg 15 → st 15 ⊢ run (k w')) :
    st 7 ⊢ run ((code k1_part30) t v172 (ix 0) k1_hw25 (ix 1) k1_hw26 (ix 2) k1_hw27 (ix 3) k1_hw28 (ix 4) k1_hw29 (ix 5) k1_hw30 (ix 6) k1_hw31 (ix 7) k1_hw32 w v242 >>= k) := by
  unfold k1_part30
  refine put_step 7 ((k1_off64_eq t).trans (vec1 (by omega))) hw ?_
  refine table_step (put_step 8 (vec3 (k1_off65_eq t 0) rfl) (gather_eq 8 (by decide) hk1) ?_)
  refine table_step (put_step 9 (vec3 (k1_off65_eq t 1) rfl) (gather_eq 9 (by decide) hk1) ?_)
  refine table_step (put_step 10 (vec3 (k1_off65_eq t 2) rfl) (gather_eq 10 (by decide) hk1) ?_)
  refine table_step (put_step 11 (vec3 (k1_off65_eq t 3) rfl) (gather_eq 11 (by decide) hk1) ?_)
  refine table_step (put_step 12 (vec3 (k1_off65_eq t 4) rfl) (gather_eq 12 (by decide) hk1) ?_)
  refine table_step (put_step 13 (vec3 (k1_off65_eq t 5) rfl) (gather_eq 13 (by decide) hk1) ?_)
  refine table_step (put_step 14 (vec3 (k1_off65_eq t 6) rfl) (gather_eq 14 (by decide) hk1) ?_)
  exact table_step (h _ (gather_eq 15 (by decide) hk1))

/-- Window 4 of trip 4's code: from 15 to 22 segments of the second block buffer. -/
theorem part31_step {v172} {k1_hw25} {k1_hw26} {k1_hw27} {k1_hw28} {k1_hw29} {k1_hw30} {k1_hw31} {w} (hw : w = sg 15) {k : _ → Prog _ α}
    (h : ∀ w w', w' = sg 22 → st 22 ⊢ run (k ⟨w', w⟩)) :
    st 15 ⊢ run ((code k1_part31) t v172 (ix 0) k1_hw25 (ix 1) k1_hw26 (ix 2) k1_hw27 (ix 3) k1_hw28 (ix 4) k1_hw29 (ix 5) k1_hw30 (ix 6) k1_hw31 w >>= k) := by
  unfold k1_part31
  refine put_step 15 (vec3 (k1_off65_eq t 7) rfl) hw ?_
  refine table_step (put_step 16 (vec3 (k1_off66_eq t 0) rfl) (gather_eq 16 (by decide) hk2) ?_)
  refine table_step (put_step 17 (vec3 (k1_off66_eq t 1) rfl) (gather_eq 17 (by decide) hk2) ?_)
  refine table_step (put_step 18 (vec3 (k1_off66_eq t 2) rfl) (gather_eq 18 (by decide) hk2) ?_)
  refine table_step (put_step 19 (vec3 (k1_off66_eq t 3) rfl) (gather_eq 19 (by decide) hk2) ?_)
  refine table_step (put_step 20 (vec3 (k1_off66_eq t 4) rfl) (gather_eq 20 (by decide) hk2) ?_)
  refine table_step (put_step 21 (vec3 (k1_off66_eq t 5) rfl) (gather_eq 21 (by decide) hk2) ?_)
  exact table_step (h _ _ (gather_eq 22 (by decide) hk2))

/-- Window 5 of trip 4's code: from 22 to 30 segments of the second block buffer. -/
theorem part32_step {v172} {k1_hw25} {k1_hw26} {k1_hw27} {k1_hw28} {k1_hw29} {k1_hw30} {k1_hw31} {k1_hw32} {w} {v317} (hw : w = sg 22) {k : _ → Prog _ α}
    (h : ∀ w', w' = sg 30 → st 30 ⊢ run (k w')) :
    st 22 ⊢ run ((code k1_part32) t v172 (ix 0) k1_hw25 (ix 1) k1_hw26 (ix 2) k1_hw27 (ix 3) k1_hw28 (ix 4) k1_hw29 (ix 5) k1_hw30 (ix 6) k1_hw31 (ix 7) k1_hw32 w v317 >>= k) := by
  unfold k1_part32
  refine put_step 22 (vec3 (k1_off66_eq t 6) rfl) hw ?_
  refine table_step (put_step 23 (vec3 (k1_off66_eq t 7) rfl) (gather_eq 23 (by decide) hk2) ?_)
  refine table_step (put_step 24 (vec3 (k1_off67_eq t 0) rfl) (gather_eq 24 (by decide) hk3) ?_)
  refine table_step (put_step 25 (vec3 (k1_off67_eq t 1) rfl) (gather_eq 25 (by decide) hk3) ?_)
  refine table_step (put_step 26 (vec3 (k1_off67_eq t 2) rfl) (gather_eq 26 (by decide) hk3) ?_)
  refine table_step (put_step 27 (vec3 (k1_off67_eq t 3) rfl) (gather_eq 27 (by decide) hk3) ?_)
  refine table_step (put_step 28 (vec3 (k1_off67_eq t 4) rfl) (gather_eq 28 (by decide) hk3) ?_)
  refine table_step (put_step 29 (vec3 (k1_off67_eq t 5) rfl) (gather_eq 29 (by decide) hk3) ?_)
  exact table_step (h _ (gather_eq 30 (by decide) hk3))

/-- Window 6 of trip 4's code: from 30 to 37 segments of the second block buffer. -/
theorem part33_step {v172} {k1_hw25} {k1_hw26} {k1_hw27} {k1_hw28} {k1_hw29} {k1_hw30} {k1_hw32} {w} (hw : w = sg 30) {k : _ → Prog _ α}
    (h : ∀ w w', w' = sg 37 → st 37 ⊢ run (k ⟨w', w⟩)) :
    st 30 ⊢ run ((code k1_part33) t v172 (ix 0) k1_hw25 (ix 1) k1_hw26 (ix 2) k1_hw27 (ix 3) k1_hw28 (ix 4) k1_hw29 (ix 5) k1_hw30 (ix 7) k1_hw32 w >>= k) := by
  unfold k1_part33
  refine put_step 30 (vec3 (k1_off67_eq t 6) rfl) hw ?_
  refine table_step (put_step 31 (vec3 (k1_off67_eq t 7) rfl) (gather_eq 31 (by decide) hk3) ?_)
  refine table_step (put_step 32 (vec3 (k1_off68_eq t 0) rfl) (gather_eq 32 (by decide) hk4) ?_)
  refine table_step (put_step 33 (vec3 (k1_off68_eq t 1) rfl) (gather_eq 33 (by decide) hk4) ?_)
  refine table_step (put_step 34 (vec3 (k1_off68_eq t 2) rfl) (gather_eq 34 (by decide) hk4) ?_)
  refine table_step (put_step 35 (vec3 (k1_off68_eq t 3) rfl) (gather_eq 35 (by decide) hk4) ?_)
  refine table_step (put_step 36 (vec3 (k1_off68_eq t 4) rfl) (gather_eq 36 (by decide) hk4) ?_)
  exact table_step (h _ _ (gather_eq 37 (by decide) hk4))

/-- Window 7 of trip 4's code: from 37 to 45 segments of the second block buffer. -/
theorem part34_step {v172} {k1_hw25} {k1_hw26} {k1_hw27} {k1_hw28} {k1_hw29} {k1_hw30} {k1_hw31} {k1_hw32} {w} {v392} (hw : w = sg 37) {k : _ → Prog _ α}
    (h : ∀ w', w' = sg 45 → st 45 ⊢ run (k w')) :
    st 37 ⊢ run ((code k1_part34) t v172 (ix 0) k1_hw25 (ix 1) k1_hw26 (ix 2) k1_hw27 (ix 3) k1_hw28 (ix 4) k1_hw29 (ix 5) k1_hw30 (ix 6) k1_hw31 (ix 7) k1_hw32 w v392 >>= k) := by
  unfold k1_part34
  refine put_step 37 (vec3 (k1_off68_eq t 5) rfl) hw ?_
  refine table_step (put_step 38 (vec3 (k1_off68_eq t 6) rfl) (gather_eq 38 (by decide) hk4) ?_)
  refine table_step (put_step 39 (vec3 (k1_off68_eq t 7) rfl) (gather_eq 39 (by decide) hk4) ?_)
  refine table_step (put_step 40 (vec3 (k1_off69_eq t 0) rfl) (gather_eq 40 (by decide) hk5) ?_)
  refine table_step (put_step 41 (vec3 (k1_off69_eq t 1) rfl) (gather_eq 41 (by decide) hk5) ?_)
  refine table_step (put_step 42 (vec3 (k1_off69_eq t 2) rfl) (gather_eq 42 (by decide) hk5) ?_)
  refine table_step (put_step 43 (vec3 (k1_off69_eq t 3) rfl) (gather_eq 43 (by decide) hk5) ?_)
  refine table_step (put_step 44 (vec3 (k1_off69_eq t 4) rfl) (gather_eq 44 (by decide) hk5) ?_)
  exact table_step (h _ (gather_eq 45 (by decide) hk5))

/-- Window 8 of trip 4's code: from 45 to 52 segments of the second block buffer. -/
theorem part35_step {v172} {k1_hw25} {k1_hw26} {k1_hw27} {k1_hw28} {k1_hw29} {k1_hw31} {k1_hw32} {w} (hw : w = sg 45) {k : _ → Prog _ α}
    (h : ∀ w w', w' = sg 52 → st 52 ⊢ run (k ⟨w', w⟩)) :
    st 45 ⊢ run ((code k1_part35) t v172 (ix 0) k1_hw25 (ix 1) k1_hw26 (ix 2) k1_hw27 (ix 3) k1_hw28 (ix 4) k1_hw29 (ix 6) k1_hw31 (ix 7) k1_hw32 w >>= k) := by
  unfold k1_part35
  refine put_step 45 (vec3 (k1_off69_eq t 5) rfl) hw ?_
  refine table_step (put_step 46 (vec3 (k1_off69_eq t 6) rfl) (gather_eq 46 (by decide) hk5) ?_)
  refine table_step (put_step 47 (vec3 (k1_off69_eq t 7) rfl) (gather_eq 47 (by decide) hk5) ?_)
  refine table_step (put_step 48 (vec3 (k1_off70_eq t 0) rfl) (gather_eq 48 (by decide) hk6) ?_)
  refine table_step (put_step 49 (vec3 (k1_off70_eq t 1) rfl) (gather_eq 49 (by decide) hk6) ?_)
  refine table_step (put_step 50 (vec3 (k1_off70_eq t 2) rfl) (gather_eq 50 (by decide) hk6) ?_)
  refine table_step (put_step 51 (vec3 (k1_off70_eq t 3) rfl) (gather_eq 51 (by decide) hk6) ?_)
  exact table_step (h _ _ (gather_eq 52 (by decide) hk6))

/-- Window 9 of trip 4's code: from 52 to 60 segments of the second block buffer. -/
theorem part36_step {v172} {k1_hw25} {k1_hw26} {k1_hw27} {k1_hw28} {k1_hw29} {k1_hw30} {k1_hw31} {k1_hw32} {w} {v467} (hw : w = sg 52) {k : _ → Prog _ α}
    (h : ∀ w', w' = sg 60 → st 60 ⊢ run (k w')) :
    st 52 ⊢ run ((code k1_part36) t v172 (ix 0) k1_hw25 (ix 1) k1_hw26 (ix 2) k1_hw27 (ix 3) k1_hw28 (ix 4) k1_hw29 (ix 5) k1_hw30 (ix 6) k1_hw31 (ix 7) k1_hw32 w v467 >>= k) := by
  unfold k1_part36
  refine put_step 52 (vec3 (k1_off70_eq t 4) rfl) hw ?_
  refine table_step (put_step 53 (vec3 (k1_off70_eq t 5) rfl) (gather_eq 53 (by decide) hk6) ?_)
  refine table_step (put_step 54 (vec3 (k1_off70_eq t 6) rfl) (gather_eq 54 (by decide) hk6) ?_)
  refine table_step (put_step 55 (vec3 (k1_off70_eq t 7) rfl) (gather_eq 55 (by decide) hk6) ?_)
  refine table_step (put_step 56 (vec3 (k1_off71_eq t 0) rfl) (gather_eq 56 (by decide) hk7) ?_)
  refine table_step (put_step 57 (vec3 (k1_off71_eq t 1) rfl) (gather_eq 57 (by decide) hk7) ?_)
  refine table_step (put_step 58 (vec3 (k1_off71_eq t 2) rfl) (gather_eq 58 (by decide) hk7) ?_)
  refine table_step (put_step 59 (vec3 (k1_off71_eq t 3) rfl) (gather_eq 59 (by decide) hk7) ?_)
  exact table_step (h _ (gather_eq 60 (by decide) hk7))

end Cert.Proof.I

end
-- ==== Proof.IPart41.lean ====
/-
  The middle of a tile's task: the first block copied out, the second filled and copied out, and the pipelined loop over the others.
-/
module

public import proofs.«01_k».proof.Proof.IPart37
public import proofs.«01_k».proof.Proof.IPart38
public import proofs.«01_k».proof.Proof.ITrip2
public import proofs.«01_k».proof.Proof.ITrip4

@[expose] public section

noncomputable section

namespace Cert.Proof.I

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

open Idealize.ShloMosaic.Transfers

variable {F : FTy → Type} [FloatOps F]

local notation "𝕄" => MT nD τ sig (HIx 1) (Elt F) ℕ (UU F) ℕ
local notation "zM" => (Memref.whole main_v2_scv : Memref sig Kind.scVector Space.hbm S49152000 EltTy.f32)
local notation "aM" => (Memref.whole main_arg2_scv : Memref sig Kind.scVector Space.hbm S3000x64 EltTy.f32)
local notation "nM" => (Memref.whole main_v1_scv : Memref sig Kind.scVector Space.hbm S16384 EltTy.i32)
local notation "tabM" => (Memref.whole cc1_scratch0 : Memref sig Kind.scVector Space.vmem S752x64 EltTy.f32)
local notation "idxM" => (Memref.whole cc1_scratch1 : Memref sig Kind.scVector Space.vmem S2048 EltTy.i32)
local notation "b7" => (Memref.whole cc1_scratch2 : Memref sig Kind.scVector Space.vmem S16384 EltTy.f32)
local notation "b8" => (Memref.whole cc1_scratch3 : Memref sig Kind.scVector Space.vmem S16384 EltTy.f32)
local notation "VT" d i => V d (Fin.castLE hcore1 (i 0)) (Fin.castLE hsub1 (i 1))

variable {d : Dev nD} {i : grid1.Coords}
variable {O : CellTallies nD τ sig (HIx 1)} {W : Waits sig (HIx 1)}
variable {C : S3000x64.Idx → Elt F .f32} {N : S16384.Idx → Elt F .i32} {f₀ : S49152000.Idx → Elt F .f32} {q qa qn : PosShare TreeShare} {ιwm : ℕ}

/-- A loop that carries nothing, by an invariant. -/
theorem loop_rule {c : Fin τ.nSC} {j : Fin τ.nSub} {α : Type} {Q : α → sProp (MT nD τ sig (HIx 1) (Elt F) ℕ (UU F) ℕ)}
    {L : Scf.Loop 32} {ok} {body : Fin L.trips → PUnit → Prog (TpuEff nD τ sig (Elt F) Λ₀ (.scVector c j)) PUnit}
    (I : ℕ → sProp 𝕄)
    (hbody : ∀ t a, I t.val ⊢ wp frame (wpE defs₀ 𝒱₀ (V d c j) none) Set.univ (body t a) fun _ => I (t.val + 1))
    {kk : PUnit → Prog (TpuEff nD τ sig (Elt F) Λ₀ (.scVector c j)) α} :
    I 0 ⊢ iprop((I L.trips -∗ wp frame (wpE defs₀ 𝒱₀ (V d c j) none) Set.univ (kk ⟨⟩) Q)
          -∗ wp frame (wpE defs₀ 𝒱₀ (V d c j) none) Set.univ (Scf.Loop.for L ok ⟨⟩ body >>= kk) Q) := by
  have h := Scf.wp_for_bind frame (wpE (defs₀ (F := F)) 𝒱₀ (V d c j) none) Set.univ L.lb L.ub L.st ok ⟨⟩ body
    (fun t _ => I t) hbody (kk := kk) (Q := Q)
  refine h.trans ?_
  iintro H Hk
  iapply H
  iintro %acc HS
  iapply Hk
  iexact HS

/-- A part of the task, and what follows it. -/
theorem bind_rule {thr : Thread nD τ} {α β : Type} {p : Prog (TpuEff nD τ sig (Elt F) Λ₀ thr.2) α} {k : α → Prog (TpuEff nD τ sig (Elt F) Λ₀ thr.2) β}
    {Q : β → sProp (MT nD τ sig (HIx 1) (Elt F) ℕ (UU F) ℕ)} :
    wp frame (wpE defs₀ 𝒱₀ thr none) Set.univ p (fun a => wp frame (wpE defs₀ 𝒱₀ thr none) Set.univ (k a) Q)
      ⊢ wp frame (wpE defs₀ 𝒱₀ thr none) Set.univ (p >>= k) Q := by
  rw [wp_bind]

variable (d i O W C N f₀ q ιwm) in
/-- Before trip `t` of the pipelined loop: blocks `2 t` and `2 t + 1` are in flight, those before are written. -/
def Inv (t : ℕ) : sProp 𝕄 :=
  iprop(levAts (K (F := F)).L (K (F := F)).lev ∗ wmInv (EW (F := F)) ιwm ∗ TI d (Fin.castLE hcore1 (i 0)) (Fin.castLE hsub1 (i 1)) (tabOf i C) (idxOf i N)
        ∗ Flight (EC (F := F)) (V d (Fin.castLE hcore1 (i 0)) (Fin.castLE hsub1 (i 1))) (.dma cc1_scratch4.sem) none NZ
          iprop(zW d f₀ (Gv C N) q (blkSet i (2 * t)) (blkSet i (2 * t)) ∗ ∃ f, (V d (Fin.castLE hcore1 (i 0)) (Fin.castLE hsub1 (i 1))).loc cc1_scratch2 ↦{fullShare} f)
        ∗ Flight (EC (F := F)) (V d (Fin.castLE hcore1 (i 0)) (Fin.castLE hsub1 (i 1))) (.dma cc1_scratch5.sem) none NZ
          iprop(zW d f₀ (Gv C N) q (blkSet i (2 * t + 1)) (blkSet i (2 * t + 1)) ∗ ∃ f, (V d (Fin.castLE hcore1 (i 0)) (Fin.castLE hsub1 (i 1))).loc cc1_scratch3 ↦{fullShare} f)
        ∗ zW d f₀ (Gv C N) q ((Finset.univ \ blkSet i (2 * t)) \ blkSet i (2 * t + 1)) (Wn i (2 * t))
        ∗ Ow (V d (Fin.castLE hcore1 (i 0)) (Fin.castLE hsub1 (i 1))) O W)

omit [FloatOps F] in
theorem blk_sub {X Y : Finset S49152000.Idx} (h : Disjoint X Y) : Y ⊆ Finset.univ \ X := fun _ hx =>
  Finset.mem_sdiff.mpr ⟨Finset.mem_univ _, fun hx' => Finset.disjoint_left.mp h hx' hx⟩

/-- The first two blocks and the pipelined loop. -/
theorem part41_rule (hO : ∀ g, O g none = 0) (hN : ∀ x, BitVec.toNat (w := 32) (N x) < 64) {v30 v49 v60 : BitVec 32}
    {Q : BitVec 32 → sProp (MT nD τ sig (HIx 1) (Elt F) ℕ (UU F) ℕ)} :
    iprop(levAts (K (F := F)).L (K (F := F)).lev ∗ wmInv (EW (F := F)) ιwm
        ∗ St d (Fin.castLE hcore1 (i 0)) (Fin.castLE hsub1 (i 1)) (tabOf i C) (idxOf i N) b7 (0) 16384 ∗ (∃ f, (V d (Fin.castLE hcore1 (i 0)) (Fin.castLE hsub1 (i 1))).loc cc1_scratch3 ↦{fullShare} f)
        ∗ zW d f₀ (Gv C N) q (Finset.univ) (∅) ∗ semVal (V d (Fin.castLE hcore1 (i 0)) (Fin.castLE hsub1 (i 1)), .dma cc1_scratch4.sem) 0 ∗ semVal (V d (Fin.castLE hcore1 (i 0)) (Fin.castLE hsub1 (i 1)), .dma cc1_scratch5.sem) 0
        ∗ Ow (V d (Fin.castLE hcore1 (i 0)) (Fin.castLE hsub1 (i 1))) O W)
      ⊢ iprop((∀ v, TI d (Fin.castLE hcore1 (i 0)) (Fin.castLE hsub1 (i 1)) (tabOf i C) (idxOf i N) -∗ (∃ f, (V d (Fin.castLE hcore1 (i 0)) (Fin.castLE hsub1 (i 1))).loc cc1_scratch2 ↦{fullShare} f)
            -∗ semVal (V d (Fin.castLE hcore1 (i 0)) (Fin.castLE hsub1 (i 1)), .dma cc1_scratch4.sem) 0
            -∗ Flight (EC (F := F)) (V d (Fin.castLE hcore1 (i 0)) (Fin.castLE hsub1 (i 1))) (.dma cc1_scratch5.sem) none NZ
          iprop(zW d f₀ (Gv C N) q (blkSet i (93)) (blkSet i (93)) ∗ ∃ f, (V d (Fin.castLE hcore1 (i 0)) (Fin.castLE hsub1 (i 1))).loc cc1_scratch3 ↦{fullShare} f)
            -∗ zW d f₀ (Gv C N) q (Finset.univ \ blkSet i 93) (Wn i 93)
            -∗ Ow (V d (Fin.castLE hcore1 (i 0)) (Fin.castLE hsub1 (i 1))) O W -∗ Q v)
          -∗ wp frame (wpE defs₀ 𝒱₀ (V d (Fin.castLE hcore1 (i 0)) (Fin.castLE hsub1 (i 1))) none) Set.univ
            (k1_part41 i aM (Memref.isWhole_whole _) nM (Memref.isWhole_whole _) zM (Memref.isWhole_whole _) tabM (Memref.isWhole_whole _) idxM (Memref.isWhole_whole _)
        b7 (Memref.isWhole_whole _) b8 (Memref.isWhole_whole _) cc1_scratch4 cc1_scratch5 cc1_scoped0 cc1_scoped1 v30 v49 v60) Q) := by
  have hI := idxOf_lt i N hN
  have hb : (1 : ℕ) < 94 := by decide
  have hk0 : ∀ x, BitVec.toNat (w := 32) ((broadcast S16 8#32 : IVec S16 32) x) = 8 * 1 + 0 := fun _ => rfl
  have hk1 : ∀ x, BitVec.toNat (w := 32) ((broadcast S16 9#32 : IVec S16 32) x) = 8 * 1 + 1 := fun _ => rfl
  have hk2 : ∀ x, BitVec.toNat (w := 32) ((broadcast S16 10#32 : IVec S16 32) x) = 8 * 1 + 2 := fun _ => rfl
  have hk3 : ∀ x, BitVec.toNat (w := 32) ((broadcast S16 11#32 : IVec S16 32) x) = 8 * 1 + 3 := fun _ => rfl
  have hk4 : ∀ x, BitVec.toNat (w := 32) ((broadcast S16 12#32 : IVec S16 32) x) = 8 * 1 + 4 := fun _ => rfl
  have hk5 : ∀ x, BitVec.toNat (w := 32) ((broadcast S16 13#32 : IVec S16 32) x) = 8 * 1 + 5 := fun _ => rfl
  have hk6 : ∀ x, BitVec.toNat (w := 32) ((broadcast S16 14#32 : IVec S16 32) x) = 8 * 1 + 6 := fun _ => rfl
  have hk7 : ∀ x, BitVec.toNat (w := 32) ((broadcast S16 15#32 : IVec S16 32) x) = 8 * 1 + 7 := fun _ => rfl
  unfold k1_part41
  iintro ⟨#Hlv, #Hwm, HS, Hb8, Hz, Hs9, Hs10, HO⟩ Hk
  iapply (full_out_step (f₀ := f₀) (G := Gv C N) (q := q) (I := Finset.univ) (W := ∅) (ιwm := ιwm) (b := b7) (L := i) (n := 0)
    (View.set_whole cc1_scratch2) (off19_eq i) (Finset.subset_univ _) (gat_Gv i C N (by decide))) $$ [HS Hz Hs9]
  · isplitr; · iexact Hwm
    isplitl [HS]; · iexact HS
    isplitl [Hz]; · iexact Hz
    iexact Hs9
  iintro HTI Hf7 Hz
  iapply (fill_rule (b := b8) (blk := 1) (Tb := tabOf i C) (Ix := idxOf i N) (L := k1_t2_loop) (by decide) ?hbody) $$ [HTI Hb8]
  rotate_left
  · iapply (St_zero (Tb := tabOf i C) (Ix := idxOf i N))
    isplitl [HTI]; · iexact HTI
    iexact Hb8
  rotate_left
  · intro t _
    rw [show 1024 * t.val = 1024 * t.val + 16 * 0 from rfl]
    refine part10_step hI hb hk0 hk1 hk2 hk3 hk4 hk5 hk6 hk7 fun _ _ _ _ _ _ _ _ _ w hw0 => ?_
    refine part11_step hI hb hk0 hk1 hk2 hk3 hk4 hk5 hk6 hk7 hw0 fun _ _ hw1 => ?_
    refine part12_step hI hb hk0 hk1 hk2 hk3 hk4 hk5 hk6 hk7 hw1 fun _ hw2 => ?_
    refine part13_step hI hb hk0 hk1 hk2 hk3 hk4 hk5 hk6 hk7 hw2 fun _ _ hw3 => ?_
    refine part14_step hI hb hk0 hk1 hk2 hk3 hk4 hk5 hk6 hk7 hw3 fun _ hw4 => ?_
    refine part15_step hI hb hk0 hk1 hk2 hk3 hk4 hk5 hk6 hk7 hw4 fun _ _ hw5 => ?_
    refine part16_step hI hb hk0 hk1 hk2 hk3 hk4 hk5 hk6 hk7 hw5 fun _ hw6 => ?_
    refine part17_step hI hb hk0 hk1 hk2 hk3 hk4 hk5 hk6 hk7 hw6 fun _ _ hw7 => ?_
    refine part18_step hI hb hk0 hk1 hk2 hk3 hk4 hk5 hk6 hk7 hw7 fun _ hw8 => ?_
    refine load_step fun _ => ?_
    refine store_step' (1024 * t.val + 16 * 60) (1024 * t.val + 16 * 61) ?_ ?_ (by omega) ?_
    · exact (k1_off35_eq t ⟨4, by decide⟩).trans (vec1 (by show 1024 * t.val + 16 * 4 + 896 = _; omega))
    · exact hw8
    refine table_step ?_
    refine load_step fun _ => ?_
    refine store_step' (1024 * t.val + 16 * 61) (1024 * t.val + 16 * 62) ?_ ?_ (by omega) ?_
    · exact (k1_off35_eq t ⟨5, by decide⟩).trans (vec1 (by show 1024 * t.val + 16 * 5 + 896 = _; omega))
    · exact gather_eq 61 (by decide) hk7
    refine table_step ?_
    refine load_step fun _ => ?_
    refine store_step' (1024 * t.val + 16 * 62) (1024 * t.val + 16 * 63) ?_ ?_ (by omega) ?_
    · exact (k1_off35_eq t ⟨6, by decide⟩).trans (vec1 (by show 1024 * t.val + 16 * 6 + 896 = _; omega))
    · exact gather_eq 62 (by decide) hk7
    refine table_step ?_
    refine load_step fun _ => ?_
    refine store_step' (1024 * t.val + 16 * 63) (1024 * t.val + 16 * 64) ?_ ?_ (by omega) ?_
    · exact (k1_off35_eq t ⟨7, by decide⟩).trans (vec1 (by show 1024 * t.val + 16 * 7 + 896 = _; omega))
    · exact gather_eq 63 (by decide) hk7
    refine BIBase.Entails.trans ?_ (Entails.of_eq (wp_pure _ _ _ _ _).symm)
    rw [show 1024 * t.val + 16 * 64 = 1024 * (t.val + 1) by omega]
    exact fupd_intro
  iintro HS
  iapply (full_out_step (f₀ := f₀) (G := Gv C N) (q := q) (I := Finset.univ \ blkSet i 0) (W := ∅) (ιwm := ιwm) (b := b8) (L := i) (n := 1)
    (View.set_whole cc1_scratch3) (off36_eq i) (blk_sub (blkSet_disjoint (by decide))) (gat_Gv i C N (by decide))) $$ [HS Hz Hs10]
  · isplitr; · iexact Hwm
    isplitl [HS]; · iexact HS
    isplitl [Hz]; · iexact Hz
    iexact Hs10
  iintro HTI Hf8 Hz
  iapply (loop_rule (L := k1_t3_loop) (Inv d i O W C N f₀ q ιwm) ?hloop) $$ [HTI Hf7 Hf8 Hz HO]
  rotate_left
  · unfold Inv
    isplitr; · iexact Hlv
    isplitr; · iexact Hwm
    isplitl [HTI]; · iexact HTI
    isplitl [Hf7]; · iexact Hf7
    isplitl [Hf8]; · iexact Hf8
    isplitl [Hz]; · iexact Hz
    iexact HO
  rotate_left
  · intro t3 _
    clear hk0 hk1 hk2 hk3 hk4 hk5 hk6 hk7 hb
    have hb : 2 * (t3.val + 1) + 1 < 94 := by
      have h1 := t3.isLt
      have h2 : k1_t3_loop.trips = 46 := by decide
      omega
    have hk0 : ∀ x, BitVec.toNat (w := 32) ((broadcast S16 (Scalar.addi (Scalar.muli (Scalar.addi (Scalar.muli 2#32 (Scf.iv 1#32 1#32 t3)) 1#32) 8#32) 0#32) : IVec S16 32) x) = 8 * (2 * (t3.val + 1) + 1) + 0 := fun _ => row_odd t3 ⟨0, by decide⟩
    have hk1 : ∀ x, BitVec.toNat (w := 32) ((broadcast S16 (Scalar.addi (Scalar.muli (Scalar.addi (Scalar.muli 2#32 (Scf.iv 1#32 1#32 t3)) 1#32) 8#32) 1#32) : IVec S16 32) x) = 8 * (2 * (t3.val + 1) + 1) + 1 := fun _ => row_odd t3 ⟨1, by decide⟩
    have hk2 : ∀ x, BitVec.toNat (w := 32) ((broadcast S16 (Scalar.addi (Scalar.muli (Scalar.addi (Scalar.muli 2#32 (Scf.iv 1#32 1#32 t3)) 1#32) 8#32) 2#32) : IVec S16 32) x) = 8 * (2 * (t3.val + 1) + 1) + 2 := fun _ => row_odd t3 ⟨2, by decide⟩
    have hk3 : ∀ x, BitVec.toNat (w := 32) ((broadcast S16 (Scalar.addi (Scalar.muli (Scalar.addi (Scalar.muli 2#32 (Scf.iv 1#32 1#32 t3)) 1#32) 8#32) 3#32) : IVec S16 32) x) = 8 * (2 * (t3.val + 1) + 1) + 3 := fun _ => row_odd t3 ⟨3, by decide⟩
    have hk4 : ∀ x, BitVec.toNat (w := 32) ((broadcast S16 (Scalar.addi (Scalar.muli (Scalar.addi (Scalar.muli 2#32 (Scf.iv 1#32 1#32 t3)) 1#32) 8#32) 4#32) : IVec S16 32) x) = 8 * (2 * (t3.val + 1) + 1) + 4 := fun _ => row_odd t3 ⟨4, by decide⟩
    have hk5 : ∀ x, BitVec.toNat (w := 32) ((broadcast S16 (Scalar.addi (Scalar.muli (Scalar.addi (Scalar.muli 2#32 (Scf.iv 1#32 1#32 t3)) 1#32) 8#32) 5#32) : IVec S16 32) x) = 8 * (2 * (t3.val + 1) + 1) + 5 := fun _ => row_odd t3 ⟨5, by decide⟩
    have hk6 : ∀ x, BitVec.toNat (w := 32) ((broadcast S16 (Scalar.addi (Scalar.muli (Scalar.addi (Scalar.muli 2#32 (Scf.iv 1#32 1#32 t3)) 1#32) 8#32) 6#32) : IVec S16 32) x) = 8 * (2 * (t3.val + 1) + 1) + 6 := fun _ => row_odd t3 ⟨6, by decide⟩
    have hk7 : ∀ x, BitVec.toNat (w := 32) ((broadcast S16 (Scalar.addi (Scalar.muli (Scalar.addi (Scalar.muli 2#32 (Scf.iv 1#32 1#32 t3)) 1#32) 8#32) 7#32) : IVec S16 32) x) = 8 * (2 * (t3.val + 1) + 1) + 7 := fun _ => row_odd t3 ⟨7, by decide⟩
    unfold Inv
    iintro ⟨#Hlv, #Hwm, HTI, Hf7, Hf8, Hz, HO⟩
    iapply bind_rule
    iapply (part37_rule (f₀ := f₀) (q := q) hO hN (n := 2 * t3.val)) $$ [HTI Hf7 HO]
    · isplitr; · iexact Hlv
      isplitl [Hf7]; · iexact Hf7
      isplitl [HTI]; · iexact HTI
      iexact HO
    iintro Hzb HS Hs9 HO
    beta_reduce
    ihave Hz := (zW_back (blkSet_disjoint (i := i) (show 2 * t3.val < 2 * t3.val + 1 by omega))) $$ [Hz Hzb]
    · isplitl [Hz]; · iexact Hz
      iexact Hzb
    iapply bind_rule
    iapply (part38_rule (f₀ := f₀) (q := q) (ιwm := ιwm) hO (n := 2 * t3.val + 1) (Wr := Wn i (2 * t3.val) ∪ blkSet i (2 * t3.val))
      (I := Finset.univ \ blkSet i (2 * t3.val + 1)) (blk_sub (blkSet_disjoint (by omega)))) $$ [HS Hz Hs9 Hf8 HO]
    · isplitr; · iexact Hlv
      isplitr; · iexact Hwm
      isplitl [HS]; · iexact HS
      isplitl [Hz]; · iexact Hz
      isplitl [Hs9]; · iexact Hs9
      isplitl [Hf8]; · iexact Hf8
      iexact HO
    iintro HTI Hf7 Hz Hzb Hb8 Hs10 HO
    beta_reduce
    ihave Hz := (zW_back (blkSet_disjoint (i := i) (show 2 * t3.val + 1 < 2 * (t3.val + 1) by omega))) $$ [Hz Hzb]
    · isplitl [Hz]; · iexact Hz
      iexact Hzb
    iapply (fill_rule (b := b8) (blk := 2 * (t3.val + 1) + 1) (Tb := tabOf i C) (Ix := idxOf i N) (L := k1_t5_loop) (by decide) ?hbody2) $$ [HTI Hb8]
    rotate_left
    · iapply (St_zero (Tb := tabOf i C) (Ix := idxOf i N))
      isplitl [HTI]; · iexact HTI
      iexact Hb8
    rotate_left
    · intro t _
      rw [show 1024 * t.val = 1024 * t.val + 16 * 0 from rfl]
      refine part28_step hI hb hk0 hk1 hk2 hk3 hk4 hk5 hk6 hk7 fun _ _ _ _ _ _ _ _ _ w hw0 => ?_
      refine part29_step hI hb hk0 hk1 hk2 hk3 hk4 hk5 hk6 hk7 hw0 fun _ _ hw1 => ?_
      refine part30_step hI hb hk0 hk1 hk2 hk3 hk4 hk5 hk6 hk7 hw1 fun _ hw2 => ?_
      refine part31_step hI hb hk0 hk1 hk2 hk3 hk4 hk5 hk6 hk7 hw2 fun _ _ hw3 => ?_
      refine part32_step hI hb hk0 hk1 hk2 hk3 hk4 hk5 hk6 hk7 hw3 fun _ hw4 => ?_
      refine part33_step hI hb hk0 hk1 hk2 hk3 hk4 hk5 hk6 hk7 hw4 fun _ _ hw5 => ?_
      refine part34_step hI hb hk0 hk1 hk2 hk3 hk4 hk5 hk6 hk7 hw5 fun _ hw6 => ?_
      refine part35_step hI hb hk0 hk1 hk2 hk3 hk4 hk5 hk6 hk7 hw6 fun _ _ hw7 => ?_
      refine part36_step hI hb hk0 hk1 hk2 hk3 hk4 hk5 hk6 hk7 hw7 fun _ hw8 => ?_
      refine load_step fun _ => ?_
      refine store_step' (1024 * t.val + 16 * 60) (1024 * t.val + 16 * 61) ?_ ?_ (by omega) ?_
      · exact (k1_off71_eq t ⟨4, by decide⟩).trans (vec1 (by show 1024 * t.val + 16 * 4 + 896 = _; omega))
      · exact hw8
      refine table_step ?_
      refine load_step fun _ => ?_
      refine store_step' (1024 * t.val + 16 * 61) (1024 * t.val + 16 * 62) ?_ ?_ (by omega) ?_
      · exact (k1_off71_eq t ⟨5, by decide⟩).trans (vec1 (by show 1024 * t.val + 16 * 5 + 896 = _; omega))
      · exact gather_eq 61 (by decide) hk7
      refine table_step ?_
      refine load_step fun _ => ?_
      refine store_step' (1024 * t.val + 16 * 62) (1024 * t.val + 16 * 63) ?_ ?_ (by omega) ?_
      · exact (k1_off71_eq t ⟨6, by decide⟩).trans (vec1 (by show 1024 * t.val + 16 * 6 + 896 = _; omega))
      · exact gather_eq 62 (by decide) hk7
      refine table_step ?_
      refine load_step fun _ => ?_
      refine store_step' (1024 * t.val + 16 * 63) (1024 * t.val + 16 * 64) ?_ ?_ (by omega) ?_
      · exact (k1_off71_eq t ⟨7, by decide⟩).trans (vec1 (by show 1024 * t.val + 16 * 7 + 896 = _; omega))
      · exact gather_eq 63 (by decide) hk7
      refine BIBase.Entails.trans ?_ (Entails.of_eq (wp_pure _ _ _ _ _).symm)
      rw [show 1024 * t.val + 16 * 64 = 1024 * (t.val + 1) by omega]
      exact fupd_intro
    iintro HS
    iapply (full_out_step (f₀ := f₀) (G := Gv C N) (q := q) (I := Finset.univ \ blkSet i (2 * (t3.val + 1)))
      (W := Wn i (2 * t3.val) ∪ blkSet i (2 * t3.val) ∪ blkSet i (2 * t3.val + 1)) (ιwm := ιwm) (b := b8) (L := i) (n := 2 * (t3.val + 1) + 1)
      (View.set_whole cc1_scratch3) (off72_eq i t3) (blk_sub (blkSet_disjoint (by omega))) (gat_Gv i C N hb)) $$ [HS Hz Hs10]
    · isplitr; · iexact Hwm
      isplitl [HS]; · iexact HS
      isplitl [Hz]; · iexact Hz
      iexact Hs10
    iintro HTI Hf8 Hz
    iapply (Entails.of_eq (wp_pure _ _ _ _ _).symm)
    imodintro
    isplitr; · iexact Hlv
    isplitr; · iexact Hwm
    isplitl [HTI]; · iexact HTI
    isplitl [Hf7]; · iexact Hf7
    isplitl [Hf8]; · iexact Hf8
    isplitl [Hz]
    · rw [Wn_succ, Wn_succ]
      iexact Hz
    iexact HO
  rw [show k1_t3_loop.trips = 46 by decide]
  unfold Inv
  iintro ⟨#Hlv', #Hwm', HTI, Hf7, Hf8, Hz, HO⟩
  iapply (wait_step (O := O) (W := W) hO dmaCredit_z) $$ [Hf7 HO]
  · isplitr; · iexact Hlv
    isplitl [Hf7]; · iexact Hf7
    iexact HO
  iintro ⟨Hzb, Hb⟩ Hs9 HO
  ihave Hz := (zW_back (blkSet_disjoint (i := i) (show 2 * 46 < 2 * 46 + 1 by omega))) $$ [Hz Hzb]
  · isplitl [Hz]; · iexact Hz
    iexact Hzb
  iapply (Entails.of_eq (wp_pure _ _ _ _ _).symm)
  imodintro
  rw [Wn_succ]
  iapply Hk $$ HTI Hb Hs9 Hf8 Hz HO

end Cert.Proof.I

end
-- ==== Proof.IBody.lean ====
/-
  A vector subcore's whole task: what it takes, what it brings back, and its own scratch as the launch counts it.
-/
module

public import proofs.«01_k».proof.Proof.IPart40
public import proofs.«01_k».proof.Proof.IPart41

@[expose] public section

noncomputable section

namespace Cert.Proof.I

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

open Idealize.ShloMosaic.Transfers

variable {F : FTy → Type} [FloatOps F]

local notation "𝕄" => MT nD τ sig (HIx 1) (Elt F) ℕ (UU F) ℕ
local notation "zM" => (Memref.whole main_v2_scv : Memref sig Kind.scVector Space.hbm S49152000 EltTy.f32)
local notation "aM" => (Memref.whole main_arg2_scv : Memref sig Kind.scVector Space.hbm S3000x64 EltTy.f32)
local notation "nM" => (Memref.whole main_v1_scv : Memref sig Kind.scVector Space.hbm S16384 EltTy.i32)
local notation "tabM" => (Memref.whole cc1_scratch0 : Memref sig Kind.scVector Space.vmem S752x64 EltTy.f32)
local notation "idxM" => (Memref.whole cc1_scratch1 : Memref sig Kind.scVector Space.vmem S2048 EltTy.i32)
local notation "b7" => (Memref.whole cc1_scratch2 : Memref sig Kind.scVector Space.vmem S16384 EltTy.f32)
local notation "b8" => (Memref.whole cc1_scratch3 : Memref sig Kind.scVector Space.vmem S16384 EltTy.f32)
local notation "VT" d i => V d (Fin.castLE hcore1 (i 0)) (Fin.castLE hsub1 (i 1))

variable {d : Dev nD} {i : grid1.Coords}
variable {O : CellTallies nD τ sig (HIx 1)} {W : Waits sig (HIx 1)}
variable {C : S3000x64.Idx → Elt F .f32} {N : S16384.Idx → Elt F .i32} {f₀ : S49152000.Idx → Elt F .f32} {q qa qn : PosShare TreeShare} {ιwm : ℕ}

variable (d i) in
omit [FloatOps F] in
/-- The kernel's four semaphores are among the subcore's own. -/
theorem ownSems0_V :
    (SparseCore.Cfg.ownSems0 (V d (Fin.castLE hcore1 (i 0)) (Fin.castLE hsub1 (i 1))) : sProp 𝕄)
      = iprop(semVal (V d (Fin.castLE hcore1 (i 0)) (Fin.castLE hsub1 (i 1)), .dma cc1_scratch4.sem) 0 ∗ semVal (V d (Fin.castLE hcore1 (i 0)) (Fin.castLE hsub1 (i 1)), .dma cc1_scratch5.sem) 0
          ∗ semVal (V d (Fin.castLE hcore1 (i 0)) (Fin.castLE hsub1 (i 1)), .dma cc1_scoped0.sem) 0 ∗ semVal (V d (Fin.castLE hcore1 (i 0)) (Fin.castLE hsub1 (i 1)), .dma cc1_scoped1.sem) 0
          ∗ bigSep (((((SparseCore.Cfg.ownCells (V d (Fin.castLE hcore1 (i 0)) (Fin.castLE hsub1 (i 1)))).erase (V d (Fin.castLE hcore1 (i 0)) (Fin.castLE hsub1 (i 1)), .dma cc1_scratch4.sem)).erase (V d (Fin.castLE hcore1 (i 0)) (Fin.castLE hsub1 (i 1)), .dma cc1_scratch5.sem)).erase
              (V d (Fin.castLE hcore1 (i 0)) (Fin.castLE hsub1 (i 1)), .dma cc1_scoped0.sem)).erase (V d (Fin.castLE hcore1 (i 0)) (Fin.castLE hsub1 (i 1)), .dma cc1_scoped1.sem))
              fun g => semVal g 0) := by
  have hne : ∀ {a b : SemLoc sig}, a ≠ b → ((V d (Fin.castLE hcore1 (i 0)) (Fin.castLE hsub1 (i 1)), a) : GSem nD τ sig) ≠ (V d (Fin.castLE hcore1 (i 0)) (Fin.castLE hsub1 (i 1)), b) := fun h e => h (congrArg Prod.snd e)
  have hm : ∀ {a : SemLoc sig}, a.isScoped .scVector = true → ((V d (Fin.castLE hcore1 (i 0)) (Fin.castLE hsub1 (i 1)), a) : GSem nD τ sig) ∈ SparseCore.Cfg.ownCells (V d (Fin.castLE hcore1 (i 0)) (Fin.castLE hsub1 (i 1))) :=
    fun h => SparseCore.Cfg.mem_ownCells.mpr ⟨rfl, h⟩
  unfold SparseCore.Cfg.ownSems0
  rw [SparseCore.bigSep_erase' (hm (a := .dma cc1_scratch4.sem) (by decide)),
    SparseCore.bigSep_erase' (Finset.mem_erase.mpr ⟨hne (a := .dma cc1_scratch5.sem) (by decide), hm (by decide)⟩),
    SparseCore.bigSep_erase' (Finset.mem_erase.mpr ⟨hne (a := .dma cc1_scoped0.sem) (by decide), Finset.mem_erase.mpr ⟨hne (by decide), hm (by decide)⟩⟩),
    SparseCore.bigSep_erase' (Finset.mem_erase.mpr ⟨hne (a := .dma cc1_scoped1.sem) (by decide), Finset.mem_erase.mpr ⟨hne (by decide),
      Finset.mem_erase.mpr ⟨hne (by decide), hm (by decide)⟩⟩⟩)]

variable (d i) in
omit [FloatOps F] in
/-- The four scratch buffers are among the subcore's own. -/
theorem ownBufs_V :
    (SparseCore.Cfg.ownBufs (V d (Fin.castLE hcore1 (i 0)) (Fin.castLE hsub1 (i 1))) : sProp 𝕄)
      = iprop((∃ f, (V d (Fin.castLE hcore1 (i 0)) (Fin.castLE hsub1 (i 1))).loc cc1_scratch0 ↦{fullShare} f) ∗ (∃ f, (V d (Fin.castLE hcore1 (i 0)) (Fin.castLE hsub1 (i 1))).loc cc1_scratch1 ↦{fullShare} f)
          ∗ (∃ f, (V d (Fin.castLE hcore1 (i 0)) (Fin.castLE hsub1 (i 1))).loc cc1_scratch2 ↦{fullShare} f) ∗ (∃ f, (V d (Fin.castLE hcore1 (i 0)) (Fin.castLE hsub1 (i 1))).loc cc1_scratch3 ↦{fullShare} f)
          ∗ bigSep (((((SparseCore.Cfg.ownRefs (τ := τ) (V d (Fin.castLE hcore1 (i 0)) (Fin.castLE hsub1 (i 1))).2).erase ((V d (Fin.castLE hcore1 (i 0)) (Fin.castLE hsub1 (i 1))).2.devRef cc1_scratch0)).erase
              ((V d (Fin.castLE hcore1 (i 0)) (Fin.castLE hsub1 (i 1))).2.devRef cc1_scratch1)).erase ((V d (Fin.castLE hcore1 (i 0)) (Fin.castLE hsub1 (i 1))).2.devRef cc1_scratch2)).erase ((V d (Fin.castLE hcore1 (i 0)) (Fin.castLE hsub1 (i 1))).2.devRef cc1_scratch3))
              fun b => iprop(∃ f, ((d, b) : Loc nD τ sig) ↦{fullShare} f)) := by
  have hne : ∀ {a b : Ref sig .scVector}, a ≠ b → (V d (Fin.castLE hcore1 (i 0)) (Fin.castLE hsub1 (i 1))).2.devRef a ≠ (V d (Fin.castLE hcore1 (i 0)) (Fin.castLE hsub1 (i 1))).2.devRef b :=
    fun h e => h (Proc.devRef_injective (V d (Fin.castLE hcore1 (i 0)) (Fin.castLE hsub1 (i 1))).2 e)
  have hm : ∀ {a : Ref sig .scVector}, ((V d (Fin.castLE hcore1 (i 0)) (Fin.castLE hsub1 (i 1))).2.devRef a).owner = .proc (V d (Fin.castLE hcore1 (i 0)) (Fin.castLE hsub1 (i 1))).2 → (V d (Fin.castLE hcore1 (i 0)) (Fin.castLE hsub1 (i 1))).2.devRef a ∈ SparseCore.Cfg.ownRefs (τ := τ) (V d (Fin.castLE hcore1 (i 0)) (Fin.castLE hsub1 (i 1))).2 :=
    fun h => SparseCore.Cfg.mem_ownRefs_of_owner h
  unfold SparseCore.Cfg.ownBufs
  refine (SparseCore.bigSep_erase' (hm (a := cc1_scratch0) rfl)).trans ?_
  rw [SparseCore.bigSep_erase' (Finset.mem_erase.mpr ⟨hne (a := cc1_scratch1) (by decide), hm rfl⟩),
    SparseCore.bigSep_erase' (Finset.mem_erase.mpr ⟨hne (a := cc1_scratch2) (by decide), Finset.mem_erase.mpr ⟨hne (by decide), hm rfl⟩⟩),
    SparseCore.bigSep_erase' (Finset.mem_erase.mpr ⟨hne (a := cc1_scratch3) (by decide), Finset.mem_erase.mpr ⟨hne (by decide),
      Finset.mem_erase.mpr ⟨hne (by decide), hm rfl⟩⟩⟩)]

/-- The first statements of the task are scalar arithmetic only. -/
theorem part39_rule {Q : (Σ' (_ : BitVec 32) (_ : BitVec 32) (_ : BitVec 32) (_ : BitVec 32) (_ : BitVec 32), BitVec 1) → sProp (MT nD τ sig (HIx 1) (Elt F) ℕ (UU F) ℕ)} :
    iprop(∀ v, Q v) ⊢ wp frame (wpE defs₀ 𝒱₀ (V d (Fin.castLE hcore1 (i 0)) (Fin.castLE hsub1 (i 1))) none) Set.univ (k1_part39 i aM (Memref.isWhole_whole _) nM (Memref.isWhole_whole _) zM (Memref.isWhole_whole _) tabM (Memref.isWhole_whole _) idxM (Memref.isWhole_whole _)
        b7 (Memref.isWhole_whole _) b8 (Memref.isWhole_whole _) cc1_scratch4 cc1_scratch5 cc1_scoped0 cc1_scoped1) Q := by
  unfold k1_part39
  iintro H
  iapply (Entails.of_eq (wp_pure _ _ _ _ _).symm)
  imodintro
  iapply H

/-- The task: from shares of the table and of the target numbers and the whole of the result array's write mode, the
    tile's ninety-four blocks are written. -/
theorem body_rule (hO : ∀ g, O g none = 0) (hN : ∀ x, BitVec.toNat (w := 32) (N x) < 64) :
    iprop(levAts (K (F := F)).L (K (F := F)).lev ∗ wmInv (EW (F := F)) ιwm
        ∗ ((V d (Fin.castLE hcore1 (i 0)) (Fin.castLE hsub1 (i 1))).loc main_arg2_scv ↦{qa} (C : Buf (Elt F) ((V d (Fin.castLE hcore1 (i 0)) (Fin.castLE hsub1 (i 1))).loc main_arg2_scv)))
        ∗ ((V d (Fin.castLE hcore1 (i 0)) (Fin.castLE hsub1 (i 1))).loc main_v1_scv ↦{qn} (N : Buf (Elt F) ((V d (Fin.castLE hcore1 (i 0)) (Fin.castLE hsub1 (i 1))).loc main_v1_scv)))
        ∗ zW d f₀ (Gv C N) q Finset.univ ∅
        ∗ (∃ f, (V d (Fin.castLE hcore1 (i 0)) (Fin.castLE hsub1 (i 1))).loc cc1_scratch0 ↦{fullShare} f) ∗ (∃ f, (V d (Fin.castLE hcore1 (i 0)) (Fin.castLE hsub1 (i 1))).loc cc1_scratch1 ↦{fullShare} f)
        ∗ (∃ f, (V d (Fin.castLE hcore1 (i 0)) (Fin.castLE hsub1 (i 1))).loc cc1_scratch2 ↦{fullShare} f) ∗ (∃ f, (V d (Fin.castLE hcore1 (i 0)) (Fin.castLE hsub1 (i 1))).loc cc1_scratch3 ↦{fullShare} f)
        ∗ semVal (V d (Fin.castLE hcore1 (i 0)) (Fin.castLE hsub1 (i 1)), .dma cc1_scratch4.sem) 0 ∗ semVal (V d (Fin.castLE hcore1 (i 0)) (Fin.castLE hsub1 (i 1)), .dma cc1_scratch5.sem) 0
        ∗ semVal (V d (Fin.castLE hcore1 (i 0)) (Fin.castLE hsub1 (i 1)), .dma cc1_scoped0.sem) 0 ∗ semVal (V d (Fin.castLE hcore1 (i 0)) (Fin.castLE hsub1 (i 1)), .dma cc1_scoped1.sem) 0 ∗ Ow (V d (Fin.castLE hcore1 (i 0)) (Fin.castLE hsub1 (i 1))) O W)
      ⊢ wp frame (wpE defs₀ 𝒱₀ (V d (Fin.castLE hcore1 (i 0)) (Fin.castLE hsub1 (i 1))) none) Set.univ (cc1__gather i aM (Memref.isWhole_whole _) nM (Memref.isWhole_whole _) zM (Memref.isWhole_whole _) tabM (Memref.isWhole_whole _) idxM (Memref.isWhole_whole _)
        b7 (Memref.isWhole_whole _) b8 (Memref.isWhole_whole _) cc1_scratch4 cc1_scratch5 cc1_scoped0 cc1_scoped1)
        fun _ => iprop(((V d (Fin.castLE hcore1 (i 0)) (Fin.castLE hsub1 (i 1))).loc main_arg2_scv ↦{qa} (C : Buf (Elt F) ((V d (Fin.castLE hcore1 (i 0)) (Fin.castLE hsub1 (i 1))).loc main_arg2_scv)))
        ∗ ((V d (Fin.castLE hcore1 (i 0)) (Fin.castLE hsub1 (i 1))).loc main_v1_scv ↦{qn} (N : Buf (Elt F) ((V d (Fin.castLE hcore1 (i 0)) (Fin.castLE hsub1 (i 1))).loc main_v1_scv)))
        ∗ zW d f₀ (Gv C N) q Finset.univ (Wn i 94)
        ∗ (∃ f, (V d (Fin.castLE hcore1 (i 0)) (Fin.castLE hsub1 (i 1))).loc cc1_scratch0 ↦{fullShare} f) ∗ (∃ f, (V d (Fin.castLE hcore1 (i 0)) (Fin.castLE hsub1 (i 1))).loc cc1_scratch1 ↦{fullShare} f)
        ∗ (∃ f, (V d (Fin.castLE hcore1 (i 0)) (Fin.castLE hsub1 (i 1))).loc cc1_scratch2 ↦{fullShare} f) ∗ (∃ f, (V d (Fin.castLE hcore1 (i 0)) (Fin.castLE hsub1 (i 1))).loc cc1_scratch3 ↦{fullShare} f)
        ∗ semVal (V d (Fin.castLE hcore1 (i 0)) (Fin.castLE hsub1 (i 1)), .dma cc1_scratch4.sem) 0 ∗ semVal (V d (Fin.castLE hcore1 (i 0)) (Fin.castLE hsub1 (i 1)), .dma cc1_scratch5.sem) 0
        ∗ semVal (V d (Fin.castLE hcore1 (i 0)) (Fin.castLE hsub1 (i 1)), .dma cc1_scoped0.sem) 0 ∗ semVal (V d (Fin.castLE hcore1 (i 0)) (Fin.castLE hsub1 (i 1)), .dma cc1_scoped1.sem) 0 ∗ Ow (V d (Fin.castLE hcore1 (i 0)) (Fin.castLE hsub1 (i 1))) O W) := by
  unfold cc1__gather
  iintro ⟨#Hlv, #Hwm, Ha, Hn, Hz, Ht, Hi, Hb7, Hb8, Hs9, Hs10, Hr0, Hr1, HO⟩
  iapply bind_rule
  iapply part39_rule
  iintro %v
  rcases v with ⟨v30, v32, c8, v33, v35, v36⟩
  dsimp only
  iapply bind_rule
  iapply (part40_rule hO hN) $$ [Ha Hn Ht Hi Hb7 Hr0 Hr1 HO]
  · isplitr; · iexact Hlv
    isplitl [Ha]; · iexact Ha
    isplitl [Hn]; · iexact Hn
    isplitl [Ht]; · iexact Ht
    isplitl [Hi]; · iexact Hi
    isplitl [Hb7]; · iexact Hb7
    isplitl [Hr0]; · iexact Hr0
    isplitl [Hr1]; · iexact Hr1
    iexact HO
  iintro %w Ha Hn HS Hr0 Hr1 HO
  rcases w with ⟨v49, v60⟩
  dsimp only
  iapply bind_rule
  iapply (part41_rule hO hN (f₀ := f₀) (q := q) (ιwm := ιwm)) $$ [HS Hb8 Hz Hs9 Hs10 HO]
  · isplitr; · iexact Hlv
    isplitr; · iexact Hwm
    isplitl [HS]; · iexact HS
    isplitl [Hb8]; · iexact Hb8
    isplitl [Hz]; · iexact Hz
    isplitl [Hs9]; · iexact Hs9
    isplitl [Hs10]; · iexact Hs10
    iexact HO
  iintro %u HTI Hb7 Hs9 Hf Hz HO
  beta_reduce
  unfold TI
  icases HTI with ⟨Ht, Hi⟩
  iapply (wait_step (O := O) (W := W) hO dmaCredit_z) $$ [Hf HO]
  · isplitr; · iexact Hlv
    isplitl [Hf]; · iexact Hf
    iexact HO
  iintro ⟨Hzb, Hb8⟩ Hs10 HO
  ihave Hz := zW_back_last $$ [Hz Hzb]
  · isplitl [Hz]; · iexact Hz
    iexact Hzb
  iapply (Entails.of_eq (wp_pure _ _ _ _ _).symm)
  imodintro
  rw [Wn_succ]
  isplitl [Ha]; · iexact Ha
  isplitl [Hn]; · iexact Hn
  isplitl [Hz]; · iexact Hz
  isplitl [Ht]; · iexists _; iexact Ht
  isplitl [Hi]; · iexists _; iexact Hi
  isplitl [Hb7]; · iexact Hb7
  isplitl [Hb8]; · iexact Hb8
  isplitl [Hs9]; · iexact Hs9
  isplitl [Hs10]; · iexact Hs10
  isplitl [Hr0]; · iexact Hr0
  isplitl [Hr1]; · iexact Hr1
  iexact HO

/-- The same, the scratch as the launch counts it. -/
theorem tile_body (hF : (K (F := F)).Facts) (hO : ∀ g, O g none = 0) (hN : ∀ x, BitVec.toNat (w := 32) (N x) < 64) :
    iprop(levAts (K (F := F)).L (K (F := F)).lev ∗ (∃ ι, wmInv (EW (F := F)) ι)
        ∗ (((V d (Fin.castLE hcore1 (i 0)) (Fin.castLE hsub1 (i 1))).loc main_arg2_scv ↦{qa} (C : Buf (Elt F) ((V d (Fin.castLE hcore1 (i 0)) (Fin.castLE hsub1 (i 1))).loc main_arg2_scv)))
          ∗ ((V d (Fin.castLE hcore1 (i 0)) (Fin.castLE hsub1 (i 1))).loc main_v1_scv ↦{qn} (N : Buf (Elt F) ((V d (Fin.castLE hcore1 (i 0)) (Fin.castLE hsub1 (i 1))).loc main_v1_scv))) ∗ zW d f₀ (Gv C N) q Finset.univ ∅)
        ∗ scopedBufs (V d (Fin.castLE hcore1 (i 0)) (Fin.castLE hsub1 (i 1))) ∗ scopedSems0 (V d (Fin.castLE hcore1 (i 0)) (Fin.castLE hsub1 (i 1))) ∗ owes (V d (Fin.castLE hcore1 (i 0)) (Fin.castLE hsub1 (i 1))) O W)
      ⊢ wp frame (wpE defs₀ 𝒱₀ (V d (Fin.castLE hcore1 (i 0)) (Fin.castLE hsub1 (i 1))) none) Set.univ (cc1__gather i aM (Memref.isWhole_whole _) nM (Memref.isWhole_whole _) zM (Memref.isWhole_whole _) tabM (Memref.isWhole_whole _) idxM (Memref.isWhole_whole _)
        b7 (Memref.isWhole_whole _) b8 (Memref.isWhole_whole _) cc1_scratch4 cc1_scratch5 cc1_scoped0 cc1_scoped1)
        fun _ => iprop((((V d (Fin.castLE hcore1 (i 0)) (Fin.castLE hsub1 (i 1))).loc main_arg2_scv ↦{qa} (C : Buf (Elt F) ((V d (Fin.castLE hcore1 (i 0)) (Fin.castLE hsub1 (i 1))).loc main_arg2_scv)))
          ∗ ((V d (Fin.castLE hcore1 (i 0)) (Fin.castLE hsub1 (i 1))).loc main_v1_scv ↦{qn} (N : Buf (Elt F) ((V d (Fin.castLE hcore1 (i 0)) (Fin.castLE hsub1 (i 1))).loc main_v1_scv))) ∗ zW d f₀ (Gv C N) q Finset.univ (Wn i 94))
        ∗ scopedBufs (V d (Fin.castLE hcore1 (i 0)) (Fin.castLE hsub1 (i 1))) ∗ scopedSems0 (V d (Fin.castLE hcore1 (i 0)) (Fin.castLE hsub1 (i 1)))
        ∗ ∃ W', ⌜∀ p ∈ W', p ∈ W ∨ p.2 = none⌝ ∗ owes (V d (Fin.castLE hcore1 (i 0)) (Fin.castLE hsub1 (i 1))) O W') := by
  rw [(K (F := F)).scopedBufs_V hF d (Fin.castLE hcore1 (i 0)) (Fin.castLE hsub1 (i 1)),
    SparseCore.Cfg.scopedSems0_V (Val := Elt F) d (Fin.castLE hcore1 (i 0)) (Fin.castLE hsub1 (i 1)), ownSems0_V, ownBufs_V]
  refine BIBase.Entails.trans ?_ ((wp_frame_r frame (wpE (defs₀ (F := F)) 𝒱₀ (V d (Fin.castLE hcore1 (i 0)) (Fin.castLE hsub1 (i 1))) none) Set.univ
    (R := iprop(bigSep (((((SparseCore.Cfg.ownRefs (τ := τ) (V d (Fin.castLE hcore1 (i 0)) (Fin.castLE hsub1 (i 1))).2).erase ((V d (Fin.castLE hcore1 (i 0)) (Fin.castLE hsub1 (i 1))).2.devRef cc1_scratch0)).erase
              ((V d (Fin.castLE hcore1 (i 0)) (Fin.castLE hsub1 (i 1))).2.devRef cc1_scratch1)).erase ((V d (Fin.castLE hcore1 (i 0)) (Fin.castLE hsub1 (i 1))).2.devRef cc1_scratch2)).erase ((V d (Fin.castLE hcore1 (i 0)) (Fin.castLE hsub1 (i 1))).2.devRef cc1_scratch3))
              (fun b => iprop(∃ f, ((d, b) : Loc nD τ sig) ↦{fullShare} f))
            ∗ bigSep (((((SparseCore.Cfg.ownCells (V d (Fin.castLE hcore1 (i 0)) (Fin.castLE hsub1 (i 1)))).erase (V d (Fin.castLE hcore1 (i 0)) (Fin.castLE hsub1 (i 1)), .dma cc1_scratch4.sem)).erase (V d (Fin.castLE hcore1 (i 0)) (Fin.castLE hsub1 (i 1)), .dma cc1_scratch5.sem)).erase
              (V d (Fin.castLE hcore1 (i 0)) (Fin.castLE hsub1 (i 1)), .dma cc1_scoped0.sem)).erase (V d (Fin.castLE hcore1 (i 0)) (Fin.castLE hsub1 (i 1)), .dma cc1_scoped1.sem))
              fun g => semVal g 0))).trans (wp_mono frame (wpE (defs₀ (F := F)) 𝒱₀ (V d (Fin.castLE hcore1 (i 0)) (Fin.castLE hsub1 (i 1))) none) Set.univ
      (Q := fun _ => iprop((((V d (Fin.castLE hcore1 (i 0)) (Fin.castLE hsub1 (i 1))).loc main_arg2_scv ↦{qa} (C : Buf (Elt F) ((V d (Fin.castLE hcore1 (i 0)) (Fin.castLE hsub1 (i 1))).loc main_arg2_scv)))
        ∗ ((V d (Fin.castLE hcore1 (i 0)) (Fin.castLE hsub1 (i 1))).loc main_v1_scv ↦{qn} (N : Buf (Elt F) ((V d (Fin.castLE hcore1 (i 0)) (Fin.castLE hsub1 (i 1))).loc main_v1_scv)))
        ∗ zW d f₀ (Gv C N) q Finset.univ (Wn i 94)
        ∗ (∃ f, (V d (Fin.castLE hcore1 (i 0)) (Fin.castLE hsub1 (i 1))).loc cc1_scratch0 ↦{fullShare} f) ∗ (∃ f, (V d (Fin.castLE hcore1 (i 0)) (Fin.castLE hsub1 (i 1))).loc cc1_scratch1 ↦{fullShare} f)
        ∗ (∃ f, (V d (Fin.castLE hcore1 (i 0)) (Fin.castLE hsub1 (i 1))).loc cc1_scratch2 ↦{fullShare} f) ∗ (∃ f, (V d (Fin.castLE hcore1 (i 0)) (Fin.castLE hsub1 (i 1))).loc cc1_scratch3 ↦{fullShare} f)
        ∗ semVal (V d (Fin.castLE hcore1 (i 0)) (Fin.castLE hsub1 (i 1)), .dma cc1_scratch4.sem) 0 ∗ semVal (V d (Fin.castLE hcore1 (i 0)) (Fin.castLE hsub1 (i 1)), .dma cc1_scratch5.sem) 0
        ∗ semVal (V d (Fin.castLE hcore1 (i 0)) (Fin.castLE hsub1 (i 1)), .dma cc1_scoped0.sem) 0 ∗ semVal (V d (Fin.castLE hcore1 (i 0)) (Fin.castLE hsub1 (i 1)), .dma cc1_scoped1.sem) 0 ∗ Ow (V d (Fin.castLE hcore1 (i 0)) (Fin.castLE hsub1 (i 1))) O W) ∗ _)) fun _ => ?_))
  · iintro ⟨#Hlv, ⟨%ι, #Hwm⟩, ⟨Ha, Hn, Hz⟩, ⟨Ht, Hi, Hb7, Hb8, Hbufs⟩, ⟨Hs9, Hs10, Hr0, Hr1, Hsems⟩, HO⟩
    ihave HO := Ow_intro $$ HO
    isplitr [Hbufs Hsems]
    · iapply (body_rule (f₀ := f₀) (q := q) (ιwm := ι) hO hN)
      isplitr; · iexact Hlv
      isplitr; · iexact Hwm
      isplitl [Ha]; · iexact Ha
      isplitl [Hn]; · iexact Hn
      isplitl [Hz]; · iexact Hz
      isplitl [Ht]; · iexact Ht
      isplitl [Hi]; · iexact Hi
      isplitl [Hb7]; · iexact Hb7
      isplitl [Hb8]; · iexact Hb8
      isplitl [Hs9]; · iexact Hs9
      isplitl [Hs10]; · iexact Hs10
      isplitl [Hr0]; · iexact Hr0
      isplitl [Hr1]; · iexact Hr1
      iexact HO
    isplitl [Hbufs]; · iexact Hbufs
    iexact Hsems
  · unfold Ow
    iintro ⟨⟨Ha, Hn, Hz, Ht, Hi, Hb7, Hb8, Hs9, Hs10, Hr0, Hr1, HO⟩, Hbufs, Hsems⟩
    isplitl [Ha Hn Hz]
    · isplitl [Ha]; · iexact Ha
      isplitl [Hn]; · iexact Hn
      iexact Hz
    isplitl [Ht Hi Hb7 Hb8 Hbufs]
    · isplitl [Ht]; · iexact Ht
      isplitl [Hi]; · iexact Hi
      isplitl [Hb7]; · iexact Hb7
      isplitl [Hb8]; · iexact Hb8
      iexact Hbufs
    isplitl [Hs9 Hs10 Hr0 Hr1 Hsems]
    · isplitl [Hs9]; · iexact Hs9
      isplitl [Hs10]; · iexact Hs10
      isplitl [Hr0]; · iexact Hr0
      isplitl [Hr1]; · iexact Hr1
      iexact Hsems
    iexact HO

end Cert.Proof.I

end
-- ==== Proof.ISplit.lean ====
/-
  What the SparseCore call carries: the shares of the table, of the target numbers and of the result array's write
  mode that a SparseCore and each of its vector subcores take, and what they bring back; the blocks cover the result.
-/
module

public import proofs.«01_k».proof.Proof.IBody

@[expose] public section

noncomputable section

namespace Cert.Proof.I

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

open Idealize.ShloMosaic.Transfers
open Idealize.ShloMosaic.SparseCore.Cfg (Pay)

variable {F : FTy → Type} [FloatOps F]

local notation "𝕄" => MT nD τ sig (HIx 1) (Elt F) ℕ (UU F) ℕ

theorem nSub_zero : (K (F := F)).nSub 0 = 16 := rfl
theorem nCore_zero : (K (F := F)).nCore 0 = 2 := rfl
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The table of rows, and the target numbers, as locations. -/
abbrev aLoc (d : Dev nD) : Loc nD τ sig := (SparseCore.T d).loc main_arg2
abbrev nLoc (d : Dev nD) : Loc nD τ sig := (SparseCore.T d).loc main_v1

/-- Grid point `(c, s)`. -/
def coordsV (c : Fin (grid1.bound 0)) (s : Fin (grid1.bound 1)) : grid1.Coords :=
  fun | 0 => c | 1 => s | ⟨_ + 2, h⟩ => absurd h (Nat.not_lt.2 (Nat.le_add_left _ _))

/-- SparseCore `c`'s share, and its subcore `s`'s of that. -/
abbrev shC (c : Fin 2) : PosShare TreeShare := shareTok fullShare 2 c
abbrev shT (c : Fin 2) (s : Fin 16) : PosShare TreeShare := shareTok (shC c) 16 s

/-- What subcore `s` of SparseCore `c` writes, -/
def Wt (c s : ℕ) : Finset S49152000.Idx :=
  if h : c < 2 ∧ s < 16 then Wn (coordsV ⟨c, h.1⟩ ⟨s, h.2⟩) 94 else ∅
/-- and the whole SparseCore. -/
def Wc (c : ℕ) : Finset S49152000.Idx := (Finset.range 16).biUnion (Wt c)

theorem Wt_eq (c : Fin 2) (s : Fin 16) : Wt c.val s.val = Wn (coordsV c s) 94 := by
  unfold Wt; rw [dif_pos ⟨c.isLt, s.isLt⟩]; rfl

/-- The blocks of all the subcores are the whole result. -/
theorem W_cover : (Finset.range 2).biUnion Wc = (Finset.univ : Finset S49152000.Idx) := by
  refine Finset.eq_univ_iff_forall.mpr fun x => ?_
  have hx : (x 0).val < 49152000 := (x 0).isLt
  obtain ⟨r, hr⟩ : ∃ r, r = (x 0).val / 131072 := ⟨_, rfl⟩
  obtain ⟨w, hw⟩ : ∃ w, w = (x 0).val / 16384 % 8 := ⟨_, rfl⟩
  obtain ⟨k, hk, hk1, hk2⟩ : ∃ k, k < 4 ∧ min (94 * k) 281 ≤ r ∧ r < min (94 * k) 281 + 94 := by
    rcases Nat.lt_or_ge r 94 with h | h
    · exact ⟨0, by omega⟩
    rcases Nat.lt_or_ge r 188 with h | h
    · exact ⟨1, by omega⟩
    rcases Nat.lt_or_ge r 281 with h | h
    · exact ⟨2, by omega⟩
    · exact ⟨3, by omega⟩
  refine Finset.mem_biUnion.mpr ⟨(8 * k + w) % 2, Finset.mem_range.mpr (by omega), Finset.mem_biUnion.mpr
    ⟨(8 * k + w) / 2, Finset.mem_range.mpr (by omega), ?_⟩⟩
  have hc : (8 * k + w) % 2 < 2 := by omega
  have hs : (8 * k + w) / 2 < 16 := by omega
  rw [show Wt ((8 * k + w) % 2) ((8 * k + w) / 2) = Wn (coordsV ⟨_, hc⟩ ⟨_, hs⟩) 94 from Wt_eq ⟨_, hc⟩ ⟨_, hs⟩]
  refine Finset.mem_biUnion.mpr ⟨r - min (94 * k) 281, Finset.mem_range.mpr (by omega), ?_⟩
  have hwid : wid (coordsV ⟨_, hc⟩ ⟨_, hs⟩) = 8 * k + w := by
    show 2 * ((8 * k + w) / 2) + (8 * k + w) % 2 = _
    omega
  rw [mem_blkSet]
  unfold bo i0 j0
  rw [hwid]
  omega

variable (m : (ℓ : Loc nD τ sig) → Buf (Elt F) ℓ) (N : Dev nD → S16384.Idx → Elt F .i32)

/-- The table of rows at the launch, and the final contents of the result. -/
abbrev tbl (d : Dev nD) : S3000x64.Idx → Elt F .f32 := m (aLoc d)
abbrev GG (d : Dev nD) : S49152000.Idx → Elt F .f32 := Gv (tbl m d) (N d)

/-- What share `q` of the three arrays is, `W` of the result known written. -/
abbrev pay (d : Dev nD) (q : PosShare TreeShare) (W : Finset S49152000.Idx) : sProp 𝕄 :=
  iprop((aLoc d ↦{q} m (aLoc d)) ∗ (nLoc d ↦{q} (N d : Buf (Elt F) (nLoc d))) ∗ zW d (m (zLoc d)) (GG m N d) q Finset.univ W)

/-- The call hands each SparseCore a share of the three arrays, each of its subcores a share of that; each brings its
    share back, the result's blocks written. -/
def P : (K (F := F)).Pay (nD := nD) (Val := Elt F) (Name := ℕ) (U := UU F) where
  st := fun q d c => match q with | 0 => pay m N d (shC (Fin.cast nCore_zero c)) ∅
  dn := fun q d c => match q with | 0 => pay m N d (shC (Fin.cast nCore_zero c)) (Wc c.val)
  go := fun q d c i => match q with | 0 => pay m N d (shT (Fin.cast nCore_zero c) (Fin.cast nSub_zero i)) ∅
  td := fun q d c i => match q with | 0 => pay m N d (shT (Fin.cast nCore_zero c) (Fin.cast nSub_zero i)) (Wt c.val i.val)
  x := fun q thr => match q, thr with
    | 0, (_, .scVector _ _) => iprop(∃ ι, wmInv (EW (F := F)) ι)
    | _, _ => iprop(emp)

instance P_storable : (P m N).IsStorable where
  st q d _ := match q with | 0 => (inferInstance : BI.Storable (upEmb : UEmb _ 𝕄) (pay m N d _ _))
  dn q d _ := match q with | 0 => (inferInstance : BI.Storable (upEmb : UEmb _ 𝕄) (pay m N d _ _))
  go q d _ i := match q with | 0 => (inferInstance : BI.Storable (upEmb : UEmb _ 𝕄) (pay m N d _ _))
  td q d _ i := match q with | 0 => (inferInstance : BI.Storable (upEmb : UEmb _ 𝕄) (pay m N d _ _))

/-! ## A share split among the subcores, and among the SparseCores -/

/-- A share of the three arrays dealt to `k` holders, -/
theorem pay_split (d : Dev nD) (q : PosShare TreeShare) (k : ℕ) :
    pay m N d q ∅ ⊢ iprop(pay m N d (shareDrop q k) ∅ ∗ bigSep Finset.univ fun i : Fin k => pay m N d (shareTok q k i) ∅) := by
  rw [bigSep_sep', bigSep_sep']
  iintro ⟨Ha, Hn, Hz⟩
  ihave Ha := (pointsTo_toks_split q k) $$ Ha
  ihave Hn := (pointsTo_toks_split q k) $$ Hn
  ihave Hz := (zW_toks k) $$ Hz
  icases Ha with ⟨Ha, Has⟩
  icases Hn with ⟨Hn, Hns⟩
  icases Hz with ⟨Hz, Hzs⟩
  isplitl [Ha Hn Hz]
  · isplitl [Ha]; · iexact Ha
    isplitl [Hn]; · iexact Hn
    iexact Hz
  isplitl [Has]; · iexact Has
  isplitl [Hns]; · iexact Hns
  iexact Hzs

/-- and joined again. -/
theorem pay_join (d : Dev nD) (q : PosShare TreeShare) (k : ℕ) (Ws : ℕ → Finset S49152000.Idx) :
    iprop(pay m N d (shareDrop q k) ∅ ∗ bigSep Finset.univ fun i : Fin k => pay m N d (shareTok q k i) (Ws i.val))
      ⊢ pay m N d q ((Finset.range k).biUnion Ws) := by
  rw [bigSep_sep', bigSep_sep']
  iintro ⟨⟨Ha, Hn, Hz⟩, Has, Hns, Hzs⟩
  ihave Ha := (pointsTo_toks_join q k) $$ [Ha Has]
  · isplitl [Ha]; · iexact Ha
    iexact Has
  ihave Hn := (pointsTo_toks_join q k) $$ [Hn Hns]
  · isplitl [Hn]; · iexact Hn
    iexact Hns
  ihave Hz := (zW_toks_join Ws k) $$ [Hz Hzs]
  · isplitl [Hz]; · iexact Hz
    iexact Hzs
  isplitl [Ha]; · iexact Ha
  isplitl [Hn]; · iexact Hn
  iexact Hz

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m N) 0 := by
  intro d c
  show pay m N d (shC (Fin.cast nCore_zero c)) ∅ ⊢ |={Set.univ}=> iprop(
      (bigSep Finset.univ fun i : Fin ((K (F := F)).nSub 0) => pay m N d (shT (Fin.cast nCore_zero c) (Fin.cast nSub_zero i)) ∅)
      ∗ ((bigSep Finset.univ fun i : Fin ((K (F := F)).nSub 0) => pay m N d (shT (Fin.cast nCore_zero c) (Fin.cast nSub_zero i)) (Wt c.val (Fin.cast nSub_zero i).val))
          -∗ pay m N d (shC (Fin.cast nCore_zero c)) (Wc c.val)))
  rw [bigSep_tasks (F := F) (fun i => pay m N d (shT (Fin.cast nCore_zero c) i) ∅),
    bigSep_tasks (F := F) (fun i => pay m N d (shT (Fin.cast nCore_zero c) i) (Wt c.val i.val))]
  iintro H
  ihave H := (pay_split m N d _ 16) $$ H
  icases H with ⟨Hr, H⟩
  imodintro
  isplitl [H]; · iexact H
  iintro H
  iapply (pay_join m N d _ 16 (Wt c.val))
  isplitl [Hr]; · iexact Hr
  iexact H

/-! ## A subcore's obligation -/

theorem defs₀_vector (c : Fin τ.nSC) (s : Fin τ.nSub) :
    defs₀ (F := F) (.scVector c s) 1 ()
      = SparseCore.onTile hcore1 hsub1 (fun c s => cc1__gather (coordsV c s) (Memref.whole main_arg2_scv) (Memref.isWhole_whole _)
          (Memref.whole main_v1_scv) (Memref.isWhole_whole _) (Memref.whole main_v2_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore's task meets what the call asks of it. -/
theorem tileObl (hN : ∀ d x, BitVec.toNat (w := 32) (N d x) < 64) : (K (F := F)).TileObl (D (F := F)) 𝒱 (P m N) v₀ 0 := by
  intro d c i O W hO _ _
  simp only [show (P m N).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have h := tile_body (d := d) (i := coordsV ⟨_, hc.1⟩ ⟨_, hc.2⟩) (O := O) (W := W) (C := tbl m d) (N := N d) (f₀ := m (zLoc d))
    (q := shT (Fin.cast nCore_zero c) (Fin.cast nSub_zero i)) (qa := shT (Fin.cast nCore_zero c) (Fin.cast nSub_zero i))
    (qn := shT (Fin.cast nCore_zero c) (Fin.cast nSub_zero i)) facts hO (hN d)
  rw [show Wn (coordsV ⟨_, hc.1⟩ ⟨_, hc.2⟩) 94 = Wt c.val i.val from (Wt_eq (Fin.cast nCore_zero c) (Fin.cast nSub_zero i)).symm] at h
  exact h.trans (wp_mono frame _ _ fun _ => obl_post)

end Cert.Proof.I

end
-- ==== Proof.IArgmin.lean ====
/-
  The nearest of the 64 codes, as the TensorCore's body finds it: a running best over the rows, and what each stretch of the body does.
-/
module

public import proofs.«01_k».proof.Proof.ISplit

@[expose] public section

noncomputable section

namespace Cert.Proof.I

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-! ## The running best -/

/-- A row of the codebook fits in it. -/
theorem inbRow {n : ℕ} (h : n < 64) : ∀ a, (![n, 0] : Fin 2 → ℕ) a + S1x128.size a ≤ S64x128.size a := by
  intro a
  fin_cases a
  · show n + 1 ≤ 64; omega
  · show 0 + 128 ≤ 128; omega

/-- Row `n` of a codebook. -/
def rowC (X : S64x128.Idx → Elt F .f32) (n : ℕ) : FVec F S128 .f32 :=
  if h : n < 64 then
    shapeCast S128 (fun x => X ((Rect.unit (s := S64x128) ![n, 0] S1x128.size (inbRow h)).toLoadRect.idx x)) shapeCasts_S1x128_S128
  else broadcast S128 (Scalar.ofBits .f32 0x00000000#32)

/-- The squared differences of one code and every vector of the block. -/
def sqF (v0 : FVec F S1024x128 .f32) (cr : FVec F S128 .f32) : FVec F S1024x128 .f32 :=
  mulf (subf (broadcastTo S1024x128 (shapeCast S1x128 cr shapeCasts_S128_S1x128) broadcasts_S1x128_S1024x128) v0)
    (subf (broadcastTo S1024x128 (shapeCast S1x128 cr shapeCasts_S128_S1x128) broadcasts_S1x128_S1024x128) v0)

/-- The distance of one code from every vector of the block. -/
def dstF (v0 : FVec F S1024x128 .f32) (cr : FVec F S128 .f32) : FVec F S1024 .f32 :=
  sqrt (multiReduction .add [1] S1024 (sqF v0 cr) 0x00000000#32 reduces_S1024x128_S1024 (.inl rfl) rfl)

/-- The least distance among the first `n` codes. -/
def bst (v0 : FVec F S1024x128 .f32) (c : ℕ → FVec F S128 .f32) : ℕ → FVec F S1024 .f32
  | 0 => broadcast S1024 (Scalar.ofBits .f32 0x7F800000#32)
  | n + 1 => select (cmpf .olt (dstF v0 (c n)) (bst v0 c n)) (dstF v0 (c n)) (bst v0 c n)

/-- The first of the first `n` codes at that distance. -/
def ixx (v0 : FVec F S1024x128 .f32) (c : ℕ → FVec F S128 .f32) : ℕ → IVec S1024 32
  | 0 => broadcast S1024 0#32
  | n + 1 => select (cmpf .olt (dstF v0 (c n)) (bst v0 c n)) (broadcast S1024 (BitVec.ofNat 32 n)) (ixx v0 c n)

/-! ## The stretches of the body -/

variable {d : Dev nD} {gi : grid0.Coords} {M1 : Memref sig .tc .vmem S1024x128 .f32} {h1 : M1.IsWhole}
  {M2 : Memref sig .tc .vmem S64x128 .f32} {h2 : M2.IsWhole} {M3 : Memref sig .tc .vmem S1x1x1024 .i32} {h3 : M3.IsWhole}
  {f1 : Buf (Elt F) (M1.view.loc (SparseCore.T d))} {f2 : Buf (Elt F) (M2.view.loc (SparseCore.T d))}

/-- A load of row `n`: the program goes on with that row. -/
theorem load_row (n : ℕ) (h : n < 64) {inb : ∀ a, (![n, 0] : Fin 2 → ℕ) a + S1x128.size a ≤ S64x128.size a} {hl} {α : Type}
    {k : (S1x128.Idx → Elt F .f32) → Prog (TpuEff nD τ sig (Elt F) Λ₀ .tc) α}
    {Q : α → sProp (MT nD τ sig (HIx 1) (Elt F) ℕ (UU F) ℕ)} :
    (M2.view.loc (SparseCore.T d) ↦{fullShare} f2)
      ⊢ iprop(((M2.view.loc (SparseCore.T d) ↦{fullShare} f2) -∗
            wp frame (wpE defs₀ 𝒱₀ (SparseCore.T d) none) Set.univ
              (k (fun x => M2.view.read (Elt F) f2 ((Rect.unit (s := S64x128) ![n, 0] S1x128.size (inbRow h)).toLoadRect.idx x))) Q)
          -∗ wp frame (wpE defs₀ 𝒱₀ (SparseCore.T d) none) Set.univ
            (.op (.load M2 (Rect.unit (s := S64x128) ![n, 0] S1x128.size inb).toLoadRect hl) k) Q) :=
  wp_load (c := SparseCore.T d) 𝒱₀ none Set.univ (m := M2) (r := (Rect.unit (s := S64x128) ![n, 0] S1x128.size inb).toLoadRect)
    (S := Finset.univ) (Finset.subset_univ _)

theorem rowC_lt (X : S64x128.Idx → Elt F .f32) {n : ℕ} (h : n < 64) :
    rowC X n = shapeCast S128 (fun x => X ((Rect.unit (s := S64x128) ![n, 0] S1x128.size (inbRow h)).toLoadRect.idx x)) shapeCasts_S1x128_S128 :=
  dif_pos h

set_option quotPrecheck false in
/-- The block of vectors, as read. -/
local notation "vecs" => (M1.view.readAt (Elt F) (Rect.unit (s := S1024x128) ![0, 0] S1024x128.size inb_S1024x128_S1024x128_0_0).toLoadRect f1)
set_option quotPrecheck false in
/-- The rows of the codebook, as read. -/
local notation "rows" => (rowC (M2.view.read (Elt F) f2))
set_option quotPrecheck false in
/-- The codebook's copy, held. -/
local notation "codes" => (M2.view.loc (SparseCore.T d) ↦{fullShare} f2)
local notation "run" => wp frame (wpE defs₀ 𝒱₀ (SparseCore.T d) none) Set.univ

/-- Part 1 of the body: the running best up to row 3. -/
theorem k0_part1_rule {Q : _ → sProp (MT nD τ sig (HIx 1) (Elt F) ℕ (UU F) ℕ)} :
    iprop((M1.view.loc (SparseCore.T d) ↦{fullShare} f1) ∗ codes)
      ⊢ iprop(((M1.view.loc (SparseCore.T d) ↦{fullShare} f1) -∗ codes -∗ Q ⟨vecs, (bst vecs rows 3), (ixx vecs rows 3), (rows 3)⟩)
          -∗ run (k0_part1 gi M1 h1 M2 h2 M3 h3) Q) := by
  unfold k0_part1
  simp only [Prog.lift, Prog.bind_op, Prog.bind_ret]
  iintro ⟨H1, H⟩ Hk
  iapply (wp_load (c := SparseCore.T d) 𝒱₀ none Set.univ (m := M1) (S := Finset.univ) (Finset.subset_univ _)) $$ H1
  iintro H1
  iapply (load_row 0 (by decide)) $$ H
  iintro H
  iapply (load_row 1 (by decide)) $$ H
  iintro H
  iapply (load_row 2 (by decide)) $$ H
  iintro H
  iapply (load_row 3 (by decide)) $$ H
  iintro H
  iapply (Entails.of_eq (wp_pure _ _ _ _ _).symm)
  imodintro
  ispecialize Hk $$ H1
  ispecialize Hk $$ H
  refine BIBase.Entails.trans ?_ (Entails.of_eq (congrArg Q (?_ : ⟨vecs, (bst vecs rows 3), (ixx vecs rows 3), (rows 3)⟩ = _)))
  · iintro ⟨-, H⟩; iexact H
  · rfl

/-- Part 2 of the body: the running best up to row 7. -/
theorem k0_part2_rule (X : FVec F S1024x128 .f32) {Q : _ → sProp (MT nD τ sig (HIx 1) (Elt F) ℕ (UU F) ℕ)} :
    codes
      ⊢ iprop((codes -∗ Q ⟨(bst X rows 7), (ixx X rows 7)⟩)
          -∗ run (k0_part2 gi M1 h1 M2 h2 M3 h3 X (bst X rows 3) (ixx X rows 3) (rows 3)) Q) := by
  unfold k0_part2
  simp only [Prog.lift, Prog.bind_op, Prog.bind_ret]
  iintro H Hk
  iapply (load_row 4 (by decide)) $$ H
  iintro H
  iapply (load_row 5 (by decide)) $$ H
  iintro H
  iapply (load_row 6 (by decide)) $$ H
  iintro H
  iapply (Entails.of_eq (wp_pure _ _ _ _ _).symm)
  imodintro
  ispecialize Hk $$ H
  refine BIBase.Entails.trans ?_ (Entails.of_eq (congrArg Q (?_ : ⟨(bst X rows 7), (ixx X rows 7)⟩ = _)))
  · iintro ⟨-, H⟩; iexact H
  · rfl

/-- Part 3 of the body: the running best up to row 10. -/
theorem k0_part3_rule (X : FVec F S1024x128 .f32) {Q : _ → sProp (MT nD τ sig (HIx 1) (Elt F) ℕ (UU F) ℕ)} :
    codes
      ⊢ iprop((codes -∗ Q ⟨(bst X rows 10), (ixx X rows 10), (dstF X (rows 10)), (cmpf .olt (dstF X (rows 10)) (bst X rows 10))⟩)
          -∗ run (k0_part3 gi M1 h1 M2 h2 M3 h3 X (bst X rows 7) (ixx X rows 7)) Q) := by
  unfold k0_part3
  simp only [Prog.lift, Prog.bind_op, Prog.bind_ret]
  iintro H Hk
  iapply (load_row 7 (by decide)) $$ H
  iintro H
  iapply (load_row 8 (by decide)) $$ H
  iintro H
  iapply (load_row 9 (by decide)) $$ H
  iintro H
  iapply (load_row 10 (by decide)) $$ H
  iintro H
  iapply (Entails.of_eq (wp_pure _ _ _ _ _).symm)
  imodintro
  ispecialize Hk $$ H
  refine BIBase.Entails.trans ?_ (Entails.of_eq (congrArg Q (?_ : ⟨(bst X rows 10), (ixx X rows 10), (dstF X (rows 10)), (cmpf .olt (dstF X (rows 10)) (bst X rows 10))⟩ = _)))
  · iintro ⟨-, H⟩; iexact H
  · rfl

/-- Part 4 of the body: the running best up to row 14. -/
theorem k0_part4_rule (X : FVec F S1024x128 .f32) {Q : _ → sProp (MT nD τ sig (HIx 1) (Elt F) ℕ (UU F) ℕ)} :
    codes
      ⊢ iprop((codes -∗ Q ⟨(bst X rows 14), (ixx X rows 14), (sqF X (rows 14))⟩)
          -∗ run (k0_part4 gi M1 h1 M2 h2 M3 h3 X (bst X rows 10) (ixx X rows 10) (dstF X (rows 10)) (cmpf .olt (dstF X (rows 10)) (bst X rows 10))) Q) := by
  unfold k0_part4
  simp only [Prog.lift, Prog.bind_op, Prog.bind_ret]
  iintro H Hk
  iapply (load_row 11 (by decide)) $$ H
  iintro H
  iapply (load_row 12 (by decide)) $$ H
  iintro H
  iapply (load_row 13 (by decide)) $$ H
  iintro H
  iapply (load_row 14 (by decide)) $$ H
  iintro H
  iapply (Entails.of_eq (wp_pure _ _ _ _ _).symm)
  imodintro
  ispecialize Hk $$ H
  refine BIBase.Entails.trans ?_ (Entails.of_eq (congrArg Q (?_ : ⟨(bst X rows 14), (ixx X rows 14), (sqF X (rows 14))⟩ = _)))
  · iintro ⟨-, H⟩; iexact H
  · rfl

/-- Part 5 of the body: the running best up to row 18. -/
theorem k0_part5_rule (X : FVec F S1024x128 .f32) {Q : _ → sProp (MT nD τ sig (HIx 1) (Elt F) ℕ (UU F) ℕ)} :
    codes
      ⊢ iprop((codes -∗ Q ⟨(bst X rows 18), (ixx X rows 18), (rows 18)⟩)
          -∗ run (k0_part5 gi M1 h1 M2 h2 M3 h3 X (bst X rows 14) (ixx X rows 14) (sqF X (rows 14))) Q) := by
  unfold k0_part5
  simp only [Prog.lift, Prog.bind_op, Prog.bind_ret]
  iintro H Hk
  iapply (load_row 15 (by decide)) $$ H
  iintro H
  iapply (load_row 16 (by decide)) $$ H
  iintro H
  iapply (load_row 17 (by decide)) $$ H
  iintro H
  iapply (load_row 18 (by decide)) $$ H
  iintro H
  iapply (Entails.of_eq (wp_pure _ _ _ _ _).symm)
  imodintro
  ispecialize Hk $$ H
  refine BIBase.Entails.trans ?_ (Entails.of_eq (congrArg Q (?_ : ⟨(bst X rows 18), (ixx X rows 18), (rows 18)⟩ = _)))
  · iintro ⟨-, H⟩; iexact H
  · rfl

/-- Part 6 of the body: the running best up to row 22. -/
theorem k0_part6_rule (X : FVec F S1024x128 .f32) {Q : _ → sProp (MT nD τ sig (HIx 1) (Elt F) ℕ (UU F) ℕ)} :
    codes
      ⊢ iprop((codes -∗ Q ⟨(bst X rows 22), (ixx X rows 22)⟩)
          -∗ run (k0_part6 gi M1 h1 M2 h2 M3 h3 X (bst X rows 18) (ixx X rows 18) (rows 18)) Q) := by
  unfold k0_part6
  simp only [Prog.lift, Prog.bind_op, Prog.bind_ret]
  iintro H Hk
  iapply (load_row 19 (by decide)) $$ H
  iintro H
  iapply (load_row 20 (by decide)) $$ H
  iintro H
  iapply (load_row 21 (by decide)) $$ H
  iintro H
  iapply (Entails.of_eq (wp_pure _ _ _ _ _).symm)
  imodintro
  ispecialize Hk $$ H
  refine BIBase.Entails.trans ?_ (Entails.of_eq (congrArg Q (?_ : ⟨(bst X rows 22), (ixx X rows 22)⟩ = _)))
  · iintro ⟨-, H⟩; iexact H
  · rfl

/-- Part 7 of the body: the running best up to row 25. -/
theorem k0_part7_rule (X : FVec F S1024x128 .f32) {Q : _ → sProp (MT nD τ sig (HIx 1) (Elt F) ℕ (UU F) ℕ)} :
    codes
      ⊢ iprop((codes -∗ Q ⟨(bst X rows 25), (ixx X rows 25), (dstF X (rows 25)), (cmpf .olt (dstF X (rows 25)) (bst X rows 25))⟩)
          -∗ run (k0_part7 gi M1 h1 M2 h2 M3 h3 X (bst X rows 22) (ixx X rows 22)) Q) := by
  unfold k0_part7
  simp only [Prog.lift, Prog.bind_op, Prog.bind_ret]
  iintro H Hk
  iapply (load_row 22 (by decide)) $$ H
  iintro H
  iapply (load_row 23 (by decide)) $$ H
  iintro H
  iapply (load_row 24 (by decide)) $$ H
  iintro H
  iapply (load_row 25 (by decide)) $$ H
  iintro H
  iapply (Entails.of_eq (wp_pure _ _ _ _ _).symm)
  imodintro
  ispecialize Hk $$ H
  refine BIBase.Entails.trans ?_ (Entails.of_eq (congrArg Q (?_ : ⟨(bst X rows 25), (ixx X rows 25), (dstF X (rows 25)), (cmpf .olt (dstF X (rows 25)) (bst X rows 25))⟩ = _)))
  · iintro ⟨-, H⟩; iexact H
  · rfl

/-- Part 8 of the body: the running best up to row 29. -/
theorem k0_part8_rule (X : FVec F S1024x128 .f32) {Q : _ → sProp (MT nD τ sig (HIx 1) (Elt F) ℕ (UU F) ℕ)} :
    codes
      ⊢ iprop((codes -∗ Q ⟨(bst X rows 29), (ixx X rows 29), (sqF X (rows 29))⟩)
          -∗ run (k0_part8 gi M1 h1 M2 h2 M3 h3 X (bst X rows 25) (ixx X rows 25) (dstF X (rows 25)) (cmpf .olt (dstF X (rows 25)) (bst X rows 25))) Q) := by
  unfold k0_part8
  simp only [Prog.lift, Prog.bind_op, Prog.bind_ret]
  iintro H Hk
  iapply (load_row 26 (by decide)) $$ H
  iintro H
  iapply (load_row 27 (by decide)) $$ H
  iintro H
  iapply (load_row 28 (by decide)) $$ H
  iintro H
  iapply (load_row 29 (by decide)) $$ H
  iintro H
  iapply (Entails.of_eq (wp_pure _ _ _ _ _).symm)
  imodintro
  ispecialize Hk $$ H
  refine BIBase.Entails.trans ?_ (Entails.of_eq (congrArg Q (?_ : ⟨(bst X rows 29), (ixx X rows 29), (sqF X (rows 29))⟩ = _)))
  · iintro ⟨-, H⟩; iexact H
  · rfl

/-- Part 9 of the body: the running best up to row 33. -/
theorem k0_part9_rule (X : FVec F S1024x128 .f32) {Q : _ → sProp (MT nD τ sig (HIx 1) (Elt F) ℕ (UU F) ℕ)} :
    codes
      ⊢ iprop((codes -∗ Q ⟨(bst X rows 33), (ixx X rows 33), (rows 33)⟩)
          -∗ run (k0_part9 gi M1 h1 M2 h2 M3 h3 X (bst X rows 29) (ixx X rows 29) (sqF X (rows 29))) Q) := by
  unfold k0_part9
  simp only [Prog.lift, Prog.bind_op, Prog.bind_ret]
  iintro H Hk
  iapply (load_row 30 (by decide)) $$ H
  iintro H
  iapply (load_row 31 (by decide)) $$ H
  iintro H
  iapply (load_row 32 (by decide)) $$ H
  iintro H
  iapply (load_row 33 (by decide)) $$ H
  iintro H
  iapply (Entails.of_eq (wp_pure _ _ _ _ _).symm)
  imodintro
  ispecialize Hk $$ H
  refine BIBase.Entails.trans ?_ (Entails.of_eq (congrArg Q (?_ : ⟨(bst X rows 33), (ixx X rows 33), (rows 33)⟩ = _)))
  · iintro ⟨-, H⟩; iexact H
  · rfl

/-- Part 10 of the body: the running best up to row 37. -/
theorem k0_part10_rule (X : FVec F S1024x128 .f32) {Q : _ → sProp (MT nD τ sig (HIx 1) (Elt F) ℕ (UU F) ℕ)} :
    codes
      ⊢ iprop((codes -∗ Q ⟨(bst X rows 37), (ixx X rows 37)⟩)
          -∗ run (k0_part10 gi M1 h1 M2 h2 M3 h3 X (bst X rows 33) (ixx X rows 33) (rows 33)) Q) := by
  unfold k0_part10
  simp only [Prog.lift, Prog.bind_op, Prog.bind_ret]
  iintro H Hk
  iapply (load_row 34 (by decide)) $$ H
  iintro H
  iapply (load_row 35 (by decide)) $$ H
  iintro H
  iapply (load_row 36 (by decide)) $$ H
  iintro H
  iapply (Entails.of_eq (wp_pure _ _ _ _ _).symm)
  imodintro
  ispecialize Hk $$ H
  refine BIBase.Entails.trans ?_ (Entails.of_eq (congrArg Q (?_ : ⟨(bst X rows 37), (ixx X rows 37)⟩ = _)))
  · iintro ⟨-, H⟩; iexact H
  · rfl

/-- Part 11 of the body: the running best up to row 40. -/
theorem k0_part11_rule (X : FVec F S1024x128 .f32) {Q : _ → sProp (MT nD τ sig (HIx 1) (Elt F) ℕ (UU F) ℕ)} :
    codes
      ⊢ iprop((codes -∗ Q ⟨(bst X rows 40), (ixx X rows 40), (dstF X (rows 40)), (cmpf .olt (dstF X (rows 40)) (bst X rows 40))⟩)
          -∗ run (k0_part11 gi M1 h1 M2 h2 M3 h3 X (bst X rows 37) (ixx X rows 37)) Q) := by
  unfold k0_part11
  simp only [Prog.lift, Prog.bind_op, Prog.bind_ret]
  iintro H Hk
  iapply (load_row 37 (by decide)) $$ H
  iintro H
  iapply (load_row 38 (by decide)) $$ H
  iintro H
  iapply (load_row 39 (by decide)) $$ H
  iintro H
  iapply (load_row 40 (by decide)) $$ H
  iintro H
  iapply (Entails.of_eq (wp_pure _ _ _ _ _).symm)
  imodintro
  ispecialize Hk $$ H
  refine BIBase.Entails.trans ?_ (Entails.of_eq (congrArg Q (?_ : ⟨(bst X rows 40), (ixx X rows 40), (dstF X (rows 40)), (cmpf .olt (dstF X (rows 40)) (bst X rows 40))⟩ = _)))
  · iintro ⟨-, H⟩; iexact H
  · rfl

/-- Part 12 of the body: the running best up to row 44. -/
theorem k0_part12_rule (X : FVec F S1024x128 .f32) {Q : _ → sProp (MT nD τ sig (HIx 1) (Elt F) ℕ (UU F) ℕ)} :
    codes
      ⊢ iprop((codes -∗ Q ⟨(bst X rows 44), (ixx X rows 44), (sqF X (rows 44))⟩)
          -∗ run (k0_part12 gi M1 h1 M2 h2 M3 h3 X (bst X rows 40) (ixx X rows 40) (dstF X (rows 40)) (cmpf .olt (dstF X (rows 40)) (bst X rows 40))) Q) := by
  unfold k0_part12
  simp only [Prog.lift, Prog.bind_op, Prog.bind_ret]
  iintro H Hk
  iapply (load_row 41 (by decide)) $$ H
  iintro H
  iapply (load_row 42 (by decide)) $$ H
  iintro H
  iapply (load_row 43 (by decide)) $$ H
  iintro H
  iapply (load_row 44 (by decide)) $$ H
  iintro H
  iapply (Entails.of_eq (wp_pure _ _ _ _ _).symm)
  imodintro
  ispecialize Hk $$ H
  refine BIBase.Entails.trans ?_ (Entails.of_eq (congrArg Q (?_ : ⟨(bst X rows 44), (ixx X rows 44), (sqF X (rows 44))⟩ = _)))
  · iintro ⟨-, H⟩; iexact H
  · rfl

/-- Part 13 of the body: the running best up to row 48. -/
theorem k0_part13_rule (X : FVec F S1024x128 .f32) {Q : _ → sProp (MT nD τ sig (HIx 1) (Elt F) ℕ (UU F) ℕ)} :
    codes
      ⊢ iprop((codes -∗ Q ⟨(bst X rows 48), (ixx X rows 48), (rows 48)⟩)
          -∗ run (k0_part13 gi M1 h1 M2 h2 M3 h3 X (bst X rows 44) (ixx X rows 44) (sqF X (rows 44))) Q) := by
  unfold k0_part13
  simp only [Prog.lift, Prog.bind_op, Prog.bind_ret]
  iintro H Hk
  iapply (load_row 45 (by decide)) $$ H
  iintro H
  iapply (load_row 46 (by decide)) $$ H
  iintro H
  iapply (load_row 47 (by decide)) $$ H
  iintro H
  iapply (load_row 48 (by decide)) $$ H
  iintro H
  iapply (Entails.of_eq (wp_pure _ _ _ _ _).symm)
  imodintro
  ispecialize Hk $$ H
  refine BIBase.Entails.trans ?_ (Entails.of_eq (congrArg Q (?_ : ⟨(bst X rows 48), (ixx X rows 48), (rows 48)⟩ = _)))
  · iintro ⟨-, H⟩; iexact H
  · rfl

/-- Part 14 of the body: the running best up to row 52. -/
theorem k0_part14_rule (X : FVec F S1024x128 .f32) {Q : _ → sProp (MT nD τ sig (HIx 1) (Elt F) ℕ (UU F) ℕ)} :
    codes
      ⊢ iprop((codes -∗ Q ⟨(bst X rows 52), (ixx X rows 52)⟩)
          -∗ run (k0_part14 gi M1 h1 M2 h2 M3 h3 X (bst X rows 48) (ixx X rows 48) (rows 48)) Q) := by
  unfold k0_part14
  simp only [Prog.lift, Prog.bind_op, Prog.bind_ret]
  iintro H Hk
  iapply (load_row 49 (by decide)) $$ H
  iintro H
  iapply (load_row 50 (by decide)) $$ H
  iintro H
  iapply (load_row 51 (by decide)) $$ H
  iintro H
  iapply (Entails.of_eq (wp_pure _ _ _ _ _).symm)
  imodintro
  ispecialize Hk $$ H
  refine BIBase.Entails.trans ?_ (Entails.of_eq (congrArg Q (?_ : ⟨(bst X rows 52), (ixx X rows 52)⟩ = _)))
  · iintro ⟨-, H⟩; iexact H
  · rfl

/-- Part 15 of the body: the running best up to row 55. -/
theorem k0_part15_rule (X : FVec F S1024x128 .f32) {Q : _ → sProp (MT nD τ sig (HIx 1) (Elt F) ℕ (UU F) ℕ)} :
    codes
      ⊢ iprop((codes -∗ Q ⟨(bst X rows 55), (ixx X rows 55), (dstF X (rows 55)), (cmpf .olt (dstF X (rows 55)) (bst X rows 55))⟩)
          -∗ run (k0_part15 gi M1 h1 M2 h2 M3 h3 X (bst X rows 52) (ixx X rows 52)) Q) := by
  unfold k0_part15
  simp only [Prog.lift, Prog.bind_op, Prog.bind_ret]
  iintro H Hk
  iapply (load_row 52 (by decide)) $$ H
  iintro H
  iapply (load_row 53 (by decide)) $$ H
  iintro H
  iapply (load_row 54 (by decide)) $$ H
  iintro H
  iapply (load_row 55 (by decide)) $$ H
  iintro H
  iapply (Entails.of_eq (wp_pure _ _ _ _ _).symm)
  imodintro
  ispecialize Hk $$ H
  refine BIBase.Entails.trans ?_ (Entails.of_eq (congrArg Q (?_ : ⟨(bst X rows 55), (ixx X rows 55), (dstF X (rows 55)), (cmpf .olt (dstF X (rows 55)) (bst X rows 55))⟩ = _)))
  · iintro ⟨-, H⟩; iexact H
  · rfl

/-- Part 16 of the body: the running best up to row 59. -/
theorem k0_part16_rule (X : FVec F S1024x128 .f32) {Q : _ → sProp (MT nD τ sig (HIx 1) (Elt F) ℕ (UU F) ℕ)} :
    codes
      ⊢ iprop((codes -∗ Q ⟨(bst X rows 59), (ixx X rows 59), (sqF X (rows 59))⟩)
          -∗ run (k0_part16 gi M1 h1 M2 h2 M3 h3 X (bst X rows 55) (ixx X rows 55) (dstF X (rows 55)) (cmpf .olt (dstF X (rows 55)) (bst X rows 55))) Q) := by
  unfold k0_part16
  simp only [Prog.lift, Prog.bind_op, Prog.bind_ret]
  iintro H Hk
  iapply (load_row 56 (by decide)) $$ H
  iintro H
  iapply (load_row 57 (by decide)) $$ H
  iintro H
  iapply (load_row 58 (by decide)) $$ H
  iintro H
  iapply (load_row 59 (by decide)) $$ H
  iintro H
  iapply (Entails.of_eq (wp_pure _ _ _ _ _).symm)
  imodintro
  ispecialize Hk $$ H
  refine BIBase.Entails.trans ?_ (Entails.of_eq (congrArg Q (?_ : ⟨(bst X rows 59), (ixx X rows 59), (sqF X (rows 59))⟩ = _)))
  · iintro ⟨-, H⟩; iexact H
  · rfl

/-- Part 17 of the body: the running best up to row 63. -/
theorem k0_part17_rule (X : FVec F S1024x128 .f32) {Q : _ → sProp (MT nD τ sig (HIx 1) (Elt F) ℕ (UU F) ℕ)} :
    codes
      ⊢ iprop((codes -∗ Q ⟨(bst X rows 63), (ixx X rows 63), (rows 63)⟩)
          -∗ run (k0_part17 gi M1 h1 M2 h2 M3 h3 X (bst X rows 59) (ixx X rows 59) (sqF X (rows 59))) Q) := by
  unfold k0_part17
  simp only [Prog.lift, Prog.bind_op, Prog.bind_ret]
  iintro H Hk
  iapply (load_row 60 (by decide)) $$ H
  iintro H
  iapply (load_row 61 (by decide)) $$ H
  iintro H
  iapply (load_row 62 (by decide)) $$ H
  iintro H
  iapply (load_row 63 (by decide)) $$ H
  iintro H
  iapply (Entails.of_eq (wp_pure _ _ _ _ _).symm)
  imodintro
  ispecialize Hk $$ H
  refine BIBase.Entails.trans ?_ (Entails.of_eq (congrArg Q (?_ : ⟨(bst X rows 63), (ixx X rows 63), (rows 63)⟩ = _)))
  · iintro ⟨-, H⟩; iexact H
  · rfl

/-- The store of the block's nearest codes. -/
theorem store_out {f3 : Buf (Elt F) (M3.view.loc (SparseCore.T d))} {w : S1x1x1024.Idx → Elt F .i32} {inb} {h h'} {α : Type}
    {k : PUnit → Prog (TpuEff nD τ sig (Elt F) Λ₀ .tc) α} {Q : α → sProp (MT nD τ sig (HIx 1) (Elt F) ℕ (UU F) ℕ)} :
    (M3.view.loc (SparseCore.T d) ↦{fullShare} f3)
      ⊢ iprop(((M3.view.loc (SparseCore.T d) ↦{fullShare} (M3.access (Rect.unit (s := S1x1x1024) ![0, 0, 0] S1x1x1024.size inb_S1x1x1024_S1x1x1024_0_0_0)).write (Elt F) f3 w Finset.univ) -∗
            run (k ⟨⟩) Q)
          -∗ run
            (.op (.store M3 (Rect.unit (s := S1x1x1024) ![0, 0, 0] S1x1x1024.size inb) w Finset.univ h h') k) Q) :=
  wp_store (c := SparseCore.T d) 𝒱₀ none Set.univ (m := M3) (r := Rect.unit (s := S1x1x1024) ![0, 0, 0] S1x1x1024.size inb)
    (Mk := Finset.univ) (S := Finset.univ) (Finset.subset_univ _)

/-- THE BODY: from the block and the codebook held, the block's nearest codes are stored. -/
theorem argmin_body {f3 : Buf (Elt F) (M3.view.loc (SparseCore.T d))} {Q : PUnit → sProp (MT nD τ sig (HIx 1) (Elt F) ℕ (UU F) ℕ)} :
    iprop((M1.view.loc (SparseCore.T d) ↦{fullShare} f1) ∗ codes ∗ (M3.view.loc (SparseCore.T d) ↦{fullShare} f3))
      ⊢ iprop(((M1.view.loc (SparseCore.T d) ↦{fullShare} f1) -∗ codes -∗
            (M3.view.loc (SparseCore.T d) ↦{fullShare} (M3.access (Rect.unit (s := S1x1x1024) ![0, 0, 0] S1x1x1024.size inb_S1x1x1024_S1x1x1024_0_0_0)).write (Elt F) f3
              (shapeCast S1x1x1024 (ixx vecs rows 64) shapeCasts_S1024_S1x1x1024) Finset.univ) -∗ Q ⟨⟩)
          -∗ run (cc0__argmin_body gi M1 h1 M2 h2 M3 h3) Q) := by
  unfold cc0__argmin_body
  iintro ⟨H1, H, H3⟩ Hk
  iapply (bind_rule (thr := SparseCore.T d))
  iapply k0_part1_rule $$ [H1 H]
  · isplitl [H1] <;> iassumption
  iintro H1 H
  beta_reduce
  iapply (bind_rule (thr := SparseCore.T d))
  iapply (k0_part2_rule _) $$ H
  iintro H
  beta_reduce
  iapply (bind_rule (thr := SparseCore.T d))
  iapply (k0_part3_rule _) $$ H
  iintro H
  beta_reduce
  iapply (bind_rule (thr := SparseCore.T d))
  iapply (k0_part4_rule _) $$ H
  iintro H
  beta_reduce
  iapply (bind_rule (thr := SparseCore.T d))
  iapply (k0_part5_rule _) $$ H
  iintro H
  beta_reduce
  iapply (bind_rule (thr := SparseCore.T d))
  iapply (k0_part6_rule _) $$ H
  iintro H
  beta_reduce
  iapply (bind_rule (thr := SparseCore.T d))
  iapply (k0_part7_rule _) $$ H
  iintro H
  beta_reduce
  iapply (bind_rule (thr := SparseCore.T d))
  iapply (k0_part8_rule _) $$ H
  iintro H
  beta_reduce
  iapply (bind_rule (thr := SparseCore.T d))
  iapply (k0_part9_rule _) $$ H
  iintro H
  beta_reduce
  iapply (bind_rule (thr := SparseCore.T d))
  iapply (k0_part10_rule _) $$ H
  iintro H
  beta_reduce
  iapply (bind_rule (thr := SparseCore.T d))
  iapply (k0_part11_rule _) $$ H
  iintro H
  beta_reduce
  iapply (bind_rule (thr := SparseCore.T d))
  iapply (k0_part12_rule _) $$ H
  iintro H
  beta_reduce
  iapply (bind_rule (thr := SparseCore.T d))
  iapply (k0_part13_rule _) $$ H
  iintro H
  beta_reduce
  iapply (bind_rule (thr := SparseCore.T d))
  iapply (k0_part14_rule _) $$ H
  iintro H
  beta_reduce
  iapply (bind_rule (thr := SparseCore.T d))
  iapply (k0_part15_rule _) $$ H
  iintro H
  beta_reduce
  iapply (bind_rule (thr := SparseCore.T d))
  iapply (k0_part16_rule _) $$ H
  iintro H
  beta_reduce
  iapply (bind_rule (thr := SparseCore.T d))
  iapply (k0_part17_rule _) $$ H
  iintro H
  beta_reduce
  simp only [Prog.lift, Prog.bind_op, Prog.bind_ret]
  iapply (wp_load (c := SparseCore.T d) 𝒱₀ none Set.univ (m := M3) (S := Finset.univ) (Finset.subset_univ _)) $$ H3
  iintro H3
  iapply store_out $$ H3
  iintro H3
  iapply (Entails.of_eq (wp_pure _ _ _ _ _).symm)
  imodintro
  iapply Hk $$ H1 H
  iexact H3

end Cert.Proof.I
-- ==== Proof.IRegion.lean ====
/-
  The TensorCore's call: its pipeline over the sixteen blocks of vectors, and the array of nearest codes it leaves.
-/
module

public import proofs.«01_k».proof.Proof.IArgmin
public import proofs.«01_k».proof.Proof.Gen.KernelIdeal.Launch
public import proofs.«01_k».proof.Proof.Gen.KernelIdeal.Points
public import Idealize.ShloMosaic.Lib.Pipeline.RegionsLoop

@[expose] public section

noncomputable section

namespace Cert.Proof.I

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation)
open Idealize.ShloMosaic.TcCoe

variable {F : FTy → Type} [FloatOps F]

local notation "𝕄" => MT nD τ sig (HIx 1) (Elt F) ℕ (UU F) ℕ

/-! ## Whole memrefs read and written through the whole rectangle -/

omit [FloatOps F] in
theorem readAt_zero {sp : Space} {s : Shape} {e : EltTy} {M : Memref sig .tc sp s e} (h : M.IsWhole) {off : Fin s.rank → ℕ} (h0 : off = fun _ => 0)
    (inb : ∀ a, off a + s.size a ≤ s.size a) (f : M.view.ty.Contents (Elt F)) :
    M.view.readAt (Elt F) (Rect.unit off s.size inb).toLoadRect f = M.view.read (Elt F) f := by
  obtain ⟨b, rfl, rfl, rfl, h⟩ := h
  cases h
  exact Memref.readAt_unit_zero (Elt F) b h0 inb f

omit [FloatOps F] in
theorem read_store {sp : Space} {s : Shape} {e : EltTy} {M : Memref sig .tc sp s e} (h : M.IsWhole) {off : Fin s.rank → ℕ} (h0 : off = fun _ => 0)
    (inb : ∀ a, off a + s.size a ≤ s.size a) (f : M.view.ty.Contents (Elt F)) (w : s.Idx → Elt F e) :
    M.view.read (Elt F) ((M.access (Rect.unit off s.size inb)).write (Elt F) f w Finset.univ) = w := by
  obtain ⟨b, rfl, rfl, rfl, h⟩ := h
  cases h
  exact Memref.write_access_unit_zero_univ (Elt F) b h0 inb f w

/-! ## The proof data -/

variable (Vv : (c : Dev nD) → (b : Ref sig .tc) → Buf (Elt F) ((c : Thread nD τ).loc b))
variable (Ow : Dev nD → CellTallies nD τ sig (HIx 1))

/-- The block of vectors at point `t`. -/
abbrev xBlk (c : Dev nD) (t : Fin cfg0.N) : S1024x128.Idx → Elt F .f32 :=
  ((cfg0.win 0).blk t).view.read (Elt F) (Vv c main_arg0)

/-- The codebook. -/
abbrev cBlk (c : Dev nD) : S64x128.Idx → Elt F .f32 :=
  ((cfg0.win 1).blk t0_0).view.read (Elt F) (Vv c main_arg1)

/-- The nearest codes of the block at point `t`. -/
def nBlk (c : Dev nD) (t : Fin cfg0.N) : S1x1x1024.Idx → Elt F .i32 :=
  shapeCast S1x1x1024 (ixx (xBlk Vv c t) (rowC (cBlk Vv c)) 64) shapeCasts_S1024_S1x1x1024

/-- The pipeline's proof data: nothing but the arrays, the core owing `Ow` throughout. -/
def dat (c : Dev nD) : Dat τ (Elt F) (HIx 1) ℕ (UU F) ℕ cfg0 c where
  A w := Vv c (Pipeline.arrRef spec0 w)
  after w t := match w with
    | ⟨0, _⟩ => xBlk Vv c t
    | ⟨1, _⟩ => cBlk Vv c
    | ⟨2, _⟩ => nBlk Vv c t
  Φ _ := Pipeline.scopedRest (Ix := HIx 1) (Name := ℕ) (U := UU F) (Lvl := ℕ) (Val := Elt F) spec0 c
  q _ := fullShare
  owed _ := Ow c
  recorded _ := {p | (K (F := F)).lev (SparseCore.T c, p.1) p.2 ≤ 0}

/-- The same, as the family over the program's one pipeline. -/
def pdats : (p : Fin 1) → (c : Dev nD) → Dat τ (Elt F) (HIx 1) ℕ (UU F) ℕ (Pipeline.pin (pcfgs (F := F)) (fun p => (cfgs p).toPCfg_adm) p) c
  | ⟨0, _⟩ => fun c => dat Vv Ow c

theorem before_x (c : Dev nD) (t : Fin cfg0.N) (dd : (cfg0.win 0).block.Idx → Elt F (cfg0.win 0).elt) :
    (dat Vv Ow c).before 0 t dd = xBlk Vv c t := by
  unfold Dat.before; rw [if_pos (fetch0_0 t)]; rfl

theorem before_c (c : Dev nD) (t : Fin cfg0.N) (dd : (cfg0.win 1).block.Idx → Elt F (cfg0.win 1).elt) :
    (dat Vv Ow c).before 1 t dd = cBlk Vv c := by
  by_cases h : t.val % 16 = 0
  · have ht : t = t0_0 := by
      have := t.isLt; have hN : cfg0.N = 16 := N_0
      exact Fin.ext (show t.val = 0 by omega)
    subst ht
    unfold Dat.before; rw [if_pos ((fetch0_1 _).mpr h)]; rfl
  · have hf : (cfg0.win 1).fetch t = false := by
      cases hc : (cfg0.win 1).fetch t
      · rfl
      · exact absurd ((fetch0_1 t).mp hc) h
    rw [Dat.before_of_pos _ 1 t (fun h0 => h (by rw [h0])) hf, if_neg (by rw [(cfg0.win 1).flush_in rfl]; exact Bool.false_ne_true)]
    rfl

theorem off2 : (![0, 0] : Fin 2 → ℕ) = fun _ => 0 := by decide
theorem off3 : (![0, 0, 0] : Fin 3 → ℕ) = fun _ => 0 := by decide

/-- The body at every point. -/
theorem body_obligation (c : Dev nD) : BodyObligation (dat Vv Ow c) (defs₀ (F := F)) 𝒱₀ (none : HIx 1) Set.univ := fun t => by
  have hs0 := hstage0_0 ((cfg0.slots t 0).cast nbuf0_0)
  have hs1 := hstage0_1 ((cfg0.slots t 1).cast nbuf0_1)
  have hs2 := hstage0_2 ((cfg0.slots t 2).cast nbuf0_2)
  rw [bigSep_W0, bigSep_W0]
  rw [show (dat Vv Ow c).Φ t.succ = (dat Vv Ow c).Φ t.castSucc from rfl,
    show (dat Vv Ow c).owesAt (none : HIx 1) t.succ = (dat Vv Ow c).owesAt (none : HIx 1) t.castSucc from rfl]
  unfold owns
  simp only [show (st0_0 t).view.set = Finset.univ from hs0.set_eq_univ, show (st0_1 t).view.set = Finset.univ from hs1.set_eq_univ,
    show (st0_2 t).view.set = Finset.univ from hs2.set_eq_univ]
  iintro ⟨HΦ, Howes, ⟨%d0, %f0, %hf0, H0⟩, ⟨%d1, %f1, %hf1, H1⟩, ⟨%d2, %f2, -, H2⟩⟩
  rw [before_x] at hf0
  rw [before_c] at hf1
  iapply (argmin_body (d := c) (f1 := f0) (f2 := f1) (f3 := f2)) $$ [H0 H1 H2]
  · isplitl [H0]; · iexact H0
    isplitl [H1]; · iexact H1
    iexact H2
  iintro H0 H1 H2
  isplitl [HΦ]; · iexact HΦ
  isplitl [Howes]; · iexact Howes
  isplitl [H0]
  · iexists f0; isplitr
    · ipureintro; exact hf0
    · iexact H0
  isplitl [H1]
  · iexists f1; isplitr
    · ipureintro; exact hf1
    · iexact H1
  iexists _; isplitr; swap
  · iexact H2
  · ipureintro
    refine (read_store hs2 off3 _ _ _).trans ?_
    show shapeCast S1x1x1024 _ _ = nBlk Vv c t
    unfold nBlk
    rw [← hf0, ← hf1]
    exact congrArg (fun v => shapeCast S1x1x1024 (ixx v (rowC (View.read (Elt F) (stage0_1 (cfg0.slots t 1)).view f1)) 64) shapeCasts_S1024_S1x1x1024)
      (readAt_zero hs0 off2 _ f0)

/-! ## The call, over the thread state -/

/-- The array of nearest codes after the last point. -/
def nArr (c : Dev nD) : Buf (Elt F) ((c : Thread nD τ).loc main_v0) := (dat Vv Ow c).arrAt 2 cfg0.N

/-- The unscoped buffers after the call. -/
def Vp (c : Dev nD) : (b : Ref sig .tc) → Buf (Elt F) ((c : Thread nD τ).loc b) := Function.update (Vv c) main_v0 (nArr Vv Ow c)

/-- What the core owes, its recorded waits all at level zero. -/
def owe0 (c : Dev nD) : sProp 𝕄 := iprop(∃ W, ⌜(K (F := F)).WBelow (SparseCore.T c) W 0⌝ ∗ owes (SparseCore.T c) (Ow c) W)

set_option backward.isDefEq.respectTransparency.types false in
/-- The call's region: every unscoped buffer at `Vv` becomes every unscoped buffer at `Vp`. -/
def reg (hO : ∀ c g, Ow c g none = 0) :
    Pipeline.RegionSeg (pcfgs (F := F)) (fun p => (cfgs p).toPCfg_adm) (pdats Vv Ow) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation Vv Ow c).loose
  hwaits c := Pipeline.cellsWaits_intro _ (pdats Vv Ow) none 0 c fun w s t => (K (F := F)).mayWait_none _ (hO c)
  pre c := iprop(unscopedBufs c (Vv c) ∗ owe0 Ow c)
  post c := iprop(unscopedBufs c (Vp Vv Ow c) ∗ owe0 Ow c)
  X _ := BI.emp
  Y _ := BI.emp
  Z c := Pipeline.unscopedRest (Ix := HIx 1) (Name := ℕ) (U := UU F) (Lvl := ℕ) spec0 c (Vv c)
  hentry c := by
    rw [Pipeline.ownSems0_none]
    have hsplit := Pipeline.arrays_of_unscopedBufs (p := 0) (pcfgs (F := F)) (fun p => (cfgs p).toPCfg_adm) (pdats Vv Ow) launch0.win launch0.arr_whole c
      ((pdats Vv Ow 0 c).share_full fun _ => rfl) (Vv c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owe0 Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats Vv Ow 0 c).Φ 0 = Pipeline.scopedRest (Ix := HIx 1) (Name := ℕ) (U := UU F) (Lvl := ℕ) (Val := Elt F) spec0 c from rfl]
    iintro ⟨-, -, Hr⟩; iexact Hr
  hout c := by
    rw [Pipeline.ownSems0_none, show (pdats Vv Ow 0 c).Φ (Fin.last _) = Pipeline.scopedRest (Ix := HIx 1) (Name := ℕ) (U := UU F) (Lvl := ℕ) (Val := Elt F) spec0 c from rfl]
    iintro Hr
    isplitr; · iempintro
    isplitr; · iempintro
    iexact Hr
  hexit c := by
    have hjoin := Pipeline.unscopedBufs_of_arrays (p := 0) (pcfgs (F := F)) (fun p => (cfgs p).toPCfg_adm) (Ix := HIx 1) (Name := ℕ) (U := UU F) (Lvl := ℕ) launch0.win launch0.arr_whole c
      (pdats Vv Ow) ((pdats Vv Ow 0 c).share_full fun _ => rfl) (Vv c) (Vp Vv Ow c) ((pdats Vv Ow 0 c).arrAt · cfg0.N)
      (fun w => by
        fin_cases w
        · exact ((pdats Vv Ow 0 c).arrAt_in 0 rfl _).trans (Function.update_of_ne (show main_arg0 ≠ main_v0 by decide) _ _).symm
        · exact ((pdats Vv Ow 0 c).arrAt_in 1 rfl _).trans (Function.update_of_ne (show main_arg1 ≠ main_v0 by decide) _ _).symm
        · exact (Function.update_self (β := fun b => Buf (Elt F) ((c : Thread nD τ).loc b)) main_v0 (nArr Vv Ow c) (Vv c)).symm)
      (fun b hb => Function.update_of_ne (fun h : b = main_v0 => hb (by subst h; exact Finset.mem_image.mpr ⟨2, Finset.mem_univ _, rfl⟩)) _ _)
    iintro ⟨Ha, HO, -, Hrest⟩
    imodintro
    isplitl [Ha Hrest]
    · iapply hjoin; isplitl [Ha] <;> iassumption
    unfold owe0 Pipeline.Dat.owesAt Pipeline.owesWithin
    icases HO with ⟨%W, %hW, HO⟩; iexists W; isplitr
    · ipureintro
      intro p hp
      rcases hW hp with h | ⟨w, s, rfl⟩
      · exact h
      · exact le_of_eq rfl
    iexact HO

end Cert.Proof.I
-- ==== Proof.INear.lean ====
/-
  The array of nearest codes, element by element: each is an index below 64.
-/
module

public import proofs.«01_k».proof.Proof.IRegion
public import Idealize.ShloMosaic.Lib.Pipeline.ValueKit.Geometry
public import Idealize.ShloMosaic.Lib.Pipeline.ValueKit

@[expose] public section

noncomputable section

namespace Cert.Proof.I

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

open Idealize.ShloMosaic.TcCoe

variable {F : FTy → Type} [FloatOps F]

local notation "𝕄" => MT nD τ sig (HIx 1) (Elt F) ℕ (UU F) ℕ

/-- Whatever the distances, the running nearest code is an index below the number of codes seen, or zero. -/
theorem ixx_lt (v : Vec F S1024x128 .f32) (c : ℕ → FVec F S128 .f32) (n : ℕ) (y : S1024.Idx) : n ≤ 64 → ((ixx v c n) y).toNat < 64 := by
  induction n with
  | zero => intro _; show (0#32 : BitVec 32).toNat < 64; decide
  | succ n ih =>
    intro h
    have hn : (BitVec.ofNat 32 n).toNat < 64 := by rw [BitVec.toNat_ofNat, Nat.mod_eq_of_lt (by omega)]; omega
    have e := ih (by omega)
    show (if _ then _ else _ : BitVec 32).toNat < 64
    split
    · exact hn
    · exact e

variable (Vv : (c : Dev nD) → (b : Ref sig .tc) → Buf (Elt F) ((c : Thread nD τ).loc b))
variable (Ow : Dev nD → CellTallies nD τ sig (HIx 1))

/-- Index `y` of the array within its block. -/
def inBlk (y : S16x1x1024.Idx) : S1x1x1024.Idx := fun | 0 => ⟨0, Nat.one_pos⟩ | 1 => y 1 | 2 => y 2 | ⟨_ + 3, h⟩ => absurd h (Nat.not_lt.2 (Nat.le_add_left _ _))

/-- The block at point `t` is the array's `t`-th. -/
theorem block_at : ∀ t : Fin grid0.N, cc0_transform_2 (grid0.coords t) = ![t.val, 0, 0] := by decide

/-- The array of nearest codes: its block at each point is what the body leaves there. -/
theorem nArr_eq (c : Dev nD) : nArr Vv Ow c = fun y : S16x1x1024.Idx => nBlk Vv c (Fin.cast N_0.symm (y 0)) (inBlk y) := by
  unfold nArr
  refine (dat Vv Ow c).arrAt_eq_of_covers 2 _ (by decide +kernel) fun t hf y => ?_
  blk_simp
  have h : ∀ a : Fin 3, (((win0_2.blk t).view.emb y a : Fin _) : ℕ) = cc0_transform_2 (grid0.coords t) a * S1x1x1024.size a + (y a).val := by
    intro a
    blk_simp
    rfl
  rw [block_at t] at h
  have h0 : (((win0_2.blk t).view.emb y 0 : Fin _) : ℕ) = t.val := by
    have e := h 0
    have hy : (y 0).val < 1 := (y 0).isLt
    have e' : (((win0_2.blk t).view.emb y 0 : Fin _) : ℕ) = t.val * 1 + (y 0).val := e
    omega
  have h1 : (((win0_2.blk t).view.emb y 1 : Fin _) : ℕ) = (y 1).val := by
    have e' : (((win0_2.blk t).view.emb y 1 : Fin _) : ℕ) = 0 * 1 + (y 1).val := h 1
    omega
  have h2 : (((win0_2.blk t).view.emb y 2 : Fin _) : ℕ) = (y 2).val := by
    have e' : (((win0_2.blk t).view.emb y 2 : Fin _) : ℕ) = 0 * 1024 + (y 2).val := h 2
    omega
  have ht : Fin.cast N_0.symm ((win0_2.blk t).view.emb y 0) = t := Fin.ext h0
  have hi : inBlk ((win0_2.blk t).view.emb y) = y := by
    funext a
    fin_cases a
    · exact Fin.ext (by have hy : (y 0).val < 1 := (y 0).isLt; show 0 = (y 0).val; omega)
    · exact Fin.ext h1
    · exact Fin.ext h2
  exact (congrArg₂ (nBlk Vv c) ht hi).symm

theorem nArr_lt (c : Dev nD) (y : S16x1x1024.Idx) : BitVec.toNat (w := 32) (nArr Vv Ow c y) < 64 := by
  rw [nArr_eq]
  exact ixx_lt _ _ _ _ le_rfl

end Cert.Proof.I
-- ==== Proof.ILaunch.lean ====
/-
  The launch of the whole program: the ghost state dealt at the start, the host's program between the two calls, and the final state.
-/
module

public import proofs.«01_k».proof.Proof.INear
public import proofs.«01_k».proof.Proof.ISplit
public import Idealize.ShloMosaic.Lib.SparseCore.Threads

@[expose] public section

noncomputable section

namespace Cert.Proof.I

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

open Idealize.ShloMosaic.TcCoe
open Idealize.ShloMosaic.StableHlo (held held_sub_split wp_hlo_within)
open Idealize.ShloMosaic.Rounds (initOf)

variable {F : FTy → Type} [FloatOps F]

local notation "𝕄" => MT nD τ sig (HIx 1) (Elt F) ℕ (UU F) ℕ

variable (m : (ℓ : Loc nD τ sig) → Buf (Elt F) ℓ) (ρ : Dev nD → PrngReg)

/-! ## The host's values, one after another -/

/-- The TensorCore's arrays. -/
def hostRefs : Finset (DevRef τ sig) := (StableHlo.tcRefs τ sig).filter fun b => ¬ b.isScoped

abbrev rA0 : DevRef τ sig := Proc.devRef .tc main_arg0
abbrev rA1 : DevRef τ sig := Proc.devRef .tc main_arg1
abbrev rA2 : DevRef τ sig := Proc.devRef .tc main_arg2
abbrev r0 : DevRef τ sig := Proc.devRef .tc main_v0
abbrev r1 : DevRef τ sig := Proc.devRef .tc main_v1
abbrev r2 : DevRef τ sig := Proc.devRef .tc main_v2
abbrev r5 : DevRef τ sig := Proc.devRef .tc main_v5

omit [FloatOps F] in
theorem unscopedBufs_held (c : Dev nD) (W : Valuation τ sig (Elt F)) :
    (unscopedBufs c (fun b => W b) : sProp 𝕄) = held (SparseCore.T c) hostRefs W := by
  unfold unscopedBufs held hostRefs StableHlo.tcRefs
  rw [Finset.filter_map, bigSep_map]
  rfl

/-- What the TensorCore owes before the SparseCore call. -/
abbrev tcOw (d : Dev nD) : CellTallies nD τ sig (HIx 1) := (K (F := F)).Otc d 0

/-- None of it on the index the pipeline's waits are at. -/
theorem tcOw_none (c : Dev nD) (g : GSem nD τ sig) : tcOw (F := F) c g none = 0 := by
  rcases Nat.eq_zero_or_pos (tcOw (F := F) c g none) with h | h
  · exact h
  · exact absurd (SparseCore.Cfg.lev_of_Otc_pos h) (by rw [SparseCore.Cfg.lev_none]; omega)

/-- The arrays at the launch, as the TensorCore's references see them. -/
abbrev Vm (c : Dev nD) (b : Ref sig .tc) : Buf (Elt F) ((c : Thread nD τ).loc b) := m ((c : Thread nD τ).loc b)

/-- The reshape of the nearest codes to one axis, -/
abbrev op1 : HloOp τ sig (Elt F) := StableHlo.reshape main_v0 main_v1 (rfl : (.i32 : EltTy) = .i32) shapeCasts_S16x1x1024_S16384
/-- and what is done to the SparseCores' result: a reshape, -/
abbrev op3 : HloOp τ sig (Elt F) := StableHlo.reshape main_v2 main_v3 (rfl : (.f32 : EltTy) = .f32) shapeCasts_S49152000_S375x128x8x128
/-- a transposition, -/
abbrev op4 : HloOp τ sig (Elt F) := StableHlo.unary main_v3 main_v4 ((transpose S128x128x375x8 [1, 3, 0, 2] · transposes_S375x128x8x128_S128x128x375x8_1_3_0_2) : (⟨S375x128x8x128, .f32⟩ : BufTy).Contents (Elt F) → (⟨S128x128x375x8, .f32⟩ : BufTy).Contents (Elt F))
/-- a reshape. -/
abbrev op5 : HloOp τ sig (Elt F) := StableHlo.reshape main_v4 main_v5 (rfl : (.f32 : EltTy) = .f32) shapeCasts_S128x128x375x8_S16384x3000

/-- The values at the launch, -/
def V0 (d : Dev nD) : Valuation τ sig (Elt F) := fun b => m (d, b)
/-- after the TensorCore's call, -/
def V1 (d : Dev nD) : Valuation τ sig (Elt F) := Function.update (V0 m d) r0 (nArr (Vm m) (tcOw (F := F)) d)
/-- after the reshape, -/
def V2 (d : Dev nD) : Valuation τ sig (Elt F) := (op1 (F := F)).result (V1 m d)
/-- (the nearest codes, on one axis) -/
def Nv (d : Dev nD) : S16384.Idx → Elt F .i32 := V2 m d r1
/-- after the SparseCores' call, -/
def V3 (d : Dev nD) : Valuation τ sig (Elt F) := Function.update (V2 m d) r2 (GG m (Nv m) d)
/-- and at the end. -/
def V6 (d : Dev nD) : Valuation τ sig (Elt F) := (op5 (F := F)).result ((op4 (F := F)).result ((op3 (F := F)).result (V3 m d)))

/-- The nearest codes are those the TensorCore left, on one axis. -/
theorem Nv_eq (d : Dev nD) : Nv m d = shapeCast S16384 (nArr (Vm m) (tcOw (F := F)) d : S16x1x1024.Idx → Elt F .i32) shapeCasts_S16x1x1024_S16384 := by
  unfold Nv V2
  refine (StableHlo.reshape_result' _ _ _ _ _).trans ?_
  show shapeCast S16384 (V1 m d r0) shapeCasts_S16x1x1024_S16384 = _
  rw [show V1 m d r0 = nArr (Vm m) (tcOw (F := F)) d from Function.update_self (β := fun b : DevRef τ sig => b.ty.Contents (Elt F)) _ _ _]

theorem Nv_lt (d : Dev nD) (x : S16384.Idx) : BitVec.toNat (w := 32) (Nv m d x) < 64 := by
  rw [Nv_eq]
  exact nArr_lt _ _ _ _

theorem V2_of_ne (d : Dev nD) (b : DevRef τ sig) (h0 : b ≠ r0) (h1 : b ≠ r1) : V2 m d b = m (d, b) := by
  unfold V2
  rw [(op1 (F := F)).result_of_not_mem (V1 m d) (show b ∉ (op1 (F := F)).writes from fun h => h1 (Finset.mem_singleton.mp h))]
  exact Function.update_of_ne h0 _ _

theorem V6_arg (d : Dev nD) (b : DevRef τ sig) (h : b = rA0 ∨ b = rA1 ∨ b = rA2) : V6 m d b = m (d, b) := by
  unfold V6
  rw [(op5 (F := F)).result_of_not_mem _ (show b ∉ (op5 (F := F)).writes from fun hb => by rw [Finset.mem_singleton.mp hb] at h; revert h; decide),
    (op4 (F := F)).result_of_not_mem _ (show b ∉ (op4 (F := F)).writes from fun hb => by rw [Finset.mem_singleton.mp hb] at h; revert h; decide),
    (op3 (F := F)).result_of_not_mem _ (show b ∉ (op3 (F := F)).writes from fun hb => by rw [Finset.mem_singleton.mp hb] at h; revert h; decide)]
  unfold V3
  rw [Function.update_of_ne (fun hb : b = r2 => by rw [hb] at h; revert h; decide)]
  exact V2_of_ne m d b (fun hb => by rw [hb] at h; revert h; decide) (fun hb => by rw [hb] at h; revert h; decide)

/-! ## The ghost state at the start -/

/-- The handshakes' cells, the pipeline's cells, nothing in write mode, no counters. -/
def u₀ : UU F := (initOf (K (F := F)).hsCells (K (F := F)).hsToks,
  (initOf (Pipeline.cells cfgs cellOf_inj) (Pipeline.launchToks cfgs cellOf_inj), (wm₀ nD τ sig (Elt F), 1)))

omit [FloatOps F] in
theorem ownU_split (a : UH) (b : UP) (c : UW F) :
    (ownU (a, (b, (c, 1))) : sProp 𝕄) ⊢ iprop(BI.own (EH (F := F) a) ∗ BI.own (EP (F := F) b) ∗ ownU (EW (F := F) c)) := by
  let e := (uEmb (nD := nD) (τ := τ) (sig := sig) (Ix := HIx 1) (Val := Elt F) (Name := ℕ) (U := UU F) (Lvl := ℕ)).toEmb
  refine (BI.own_op_elim (e.op_of_mem (Prod.mk_mem_op (URA.mem_op_one a) (URA.mem_one_op (b, (c, (1 : Counters))))))).trans ?_
  refine BI.sep_mono (Entails.refl _) ?_
  exact BI.own_op_elim (e.op_of_mem (Prod.mk_mem_op (URA.mem_op_one 1) (Prod.mk_mem_op (URA.mem_op_one b) (URA.mem_one_op (c, (1 : Counters))))))

/-- What the TensorCore of `d` starts with: the write-mode invariant, and its pipeline's cells and tokens. -/
def G₀ (d : Dev nD) : sProp 𝕄 :=
  iprop((∃ ι, wmInv (EW (F := F)) ι) ∗ (bigSep Finset.univ fun p : Fin 1 => Pipeline.cellsGhost cfgs EP p d)
    ∗ (bigSep Finset.univ fun p : Fin 1 => Pipeline.toksInit cfgs EP p d))

variable (N : Dev nD → S16384.Idx → Elt F .i32)

omit [FloatOps F] in
theorem bigSep_emp' {I : Type} (s : Finset I) : (bigSep s fun _ => iprop(emp)) = (iprop(emp) : sProp 𝕄) := bigSep_emp_const s

theorem Px_T (d : Dev nD) : (bigSep Finset.univ fun q : Fin 1 => (P m N).x q (SparseCore.T d)) = iprop(emp) :=
  bigSep_univ_of_subsingleton (0 : Fin 1)
theorem Px_S (d : Dev nD) (c : Fin τ.nSC) : (bigSep Finset.univ fun q : Fin 1 => (P m N).x q (S d c)) = iprop(emp) :=
  bigSep_univ_of_subsingleton (0 : Fin 1)
theorem Px_V (d : Dev nD) (c : Fin τ.nSC) (i : Fin τ.nSub) :
    (bigSep Finset.univ fun q : Fin 1 => (P m N).x q (V d c i)) = iprop(∃ ι, wmInv (EW (F := F)) ι) :=
  bigSep_univ_of_subsingleton (0 : Fin 1)

/-- The ghost state dealt: the write-mode invariant to every thread that writes. -/
theorem hu₀ : (ownU (u₀ (F := F)) : sProp 𝕄)
    ⊢ |={Set.univ}=> iprop(BI.own (EH (initOf (K (F := F)).hsCells (K (F := F)).hsToks)) ∗ bigSep Finset.univ (G₀ (F := F))
        ∗ bigSep Finset.univ fun thr : Thread nD τ => bigSep Finset.univ fun q : Fin 1 => (P m N).x q thr) := by
  rw [SparseCore.Cfg.bigSep_threads (fun thr : Thread nD τ => bigSep Finset.univ fun q : Fin 1 => (P m N).x q thr)]
  simp only [Px_T, Px_S, Px_V, bigSep_emp']
  unfold u₀ G₀
  rw [bigSep_sep', bigSep_sep']
  iintro Hu
  ihave H := (ownU_split _ _ _) $$ Hu
  icases H with ⟨HH, HP, HW⟩
  imod (Pipeline.fund_ghost cfgs EP cellOf_inj) $$ HP with ⟨Hc, Ht⟩
  imod (wmInv_alloc (emb := EW (F := F)) ⟨m, fun _ => 0, fun _ => Classical.arbitrary _⟩) $$ HW with ⟨%ι, -, #Hwm⟩
  imodintro
  isplitl [HH]; · iexact HH
  isplitl [Hc Ht]
  · isplitr
    · iapply (BI.bigSep_intro_persistent (R := wmInv (EW (F := F)) ι) (fun _ _ => by iintro H; iexists ι; iexact H)); iexact Hwm
    isplitl [Hc]; · iexact Hc
    iexact Ht
  isplitr; · iempintro
  isplitr; · iempintro
  iapply (BI.bigSep_intro_persistent (R := wmInv (EW (F := F)) ι) (fun _ _ => by iintro H; iexists ι; iexact H)); iexact Hwm

/-! ## The TensorCore's call -/

theorem reg_pre (Vv : (c : Dev nD) → (b : Ref sig .tc) → Buf (Elt F) ((c : Thread nD τ).loc b)) (d : Dev nD) :
    (reg Vv (tcOw (F := F)) tcOw_none).pre d = iprop(unscopedBufs d (Vv d) ∗ owe0 (tcOw (F := F)) d) := rfl
theorem reg_post (Vv : (c : Dev nD) → (b : Ref sig .tc) → Buf (Elt F) ((c : Thread nD τ).loc b)) (d : Dev nD) :
    iprop(boundary (SparseCore.T d) ∗ (reg Vv (tcOw (F := F)) tcOw_none).post d)
      = iprop(boundary (SparseCore.T d) ∗ unscopedBufs d (Vp Vv (tcOw (F := F)) d) ∗ owe0 (tcOw (F := F)) d) := rfl

/-- The call, as the program of the TensorCore alone makes it. -/
abbrev call0 : Prog (TpuEff nD τ sig (Elt F) (ΛP (F := F)) .tc) PUnit := .op (.customCall (Pipeline.entry 0) ()) .ret

theorem call0_lift : (Prog.lift (.customCall (SparseCore.inner (Pipeline.entry 0)) ()) : Prog (TpuEff nD τ sig (Elt F) (SparseCore.Sig (ΛP (F := F)) 1) .tc) PUnit)
    = SparseCore.liftProg (call0 (F := F)) := rfl

set_option backward.isDefEq.respectTransparency.types false in
/-- The TensorCore's call, from its arrays at `Vv`. -/
theorem call0_rule [∀ e, Nonempty (Elt F e)] (Vv : (c : Dev nD) → (b : Ref sig .tc) → Buf (Elt F) ((c : Thread nD τ).loc b)) (d : Dev nD) {Q : PUnit → sProp (MT nD τ sig (HIx 1) (Elt F) ℕ (UU F) ℕ)} :
    iprop((iprop(boundary (SparseCore.T d) ∗ unscopedBufs d (Vp Vv (tcOw (F := F)) d) ∗ owe0 (tcOw (F := F)) d) -∗ Q ⟨⟩)
        ∗ boundary (SparseCore.T d) ∗ (unscopedBufs d (Vv d) ∗ owe0 (tcOw (F := F)) d) ∗ levAts (K (F := F)).L (K (F := F)).lev
        ∗ Pipeline.cellsGhost cfgs EP 0 d ∗ Pipeline.toksInit cfgs EP 0 d)
      ⊢ wp frame (wpE ((K (F := F)).defs (D (F := F))) 𝒱 (SparseCore.T d) none) Set.univ
          (Prog.lift (.customCall (SparseCore.inner (Pipeline.entry 0)) ())) Q := by
  rw [call0_lift]
  have hl := (K (F := F)).wp_liftProg (D (F := F)) 𝒱 (SparseCore.T d) Set.univ none (call0 (F := F)) Q
  refine BIBase.Entails.trans ?_ hl
  have hw := Pipeline.RegionSeg.wp (pcfgs (F := F)) (fun p => (cfgs p).toPCfg_adm) (pdats Vv (tcOw (F := F))) (none : HIx 1)
    cellOf_inj EP (defs₀ (F := F)) 𝒱₀ (K (F := F)).L (K (F := F)).lev (reg Vv (tcOw (F := F)) tcOw_none) d none (by intro u hu; cases hu) .ret Q
  refine BIBase.Entails.trans ?_ hw
  iintro ⟨Hk, Hb, Hpre, Hlev, Hc, Ht⟩
  isplitl [Hk]
  · iintro H
    iapply (Entails.of_eq (wp_ret _ _ _ _ _).symm)
    imodintro
    iapply Hk; iapply (Entails.of_eq (reg_post Vv d)); iexact H
  isplitl [Hb]; · iexact Hb
  isplitl [Hpre]; · iapply (Entails.of_eq (reg_pre Vv d).symm); iexact Hpre
  isplitl [Hlev]; · iexact Hlev
  isplitl [Hc]; · iexact Hc
  iexact Ht

/-! ## @main -/

theorem owe_open (d : Dev nD) :
    ((K (F := F)).tcSt (EH (F := F)) d 0 : sProp 𝕄) ⊢ iprop(owe0 (tcOw (F := F)) d ∗ (owe0 (tcOw (F := F)) d -∗ (K (F := F)).tcSt (EH (F := F)) d 0)) := by
  unfold SparseCore.Cfg.tcSt owe0
  iintro ⟨HO, Hr⟩
  isplitl [HO]; · iexact HO
  iintro HO
  isplitl [HO]; · iexact HO
  iexact Hr

/-- After the TensorCore's call the arrays are at `V1`. -/
theorem Vp_eq (d : Dev nD) : Vp (Vm m) (tcOw (F := F)) d = fun b : Ref sig .tc => V1 m d (Proc.devRef .tc b) := by
  funext b
  unfold Vp V1
  by_cases h : b = main_v0
  · subst h
    exact (Function.update_self (β := fun b => Buf (Elt F) ((d : Thread nD τ).loc b)) main_v0 _ _).trans
      (Function.update_self (β := fun b : DevRef τ sig => b.ty.Contents (Elt F)) r0 _ _).symm
  · rw [Function.update_of_ne h]
    have hn : (Proc.devRef .tc b : DevRef τ sig) ≠ r0 := StableHlo.devRef_ne_of_ne h
    exact (Function.update_of_ne hn (nArr (Vm m) (tcOw (F := F)) d) (V0 m d)).symm

/-- The three arrays of the SparseCores' call. -/
def scRefs : Finset (DevRef τ sig) := {rA2, r1, r2}
/-- The arguments and the result. -/
def endRefs : Finset (DevRef τ sig) := {rA0, rA1, rA2, r5}

omit [FloatOps F] in
theorem held_sc (d : Dev nD) (W : Valuation τ sig (Elt F)) :
    (held (SparseCore.T d) scRefs W : sProp 𝕄) = iprop((aLoc d ↦{fullShare} W rA2) ∗ (nLoc d ↦{fullShare} W r1) ∗ (zLoc d ↦{fullShare} W r2)) := by
  unfold held scRefs
  rw [SparseCore.bigSep_insert' (by decide), SparseCore.bigSep_insert' (by decide), bigSep_singleton]

omit [FloatOps F] in
theorem held_end (d : Dev nD) (W : Valuation τ sig (Elt F)) :
    (held (SparseCore.T d) endRefs W : sProp 𝕄)
      = iprop(((SparseCore.T d).loc main_arg0 ↦{fullShare} W rA0) ∗ ((SparseCore.T d).loc main_arg1 ↦{fullShare} W rA1)
        ∗ ((SparseCore.T d).loc main_arg2 ↦{fullShare} W rA2) ∗ ((SparseCore.T d).loc main_v5 ↦{fullShare} W r5)) := by
  unfold held endRefs
  rw [SparseCore.bigSep_insert' (by decide), SparseCore.bigSep_insert' (by decide), SparseCore.bigSep_insert' (by decide), bigSep_singleton]

theorem scRefs_sub : scRefs ⊆ hostRefs := by decide
theorem endRefs_sub : endRefs ⊆ hostRefs := by decide
theorem op1_sub : (op1 (F := F)).bufs ⊆ hostRefs := show ({r0, r1} : Finset (DevRef τ sig)) ⊆ hostRefs by decide
theorem op3_sub : (op3 (F := F)).bufs ⊆ hostRefs := show ({r2, Proc.devRef .tc main_v3} : Finset (DevRef τ sig)) ⊆ hostRefs by decide
theorem op4_sub : (op4 (F := F)).bufs ⊆ hostRefs := show ({Proc.devRef .tc main_v3, Proc.devRef .tc main_v4} : Finset (DevRef τ sig)) ⊆ hostRefs by decide
theorem op5_sub : (op5 (F := F)).bufs ⊆ hostRefs := show ({Proc.devRef .tc main_v4, r5} : Finset (DevRef τ sig)) ⊆ hostRefs by decide

theorem st_eq (d : Dev nD) : (bigSep Finset.univ fun c : Fin ((K (F := F)).nCore 0) => (P m N).st 0 d c)
    = bigSep Finset.univ fun i : Fin 2 => pay m N d (shC i) ∅ := rfl
theorem dn_eq (d : Dev nD) : (bigSep Finset.univ fun c : Fin ((K (F := F)).nCore 0) => (P m N).dn 0 d c)
    = bigSep Finset.univ fun i : Fin 2 => pay m N d (shC i) (Wc i.val) := rfl

abbrev FIN (d : Dev nD) : sProp 𝕄 := held (SparseCore.T d) endRefs (V6 m d)

/-- The arrays the SparseCores' call takes, out of all of them, and back. -/
theorem held_take (d : Dev nD) :
    (held (SparseCore.T d) hostRefs (V2 m d) : sProp 𝕄)
      ⊢ iprop(((aLoc d ↦{fullShare} m (aLoc d)) ∗ (nLoc d ↦{fullShare} (Nv m d : Buf (Elt F) (nLoc d))) ∗ (zLoc d ↦{fullShare} m (zLoc d)))
        ∗ (((aLoc d ↦{fullShare} m (aLoc d)) ∗ (nLoc d ↦{fullShare} (Nv m d : Buf (Elt F) (nLoc d))) ∗ (zLoc d ↦{fullShare} (GG m (Nv m) d : Buf (Elt F) (zLoc d))))
            -∗ held (SparseCore.T d) hostRefs (V3 m d))) := by
  rw [held_sub_split (SparseCore.T d) scRefs_sub (V2 m d), held_sub_split (SparseCore.T d) scRefs_sub (V3 m d), held_sc, held_sc,
    StableHlo.held_congr (SparseCore.T d) (V := V3 m d) (V' := V2 m d) (S := hostRefs \ scRefs) (fun b hb => Function.update_of_ne
      (fun h : b = r2 => (Finset.mem_sdiff.mp hb).2 (by rw [h]; decide)) _ _),
    show V3 m d rA2 = m (aLoc d) from (Function.update_of_ne (show rA2 ≠ r2 by decide) _ _).trans (V2_of_ne m d rA2 (by decide) (by decide)),
    show V3 m d r1 = Nv m d from Function.update_of_ne (show r1 ≠ r2 by decide) _ _,
    show V3 m d r2 = GG m (Nv m) d from Function.update_self (β := fun b : DevRef τ sig => b.ty.Contents (Elt F)) _ _ _,
    show V2 m d rA2 = m (aLoc d) from V2_of_ne m d rA2 (by decide) (by decide), show V2 m d r1 = Nv m d from rfl,
    show V2 m d r2 = m (zLoc d) from V2_of_ne m d r2 (by decide) (by decide)]
  iintro ⟨H, Hr⟩
  isplitl [H]; · iexact H
  iintro H
  isplitl [H]; · iexact H
  iexact Hr

/-- The result array enters write mode, -/
theorem zIn (ι : ℕ) (d : Dev nD) :
    iprop(wmInv (EW (F := F)) ι ∗ (zLoc d ↦{fullShare} m (zLoc d))) ⊢ (|={Set.univ}=> zW d (m (zLoc d)) (GG m N d) fullShare Finset.univ ∅ : sProp 𝕄) := by
  unfold zW
  have h := pointsTo_castIn (Ix := HIx 1) (Name := ℕ) (Lvl := ℕ) (emb := EW (F := F)) (ιwm := ι) (ℓ := zLoc d) (I := Finset.univ) (f := m (zLoc d)) (E := Set.univ)
    (fun x => some ((GG m N d : Buf (Elt F) (zLoc d)) x)) (Set.mem_univ _)
  exact h

/-- and, written everywhere, leaves it at its target. -/
theorem zOut (ι : ℕ) (d : Dev nD) :
    iprop(wmInv (EW (F := F)) ι ∗ zW d (m (zLoc d)) (GG m N d) fullShare Finset.univ ((Finset.range 2).biUnion Wc))
      ⊢ (|={Set.univ}=> (zLoc d ↦{fullShare} (GG m N d : Buf (Elt F) (zLoc d))) : sProp 𝕄) := by
  rw [W_cover]
  unfold zW
  have h := willBeTo_castOut_some (Ix := HIx 1) (Name := ℕ) (Lvl := ℕ) (emb := EW (F := F)) (ιwm := ι) (ℓ := zLoc d) (I := Finset.univ) (f := m (zLoc d)) (E := Set.univ)
    (g := (GG m N d : Buf (Elt F) (zLoc d))) (W := Finset.univ) (Set.mem_univ _)
  rw [Finset.piecewise_univ] at h
  exact h

/-- @main: the TensorCore's call, the reshape, the SparseCores' call on the result array in write mode, and what is
    done to its result. -/
theorem hmain [∀ e, Nonempty (Elt F e)] (κ : GSem nD τ sig → ℕ) (d : Dev nD) :
    iprop((K (F := F)).ctx EH (P m (Nv m)) κ ∗ (K (F := F)).tcSt EH d 0 ∗ (K (F := F)).tcRes m ρ d ∗ G₀ d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G₀
  simp only [main, wp_bind, wp_pure]
  iintro ⟨#Hctx, Hst, ⟨Hb, Hbufs, Hts, -⟩, ⟨⟨%ι, #Hwm⟩, Hc, Ht⟩⟩
  ihave Hc := (Entails.of_eq (bigSep_univ_of_subsingleton (0 : Fin 1))) $$ Hc
  ihave Ht := (Entails.of_eq (bigSep_univ_of_subsingleton (0 : Fin 1))) $$ Ht
  ihave Hlev := (SparseCore.Cfg.ctx_levAts κ) $$ Hctx
  ihave Ho := (owe_open d) $$ Hst
  icases Ho with ⟨Ho, Hst⟩
  iapply (call0_rule (Vm m) d)
  isplitr [Hb Hbufs Ho Hlev Hc Ht]; swap
  · isplitl [Hb]; · iexact Hb
    isplitl [Hbufs Ho]
    · isplitl [Hbufs]; · iexact Hbufs
      iexact Ho
    isplitl [Hlev]; · iexact Hlev
    isplitl [Hc]; · iexact Hc
    iexact Ht
  iintro ⟨Hb, Hbufs, Ho⟩
  ispecialize Hst $$ Ho
  ihave Hbufs := (Entails.of_eq ((congrArg (unscopedBufs d) (Vp_eq m d)).trans (unscopedBufs_held d (V1 m d)))) $$ Hbufs
  iapply (wp_hlo_within 𝒱 (SparseCore.T d) none Set.univ (op := op1) (S := hostRefs) op1_sub (V := V1 m d)) $$ [Hb Hbufs]
  · isplitl [Hb] <;> iassumption
  iintro ⟨Hb, Hbufs⟩
  iapply (Entails.of_eq (wp_ret _ _ _ _ _).symm)
  imodintro
  ihave Hbufs := (show (held (SparseCore.T d) hostRefs ((op1 (F := F)).result (V1 m d)) : sProp 𝕄) ⊢ held (SparseCore.T d) hostRefs (V2 m d) from Entails.refl _) $$ Hbufs
  ihave H := (held_take m d) $$ Hbufs
  icases H with ⟨⟨Ha, Hn, Hz⟩, Hback⟩
  imod (zIn m (Nv m) ι d) $$ [Hz] with Hz
  · isplitr; · iexact Hwm
    iexact Hz
  ihave Hp := (pay_split m (Nv m) d fullShare 2) $$ [Ha Hn Hz]
  · isplitl [Ha]; · iexact Ha
    isplitl [Hn]; · iexact Hn
    iexact Hz
  icases Hp with ⟨Hp, Hps⟩
  iapply ((K (F := F)).wp_run (D (F := F)) 𝒱 (EH := EH) (P := P m (Nv m)) κ d 0)
  isplitr; · iexact Hctx
  isplitl [Hst]; · iexact Hst
  isplitl [Hps]; · rw [st_eq]; iexact Hps
  iintro ⟨Hst, Hdn⟩
  ihave Hdn := (Entails.of_eq (dn_eq m (Nv m) d)) $$ Hdn
  ihave Hp := (pay_join m (Nv m) d fullShare 2 Wc) $$ [Hp Hdn]
  · isplitl [Hp]; · iexact Hp
    iexact Hdn
  icases Hp with ⟨Ha, Hn, Hz⟩
  imod (zOut m (Nv m) ι d) $$ [Hz] with Hz
  · isplitr; · iexact Hwm
    iexact Hz
  ispecialize Hback $$ [Ha Hn Hz]
  · isplitl [Ha]; · iexact Ha
    isplitl [Hn]; · iexact Hn
    iexact Hz
  iapply (wp_hlo_within 𝒱 (SparseCore.T d) none Set.univ (op := op3) (S := hostRefs) op3_sub (V := V3 m d)) $$ [Hb Hback]
  · isplitl [Hb] <;> iassumption
  iintro ⟨Hb, Hbufs⟩
  iapply (Entails.of_eq (wp_ret _ _ _ _ _).symm)
  imodintro
  iapply (wp_hlo_within 𝒱 (SparseCore.T d) none Set.univ (op := op4) (S := hostRefs) op4_sub (V := (op3 (F := F)).result (V3 m d))) $$ [Hb Hbufs]
  · isplitl [Hb] <;> iassumption
  iintro ⟨Hb, Hbufs⟩
  iapply (Entails.of_eq (wp_ret _ _ _ _ _).symm)
  imodintro
  iapply (wp_hlo_within 𝒱 (SparseCore.T d) none Set.univ (op := op5) (S := hostRefs) op5_sub (V := (op4 (F := F)).result ((op3 (F := F)).result (V3 m d)))) $$ [Hb Hbufs]
  · isplitl [Hb] <;> iassumption
  iintro ⟨Hb, Hbufs⟩
  iapply (Entails.of_eq (wp_ret _ _ _ _ _).symm)
  imodintro
  ihave Hbufs := (show (held (SparseCore.T d) hostRefs ((op5 (F := F)).result ((op4 (F := F)).result ((op3 (F := F)).result (V3 m d)))) : sProp 𝕄) ⊢ held (SparseCore.T d) hostRefs (V6 m d) from Entails.refl _) $$ Hbufs
  ihave Hbufs := (show (held (SparseCore.T d) hostRefs (V6 m d) : sProp 𝕄) ⊢ held (SparseCore.T d) endRefs (V6 m d) by
    rw [held_sub_split (SparseCore.T d) endRefs_sub (V6 m d)]; iintro ⟨H, -⟩; iexact H) $$ Hbufs
  imodintro
  isplitl [Hst]; · iexact Hst
  isplitl [Hbufs]; · iexact Hbufs
  isplitl [Hb] <;> iassumption

/-! ## The final state -/

/-- The arguments as they were, the result at its value. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_v5) = V6 m d r5

theorem hfin (d : Dev nD) (s' : Phys nD τ sig (Elt F)) : iprop(FIN m d ∗ SI s') ⊢ (⌜fq m d s'⌝ : sProp 𝕄) := by
  unfold FIN
  rw [held_end]
  iintro ⟨⟨H0, H1, H2, H5⟩, HSI⟩
  ihave H := (persistent_entails_right (SI_pointsTo_agree (st := s') (ℓ := (SparseCore.T d).loc main_arg0) (I := Finset.univ) (q := fullShare) (f := V6 m d rA0))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := V6 m d rA1))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := V6 m d rA2))) $$ [HSI H2]
  · isplitl [HSI] <;> iassumption
  icases H with ⟨%h2, HSI, -⟩
  ihave H := (SI_pointsTo_agree (st := s') (ℓ := (SparseCore.T d).loc main_v5) (I := Finset.univ) (q := fullShare) (f := V6 m d r5)) $$ [HSI H5]
  · isplitl [HSI] <;> iassumption
  icases H with %h5
  ipureintro
  exact ⟨(funext fun i => h0 i (Finset.mem_univ i)).trans (V6_arg m d rA0 (.inl rfl)), (funext fun i => h1 i (Finset.mem_univ i)).trans (V6_arg m d rA1 (.inr (.inl rfl))),
    (funext fun i => h2 i (Finset.mem_univ i)).trans (V6_arg m d rA2 (.inr (.inr rfl))), funext fun i => h5 i (Finset.mem_univ i)⟩

/-- What every run ends with. -/
def QC : PUnit × MemSt nD τ sig (Elt F) → Prop := fun r =>
  (∀ d : Dev nD, r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)
    ∧ r.2.mem ((SparseCore.T d).loc main_v5) = V6 m d r5) ∧ r.2.sem = fun _ => 0

/-- The program's run. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (Nv m)) (A := ∅) facts v₀
    (fun q hq => match q with | 0 => nomatch hq)
    (fun q _ => match q with | 0 => tileObl m (Nv m) (Nv_lt m))
    (fun q _ => match q with | 0 => SparseCore.Cfg.VecSplit.of_plain (vecSplit m (Nv m)))
    m ρ main (G₀ (F := F)) (FIN m) (u₀ (F := F)) (sep_elim_left.trans (hu₀ m (Nv m))) (hmain m ρ) (fq m) (hfin m) (QC m) (fun _ h hz => ⟨h, hz⟩)

end Cert.Proof.I
-- ==== Proof.RRun.lean ====
/-
  The reference: its operations in a line, what each stretch of them leaves, and the run.
-/
module

public import proofs.«01_k».proof.ReferenceIdeal
public import proofs.«01_k».proof.Proof.Gen.ReferenceIdeal
public import Idealize.ShloMosaic.Lib.StableHlo.Run

@[expose] public section

noncomputable section

namespace Cert.Proof.R

open Cert.ReferenceIdeal Cert.ReferenceIdeal.Gen

open Idealize.ShloMosaic Idealize.SL.Sem
open Idealize.ShloMosaic.StableHlo (seq after launchContents)
open Idealize.ShloMosaic.TcCoe

variable {F : FTy → Type} [FloatOps F]

/-! ## The operations -/

/-- The distances of every code from every vector, -/
def ops1 : List (HloOp τ sig (Elt F)) :=
  [StableHlo.unary main_arg1 main_v0 (broadcastInDim S1x64x128 ![1, 2] bcast_S64x128_S1x64x128_1_2 : (⟨S64x128, .f32⟩ : BufTy).Contents (Elt F) → (⟨S1x64x128, .f32⟩ : BufTy).Contents (Elt F)),
   StableHlo.unary main_arg0 main_v1 (broadcastInDim S16384x1x128 ![0, 2] bcast_S16384x128_S16384x1x128_0_2 : (⟨S16384x128, .f32⟩ : BufTy).Contents (Elt F) → (⟨S16384x1x128, .f32⟩ : BufTy).Contents (Elt F)),
   StableHlo.unary main_v0 main_v2 (broadcastInDim S16384x64x128 ![0, 1, 2] bcast_S1x64x128_S16384x64x128_0_1_2 : (⟨S1x64x128, .f32⟩ : BufTy).Contents (Elt F) → (⟨S16384x64x128, .f32⟩ : BufTy).Contents (Elt F)),
   StableHlo.unary main_v1 main_v3 (broadcastInDim S16384x64x128 ![0, 1, 2] bcast_S16384x1x128_S16384x64x128_0_1_2 : (⟨S16384x1x128, .f32⟩ : BufTy).Contents (Elt F) → (⟨S16384x64x128, .f32⟩ : BufTy).Contents (Elt F)),
   StableHlo.binary main_v2 main_v3 main_v4 (subf : (⟨S16384x64x128, .f32⟩ : BufTy).Contents (Elt F) → (⟨S16384x64x128, .f32⟩ : BufTy).Contents (Elt F) → (⟨S16384x64x128, .f32⟩ : BufTy).Contents (Elt F)),
   StableHlo.binary main_v4 main_v4 main_v5 (mulf : (⟨S16384x64x128, .f32⟩ : BufTy).Contents (Elt F) → (⟨S16384x64x128, .f32⟩ : BufTy).Contents (Elt F) → (⟨S16384x64x128, .f32⟩ : BufTy).Contents (Elt F)),
   StableHlo.nullary main_cst (constant S_ .f32 0x00000000#32),
   StableHlo.binary main_v5 main_cst main_v6 ((fun x v => Host.reduceAdd x v reducesTo_S16384x64x128_S16384x64_d2 h_S_) : (⟨S16384x64x128, .f32⟩ : BufTy).Contents (Elt F) → (⟨S_, .f32⟩ : BufTy).Contents (Elt F) → (⟨S16384x64, .f32⟩ : BufTy).Contents (Elt F)),
   StableHlo.unary main_v6 main_v7 (Host.sqrt : (⟨S16384x64, .f32⟩ : BufTy).Contents (Elt F) → (⟨S16384x64, .f32⟩ : BufTy).Contents (Elt F))]

/-- the nearest code, -/
def ops2 : List (HloOp τ sig (Elt F)) :=
  [StableHlo.nullary main_call0_v0 ((iotaInDim S16384x64 32 1) : (⟨S16384x64, .i32⟩ : BufTy).Contents (Elt F)),
   StableHlo.nullary main_call0_cst ((constant S_ .f32 0x7F800000#32) : (⟨S_, .f32⟩ : BufTy).Contents (Elt F)),
   StableHlo.nullary main_call0_c ((constantI S_ 32 0#32) : (⟨S_, .i32⟩ : BufTy).Contents (Elt F)),
   StableHlo.quaternary main_v7 main_call0_v0 main_call0_cst main_call0_c main_call0_v1_0 ((fun x y u v j => (Host.argReduce reducer_argmin_f32_i32 x y u v reducesTo_S16384x64_S16384_d1 h_S_ j).1) : (⟨S16384x64, .f32⟩ : BufTy).Contents (Elt F) → (⟨S16384x64, .i32⟩ : BufTy).Contents (Elt F) → (⟨S_, .f32⟩ : BufTy).Contents (Elt F) → (⟨S_, .i32⟩ : BufTy).Contents (Elt F) → (⟨S16384, .f32⟩ : BufTy).Contents (Elt F)),
   StableHlo.quaternary main_v7 main_call0_v0 main_call0_cst main_call0_c main_v8 ((fun x y u v j => (Host.argReduce reducer_argmin_f32_i32 x y u v reducesTo_S16384x64_S16384_d1 h_S_ j).2) : (⟨S16384x64, .f32⟩ : BufTy).Contents (Elt F) → (⟨S16384x64, .i32⟩ : BufTy).Contents (Elt F) → (⟨S_, .f32⟩ : BufTy).Contents (Elt F) → (⟨S_, .i32⟩ : BufTy).Contents (Elt F) → (⟨S16384, .i32⟩ : BufTy).Contents (Elt F))]

/-- the columns of the table it names, -/
def ops3 : List (HloOp τ sig (Elt F)) :=
  [StableHlo.nullary main_call1_c ((constantI S_ 32 0#32) : (⟨S_, .i32⟩ : BufTy).Contents (Elt F)),
   StableHlo.unary main_call1_c main_call1_v0 ((broadcastInDim S16384 ![] bcast_S_S16384) : (⟨S_, .i32⟩ : BufTy).Contents (Elt F) → (⟨S16384, .i32⟩ : BufTy).Contents (Elt F)),
   StableHlo.binary main_v8 main_call1_v0 main_call1_v1 ((cmpi .slt) : (⟨S16384, .i32⟩ : BufTy).Contents (Elt F) → (⟨S16384, .i32⟩ : BufTy).Contents (Elt F) → (⟨S16384, .i1⟩ : BufTy).Contents (Elt F)),
   StableHlo.nullary main_call1_c_0 ((constantI S_ 32 64#32) : (⟨S_, .i32⟩ : BufTy).Contents (Elt F)),
   StableHlo.unary main_call1_c_0 main_call1_v2 ((broadcastInDim S16384 ![] bcast_S_S16384) : (⟨S_, .i32⟩ : BufTy).Contents (Elt F) → (⟨S16384, .i32⟩ : BufTy).Contents (Elt F)),
   StableHlo.binary main_v8 main_call1_v2 main_call1_v3 (addi : (⟨S16384, .i32⟩ : BufTy).Contents (Elt F) → (⟨S16384, .i32⟩ : BufTy).Contents (Elt F) → (⟨S16384, .i32⟩ : BufTy).Contents (Elt F)),
   StableHlo.ternary main_call1_v1 main_call1_v3 main_v8 main_call1_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
   StableHlo.unary main_call1_v4 main_call1_v5 ((broadcastInDim S16384x1 ![0] bcast_S16384_S16384x1_0) : (⟨S16384, .i32⟩ : BufTy).Contents (Elt F) → (⟨S16384x1, .i32⟩ : BufTy).Contents (Elt F)),
   StableHlo.nullary main_call1_c_1 ((constantI S1 32 63#32) : (⟨S1, .i32⟩ : BufTy).Contents (Elt F)),
   StableHlo.nullary main_call1_c_2 ((constantI S_ 32 0#32) : (⟨S_, .i32⟩ : BufTy).Contents (Elt F)),
   StableHlo.unary main_call1_c_2 main_call1_v6 ((broadcastInDim S16384x1 ![] bcast_S_S16384x1) : (⟨S_, .i32⟩ : BufTy).Contents (Elt F) → (⟨S16384x1, .i32⟩ : BufTy).Contents (Elt F)),
   StableHlo.binary main_call1_v5 main_call1_v6 main_call1_v7 ((cmpi .sge) : (⟨S16384x1, .i32⟩ : BufTy).Contents (Elt F) → (⟨S16384x1, .i32⟩ : BufTy).Contents (Elt F) → (⟨S16384x1, .i1⟩ : BufTy).Contents (Elt F)),
   StableHlo.unary main_call1_c_1 main_call1_v8 ((broadcastInDim S1x1 ![1] bcast_S1_S1x1_1) : (⟨S1, .i32⟩ : BufTy).Contents (Elt F) → (⟨S1x1, .i32⟩ : BufTy).Contents (Elt F)),
   StableHlo.unary main_call1_v8 main_call1_v9 ((broadcastInDim S16384x1 ![0, 1] bcast_S1x1_S16384x1_0_1) : (⟨S1x1, .i32⟩ : BufTy).Contents (Elt F) → (⟨S16384x1, .i32⟩ : BufTy).Contents (Elt F)),
   StableHlo.binary main_call1_v5 main_call1_v9 main_call1_v10 ((cmpi .sle) : (⟨S16384x1, .i32⟩ : BufTy).Contents (Elt F) → (⟨S16384x1, .i32⟩ : BufTy).Contents (Elt F) → (⟨S16384x1, .i1⟩ : BufTy).Contents (Elt F)),
   StableHlo.binary main_call1_v7 main_call1_v10 main_call1_v11 (andi : (⟨S16384x1, .i1⟩ : BufTy).Contents (Elt F) → (⟨S16384x1, .i1⟩ : BufTy).Contents (Elt F) → (⟨S16384x1, .i1⟩ : BufTy).Contents (Elt F)),
   StableHlo.nullary main_call1_c_3 ((constantI S_ 1 1#1) : (⟨S_, .i1⟩ : BufTy).Contents (Elt F)),
   StableHlo.binary main_call1_v11 main_call1_c_3 main_call1_v12 ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)),
   StableHlo.binary main_arg2 main_call1_v5 main_call1_v13 ((fun x i => Host.gather gather_S3000x64_S16384x1_S3000x16384_0_1_n_n_1_1_30001 x i) : (⟨S3000x64, .f32⟩ : BufTy).Contents (Elt F) → (⟨S16384x1, .i32⟩ : BufTy).Contents (Elt F) → (⟨S3000x16384, .f32⟩ : BufTy).Contents (Elt F)),
   StableHlo.unary main_call1_v12 main_call1_v14 ((broadcastInDim S3000x16384 ![1] bcast_S16384_S3000x16384_1) : (⟨S16384, .i1⟩ : BufTy).Contents (Elt F) → (⟨S3000x16384, .i1⟩ : BufTy).Contents (Elt F)),
   StableHlo.nullary main_call1_cst ((constant S_ .f32 0x7FC00000#32) : (⟨S_, .f32⟩ : BufTy).Contents (Elt F)),
   StableHlo.unary main_call1_cst main_call1_v15 ((broadcastInDim S3000x16384 ![] bcast_S_S3000x16384) : (⟨S_, .f32⟩ : BufTy).Contents (Elt F) → (⟨S3000x16384, .f32⟩ : BufTy).Contents (Elt F)),
   StableHlo.ternary main_call1_v14 main_call1_v13 main_call1_v15 main_v9 (select : (⟨S3000x16384, .i1⟩ : BufTy).Contents (Elt F) → (⟨S3000x16384, .f32⟩ : BufTy).Contents (Elt F) → (⟨S3000x16384, .f32⟩ : BufTy).Contents (Elt F) → (⟨S3000x16384, .f32⟩ : BufTy).Contents (Elt F))]

/-- and their transposition. -/
def ops4 : List (HloOp τ sig (Elt F)) :=
  [StableHlo.unary main_v9 main_v10 ((transpose S16384x3000 [1, 0] · transposes_S3000x16384_S16384x3000_1_0) : (⟨S3000x16384, .f32⟩ : BufTy).Contents (Elt F) → (⟨S16384x3000, .f32⟩ : BufTy).Contents (Elt F))]

/-- @main's operations in order. -/
def ops : List (HloOp τ sig (Elt F)) := ops1 ++ (ops2 ++ (ops3 ++ ops4))

set_option maxRecDepth 20000 in
set_option maxHeartbeats 4000000 in
theorem main_eq (d : Dev nD) : main (F := F) d = seq (ops (F := F)) := rfl

/-! ## What each stretch leaves -/

/-- The distances. -/
def dR (x : S16384x128.Idx → Elt F .f32) (c : S64x128.Idx → Elt F .f32) : S16384x64.Idx → Elt F .f32 :=
  let u : FVec F S16384x64x128 .f32 := subf (broadcastInDim S16384x64x128 ![0, 1, 2] bcast_S1x64x128_S16384x64x128_0_1_2 (broadcastInDim S1x64x128 ![1, 2] bcast_S64x128_S1x64x128_1_2 c))
    (broadcastInDim S16384x64x128 ![0, 1, 2] bcast_S16384x1x128_S16384x64x128_0_1_2 (broadcastInDim S16384x1x128 ![0, 2] bcast_S16384x128_S16384x1x128_0_2 x))
  Host.sqrt (Host.reduceAdd (mulf u u) (constant S_ .f32 0x00000000#32) reducesTo_S16384x64x128_S16384x64_d2 h_S_)

/-- The nearest codes. -/
def nR (D : S16384x64.Idx → Elt F .f32) : S16384.Idx → BitVec 32 := fun j =>
  (Host.argReduce (reducer_argmin_f32_i32 (F := F)) D (iotaInDim S16384x64 32 1) (constant S_ .f32 0x7F800000#32) (constantI S_ 32 0#32) reducesTo_S16384x64_S16384_d1 h_S_ j).2

/-- An index below zero counted from the end, on a column. -/
def wR (N : S16384.Idx → BitVec 32) : S16384x1.Idx → BitVec 32 :=
  broadcastInDim S16384x1 ![0] bcast_S16384_S16384x1_0 (select (cmpi .slt N (broadcastInDim S16384 ![] bcast_S_S16384 (constantI S_ 32 0#32)))
    (addi N (broadcastInDim S16384 ![] bcast_S_S16384 (constantI S_ 32 64#32))) N)

/-- Whether it is in range. -/
def kR (N : S16384.Idx → BitVec 32) : S16384.Idx → BitVec 1 :=
  Host.reduce IntOp.andi (andi (cmpi .sge (wR N) (broadcastInDim S16384x1 ![] bcast_S_S16384x1 (constantI S_ 32 0#32)))
    (cmpi .sle (wR N) (broadcastInDim S16384x1 ![0, 1] bcast_S1x1_S16384x1_0_1 (broadcastInDim S1x1 ![1] bcast_S1_S1x1_1 (constantI S1 32 63#32)))))
    (constantI S_ 1 1#1) reducesTo_S16384x1_S16384_d1 h_S_

/-- The columns taken. -/
def tR (A : S3000x64.Idx → Elt F .f32) (N : S16384.Idx → BitVec 32) : S3000x16384.Idx → Elt F .f32 :=
  select (broadcastInDim S3000x16384 ![1] bcast_S16384_S3000x16384_1 (kR N))
    (Host.gather gather_S3000x64_S16384x1_S3000x16384_0_1_n_n_1_1_30001 A (wR N))
    (broadcastInDim S3000x16384 ![] bcast_S_S3000x16384 (constant S_ .f32 0x7FC00000#32))

/-- The result. -/
def resR (x : S16384x128.Idx → Elt F .f32) (c : S64x128.Idx → Elt F .f32) (A : S3000x64.Idx → Elt F .f32) : S16384x3000.Idx → Elt F .f32 :=
  transpose S16384x3000 [1, 0] (tR A (nR (dR x c))) transposes_S3000x16384_S16384x3000_1_0

set_option maxHeartbeats 4000000 in
theorem after1 (V : Valuation τ sig (Elt F)) : after ops1 V (Proc.devRef .tc main_v7) = dR (V (Proc.devRef .tc main_arg0)) (V (Proc.devRef .tc main_arg1)) := by
  unfold ops1
  after_results_simp
  rfl

set_option maxHeartbeats 4000000 in
theorem after2 (V : Valuation τ sig (Elt F)) : after ops2 V (Proc.devRef .tc main_v8) = nR (V (Proc.devRef .tc main_v7)) := by
  unfold ops2
  after_results_simp
  rfl

set_option maxHeartbeats 4000000 in
theorem after3 (V : Valuation τ sig (Elt F)) : after ops3 V (Proc.devRef .tc main_v9) = tR (V (Proc.devRef .tc main_arg2)) (V (Proc.devRef .tc main_v8)) := by
  unfold ops3
  after_results_simp
  rfl

/-- What the stretches write. -/
def wr1 : List (Ref sig .tc) := [main_v0, main_v1, main_v2, main_v3, main_v4, main_v5, main_cst, main_v6, main_v7]
def wr2 : List (Ref sig .tc) := [main_call0_v0, main_call0_cst, main_call0_c, main_call0_v1_0, main_v8]
def wr3 : List (Ref sig .tc) := [main_call1_c, main_call1_v0, main_call1_v1, main_call1_c_0, main_call1_v2, main_call1_v3, main_call1_v4, main_call1_v5,
  main_call1_c_1, main_call1_c_2, main_call1_v6, main_call1_v7, main_call1_v8, main_call1_v9, main_call1_v10, main_call1_v11, main_call1_c_3, main_call1_v12,
  main_call1_v13, main_call1_v14, main_call1_cst, main_call1_v15, main_v9]

theorem keep1 (V : Valuation τ sig (Elt F)) (r : Ref sig .tc) (h : r ∉ wr1) : after ops1 V (Proc.devRef .tc r) = V (Proc.devRef .tc r) :=
  StableHlo.after_of_writes_sub (W := wr1) _ V (StableHlo.forall_writes_sub_of_map rfl) h
theorem keep2 (V : Valuation τ sig (Elt F)) (r : Ref sig .tc) (h : r ∉ wr2) : after ops2 V (Proc.devRef .tc r) = V (Proc.devRef .tc r) :=
  StableHlo.after_of_writes_sub (W := wr2) _ V (StableHlo.forall_writes_sub_of_map rfl) h
theorem keep3 (V : Valuation τ sig (Elt F)) (r : Ref sig .tc) (h : r ∉ wr3) : after ops3 V (Proc.devRef .tc r) = V (Proc.devRef .tc r) :=
  StableHlo.after_of_writes_sub (W := wr3) _ V (StableHlo.forall_writes_sub_of_map rfl) h

theorem after_append {Val : EltTy → Type} : ∀ (l₁ l₂ : List (HloOp τ sig Val)) (V : Valuation τ sig Val), after (l₁ ++ l₂) V = after l₂ (after l₁ V)
  | [], _, _ => rfl
  | op :: l, l₂, V => after_append l l₂ (op.result V)

theorem ops4_result (V : Valuation τ sig (Elt F)) : after ops4 V (Proc.devRef .tc main_v10)
    = transpose S16384x3000 [1, 0] (V (Proc.devRef .tc main_v9) : S3000x16384.Idx → Elt F .f32) transposes_S3000x16384_S16384x3000_1_0 := by
  unfold ops4
  after_results

theorem ops4_keep (V : Valuation τ sig (Elt F)) (r : Ref sig .tc) (h : r ≠ main_v10) : after ops4 V (Proc.devRef .tc r) = V (Proc.devRef .tc r) :=
  StableHlo.after_of_writes_sub (W := [main_v10]) _ V (StableHlo.forall_writes_sub_of_map rfl) (by simpa using h)

/-- The result of the whole line. -/
theorem after_res (V : Valuation τ sig (Elt F)) : after ops V (Proc.devRef .tc main_v10)
    = resR (V (Proc.devRef .tc main_arg0)) (V (Proc.devRef .tc main_arg1)) (V (Proc.devRef .tc main_arg2)) := by
  unfold ops
  rw [after_append, after_append, after_append, ops4_result, after3, after2, after1, keep2 _ main_arg2 (by decide), keep1 _ main_arg2 (by decide)]
  rfl

/-- The line leaves the arguments. -/
theorem after_arg (V : Valuation τ sig (Elt F)) (r : Ref sig .tc) (h : r = main_arg0 ∨ r = main_arg1 ∨ r = main_arg2) :
    after ops V (Proc.devRef .tc r) = V (Proc.devRef .tc r) := by
  unfold ops
  rw [after_append, after_append, after_append, ops4_keep _ r (by rintro rfl; revert h; decide), keep3 _ r (by rcases h with rfl | rfl | rfl <;> decide),
    keep2 _ r (by rcases h with rfl | rfl | rfl <;> decide), keep1 _ r (by rcases h with rfl | rfl | rfl <;> decide)]

/-! ## The run -/

theorem ops_sub : (ops (F := F)).Forall fun op => op.bufs ⊆ StableHlo.tcRefs τ sig := by
  unfold ops ops1 ops2 ops3 ops4
  simp only [List.cons_append, List.nil_append, List.forall_cons, List.Forall, StableHlo.nullary_bufs_sub, StableHlo.unary_bufs_sub, StableHlo.binary_bufs_sub,
    StableHlo.ternary_bufs_sub, StableHlo.quaternary_bufs_sub, and_self]

theorem ops_fresh : ∀ op ∈ ops (F := F), op.fresh = ∅ := by
  unfold ops ops1 ops2 ops3 ops4
  intro op h
  (repeat (cases h with | head => rfl | tail _ h => ?_))
  exact nomatch h

/-- Every run of the reference ends with the result at `resR` and the arguments unchanged, every semaphore at zero. -/
theorem run (m : (ℓ : Loc nD τ sig) → Buf (Elt F) ℓ) (g : Dev nD → PrngReg) :
    θ_run (defs (F := F)) (onTc (τ := τ) (main (F := F))) ⟨m, fun _ => 0, g⟩ fun r => ∀ d : Dev nD,
      r.2.mem ((d.tc : Thread nD τ).loc main_v10)
          = resR (m ((d.tc : Thread nD τ).loc main_arg0)) (m ((d.tc : Thread nD τ).loc main_arg1)) (m ((d.tc : Thread nD τ).loc main_arg2))
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2) :=
  (θ_run _ _ _).mono (fun r h d => ⟨(h d main_v10).trans (after_res _), (h d main_arg0).trans (after_arg _ _ (.inl rfl)),
      (h d main_arg1).trans (after_arg _ _ (.inr (.inl rfl))), (h d main_arg2).trans (after_arg _ _ (.inr (.inr rfl)))⟩)
    (StableHlo.run_seq (by decide) (by decide) defs main (fun _ => ops) main_eq (fun _ => ops_sub) m g (fun _ => ops_fresh))

end Cert.Proof.R

end
-- ==== Proof.AMin.lean ====
/-
  The nearest code: the kernel's running best over the 64 codes and the reference's reduction over them name the same code.
-/
module

public import proofs.«01_k».proof.Proof.RRun
public import proofs.«01_k».proof.Proof.IArgmin
public import Idealize.ShloMosaic.PureOps.Ideal.Laws
public import Idealize.ShloMosaic.PureOps.Reduce
public import Idealize.ShloMosaic.Lib.Pipeline.Value
public import Idealize.ShloMosaic.Lib.ValueIdxCore

@[expose] public section

noncomputable section

namespace Cert.Proof.A

open Idealize.ShloMosaic Idealize.ShloMosaic.ValueIdx
open Cert.ReferenceIdeal Cert.ReferenceIdeal.Gen

/-! ## The running best of a row of numbers -/

/-- The least of the first `n` of a row of extended reals (the greatest of all, when `n` is zero), -/
def bstA (f : ℕ → EReal) : ℕ → EReal
  | 0 => ⊤
  | n + 1 => if f n < bstA f n then f n else bstA f n

/-- and the first place it is at. -/
def ixA (f : ℕ → EReal) : ℕ → BitVec 32
  | 0 => 0#32
  | n + 1 => if f n < bstA f n then BitVec.ofNat 32 n else ixA f n

/-- The place is among the first `n`, or it is zero. -/
theorem ixA_lt (f : ℕ → EReal) (n : ℕ) (h : n ≤ 64) : (ixA f n).toNat < n ∨ ixA f n = 0#32 := by
  induction n with
  | zero => exact .inr rfl
  | succ n ih =>
    show (if _ then _ else _ : BitVec 32).toNat < n + 1 ∨ (if _ then _ else _ : BitVec 32) = 0#32
    split
    · left; rw [BitVec.toNat_ofNat, Nat.mod_eq_of_lt (by omega)]; omega
    · rcases ih (by omega) with h | h
      · left; omega
      · exact .inr h

/-- One step of the reference's reduction: the pair so far against the next number and its place. -/
theorem red_step (b f : EReal) (i : BitVec 32) (n : ℕ) (hn : n < 64) (hi : i.toNat < n ∨ i = 0#32) :
    reducer_argmin_f32_i32 (F := Ideal) (b, i) (f, BitVec.ofNat 32 n) = (if f < b then f else b, if f < b then BitVec.ofNat 32 n else i) := by
  have hslt : IntOp.cmpi .slt i (BitVec.ofNat 32 n) = BitVec.ofBool (decide (i.toNat < n)) := by
    have hi' : i.toNat < 64 := by
      rcases hi with h | h
      · omega
      · rw [h]; decide
    have e1 : i.toInt = (i.toNat : ℤ) := BitVec.toInt_eq_toNat_of_lt (by omega)
    have e2 : (BitVec.ofNat 32 n).toInt = (n : ℤ) := by
      rw [BitVec.toInt_eq_toNat_of_lt (by rw [BitVec.toNat_ofNat, Nat.mod_eq_of_lt (by omega)]; omega), BitVec.toNat_ofNat, Nat.mod_eq_of_lt (by omega)]
    show BitVec.ofBool (BitVec.slt _ _) = _
    unfold BitVec.slt
    rw [e1, e2]
    simp
  unfold reducer_argmin_f32_i32
  simp only [hslt, Ideal.cmpf_def, Ideal.cmp, Scalar.select, IntOp.ori, IntOp.andi]
  rcases lt_trichotomy f b with h | h | h
  · have h1 : ¬ b < f := not_lt.mpr h.le
    simp [h, h1, h.ne']
  · subst h
    rcases hi with hi | hi
    · simp [hi]
    · subst hi
      rcases Nat.eq_zero_or_pos n with h0 | h0
      · subst h0; simp
      · simp [h0]
  · have h1 : ¬ f < b := not_lt.mpr h.le
    simp [h, h1, h.ne]

/-- The reference's reduction down the first `n` of a row. -/
theorem red_fold (f : ℕ → EReal) (n : ℕ) (h : n ≤ 64) :
    (List.range n).foldl (fun r k => reducer_argmin_f32_i32 (F := Ideal) r (f k, BitVec.ofNat 32 k)) ((⊤ : EReal), 0#32) = (bstA f n, ixA f n) := by
  induction n with
  | zero => rfl
  | succ n ih =>
    rw [List.range_succ, List.foldl_append, ih (by omega), List.foldl_cons, List.foldl_nil, red_step _ _ _ _ (by omega) (ixA_lt f n (by omega))]
    rfl

/-! ## The reference's reduction -/

/-- Two increasing lists with the same members are equal. -/
theorem eq_of_lt {n : ℕ} {l l' : List (Fin n)} (h : l.Pairwise (· < ·)) (h' : l'.Pairwise (· < ·)) (hm : ∀ a, a ∈ l ↔ a ∈ l') : l = l' :=
  List.Perm.eq_of_pairwise (fun a b _ _ hab hba => absurd hab (not_lt.mpr hba.le)) h h'
    ((List.perm_ext_iff_of_nodup (h.imp fun hab => hab.ne) (h'.imp fun hab => hab.ne)).mpr hm)

/-- The places of a row: those whose first coordinate is the row's, in order. -/
theorem row_places (j : S16384.Idx) :
    ((List.finRange S16384x64.numel).filter fun n => reducesTo_S16384x64_S16384_d1.drop (S16384x64.rowMajor.symm n) = j)
      = (List.finRange 64).map fun k => S16384x64.rowMajor (ix2 (j 0) k) := by
  have hdrop : ∀ i : S16384x64.Idx, reducesTo_S16384x64_S16384_d1.drop i = j ↔ (i 0).val = (j 0).val := by
    intro i
    have e : (reducesTo_S16384x64_S16384_d1.drop i 0).val = (i 0).val := reducesTo_S16384x64_S16384_d1.drop_apply_val_of_eq i 0 0
    constructor
    · intro h; rw [← e, h]
    · intro h
      funext b
      have hb : b = 0 := Subsingleton.elim (α := Fin 1) _ _
      subst hb
      exact Fin.ext (e.trans h)
  refine eq_of_lt ((List.pairwise_lt_finRange _).filter _) ?_ ?_
  · rw [List.pairwise_map]
    refine (List.pairwise_lt_finRange _).imp fun {r r'} hr => ?_
    show (_ : Fin _).val < (_ : Fin _).val
    rw [Shape.rowMajor_val_two, Shape.rowMajor_val_two]
    exact Nat.add_lt_add_left hr _
  · intro n
    simp only [List.mem_filter, List.mem_finRange, true_and, decide_eq_true_eq, List.mem_map, hdrop]
    constructor
    · intro hn
      refine ⟨S16384x64.rowMajor.symm n 1, ?_⟩
      have e : ix2 (j 0) (S16384x64.rowMajor.symm n 1) = S16384x64.rowMajor.symm n := by
        funext a
        fin_cases a
        · exact Fin.ext hn.symm
        · rfl
      exact (congrArg S16384x64.rowMajor e).trans (Equiv.apply_symm_apply _ _)
    · rintro ⟨r, rfl⟩
      rw [Equiv.symm_apply_apply]

/-- The reference's nearest code for vector `j` is the first place of the least of the distances in row `j`. -/
theorem nR_eq (D : S16384x64.Idx → Ideal .f32) (j : S16384.Idx) (f : ℕ → EReal) (hf : ∀ k : Fin 64, f k.val = D (ix2 (j 0) k)) :
    R.nR (F := Ideal) D j = ixA f 64 := by
  unfold R.nR
  rw [Ideal.argReduce_eq_reduce2, Host.reduce2_eq_foldl_fiber]
  have hfib : Host.argReduceFiber D (iotaInDim S16384x64 32 1) reducesTo_S16384x64_S16384_d1 j
      = (List.range 64).map fun k => (f k, BitVec.ofNat 32 k) := by
    unfold Host.argReduceFiber
    rw [row_places, List.map_map, ← List.map_coe_finRange_eq_range, List.map_map]
    refine List.map_congr_left fun k _ => ?_
    show (D (S16384x64.rowMajor.symm (S16384x64.rowMajor (ix2 (j 0) k))), iotaInDim S16384x64 32 1 (S16384x64.rowMajor.symm (S16384x64.rowMajor (ix2 (j 0) k))))
      = (f k.val, BitVec.ofNat 32 k.val)
    rw [Equiv.symm_apply_apply, hf]
    rfl
  rw [hfib, List.foldl_map]
  have h0 : Ideal.ofBits .f32 0x7F800000#32 = ⊤ := by simp [Ideal.ofBits, Ideal.ieee]
  have hinit : ((constant (F := Ideal) S_ .f32 0x7F800000#32 (Shape.Idx.first h_S_), constantI S_ 32 0#32 (Shape.Idx.first h_S_)) : Ideal .f32 × BitVec 32)
      = ((⊤ : EReal), 0#32) := Prod.ext h0 rfl
  rw [hinit]
  exact congrArg Prod.snd (red_fold f 64 le_rfl)

/-! ## The kernel's running best -/

/-- The kernel's running best at vector `p` of a block is that of the row of distances. -/
theorem bst_eq (X : FVec Ideal Cert.KernelIdeal.S1024x128 .f32) (c : ℕ → FVec Ideal Cert.KernelIdeal.S128 .f32) (p : Cert.KernelIdeal.S1024.Idx) (n : ℕ) :
    (I.bst X c n p : EReal) = bstA (fun k => I.dstF X (c k) p) n ∧ I.ixx X c n p = ixA (fun k => I.dstF X (c k) p) n := by
  induction n with
  | zero => exact ⟨by show Ideal.ofBits .f32 0x7F800000#32 = ⊤; simp [Ideal.ofBits, Ideal.ieee], rfl⟩
  | succ n ih =>
    obtain ⟨h1, h2⟩ := ih
    have hc : FloatOps.cmpf (F := Ideal) (φ := .f32) .olt (I.dstF X (c n) p) (I.bst X c n p)
        = BitVec.ofBool (decide ((I.dstF X (c n) p : EReal) < bstA (fun k => I.dstF X (c k) p) n)) := by
      rw [← h1]; rfl
    constructor
    · show (if FloatOps.cmpf (F := Ideal) (φ := .f32) .olt (I.dstF X (c n) p) (I.bst X c n p) = 1#1 then I.dstF X (c n) p else I.bst X c n p : EReal)
        = if (I.dstF X (c n) p : EReal) < bstA (fun k => I.dstF X (c k) p) n then I.dstF X (c n) p else bstA (fun k => I.dstF X (c k) p) n
      rw [hc, h1]
      by_cases h : (I.dstF X (c n) p : EReal) < bstA (fun k => I.dstF X (c k) p) n <;> simp [h]
    · show (if FloatOps.cmpf (F := Ideal) (φ := .f32) .olt (I.dstF X (c n) p) (I.bst X c n p) = 1#1 then BitVec.ofNat 32 n else I.ixx X c n p)
        = if (I.dstF X (c n) p : EReal) < bstA (fun k => I.dstF X (c k) p) n then BitVec.ofNat 32 n else ixA (fun k => I.dstF X (c k) p) n
      rw [hc, h2]
      by_cases h : (I.dstF X (c n) p : EReal) < bstA (fun k => I.dstF X (c k) p) n <;> simp [h]

end Cert.Proof.A

end
-- ==== Proof.ADist.lean ====
/-
  The distances: the kernel's, of one code from every vector of a block, are the reference's.
-/
module

public import proofs.«01_k».proof.Proof.AMin

@[expose] public section

noncomputable section

namespace Cert.Proof.A

open Idealize.ShloMosaic Idealize.ShloMosaic.ValueIdx
open Cert.ReferenceIdeal Cert.ReferenceIdeal.Gen

/-- The distance of vector `i` from code `n`: the root of the sum of the squared differences. -/
def dist (x : S16384x128.Idx → EReal) (c : S64x128.Idx → EReal) (i : Fin 16384) (n : Fin 64) : EReal :=
  Ideal.sqrt (∑ k : Fin 128, (c (ix2 n k) - x (ix2 i k)) * (c (ix2 n k) - x (ix2 i k)))

/-- The reference's differences. -/
abbrev uR (x : S16384x128.Idx → Ideal .f32) (c : S64x128.Idx → Ideal .f32) : FVec Ideal S16384x64x128 .f32 :=
  subf (broadcastInDim S16384x64x128 ![0, 1, 2] bcast_S1x64x128_S16384x64x128_0_1_2 (broadcastInDim S1x64x128 ![1, 2] bcast_S64x128_S1x64x128_1_2 c))
    (broadcastInDim S16384x64x128 ![0, 1, 2] bcast_S16384x1x128_S16384x64x128_0_1_2 (broadcastInDim S16384x1x128 ![0, 2] bcast_S16384x128_S16384x1x128_0_2 x))

theorem uR_eq (x : S16384x128.Idx → Ideal .f32) (c : S64x128.Idx → Ideal .f32) (i : Fin 16384) (n : Fin 64) (k : Fin 128) :
    (uR x c (ix3 i n k) : EReal) = c (ix2 n k) - x (ix2 i k) := by
  refine congrArg₂ (fun a b : EReal => a - b) ?_ ?_
  · refine (broadcastInDim_apply _ _ _ _ (ix3 (0 : Fin 1) n k) ?_).trans (broadcastInDim_apply _ _ _ _ (ix2 n k) ?_)
    · intro a; fin_cases a <;> rfl
    · intro a; fin_cases a <;> rfl
  · refine (broadcastInDim_apply _ _ _ _ (ix3 i (0 : Fin 1) k) ?_).trans (broadcastInDim_apply _ _ _ _ (ix2 i k) ?_)
    · intro a; fin_cases a <;> rfl
    · intro a; fin_cases a <;> rfl

theorem reduces3 : S16384x64x128.Reduces [2] S16384x64 := by decide

theorem lift3 (i : Fin 16384) (n : Fin 64) (k : Fin 128) : reduces3.lift (ix2 i n) k = ix3 i n k := by
  funext a; fin_cases a <;> rfl

/-- The reference's distances. -/
theorem dR_eq (x : S16384x128.Idx → Ideal .f32) (c : S64x128.Idx → Ideal .f32) (i : Fin 16384) (n : Fin 64) :
    R.dR (F := Ideal) x c (ix2 i n) = dist x c i n := by
  have h0 : Ideal.ofBits .f32 0x00000000#32 = 0 := Ideal.ofBits_zero_f32
  have e := Ideal.hostReduceAdd_single reducesTo_S16384x64x128_S16384x64_d2 reduces3 (mulf (uR x c) (uR x c)) (Ideal.ofBits .f32 0x00000000#32) (ix2 i n)
  have e2 : (∑ k : Fin 128, (mulf (uR x c) (uR x c) (reduces3.lift (ix2 i n) k) : EReal))
      = ∑ k : Fin 128, (c (ix2 n k) - x (ix2 i k)) * (c (ix2 n k) - x (ix2 i k)) := by
    refine Finset.sum_congr rfl fun k _ => ?_
    rw [lift3]
    exact congrArg₂ (fun a b : EReal => a * b) (uR_eq x c i n k) (uR_eq x c i n k)
  have e3 := e.trans ((congrArg (· + _) h0).trans ((zero_add _).trans e2))
  have e4 : R.dR (F := Ideal) x c = Host.sqrt (Host.reduceAdd (mulf (uR x c) (uR x c)) (constant S_ .f32 0x00000000#32) reducesTo_S16384x64x128_S16384x64_d2 h_S_) := rfl
  rw [e4]
  have e5 : ∀ (D : FVec Ideal S16384x64 .f32) (j : S16384x64.Idx), Host.sqrt D j = Ideal.sqrt (D j) := fun _ _ => rfl
  rw [e5]
  have e6 : ∀ (y : FVec Ideal S16384x64x128 .f32) (v : S_.Idx → Ideal .f32) (j : S16384x64.Idx), Host.reduceAdd y v reducesTo_S16384x64x128_S16384x64_d2 h_S_ j
      = Ideal.hostReduceAdd reducesTo_S16384x64x128_S16384x64_d2 y (v (Shape.Idx.first h_S_)) j := fun _ _ _ => rfl
  rw [e6]
  exact congrArg Ideal.sqrt e3

/-- The kernel's, over a block whose vector `p` is the array's vector `i`. -/
theorem dstF_eq (x : S16384x128.Idx → Ideal .f32) (c : S64x128.Idx → Ideal .f32) (X : FVec Ideal Cert.KernelIdeal.S1024x128 .f32)
    (i : Fin 16384) (n : Fin 64) (p : Cert.KernelIdeal.S1024.Idx) (hX : ∀ k : Fin 128, X (ix2 (p 0) k) = x (ix2 i k)) :
    I.dstF (F := Ideal) X (I.rowC c n.val) p = dist x c i n := by
  have hl : ∀ k : Fin 128, Cert.KernelIdeal.Gen.reduces_S1024x128_S1024.lift p k = ix2 (p 0) k := by
    intro k; funext a; fin_cases a <;> rfl
  have h1 : ∀ k : Fin 128, broadcastTo Cert.KernelIdeal.S1024x128 (shapeCast Cert.KernelIdeal.S1x128 (I.rowC c n.val) Cert.KernelIdeal.Gen.shapeCasts_S128_S1x128)
      Cert.KernelIdeal.Gen.broadcasts_S1x128_S1024x128 (ix2 (p 0) k) = c (ix2 n k) := by
    intro k
    refine (broadcastTo_apply _ _ _ (ix2 (0 : Fin 1) k) ?_).trans ?_
    · intro a; fin_cases a <;> rfl
    refine (shapeCast_apply _ _ _ (ix1 k) ?_).trans ?_
    · rw [Shape.rowMajor_val_one, Shape.rowMajor_val_two]
      show k.val = 0 * 128 + k.val
      omega
    refine (congrFun (I.rowC_lt (F := Ideal) c n.isLt) (ix1 k)).trans ?_
    refine (shapeCast_apply _ _ _ (ix2 (0 : Fin 1) k) ?_).trans ?_
    · rw [Shape.rowMajor_val_one, Shape.rowMajor_val_two]
      show 0 * 128 + k.val = k.val
      omega
    refine congrArg c (funext fun a => ?_)
    fin_cases a
    · exact Fin.ext (by show n.val + 1 * 0 = n.val; omega)
    · exact Fin.ext (by show 0 + 1 * k.val = k.val; omega)
  have e := Ideal.multiReduction_add_single (I.sqF X (I.rowC c n.val)) 0x00000000#32 Cert.KernelIdeal.Gen.reduces_S1024x128_S1024 (.inl rfl) rfl p
  have e2 : (∑ k : Fin 128, (I.sqF X (I.rowC c n.val) (Cert.KernelIdeal.Gen.reduces_S1024x128_S1024.lift p k) : EReal))
      = ∑ k : Fin 128, (c (ix2 n k) - x (ix2 i k)) * (c (ix2 n k) - x (ix2 i k)) := by
    refine Finset.sum_congr rfl fun k _ => ?_
    rw [hl]
    have hd := congrArg₂ (fun a b : EReal => a - b) (h1 k) (hX k)
    exact congrArg₂ (fun a b : EReal => a * b) hd hd
  exact congrArg Ideal.sqrt (e.trans e2)

end Cert.Proof.A

end
-- ==== Proof.ATake.lean ====
/-
  The reference's take: at codes in range it is the plain reading of the table's columns, transposed.
-/
module

public import proofs.«01_k».proof.Proof.RRun
public import Idealize.ShloMosaic.PureOps.Reduce
public import Idealize.ShloMosaic.Lib.Pipeline.Value
public import Idealize.ShloMosaic.Lib.ValueIdxCore

@[expose] public section

noncomputable section

namespace Cert.Proof.A

open Idealize.ShloMosaic Idealize.ShloMosaic.ValueIdx
open Cert.ReferenceIdeal Cert.ReferenceIdeal.Gen

variable {F : FTy → Type} [FloatOps F]

/-- A word below 64 is as an integer what it is as a natural. -/
theorem toInt_small {v : BitVec 32} (h : v.toNat < 64) : v.toInt = (v.toNat : ℤ) := BitVec.toInt_eq_toNat_of_lt (by omega)

/-- A code in range is not counted from the end. -/
theorem wR_eq (N : S16384.Idx → BitVec 32) (hN : ∀ j, (N j).toNat < 64) (i : S16384x1.Idx) : R.wR N i = N (ix1 (i 0)) := by
  unfold R.wR
  refine (broadcastInDim_apply _ _ _ _ (ix1 (i 0)) ?_).trans ?_
  · intro a; fin_cases a; rfl
  · have h : IntOp.cmpi .slt (N (ix1 (i 0))) 0#32 = 0#1 := by
      show BitVec.ofBool (BitVec.slt _ _) = _
      unfold BitVec.slt
      rw [toInt_small (hN _), show (0#32 : BitVec 32).toInt = 0 by decide, decide_eq_false (by omega)]
      rfl
    show (if IntOp.cmpi .slt (N (ix1 (i 0))) 0#32 = 1#1 then _ else N (ix1 (i 0))) = _
    rw [h]
    exact if_neg (by decide)

/-- A conjunction of ones is one. -/
theorem foldl_one {I : Type} (x : I → BitVec 1) (h : ∀ i, x i = 1#1) (l : List I) : l.foldl (fun r i => IntOp.andi r (x i)) 1#1 = 1#1 := by
  induction l with
  | nil => rfl
  | cons a l ih => rw [List.foldl_cons, h a]; exact ih

/-- Every code in range passes the range test. -/
theorem kR_eq (N : S16384.Idx → BitVec 32) (hN : ∀ j, (N j).toNat < 64) (j : S16384.Idx) : R.kR N j = 1#1 := by
  unfold R.kR
  rw [Host.reduce_eq_foldl]
  refine foldl_one _ (fun i => ?_) _
  show IntOp.andi (IntOp.cmpi .sge (R.wR N i) 0#32) (IntOp.cmpi .sle (R.wR N i) 63#32) = 1#1
  rw [wR_eq N hN]
  have h := hN (ix1 (i 0))
  have h1 : IntOp.cmpi .sge (N (ix1 (i 0))) 0#32 = 1#1 := by
    show BitVec.ofBool (BitVec.sle _ _) = _
    unfold BitVec.sle
    rw [toInt_small h]
    simp
  have h2 : IntOp.cmpi .sle (N (ix1 (i 0))) 63#32 = 1#1 := by
    show BitVec.ofBool (BitVec.sle _ _) = _
    unfold BitVec.sle
    rw [toInt_small h, show (63#32 : BitVec 32).toInt = 63 by decide, decide_eq_true (by omega)]
    rfl
  rw [h1, h2]
  rfl

/-- The gather reads each row of the table at the column its index names. -/
theorem gather_eq (A : S3000x64.Idx → Elt F .f32) (w : S16384x1.Idx → BitVec 32) (k : Fin 3000) (j : Fin 16384) (c : Fin 64)
    (hc : (w (ix2 j (0 : Fin 1))).toInt = (c.val : ℤ)) :
    Host.gather gather_S3000x64_S16384x1_S3000x16384_0_1_n_n_1_1_30001 A w (ix2 k j) = A (ix2 k c) := by
  unfold Host.gather
  refine congrArg A (funext fun a => Fin.ext ?_)
  have hsi : ∀ q, (gather_S3000x64_S16384x1_S3000x16384_0_1_n_n_1_1_30001).siIdx (ix2 k j) q = ix2 j (0 : Fin 1) := by
    intro q
    have hq : q = ⟨0, Nat.one_pos⟩ := Subsingleton.elim (α := Fin 1) _ _
    subst hq
    funext b
    fin_cases b <;> exact Fin.ext rfl
  show (gather_S3000x64_S16384x1_S3000x16384_0_1_n_n_1_1_30001).start (ix2 k j) w a
    + (gather_S3000x64_S16384x1_S3000x16384_0_1_n_n_1_1_30001).batchCoord (ix2 k j) a
    + (gather_S3000x64_S16384x1_S3000x16384_0_1_n_n_1_1_30001).offCoord (ix2 k j) a = _
  rw [GatherDims.batchCoord_eq_zero _ _ _ List.not_mem_nil]
  fin_cases a
  · have h1 : (gather_S3000x64_S16384x1_S3000x16384_0_1_n_n_1_1_30001).start (ix2 k j) w 0 = 0 := dif_neg (by decide)
    have h2 : (gather_S3000x64_S16384x1_S3000x16384_0_1_n_n_1_1_30001).offCoord (ix2 k j) 0 = k.val := rfl
    exact (congrArg₂ (fun a b => a + 0 + b) h1 h2).trans (by show 0 + 0 + k.val = k.val; omega)
  · have h2 : (gather_S3000x64_S16384x1_S3000x16384_0_1_n_n_1_1_30001).offCoord (ix2 k j) 1 = 0 :=
      GatherDims.offCoord_eq_zero _ _ _ (fun h => ((GatherDims.mem_sKept _ _).mp h).1 (List.mem_singleton.mpr rfl))
    have h1 : (gather_S3000x64_S16384x1_S3000x16384_0_1_n_n_1_1_30001).start (ix2 k j) w 1 = c.val := by
      unfold GatherDims.start
      rw [dif_pos (show (1 : Fin 2) ∈ (gather_S3000x64_S16384x1_S3000x16384_0_1_n_n_1_1_30001).startIndexMap from List.mem_singleton.mpr rfl), hsi, hc]
      show min c.val (64 - 1) = c.val
      have := c.isLt
      omega
    exact (congrArg₂ (fun a b => a + 0 + b) h1 h2)

/-- The columns the reference takes at codes in range. -/
theorem tR_eq (A : S3000x64.Idx → Elt F .f32) (N : S16384.Idx → BitVec 32) (hN : ∀ j, (N j).toNat < 64) (k : Fin 3000) (j : Fin 16384) :
    R.tR A N (ix2 k j) = A (ix2 k ⟨(N (ix1 j)).toNat, hN _⟩) := by
  have h1 : broadcastInDim S3000x16384 ![1] bcast_S16384_S3000x16384_1 (R.kR N) (ix2 k j) = 1#1 := by
    refine (broadcastInDim_apply _ _ _ _ (ix1 j) ?_).trans (kR_eq N hN _)
    intro a; fin_cases a; rfl
  have hs : ∀ (c : S3000x16384.Idx → BitVec 1) (a b : S3000x16384.Idx → Elt F .f32) (y : S3000x16384.Idx), c y = 1#1 → select c a b y = a y :=
    fun _ _ _ _ h => if_pos h
  unfold R.tR
  refine (hs _ _ _ _ h1).trans (gather_eq A _ k j _ ?_)
  rw [wR_eq N hN]
  exact toInt_small (hN _)

/-- The reference's result at codes in range. -/
theorem res_eq (A : S3000x64.Idx → Elt F .f32) (N : S16384.Idx → BitVec 32) (hN : ∀ j, (N j).toNat < 64) (j : Fin 16384) (k : Fin 3000) :
    transpose S16384x3000 [1, 0] (R.tR A N) transposes_S3000x16384_S16384x3000_1_0 (ix2 j k) = A (ix2 k ⟨(N (ix1 j)).toNat, hN _⟩) := by
  refine (transpose_apply _ _ _ _ (ix2 k j) ?_).trans (tR_eq A N hN k j)
  intro b; fin_cases b <;> rfl

end Cert.Proof.A

end
-- ==== Proof.AValue.lean ====
/-
  The value: the kernel's result is the reference's.
-/
module

public import proofs.«01_k».proof.Proof.ADist
public import proofs.«01_k».proof.Proof.ATake
public import proofs.«01_k».proof.Proof.ILaunch

@[expose] public section

noncomputable section

namespace Cert.Proof.A

open Idealize.ShloMosaic hiding ix1 ix2 ix3 ix4
open Idealize.ShloMosaic.ValueIdx (ix1 ix2 ix3 ix4)
open Cert.KernelIdeal Cert.KernelIdeal.Gen
open Cert.Proof.I
open Idealize.ShloMosaic.TcCoe

variable (m : (ℓ : Loc nD τ sig) → Buf (Elt Ideal) ℓ) (d : Dev nD)

/-- The kernel's arguments: the vectors, -/
abbrev xA : S16384x128.Idx → Ideal .f32 := m ((d.tc : Thread nD τ).loc main_arg0)
/-- the codes -/
abbrev cA : S64x128.Idx → Ideal .f32 := m ((d.tc : Thread nD τ).loc main_arg1)
/-- and the table. -/
abbrev tA : S3000x64.Idx → Ideal .f32 := m ((d.tc : Thread nD τ).loc main_arg2)

/-! ## The blocks the TensorCore reads -/

/-- Where the vectors' block is at each point, -/
theorem block_x : ∀ t : Fin grid0.N, cc0_transform_0 (grid0.coords t) = ![t.val, 0] := by decide
/-- and the codebook's. -/
theorem block_c : ∀ t : Fin grid0.N, cc0_transform_1 (grid0.coords t) = ![0, 0] := by decide

/-- Vector `p` of the block at point `t` is the array's vector `1024 t + p`. -/
theorem xBlk_eq (t : Fin cfg0.N) (p : Fin 1024) (k : Fin 128) (i : Fin 16384) (hi : i.val = t.val * 1024 + p.val) :
    xBlk (Vm m) d t (ix2 p k) = xA m d (ix2 i k) := by
  have h : ∀ a : Fin 2, (((win0_0.blk t).view.emb (ix2 p k) a : Fin _) : ℕ) = cc0_transform_0 (grid0.coords t) a * S1024x128.size a + (ix2 p k a).val := by
    intro a
    blk_simp
    rfl
  rw [block_x t] at h
  refine congrArg (xA m d) (funext fun a => Fin.ext ?_)
  fin_cases a
  · exact (h 0).trans (by show t.val * 1024 + p.val = i.val; omega)
  · exact (h 1).trans (by show 0 * 128 + k.val = k.val; omega)

/-- The block of codes is the codebook. -/
theorem cBlk_eq : cBlk (Vm m) d = cA m d := by
  have h : ∀ (y : S64x128.Idx) (a : Fin 2), (((win0_1.blk t0_0).view.emb y a : Fin _) : ℕ) = cc0_transform_1 (grid0.coords t0_0) a * S64x128.size a + (y a).val := by
    intro y a
    blk_simp
    rfl
  rw [block_c t0_0] at h
  funext y
  refine congrArg (cA m d) (funext fun a => Fin.ext ?_)
  fin_cases a
  · exact (h y 0).trans (by show 0 * 64 + (y 0).val = (y 0).val; omega)
  · exact (h y 1).trans (by show 0 * 128 + (y 1).val = (y 1).val; omega)

/-! ## The nearest codes -/

/-- The nearest code the kernel finds for vector `j` is in the block `j / 1024`, at `j mod 1024`. -/
theorem Nv_at (j : Fin 16384) (t : Fin cfg0.N) (p : Fin 1024) (hj : j.val = t.val * 1024 + p.val) :
    Nv m d (ix1 j) = ixx (xBlk (Vm m) d t) (rowC (cBlk (Vm m) d)) 64 (ix1 p) := by
  have ht : t.val < 16 := by rw [← N_0]; exact t.isLt
  rw [Nv_eq, nArr_eq]
  refine (shapeCast_apply _ _ _ (ix3 (⟨t.val, ht⟩ : Fin 16) (0 : Fin 1) p) ?_).trans ?_
  · rw [Shape.rowMajor_val_three, Shape.rowMajor_val_one]
    show (t.val * 1 + 0) * 1024 + p.val = j.val
    omega
  show nBlk (Vm m) d (Fin.cast N_0.symm (⟨t.val, ht⟩ : Fin 16)) (inBlk (ix3 (⟨t.val, ht⟩ : Fin 16) (0 : Fin 1) p)) = _
  rw [show Fin.cast N_0.symm (⟨t.val, ht⟩ : Fin 16) = t from Fin.ext rfl]
  unfold nBlk
  refine shapeCast_apply _ _ _ (ix1 p) ?_
  rw [Shape.rowMajor_val_three, Shape.rowMajor_val_one]
  show p.val = (0 * 1 + 0) * 1024 + p.val
  omega

/-- It is the reference's. -/
theorem code_eq (j : Fin 16384) : Nv m d (ix1 j) = R.nR (F := Ideal) (R.dR (xA m d) (cA m d)) (ix1 j) := by
  have hN : cfg0.N = 16 := N_0
  have hj := j.isLt
  let t : Fin cfg0.N := ⟨j.val / 1024, by rw [hN]; omega⟩
  let p : Fin 1024 := ⟨j.val % 1024, Nat.mod_lt _ (by decide)⟩
  have hjt : j.val = t.val * 1024 + p.val := by show j.val = j.val / 1024 * 1024 + j.val % 1024; omega
  rw [Nv_at m d j t p hjt, cBlk_eq]
  refine ((bst_eq (xBlk (Vm m) d t) (rowC (cA m d)) (ix1 p) 64).2).trans
    (nR_eq _ (ix1 j) (fun k => dstF (xBlk (Vm m) d t) (rowC (cA m d) k) (ix1 p)) fun k => ?_).symm
  exact (dstF_eq (xA m d) (cA m d) _ j k (ix1 p) fun k => xBlk_eq m d t p k j hjt).trans (dR_eq (xA m d) (cA m d) j k).symm

/-! ## The result -/

/-- The host's rearrangement of the SparseCores' result: entry `(j, k)` is row `k` of the table at the code of vector `j`. -/
theorem V6_at (j : Fin 16384) (k : Fin 3000) :
    (V6 m d r5 : S16384x3000.Idx → Ideal .f32) (ix2 j k) = tA m d (ix2 k ⟨BitVec.toNat (w := 32) (Nv m d (ix1 j)), Nv_lt m d _⟩) := by
  have hj := j.isLt
  have hk := k.isLt
  have e5 : (V6 m d r5 : S16384x3000.Idx → Ideal .f32)
      = shapeCast S16384x3000 (transpose S128x128x375x8 [1, 3, 0, 2] (shapeCast S375x128x8x128 (GG m (Nv m) d) shapeCasts_S49152000_S375x128x8x128)
          transposes_S375x128x8x128_S128x128x375x8_1_3_0_2) shapeCasts_S128x128x375x8_S16384x3000 := by
    unfold V6
    refine (StableHlo.reshape_result' _ _ _ _ _).trans (congrArg (fun v => shapeCast S16384x3000 v shapeCasts_S128x128x375x8_S16384x3000) ?_)
    refine (StableHlo.unary_result' _ _ _ _).trans
      (congrArg (fun v => transpose S128x128x375x8 [1, 3, 0, 2] v transposes_S375x128x8x128_S128x128x375x8_1_3_0_2) ?_)
    refine (StableHlo.reshape_result' _ _ _ _ _).trans (congrArg (fun v => shapeCast S375x128x8x128 v shapeCasts_S49152000_S375x128x8x128) ?_)
    exact Function.update_self (β := fun b : DevRef τ sig => b.ty.Contents (Elt Ideal)) _ _ _
  rw [e5]
  refine (shapeCast_apply _ _ _ (ix4 (⟨j.val / 128, by omega⟩ : Fin 128) (⟨j.val % 128, by omega⟩ : Fin 128) (⟨k.val / 8, by omega⟩ : Fin 375)
    (⟨k.val % 8, by omega⟩ : Fin 8)) ?_).trans ?_
  · rw [Shape.rowMajor_val_four, Shape.rowMajor_val_two]
    show ((j.val / 128 * 128 + j.val % 128) * 375 + k.val / 8) * 8 + k.val % 8 = j.val * 3000 + k.val
    omega
  refine (transpose_apply _ _ _ _ (ix4 (⟨k.val / 8, by omega⟩ : Fin 375) (⟨j.val / 128, by omega⟩ : Fin 128) (⟨k.val % 8, by omega⟩ : Fin 8)
    (⟨j.val % 128, by omega⟩ : Fin 128)) ?_).trans ?_
  · intro b; fin_cases b <;> rfl
  refine (shapeCast_apply _ _ _ (ix1 (⟨((k.val / 8 * 128 + j.val / 128) * 8 + k.val % 8) * 128 + j.val % 128, by omega⟩ : Fin 49152000)) ?_).trans ?_
  · rw [Shape.rowMajor_val_four, Shape.rowMajor_val_one]
    rfl
  have hn : ixN ((((k.val / 8 * 128 + j.val / 128) * 8 + k.val % 8) * 128 + j.val % 128) / 1024 % 128 * 128
      + (((k.val / 8 * 128 + j.val / 128) * 8 + k.val % 8) * 128 + j.val % 128) % 128) = ix1 j := by
    funext a
    fin_cases a
    exact Fin.ext (by
      show ((((k.val / 8 * 128 + j.val / 128) * 8 + k.val % 8) * 128 + j.val % 128) / 1024 % 128 * 128
        + (((k.val / 8 * 128 + j.val / 128) * 8 + k.val % 8) * 128 + j.val % 128) % 128) % 16384 = j.val
      omega)
  show tA m d (ixC _ (BitVec.toNat (w := 32) (Nv m d (ixN ((((k.val / 8 * 128 + j.val / 128) * 8 + k.val % 8) * 128 + j.val % 128) / 1024 % 128 * 128
      + (((k.val / 8 * 128 + j.val / 128) * 8 + k.val % 8) * 128 + j.val % 128) % 128))))) = _
  rw [hn]
  refine congrArg (tA m d) (funext fun a => ?_)
  fin_cases a
  · exact Fin.ext (by
      have e1 : (((k.val / 8 * 128 + j.val / 128) * 8 + k.val % 8) * 128 + j.val % 128) / 131072 = k.val / 8 := by omega
      have e2 : (((k.val / 8 * 128 + j.val / 128) * 8 + k.val % 8) * 128 + j.val % 128) / 128 % 8 = k.val % 8 := by omega
      show ((((k.val / 8 * 128 + j.val / 128) * 8 + k.val % 8) * 128 + j.val % 128) / 131072 * 8
        + (((k.val / 8 * 128 + j.val / 128) * 8 + k.val % 8) * 128 + j.val % 128) / 128 % 8) % 3000 = k.val
      rw [e1, e2]
      omega)
  · exact Fin.ext (Nat.mod_eq_of_lt (Nv_lt m d (ix1 j)))

/-- The kernel's result is the reference's, from the same arguments. -/
theorem value : (V6 m d r5 : S16384x3000.Idx → Ideal .f32) = R.resR (F := Ideal) (xA m d) (cA m d) (tA m d) := by
  have hc : Nv m d = R.nR (F := Ideal) (R.dR (xA m d) (cA m d)) := by
    funext y
    rw [ValueIdx.eq_ix1 y]
    exact code_eq m d (y 0)
  have h : ∀ (j : Fin 16384) (k : Fin 3000),
      (V6 m d r5 : S16384x3000.Idx → Ideal .f32) (ix2 j k) = R.resR (F := Ideal) (xA m d) (cA m d) (tA m d) (ix2 j k) := by
    intro j k
    unfold R.resR
    rw [← hc]
    exact (V6_at m d j k).trans (res_eq (F := Ideal) (tA m d) (Nv m d) (Nv_lt m d) j k).symm
  funext y
  have hy : (y : S16384x3000.Idx) = ix2 (y 0) (y 1) := ValueIdx.eq_ix2 y
  exact (congrArg (V6 m d r5 : S16384x3000.Idx → Ideal .f32) hy).trans ((h (y 0) (y 1)).trans (congrArg (R.resR (F := Ideal) (xA m d) (cA m d) (tA m d)) hy).symm)

end Cert.Proof.A

end
-- ==== Proof.lean ====
/-
  The certificate: the frames of the kernel at both instances, the reference's frame, the ledger of rewrites, which is
  empty, and the equality of the two results over the extended reals.
-/
module

public import proofs.«01_k».proof.Defs
public import proofs.«01_k».proof.Proof.KLaunch
public import proofs.«01_k».proof.Proof.ILaunch
public import proofs.«01_k».proof.Proof.RRun
public import proofs.«01_k».proof.Proof.AValue
public import Idealize.ShloMosaic.Lib.Quiescent

@[expose] public section

noncomputable section

namespace Cert.Proof

open Idealize.ShloMosaic Idealize.SL.Sem

/-- The kernel's frame. -/
theorem frame_k : Cert.quiescent_Kernel := fun m ρ _ =>
  (θ_run _ _ _).mono (fun _ h => ⟨fun c => ⟨(h.1 c).1, (h.1 c).2.1, (h.1 c).2.2.1⟩, h.2⟩) (K.run_main (F := Bits) m ρ)

/-- The frame of the kernel at the ideal instance. -/
theorem frame_i : Cert.quiescent_KernelIdeal := fun m ρ _ =>
  (θ_run _ _ _).mono (fun _ h => ⟨fun c => ⟨(h.1 c).1, (h.1 c).2.1, (h.1 c).2.2.1⟩, h.2⟩) (I.run_main (F := Ideal) m ρ)

/-- The reference's frame: it has no semaphore. -/
theorem frame_r : Cert.quiescent_ReferenceIdeal := fun m ρ _ =>
  (θ_run _ _ _).mono (fun r h => ⟨fun c => (h c).2, sem_eq_zero_of_no_sems rfl r.2⟩) (R.run (F := Ideal) m ρ)

/-- From the same arguments the kernel and the reference end with the same result. -/
theorem algebraic : Cert.algebraic_KernelIdeal_ReferenceIdeal := fun m g m' g' _ ha =>
  ⟨fun d => I.V6 (F := Ideal) m d I.r5,
    (θ_run _ _ _).mono (fun _ h c => ⟨(h.1 c).2.2.2, (h.1 c).1, (h.1 c).2.1, (h.1 c).2.2.1⟩) (I.run_main (F := Ideal) m g),
    (θ_run _ _ _).mono (fun _ h c => ⟨(h c).1.trans (by
        rw [(ha c).1, (ha c).2.1, (ha c).2.2]
        exact (A.value m c).symm), (h c).2⟩) (R.run (F := Ideal) m' g')⟩

/-- The certificate. -/
theorem claim : Cert.Claim :=
  ⟨Cert.Kernel.Gen.facts, Cert.KernelIdeal.Gen.facts, Cert.ReferenceIdeal.Gen.facts, frame_k, frame_i, frame_r, trivial, algebraic⟩

end Cert.Proof

end
